-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v40)) (v1 : (c : Dev Cert.Kernel5Ideal.nD) → Buf (Elt Ideal) ((c.tc : Thread Cert.Kernel5Ideal.nD Cert.Kernel5Ideal.τ).loc Cert.Kernel5Ideal.main_v41)) (v2 : (c : Dev Cert.Kernel5Ideal.nD) → Buf (Elt Ideal) ((c.tc : Thread Cert.Kernel5Ideal.nD Cert.Kernel5Ideal.τ).loc Cert.Kernel5Ideal.main_v42)) (v3 : (c : Dev Cert.Kernel5Ideal.nD) → Buf (Elt Ideal) ((c.tc : Thread Cert.Kernel5Ideal.nD Cert.Kernel5Ideal.τ).loc Cert.Kernel5Ideal.main_v43)) (v4 : (c : Dev Cert.Kernel5Ideal.nD) → Buf (Elt Ideal) ((c.tc : Thread Cert.Kernel5Ideal.nD Cert.Kernel5Ideal.τ).loc Cert.Kernel5Ideal.main_v44)) (v5 : (c : Dev Cert.Kernel5Ideal.nD) → Buf (Elt Ideal) ((c.tc : Thread Cert.Kernel5Ideal.nD Cert.Kernel5Ideal.τ).loc Cert.Kernel5Ideal.main_v45)) (v6 : (c : Dev Cert.Kernel5Ideal.nD) → Buf (Elt Ideal) ((c.tc : Thread Cert.Kernel5Ideal.nD Cert.Kernel5Ideal.τ).loc Cert.Kernel5Ideal.main_v46)) (v7 : (c : Dev Cert.Kernel5Ideal.nD) → Buf (Elt Ideal) ((c.tc : Thread Cert.Kernel5Ideal.nD Cert.Kernel5Ideal.τ).loc Cert.Kernel5Ideal.main_v47)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v40) = v0 c
          ∧ r.2.mem ((c.tc : Thread Cert.Kernel5Ideal.nD Cert.Kernel5Ideal.τ).loc Cert.Kernel5Ideal.main_v41) = v1 c
          ∧ r.2.mem ((c.tc : Thread Cert.Kernel5Ideal.nD Cert.Kernel5Ideal.τ).loc Cert.Kernel5Ideal.main_v42) = v2 c
          ∧ r.2.mem ((c.tc : Thread Cert.Kernel5Ideal.nD Cert.Kernel5Ideal.τ).loc Cert.Kernel5Ideal.main_v43) = v3 c
          ∧ r.2.mem ((c.tc : Thread Cert.Kernel5Ideal.nD Cert.Kernel5Ideal.τ).loc Cert.Kernel5Ideal.main_v44) = v4 c
          ∧ r.2.mem ((c.tc : Thread Cert.Kernel5Ideal.nD Cert.Kernel5Ideal.τ).loc Cert.Kernel5Ideal.main_v45) = v5 c
          ∧ r.2.mem ((c.tc : Thread Cert.Kernel5Ideal.nD Cert.Kernel5Ideal.τ).loc Cert.Kernel5Ideal.main_v46) = v6 c
          ∧ r.2.mem ((c.tc : Thread Cert.Kernel5Ideal.nD Cert.Kernel5Ideal.τ).loc Cert.Kernel5Ideal.main_v47) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v128) = v0 c
          ∧ r.2.mem ((c.tc : Thread Cert.Reference5Ideal.nD Cert.Reference5Ideal.τ).loc Cert.Reference5Ideal.main_v130) = v1 c
          ∧ r.2.mem ((c.tc : Thread Cert.Reference5Ideal.nD Cert.Reference5Ideal.τ).loc Cert.Reference5Ideal.main_v131) = v2 c
          ∧ r.2.mem ((c.tc : Thread Cert.Reference5Ideal.nD Cert.Reference5Ideal.τ).loc Cert.Reference5Ideal.main_v132) = v3 c
          ∧ r.2.mem ((c.tc : Thread Cert.Reference5Ideal.nD Cert.Reference5Ideal.τ).loc Cert.Reference5Ideal.main_v19) = v4 c
          ∧ r.2.mem ((c.tc : Thread Cert.Reference5Ideal.nD Cert.Reference5Ideal.τ).loc Cert.Reference5Ideal.main_v134) = v5 c
          ∧ r.2.mem ((c.tc : Thread Cert.Reference5Ideal.nD Cert.Reference5Ideal.τ).loc Cert.Reference5Ideal.main_v136) = v6 c
          ∧ r.2.mem ((c.tc : Thread Cert.Reference5Ideal.nD Cert.Reference5Ideal.τ).loc Cert.Reference5Ideal.main_v137) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v40)) (v1 : (c : Dev Cert.Kernel6Ideal.nD) → Buf (Elt Ideal) ((c.tc : Thread Cert.Kernel6Ideal.nD Cert.Kernel6Ideal.τ).loc Cert.Kernel6Ideal.main_v41)) (v2 : (c : Dev Cert.Kernel6Ideal.nD) → Buf (Elt Ideal) ((c.tc : Thread Cert.Kernel6Ideal.nD Cert.Kernel6Ideal.τ).loc Cert.Kernel6Ideal.main_v42)) (v3 : (c : Dev Cert.Kernel6Ideal.nD) → Buf (Elt Ideal) ((c.tc : Thread Cert.Kernel6Ideal.nD Cert.Kernel6Ideal.τ).loc Cert.Kernel6Ideal.main_v43)) (v4 : (c : Dev Cert.Kernel6Ideal.nD) → Buf (Elt Ideal) ((c.tc : Thread Cert.Kernel6Ideal.nD Cert.Kernel6Ideal.τ).loc Cert.Kernel6Ideal.main_v44)) (v5 : (c : Dev Cert.Kernel6Ideal.nD) → Buf (Elt Ideal) ((c.tc : Thread Cert.Kernel6Ideal.nD Cert.Kernel6Ideal.τ).loc Cert.Kernel6Ideal.main_v45)) (v6 : (c : Dev Cert.Kernel6Ideal.nD) → Buf (Elt Ideal) ((c.tc : Thread Cert.Kernel6Ideal.nD Cert.Kernel6Ideal.τ).loc Cert.Kernel6Ideal.main_v46)) (v7 : (c : Dev Cert.Kernel6Ideal.nD) → Buf (Elt Ideal) ((c.tc : Thread Cert.Kernel6Ideal.nD Cert.Kernel6Ideal.τ).loc Cert.Kernel6Ideal.main_v39_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v40) = v0 c
          ∧ r.2.mem ((c.tc : Thread Cert.Kernel6Ideal.nD Cert.Kernel6Ideal.τ).loc Cert.Kernel6Ideal.main_v41) = v1 c
          ∧ r.2.mem ((c.tc : Thread Cert.Kernel6Ideal.nD Cert.Kernel6Ideal.τ).loc Cert.Kernel6Ideal.main_v42) = v2 c
          ∧ r.2.mem ((c.tc : Thread Cert.Kernel6Ideal.nD Cert.Kernel6Ideal.τ).loc Cert.Kernel6Ideal.main_v43) = v3 c
          ∧ r.2.mem ((c.tc : Thread Cert.Kernel6Ideal.nD Cert.Kernel6Ideal.τ).loc Cert.Kernel6Ideal.main_v44) = v4 c
          ∧ r.2.mem ((c.tc : Thread Cert.Kernel6Ideal.nD Cert.Kernel6Ideal.τ).loc Cert.Kernel6Ideal.main_v45) = v5 c
          ∧ r.2.mem ((c.tc : Thread Cert.Kernel6Ideal.nD Cert.Kernel6Ideal.τ).loc Cert.Kernel6Ideal.main_v46) = v6 c
          ∧ r.2.mem ((c.tc : Thread Cert.Kernel6Ideal.nD Cert.Kernel6Ideal.τ).loc Cert.Kernel6Ideal.main_v39_2) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v139) = v0 c
          ∧ r.2.mem ((c.tc : Thread Cert.Reference6Ideal.nD Cert.Reference6Ideal.τ).loc Cert.Reference6Ideal.main_v141) = v1 c
          ∧ r.2.mem ((c.tc : Thread Cert.Reference6Ideal.nD Cert.Reference6Ideal.τ).loc Cert.Reference6Ideal.main_v143) = v2 c
          ∧ r.2.mem ((c.tc : Thread Cert.Reference6Ideal.nD Cert.Reference6Ideal.τ).loc Cert.Reference6Ideal.main_v145) = v3 c
          ∧ r.2.mem ((c.tc : Thread Cert.Reference6Ideal.nD Cert.Reference6Ideal.τ).loc Cert.Reference6Ideal.main_v146) = v4 c
          ∧ r.2.mem ((c.tc : Thread Cert.Reference6Ideal.nD Cert.Reference6Ideal.τ).loc Cert.Reference6Ideal.main_v147) = v5 c
          ∧ r.2.mem ((c.tc : Thread Cert.Reference6Ideal.nD Cert.Reference6Ideal.τ).loc Cert.Reference6Ideal.main_v129) = v6 c
          ∧ r.2.mem ((c.tc : Thread Cert.Reference6Ideal.nD Cert.Reference6Ideal.τ).loc Cert.Reference6Ideal.main_v137) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v40)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v40) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v110) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x4096x2048 : Shape := ⟨3, ![4, 4096, 2048]⟩
abbrev S4x4096x1024 : Shape := ⟨3, ![4, 4096, 1024]⟩
abbrev S4x4096x512 : Shape := ⟨3, ![4, 4096, 512]⟩
abbrev S4x4096x48 : Shape := ⟨3, ![4, 4096, 48]⟩
abbrev S3x256x768 : Shape := ⟨3, ![3, 256, 768]⟩
abbrev S_ : Shape := ⟨0, ![]⟩
abbrev S4x4096x5120 : Shape := ⟨3, ![4, 4096, 5120]⟩
abbrev S4x4096x128 : Shape := ⟨3, ![4, 4096, 128]⟩
abbrev S1x256x512 : Shape := ⟨3, ![1, 256, 512]⟩
abbrev S1x4096x128 : Shape := ⟨3, ![1, 4096, 128]⟩
abbrev S1x256x128 : Shape := ⟨3, ![1, 256, 128]⟩
abbrev S256x128 : Shape := ⟨2, ![256, 128]⟩
abbrev S768x128 : Shape := ⟨2, ![768, 128]⟩
abbrev S1x768x128 : Shape := ⟨3, ![1, 768, 128]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩
abbrev S768x256 : Shape := ⟨2, ![768, 256]⟩
abbrev S256x256 : Shape := ⟨2, ![256, 256]⟩

abbrev nBuf : Space → Nat
  | .hbm => 34
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S4x4096x512, .bf16⟩
  | .hbm, ⟨6, _⟩ => ⟨S4x4096x48, .f32⟩
  | .hbm, ⟨7, _⟩ => ⟨S4x4096x2048, .f32⟩
  | .hbm, ⟨8, _⟩ => ⟨S3x256x768, .i32⟩
  | .hbm, ⟨9, _⟩ => ⟨S_, .i32⟩
  | .hbm, ⟨10, _⟩ => ⟨S3x256x768, .i32⟩
  | .hbm, ⟨11, _⟩ => ⟨S3x256x768, .i32⟩
  | .hbm, ⟨12, _⟩ => ⟨S3x256x768, .i32⟩
  | .hbm, ⟨13, _⟩ => ⟨S3x256x768, .i32⟩
  | .hbm, ⟨14, _⟩ => ⟨S3x256x768, .i32⟩
  | .hbm, ⟨15, _⟩ => ⟨S3x256x768, .i32⟩
  | .hbm, ⟨16, _⟩ => ⟨S_, .i32⟩
  | .hbm, ⟨17, _⟩ => ⟨S3x256x768, .i32⟩
  | .hbm, ⟨18, _⟩ => ⟨S3x256x768, .i1⟩
  | .hbm, ⟨19, _⟩ => ⟨S_, .i32⟩
  | .hbm, ⟨20, _⟩ => ⟨S3x256x768, .i32⟩
  | .hbm, ⟨21, _⟩ => ⟨S3x256x768, .i1⟩
  | .hbm, ⟨22, _⟩ => ⟨S3x256x768, .i1⟩
  | .hbm, ⟨23, _⟩ => ⟨S_, .f32⟩
  | .hbm, ⟨24, _⟩ => ⟨S_, .f32⟩
  | .hbm, ⟨25, _⟩ => ⟨S3x256x768, .f32⟩
  | .hbm, ⟨26, _⟩ => ⟨S3x256x768, .f32⟩
  | .hbm, ⟨27, _⟩ => ⟨S3x256x768, .f32⟩
  | .hbm, ⟨28, _⟩ => ⟨S4x4096x2048, .bf16⟩
  | .hbm, ⟨29, _⟩ => ⟨S4x4096x5120, .bf16⟩
  | .hbm, ⟨30, _⟩ => ⟨S_, .i32⟩
  | .hbm, ⟨31, _⟩ => ⟨S_, .f32⟩
  | .hbm, ⟨32, _⟩ => ⟨S4x4096x128, .f32⟩
  | .hbm, ⟨33, _⟩ => ⟨S4x4096x2048, .bf16⟩
  | .local _ .vmem, ⟨0, _⟩ => ⟨S1x256x512, .f32⟩
  | .local _ .vmem, ⟨1, _⟩ => ⟨S1x256x512, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S3x256x768, .f32⟩
  | .local _ .vmem, ⟨7, _⟩ => ⟨S1x256x128, .f32⟩
  | .local _ .vmem, ⟨8, _⟩ => ⟨S1x256x128, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .bf16⟩
  | .local _ .vmem, ⟨12, _⟩ => ⟨S1x256x512, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c256_i32 : BitVec 32 := 256#32
  let v33 : BitVec 32 := Scalar.muli arg2 c256_i32
  let c512_i32 : BitVec 32 := 512#32
  let v34 : BitVec 32 := Scalar.subi v33 c512_i32
  let c0_i32 : BitVec 32 := 0#32
  let v35 : BitVec 32 := Scalar.maxsi v34 c0_i32
  v35
def k0_off1 (i : grid0.Coords) : Fin 3 → Nat :=
  let c0_20 : Index := 0#32
  let arg2 : BitVec 32 := BitVec.ofNat 32 (i 2).val
  let c256_i32 : BitVec 32 := 256#32
  let v33 : BitVec 32 := Scalar.muli arg2 c256_i32
  let c512_i32 : BitVec 32 := 512#32
  let v34 : BitVec 32 := Scalar.subi v33 c512_i32
  let c0_i32 : BitVec 32 := 0#32
  let v35 : BitVec 32 := Scalar.maxsi v34 c0_i32
  let v36 : BitVec 32 := v35
  let v37 : Index := Scalar.indexCast v36
  let c0_21 : Index := 0#32
  ![0, v37.toNat, 0]
def k0_off2 (i : grid0.Coords) : Fin 3 → Nat :=
  let arg2 : BitVec 32 := BitVec.ofNat 32 (i 2).val
  let c2_i32 : BitVec 32 := 2#32
  let v42 : BitVec 32 := Scalar.minsi arg2 c2_i32
  let v43 : Index := Scalar.indexCast v42
  let c0_25 : Index := 0#32
  let c0_26 : Index := 0#32
  ![v43.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S3x256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "qscale" => some (((Real.sqrt 128)⁻¹ * (Real.log 2)⁻¹ : ℝ) : EReal)
  | _ => none
-- ==== ReferenceIdeal.lean ====
abbrev S4x4096x2048 : Shape := ⟨3, ![4, 4096, 2048]⟩
abbrev S4x4096x1024 : Shape := ⟨3, ![4, 4096, 1024]⟩
abbrev S4x4096x512 : Shape := ⟨3, ![4, 4096, 512]⟩
abbrev S4x4096x48 : Shape := ⟨3, ![4, 4096, 48]⟩
abbrev S4x4096x4x4x128 : Shape := ⟨5, ![4, 4096, 4, 4, 128]⟩
abbrev S4x4x4x4096x128 : Shape := ⟨5, ![4, 4, 4, 4096, 128]⟩
abbrev S4x4096x4x128 : Shape := ⟨4, ![4, 4096, 4, 128]⟩
abbrev S4x4x4096x128 : Shape := ⟨4, ![4, 4, 4096, 128]⟩
abbrev S4x4096x4x4x3 : Shape := ⟨5, ![4, 4096, 4, 4, 3]⟩
abbrev S4x4x4x4096x3 : Shape := ⟨5, ![4, 4, 4, 4096, 3]⟩
abbrev S4x4x4x4096x4096 : Shape := ⟨5, ![4, 4, 4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x4x4x4096 : Shape := ⟨4, ![4, 4, 4, 4096]⟩
abbrev S4x4x4x4096x1 : Shape := ⟨5, ![4, 4, 4, 4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S4x4096x512, .bf16⟩
  | .hbm, ⟨6, _⟩ => ⟨S4x4096x48, .f32⟩
  | .hbm, ⟨7, _⟩ => ⟨S4x4096x2048, .f32⟩
  | .hbm, ⟨8, _⟩ => ⟨S4x4096x4x4x128, .f32⟩
  | .hbm, ⟨9, _⟩ => ⟨S4x4x4x4096x128, .f32⟩
  | .hbm, ⟨10, _⟩ => ⟨S4x4096x512, .f32⟩
  | .hbm, ⟨11, _⟩ => ⟨S4x4096x4x128, .f32⟩
  | .hbm, ⟨12, _⟩ => ⟨S4x4x4096x128, .f32⟩
  | .hbm, ⟨13, _⟩ => ⟨S4x4096x512, .f32⟩
  | .hbm, ⟨14, _⟩ => ⟨S4x4096x4x128, .f32⟩
  | .hbm, ⟨15, _⟩ => ⟨S4x4x4096x128, .f32⟩
  | .hbm, ⟨16, _⟩ => ⟨S4x4096x4x4x3, .f32⟩
  | .hbm, ⟨17, _⟩ => ⟨S4x4x4x4096x3, .f32⟩
  | .hbm, ⟨18, _⟩ => ⟨S4x4x4x4096x4096, .f32⟩
  | .hbm, ⟨19, _⟩ => ⟨S_, .f32⟩
  | .hbm, ⟨20, _⟩ => ⟨S_, .f32⟩
  | .hbm, ⟨21, _⟩ => ⟨S4x4x4x4096x4096, .f32⟩
  | .hbm, ⟨22, _⟩ => ⟨S4x4x4x4096x4096, .f32⟩
  | .hbm, ⟨23, _⟩ => ⟨S4096, .i32⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i1⟩
  | .hbm, ⟨32, _⟩ => ⟨S_, .i32⟩
  | .hbm, ⟨33, _⟩ => ⟨S4096x4096, .i32⟩
  | .hbm, ⟨34, _⟩ => ⟨S4096x4096, .i1⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S4x4x4x4096x4096, .i1⟩
  | .hbm, ⟨39, _⟩ => ⟨S4x4x4x4096x4096, .f32⟩
  | .hbm, ⟨40, _⟩ => ⟨S4x4x4x4096x4096, .f32⟩
  | .hbm, ⟨41, _⟩ => ⟨S_, .f32⟩
  | .hbm, ⟨42, _⟩ => ⟨S4x4x4x4096, .f32⟩
  | .hbm, ⟨43, _⟩ => ⟨S4x4x4x4096x1, .f32⟩
  | .hbm, ⟨44, _⟩ => ⟨S4x4x4x4096x4096, .f32⟩
  | .hbm, ⟨45, _⟩ => ⟨S4x4x4x4096x4096, .f32⟩
  | .hbm, ⟨46, _⟩ => ⟨S4x4x4x4096x4096, .f32⟩
  | .hbm, ⟨47, _⟩ => ⟨S_, .f32⟩
  | .hbm, ⟨48, _⟩ => ⟨S_, .f32⟩
  | .hbm, ⟨49, _⟩ => ⟨S4x4x4x4096x4096, .i1⟩
  | .hbm, ⟨50, _⟩ => ⟨S4x4x4x4096x4096, .f32⟩
  | .hbm, ⟨51, _⟩ => ⟨S4x4x4x4096x4096, .f32⟩
  | .hbm, ⟨52, _⟩ => ⟨S_, .f32⟩
  | .hbm, ⟨53, _⟩ => ⟨S4x4x4x4096, .f32⟩
  | .hbm, ⟨54, _⟩ => ⟨S4x4x4x4096x1, .f32⟩
  | .hbm, ⟨55, _⟩ => ⟨S_, .f32⟩
  | .hbm, ⟨56, _⟩ => ⟨S4x4x4x4096x1, .f32⟩
  | .hbm, ⟨57, _⟩ => ⟨S4x4x4x4096x1, .f32⟩
  | .hbm, ⟨58, _⟩ => ⟨S4x4x4x4096x4096, .f32⟩
  | .hbm, ⟨59, _⟩ => ⟨S4x4x4x4096x4096, .f32⟩
  | .hbm, ⟨60, _⟩ => ⟨S4x4x4x4096x128, .f32⟩
  | .hbm, ⟨61, _⟩ => ⟨S4x4x4x4096x1, .f32⟩
  | .hbm, ⟨62, _⟩ => ⟨S4x4x4x4096x128, .f32⟩
  | .hbm, ⟨63, _⟩ => ⟨S4x4x4x4096x128, .f32⟩
  | .hbm, ⟨64, _⟩ => ⟨S4x4096x4x4x128, .f32⟩
  | .hbm, ⟨65, _⟩ => ⟨S4x4096x2048, .f32⟩
  | .hbm, ⟨66, _⟩ => ⟨S4x4096x2048, .f32⟩
  | .hbm, ⟨67, _⟩ => ⟨S4x4096x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S1x512x2048 : Shape := ⟨3, ![1, 512, 2048]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S2x2048x8192, .bf16⟩
  | .hbm, ⟨5, _⟩ => ⟨S2x8192x2048, .bf16⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x2048 : Shape := ⟨2, ![16384, 2048]⟩
abbrev S2048 : Shape := ⟨1, ![2048]⟩
abbrev S2x2048x8192 : Shape := ⟨3, ![2, 2048, 8192]⟩
abbrev S2x8192x2048 : Shape := ⟨3, ![2, 8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x8192 : Shape := ⟨3, ![1, 2048, 8192]⟩
abbrev S2048x8192 : Shape := ⟨2, ![2048, 8192]⟩
abbrev S16384x8192 : Shape := ⟨2, ![16384, 8192]⟩
abbrev S1x8192x2048 : Shape := ⟨3, ![1, 8192, 2048]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S1x2048x8192, .f32⟩
  | .hbm, ⟨21, _⟩ => ⟨S2048x8192, .f32⟩
  | .hbm, ⟨22, _⟩ => ⟨S16384x8192, .f32⟩
  | .hbm, ⟨23, _⟩ => ⟨S_, .f32⟩
  | .hbm, ⟨24, _⟩ => ⟨S16384x8192, .f32⟩
  | .hbm, ⟨25, _⟩ => ⟨S16384x8192, .f32⟩
  | .hbm, ⟨26, _⟩ => ⟨S16384x8192, .f32⟩
  | .hbm, ⟨27, _⟩ => ⟨S1x8192x2048, .f32⟩
  | .hbm, ⟨28, _⟩ => ⟨S8192x2048, .f32⟩
  | .hbm, ⟨29, _⟩ => ⟨S16384x2048, .f32⟩
  | .hbm, ⟨30, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S16384x1024 : Shape := ⟨2, ![16384, 1024]⟩
abbrev S1x2048x2048 : Shape := ⟨3, ![1, 2048, 2048]⟩
abbrev S16384x2048 : Shape := ⟨2, ![16384, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S2048x2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x1024 : Shape := ⟨2, ![16384, 1024]⟩
abbrev S1x2048x2048 : Shape := ⟨3, ![1, 2048, 2048]⟩
abbrev S16384x2048 : Shape := ⟨2, ![16384, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S16384x2048 : Shape := ⟨2, ![16384, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S1x2048x7176 : Shape := ⟨3, ![1, 2048, 7176]⟩
abbrev S1x128 : Shape := ⟨2, ![1, 128]⟩
abbrev S4096x16 : Shape := ⟨2, ![4096, 16]⟩
abbrev S_ : Shape := ⟨0, ![]⟩
abbrev S4096x128 : Shape := ⟨2, ![4096, 128]⟩
abbrev S1 : Shape := ⟨1, ![1]⟩
abbrev S1x4096x128 : Shape := ⟨3, ![1, 4096, 128]⟩
abbrev S3x4096x128 : Shape := ⟨3, ![3, 4096, 128]⟩
abbrev S2048x7176 : Shape := ⟨2, ![2048, 7176]⟩
abbrev S2048x4096 : Shape := ⟨2, ![2048, 4096]⟩
abbrev S2048x3072 : Shape := ⟨2, ![2048, 3072]⟩
abbrev S2048x7168 : Shape := ⟨2, ![2048, 7168]⟩
abbrev S2048x8 : Shape := ⟨2, ![2048, 8]⟩
abbrev S2048x128 : Shape := ⟨2, ![2048, 128]⟩
abbrev S128 : Shape := ⟨1, ![128]⟩
abbrev S4x128 : Shape := ⟨2, ![4, 128]⟩
abbrev S8x128 : Shape := ⟨2, ![8, 128]⟩
abbrev S1x2048 : Shape := ⟨2, ![1, 2048]⟩
abbrev S16384x7168 : Shape := ⟨2, ![16384, 7168]⟩
abbrev S16384x128 : Shape := ⟨2, ![16384, 128]⟩
abbrev S1024x2048 : Shape := ⟨2, ![1024, 2048]⟩
abbrev S2048x1024 : Shape := ⟨2, ![2048, 1024]⟩
abbrev S3x1024x128 : Shape := ⟨3, ![3, 1024, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1x1024x128 : Shape := ⟨3, ![1, 1024, 128]⟩
abbrev S16384x1024 : Shape := ⟨2, ![16384, 1024]⟩
abbrev S16384x8 : Shape := ⟨2, ![16384, 8]⟩

abbrev nBuf : Space → Nat
  | .hbm => 69
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x7176, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S4096x16, .f32⟩
  | .hbm, ⟨8, _⟩ => ⟨S4096x16, .f32⟩
  | .hbm, ⟨9, _⟩ => ⟨S_, .f32⟩
  | .hbm, ⟨10, _⟩ => ⟨S4096x128, .f32⟩
  | .hbm, ⟨11, _⟩ => ⟨S_, .i32⟩
  | .hbm, ⟨12, _⟩ => ⟨S1, .i32⟩
  | .hbm, ⟨13, _⟩ => ⟨S4096x128, .f32⟩
  | .hbm, ⟨14, _⟩ => ⟨S_, .i32⟩
  | .hbm, ⟨15, _⟩ => ⟨S1, .i32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x16, .f32⟩
  | .hbm, ⟨20, _⟩ => ⟨S_, .i32⟩
  | .hbm, ⟨21, _⟩ => ⟨S1, .i32⟩
  | .hbm, ⟨22, _⟩ => ⟨S4096x128, .f32⟩
  | .hbm, ⟨23, _⟩ => ⟨S_, .f32⟩
  | .hbm, ⟨24, _⟩ => ⟨S4096x128, .f32⟩
  | .hbm, ⟨25, _⟩ => ⟨S_, .i32⟩
  | .hbm, ⟨26, _⟩ => ⟨S1, .i32⟩
  | .hbm, ⟨27, _⟩ => ⟨S4096x128, .f32⟩
  | .hbm, ⟨28, _⟩ => ⟨S1x4096x128, .f32⟩
  | .hbm, ⟨29, _⟩ => ⟨S1x4096x128, .f32⟩
  | .hbm, ⟨30, _⟩ => ⟨S1x4096x128, .f32⟩
  | .hbm, ⟨31, _⟩ => ⟨S3x4096x128, .f32⟩
  | .hbm, ⟨32, _⟩ => ⟨S2048x7176, .f32⟩
  | .hbm, ⟨33, _⟩ => ⟨S2048x4096, .f32⟩
  | .hbm, ⟨34, _⟩ => ⟨S2048x3072, .f32⟩
  | .hbm, ⟨35, _⟩ => ⟨S2048x7168, .f32⟩
  | .hbm, ⟨36, _⟩ => ⟨S2048x7168, .bf16⟩
  | .hbm, ⟨37, _⟩ => ⟨S2048x8, .f32⟩
  | .hbm, ⟨38, _⟩ => ⟨S_, .f32⟩
  | .hbm, ⟨39, _⟩ => ⟨S2048x128, .f32⟩
  | .hbm, ⟨40, _⟩ => ⟨S_, .i32⟩
  | .hbm, ⟨41, _⟩ => ⟨S1, .i32⟩
  | .hbm, ⟨42, _⟩ => ⟨S2048x128, .f32⟩
  | .hbm, ⟨43, _⟩ => ⟨S2048x128, .bf16⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S4x128, .f32⟩
  | .hbm, ⟨53, _⟩ => ⟨S_, .f32⟩
  | .hbm, ⟨54, _⟩ => ⟨S8x128, .f32⟩
  | .hbm, ⟨55, _⟩ => ⟨S_, .i32⟩
  | .hbm, ⟨56, _⟩ => ⟨S1, .i32⟩
  | .hbm, ⟨57, _⟩ => ⟨S8x128, .f32⟩
  | .hbm, ⟨58, _⟩ => ⟨S1x2048, .f32⟩
  | .hbm, ⟨59, _⟩ => ⟨S16384x7168, .bf16⟩
  | .hbm, ⟨60, _⟩ => ⟨S16384x128, .f32⟩
  | .hbm, ⟨61, _⟩ => ⟨S16384x1024, .bf16⟩
  | .hbm, ⟨62, _⟩ => ⟨S16384x1024, .bf16⟩
  | .hbm, ⟨63, _⟩ => ⟨S16384x1024, .bf16⟩
  | .hbm, ⟨64, _⟩ => ⟨S16384x1024, .bf16⟩
  | .hbm, ⟨65, _⟩ => ⟨S16384x8, .f32⟩
  | .hbm, ⟨66, _⟩ => ⟨S16384x1024, .bf16⟩
  | .hbm, ⟨67, _⟩ => ⟨S16384x1024, .bf16⟩
  | .hbm, ⟨68, _⟩ => ⟨S16384x1024, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S8x128, .f32⟩
  | .local _ .vmem, ⟨7, _⟩ => ⟨S3x1024x128, .f32⟩
  | .local _ .vmem, ⟨8, _⟩ => ⟨S3x1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | .local _ .vmem, ⟨13, _⟩ => ⟨S1024x2048, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S3x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S16384x2048 : Shape := ⟨2, ![16384, 2048]⟩
abbrev S2048 : Shape := ⟨1, ![2048]⟩
abbrev S1x2048x7176 : Shape := ⟨3, ![1, 2048, 7176]⟩
abbrev S1x128 : Shape := ⟨2, ![1, 128]⟩
abbrev S4096x16 : Shape := ⟨2, ![4096, 16]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x7176 : Shape := ⟨2, ![2048, 7176]⟩
abbrev S16384x7176 : Shape := ⟨2, ![16384, 7176]⟩
abbrev S16384x1024 : Shape := ⟨2, ![16384, 1024]⟩
abbrev S16384x8 : Shape := ⟨2, ![16384, 8]⟩
abbrev S4x4096x8x128 : Shape := ⟨4, ![4, 4096, 8, 128]⟩
abbrev S128 : Shape := ⟨1, ![128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4096x1x16 : Shape := ⟨3, ![4096, 1, 16]⟩
abbrev S4x4096x8x16 : Shape := ⟨4, ![4, 4096, 8, 16]⟩
abbrev S1x4096x1x16 : Shape := ⟨4, ![1, 4096, 1, 16]⟩
abbrev S4x4096x8x96 : Shape := ⟨4, ![4, 4096, 8, 96]⟩

abbrev nBuf : Space → Nat
  | .hbm => 164
  | .vmem => 0
  | .smem => 0
  | _ => 0

abbrev hbmTy0_0 (i : Nat) : BufTy := match i % 128 with
  | 0 => ⟨S16384x2048, .f32⟩
  | 1 => ⟨S2048, .f32⟩
  | 2 => ⟨S1x2048x7176, .f32⟩
  | 3 => ⟨S1x128, .f32⟩
  | 4 => ⟨S1x128, .f32⟩
  | 5 => ⟨S1x128, .f32⟩
  | 6 => ⟨S1x128, .f32⟩
  | 7 => ⟨S4096x16, .f32⟩
  | 8 => ⟨S4096x16, .f32⟩
  | 9 => ⟨S16384x2048, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x2048, .f32⟩
  | 21 => ⟨S16384x2048, .f32⟩
  | 22 => ⟨S1x2048, .f32⟩
  | 23 => ⟨S16384x2048, .f32⟩
  | 24 => ⟨S16384x2048, .f32⟩
  | 25 => ⟨S2048x7176, .f32⟩
  | 26 => ⟨S16384x7176, .f32⟩
  | 27 => ⟨S16384x1024, .f32⟩
  | 28 => ⟨S16384x1024, .f32⟩
  | 29 => ⟨S16384x1024, .f32⟩
  | 30 => ⟨S16384x1024, .f32⟩
  | 31 => ⟨S16384x8, .f32⟩
  | 32 => ⟨S16384x1024, .f32⟩
  | 33 => ⟨S16384x1024, .f32⟩
  | 34 => ⟨S16384x1024, .f32⟩
  | 35 => ⟨S4x4096x8x128, .f32⟩
  | 36 => ⟨S128, .f32⟩
  | 37 => ⟨S4x4096x8x128, .f32⟩
  | 38 => ⟨S_, .f32⟩
  | 39 => ⟨S4x4096x8, .f32⟩
  | 40 => ⟨S4x4096x8x1, .f32⟩
  | 41 => ⟨S_, .f32⟩
  | 42 => ⟨S4x4096x8x1, .f32⟩
  | 43 => ⟨S4x4096x8x1, .f32⟩
  | 44 => ⟨S_, .f32⟩
  | 45 => ⟨S4x4096x8x1, .f32⟩
  | 46 => ⟨S4x4096x8x1, .f32⟩
  | 47 => ⟨S4x4096x8x1, .f32⟩
  | 48 => ⟨S4x4096x8x128, .f32⟩
  | 49 => ⟨S4x4096x8x128, .f32⟩
  | 50 => ⟨S1x1x1x128, .f32⟩
  | 51 => ⟨S4x4096x8x128, .f32⟩
  | 52 => ⟨S4x4096x8x128, .f32⟩
  | 53 => ⟨S4x4096x8x128, .f32⟩
  | 54 => ⟨S128, .f32⟩
  | 55 => ⟨S4x4096x8x128, .f32⟩
  | 56 => ⟨S_, .f32⟩
  | 57 => ⟨S4x4096x8, .f32⟩
  | 58 => ⟨S4x4096x8x1, .f32⟩
  | 59 => ⟨S_, .f32⟩
  | 60 => ⟨S4x4096x8x1, .f32⟩
  | 61 => ⟨S4x4096x8x1, .f32⟩
  | 62 => ⟨S_, .f32⟩
  | 63 => ⟨S4x4096x8x1, .f32⟩
  | 64 => ⟨S4x4096x8x1, .f32⟩
  | 65 => ⟨S4x4096x8x1, .f32⟩
  | 66 => ⟨S4x4096x8x128, .f32⟩
  | 67 => ⟨S4x4096x8x128, .f32⟩
  | 68 => ⟨S1x1x1x128, .f32⟩
  | 69 => ⟨S4x4096x8x128, .f32⟩
  | 70 => ⟨S4x4096x8x128, .f32⟩
  | 71 => ⟨S16384x1024, .f32⟩
  | 72 => ⟨S16384x1024, .f32⟩
  | 73 => ⟨S_, .f32⟩
  | 74 => ⟨S16384x1024, .f32⟩
  | 75 => ⟨S16384x1024, .f32⟩
  | 76 => ⟨S_, .f32⟩
  | 77 => ⟨S16384x1024, .f32⟩
  | 78 => ⟨S16384x1024, .f32⟩
  | 79 => ⟨S4096x1x16, .f32⟩
  | 80 => ⟨S4096x1x16, .f32⟩
  | 81 => ⟨S4x4096x8x128, .f32⟩
  | 82 => ⟨S128, .f32⟩
  | 83 => ⟨S4x4096x8x128, .f32⟩
  | 84 => ⟨S_, .f32⟩
  | 85 => ⟨S4x4096x8, .f32⟩
  | 86 => ⟨S4x4096x8x1, .f32⟩
  | 87 => ⟨S_, .f32⟩
  | 88 => ⟨S4x4096x8x1, .f32⟩
  | 89 => ⟨S4x4096x8x1, .f32⟩
  | 90 => ⟨S_, .f32⟩
  | 91 => ⟨S4x4096x8x1, .f32⟩
  | 92 => ⟨S4x4096x8x1, .f32⟩
  | 93 => ⟨S4x4096x8x1, .f32⟩
  | 94 => ⟨S4x4096x8x128, .f32⟩
  | 95 => ⟨S4x4096x8x128, .f32⟩
  | 96 => ⟨S1x1x1x128, .f32⟩
  | 97 => ⟨S4x4096x8x128, .f32⟩
  | 98 => ⟨S4x4096x8x128, .f32⟩
  | 99 => ⟨S4x4096x8x16, .f32⟩
  | 100 => ⟨S4x4096x8x16, .f32⟩
  | 101 => ⟨S1x4096x1x16, .f32⟩
  | 102 => ⟨S4x4096x8x16, .f32⟩
  | 103 => ⟨S4x4096x8x16, .f32⟩
  | 104 => ⟨S1x4096x1x16, .f32⟩
  | 105 => ⟨S4x4096x8x16, .f32⟩
  | 106 => ⟨S4x4096x8x16, .f32⟩
  | 107 => ⟨S4x4096x8x16, .f32⟩
  | 108 => ⟨S1x4096x1x16, .f32⟩
  | 109 => ⟨S4x4096x8x16, .f32⟩
  | 110 => ⟨S4x4096x8x16, .f32⟩
  | 111 => ⟨S1x4096x1x16, .f32⟩
  | 112 => ⟨S4x4096x8x16, .f32⟩
  | 113 => ⟨S4x4096x8x16, .f32⟩
  | 114 => ⟨S4x4096x8x16, .f32⟩
  | 115 => ⟨S4x4096x8x96, .f32⟩
  | 116 => ⟨S4x4096x8x128, .f32⟩
  | 117 => ⟨S4x4096x8x128, .f32⟩
  | 118 => ⟨S128, .f32⟩
  | 119 => ⟨S4x4096x8x128, .f32⟩
  | 120 => ⟨S_, .f32⟩
  | 121 => ⟨S4x4096x8, .f32⟩
  | 122 => ⟨S4x4096x8x1, .f32⟩
  | 123 => ⟨S_, .f32⟩
  | 124 => ⟨S4x4096x8x1, .f32⟩
  | 125 => ⟨S4x4096x8x1, .f32⟩
  | 126 => ⟨S_, .f32⟩
  | 127 => ⟨S4x4096x8x1, .f32⟩
  | _ => ⟨S16384x2048, .f32⟩

abbrev hbmTy0_1 (i : Nat) : BufTy := match i % 128 with
  | 0 => ⟨S4x4096x8x1, .f32⟩
  | 1 => ⟨S4x4096x8x1, .f32⟩
  | 2 => ⟨S4x4096x8x128, .f32⟩
  | 3 => ⟨S4x4096x8x128, .f32⟩
  | 4 => ⟨S1x1x1x128, .f32⟩
  | 5 => ⟨S4x4096x8x128, .f32⟩
  | 6 => ⟨S4x4096x8x128, .f32⟩
  | 7 => ⟨S4x4096x8x16, .f32⟩
  | 8 => ⟨S4x4096x8x16, .f32⟩
  | 9 => ⟨S1x4096x1x16, .f32⟩
  | 10 => ⟨S4x4096x8x16, .f32⟩
  | 11 => ⟨S4x4096x8x16, .f32⟩
  | 12 => ⟨S1x4096x1x16, .f32⟩
  | 13 => ⟨S4x4096x8x16, .f32⟩
  | 14 => ⟨S4x4096x8x16, .f32⟩
  | 15 => ⟨S4x4096x8x16, .f32⟩
  | 16 => ⟨S1x4096x1x16, .f32⟩
  | 17 => ⟨S4x4096x8x16, .f32⟩
  | 18 => ⟨S4x4096x8x16, .f32⟩
  | 19 => ⟨S1x4096x1x16, .f32⟩
  | 20 => ⟨S4x4096x8x16, .f32⟩
  | 21 => ⟨S4x4096x8x16, .f32⟩
  | 22 => ⟨S4x4096x8x16, .f32⟩
  | 23 => ⟨S4x4096x8x96, .f32⟩
  | 24 => ⟨S4x4096x8x128, .f32⟩
  | 25 => ⟨S16384x1024, .f32⟩
  | 26 => ⟨S16384x1024, .bf16⟩
  | 27 => ⟨S16384x1024, .f32⟩
  | 28 => ⟨S16384x1024, .bf16⟩
  | 29 => ⟨S16384x1024, .bf16⟩
  | 30 => ⟨S16384x1024, .bf16⟩
  | 31 => ⟨S16384x1024, .f32⟩
  | 32 => ⟨S16384x1024, .bf16⟩
  | 33 => ⟨S16384x1024, .f32⟩
  | 34 => ⟨S16384x1024, .bf16⟩
  | 35 => ⟨S16384x1024, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_13 : Ref sig .tc := ⟨.hbm, 120, rfl⟩
abbrev main_v97 : Ref sig .tc := ⟨.hbm, 121, rfl⟩
abbrev main_v98 : Ref sig .tc := ⟨.hbm, 122, rfl⟩
abbrev main_cst_14 : Ref sig .tc := ⟨.hbm, 123, rfl⟩
abbrev main_v99 : Ref sig .tc := ⟨.hbm, 124, rfl⟩
abbrev main_v100 : Ref sig .tc := ⟨.hbm, 125, rfl⟩
abbrev main_cst_15 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S1x2048x5168 : Shape := ⟨3, ![1, 2048, 5168]⟩
abbrev S1x128 : Shape := ⟨2, ![1, 128]⟩
abbrev S4096x16 : Shape := ⟨2, ![4096, 16]⟩
abbrev S_ : Shape := ⟨0, ![]⟩
abbrev S4096x128 : Shape := ⟨2, ![4096, 128]⟩
abbrev S1 : Shape := ⟨1, ![1]⟩
abbrev S1x4096x128 : Shape := ⟨3, ![1, 4096, 128]⟩
abbrev S3x4096x128 : Shape := ⟨3, ![3, 4096, 128]⟩
abbrev S2048x5168 : Shape := ⟨2, ![2048, 5168]⟩
abbrev S2048x3584 : Shape := ⟨2, ![2048, 3584]⟩
abbrev S2048x512 : Shape := ⟨2, ![2048, 512]⟩
abbrev S2048x5120 : Shape := ⟨2, ![2048, 5120]⟩
abbrev S2048x48 : Shape := ⟨2, ![2048, 48]⟩
abbrev S2048x128 : Shape := ⟨2, ![2048, 128]⟩
abbrev S128 : Shape := ⟨1, ![128]⟩
abbrev S3x128 : Shape := ⟨2, ![3, 128]⟩
abbrev S8x128 : Shape := ⟨2, ![8, 128]⟩
abbrev S1x2048 : Shape := ⟨2, ![1, 2048]⟩
abbrev S16384x5120 : Shape := ⟨2, ![16384, 5120]⟩
abbrev S16384x128 : Shape := ⟨2, ![16384, 128]⟩
abbrev S2x4x4x4096x128 : Shape := ⟨5, ![2, 4, 4, 4096, 128]⟩
abbrev S1024x2048 : Shape := ⟨2, ![1024, 2048]⟩
abbrev S2048x1024 : Shape := ⟨2, ![2048, 1024]⟩
abbrev S3x1024x128 : Shape := ⟨3, ![3, 1024, 128]⟩
abbrev S1024x1024 : Shape := ⟨2, ![1024, 1024]⟩
abbrev S1024x128 : Shape := ⟨2, ![1024, 128]⟩
abbrev S2x1x4x1024x128 : Shape := ⟨5, ![2, 1, 4, 1024, 128]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1x1024x128 : Shape := ⟨3, ![1, 1024, 128]⟩
abbrev S1x1x1x1024x128 : Shape := ⟨5, ![1, 1, 1, 1024, 128]⟩
abbrev S16384x1024 : Shape := ⟨2, ![16384, 1024]⟩
abbrev S16384x512 : Shape := ⟨2, ![16384, 512]⟩
abbrev S16384x48 : Shape := ⟨2, ![16384, 48]⟩

abbrev nBuf : Space → Nat
  | .hbm => 68
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x5168, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S4096x16, .f32⟩
  | .hbm, ⟨7, _⟩ => ⟨S4096x16, .f32⟩
  | .hbm, ⟨8, _⟩ => ⟨S_, .f32⟩
  | .hbm, ⟨9, _⟩ => ⟨S4096x128, .f32⟩
  | .hbm, ⟨10, _⟩ => ⟨S_, .i32⟩
  | .hbm, ⟨11, _⟩ => ⟨S1, .i32⟩
  | .hbm, ⟨12, _⟩ => ⟨S4096x128, .f32⟩
  | .hbm, ⟨13, _⟩ => ⟨S_, .i32⟩
  | .hbm, ⟨14, _⟩ => ⟨S1, .i32⟩
  | .hbm, ⟨15, _⟩ => ⟨S4096x128, .f32⟩
  | .hbm, ⟨16, _⟩ => ⟨S_, .f32⟩
  | .hbm, ⟨17, _⟩ => ⟨S4096x128, .f32⟩
  | .hbm, ⟨18, _⟩ => ⟨S4096x16, .f32⟩
  | .hbm, ⟨19, _⟩ => ⟨S_, .i32⟩
  | .hbm, ⟨20, _⟩ => ⟨S1, .i32⟩
  | .hbm, ⟨21, _⟩ => ⟨S4096x128, .f32⟩
  | .hbm, ⟨22, _⟩ => ⟨S_, .f32⟩
  | .hbm, ⟨23, _⟩ => ⟨S4096x128, .f32⟩
  | .hbm, ⟨24, _⟩ => ⟨S_, .i32⟩
  | .hbm, ⟨25, _⟩ => ⟨S1, .i32⟩
  | .hbm, ⟨26, _⟩ => ⟨S4096x128, .f32⟩
  | .hbm, ⟨27, _⟩ => ⟨S1x4096x128, .f32⟩
  | .hbm, ⟨28, _⟩ => ⟨S1x4096x128, .f32⟩
  | .hbm, ⟨29, _⟩ => ⟨S1x4096x128, .f32⟩
  | .hbm, ⟨30, _⟩ => ⟨S3x4096x128, .f32⟩
  | .hbm, ⟨31, _⟩ => ⟨S2048x5168, .f32⟩
  | .hbm, ⟨32, _⟩ => ⟨S2048x3584, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x5120, .f32⟩
  | .hbm, ⟨37, _⟩ => ⟨S2048x5120, .bf16⟩
  | .hbm, ⟨38, _⟩ => ⟨S2048x48, .f32⟩
  | .hbm, ⟨39, _⟩ => ⟨S_, .f32⟩
  | .hbm, ⟨40, _⟩ => ⟨S2048x128, .f32⟩
  | .hbm, ⟨41, _⟩ => ⟨S_, .i32⟩
  | .hbm, ⟨42, _⟩ => ⟨S1, .i32⟩
  | .hbm, ⟨43, _⟩ => ⟨S2048x128, .f32⟩
  | .hbm, ⟨44, _⟩ => ⟨S2048x128, .bf16⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S3x128, .f32⟩
  | .hbm, ⟨52, _⟩ => ⟨S_, .f32⟩
  | .hbm, ⟨53, _⟩ => ⟨S8x128, .f32⟩
  | .hbm, ⟨54, _⟩ => ⟨S_, .i32⟩
  | .hbm, ⟨55, _⟩ => ⟨S1, .i32⟩
  | .hbm, ⟨56, _⟩ => ⟨S8x128, .f32⟩
  | .hbm, ⟨57, _⟩ => ⟨S1x2048, .f32⟩
  | .hbm, ⟨58, _⟩ => ⟨S16384x5120, .bf16⟩
  | .hbm, ⟨59, _⟩ => ⟨S16384x128, .f32⟩
  | .hbm, ⟨60, _⟩ => ⟨S2x4x4x4096x128, .bf16⟩
  | .hbm, ⟨61, _⟩ => ⟨S16384x2048, .bf16⟩
  | .hbm, ⟨62, _⟩ => ⟨S16384x1024, .bf16⟩
  | .hbm, ⟨63, _⟩ => ⟨S16384x512, .bf16⟩
  | .hbm, ⟨64, _⟩ => ⟨S16384x512, .bf16⟩
  | .hbm, ⟨65, _⟩ => ⟨S16384x512, .bf16⟩
  | .hbm, ⟨66, _⟩ => ⟨S16384x512, .bf16⟩
  | .hbm, ⟨67, _⟩ => ⟨S16384x48, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S8x128, .f32⟩
  | .local _ .vmem, ⟨7, _⟩ => ⟨S3x1024x128, .f32⟩
  | .local _ .vmem, ⟨8, _⟩ => ⟨S3x1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | .local _ .vmem, ⟨13, _⟩ => ⟨S2x1x4x1024x128, .bf16⟩
  | .local _ .vmem, ⟨14, _⟩ => ⟨S2x1x4x1024x128, .bf16⟩
  | .local _ .vmem, ⟨15, _⟩ => ⟨S1024x2048, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, v26.toNat, c0_i32_12.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S3x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x4x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S16384x2048 : Shape := ⟨2, ![16384, 2048]⟩
abbrev S2048 : Shape := ⟨1, ![2048]⟩
abbrev S1x2048x5168 : Shape := ⟨3, ![1, 2048, 5168]⟩
abbrev S1x128 : Shape := ⟨2, ![1, 128]⟩
abbrev S4096x16 : Shape := ⟨2, ![4096, 16]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x5168 : Shape := ⟨2, ![2048, 5168]⟩
abbrev S16384x5168 : Shape := ⟨2, ![16384, 5168]⟩
abbrev S16384x512 : Shape := ⟨2, ![16384, 512]⟩
abbrev S16384x48 : Shape := ⟨2, ![16384, 48]⟩
abbrev S4096x1x16 : Shape := ⟨3, ![4096, 1, 16]⟩
abbrev S4x4096x16x128 : Shape := ⟨4, ![4, 4096, 16, 128]⟩
abbrev S128 : Shape := ⟨1, ![128]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x16x16 : Shape := ⟨4, ![4, 4096, 16, 16]⟩
abbrev S1x4096x1x16 : Shape := ⟨4, ![1, 4096, 1, 16]⟩
abbrev S4x4096x16x96 : Shape := ⟨4, ![4, 4096, 16, 96]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S4x4096x4x16 : Shape := ⟨4, ![4, 4096, 4, 16]⟩
abbrev S4x4096x4x96 : Shape := ⟨4, ![4, 4096, 4, 96]⟩
abbrev S4x4x4096x128 : Shape := ⟨4, ![4, 4, 4096, 128]⟩
abbrev S1x4x4x4096x128 : Shape := ⟨5, ![1, 4, 4, 4096, 128]⟩
abbrev S2x4x4x4096x128 : Shape := ⟨5, ![2, 4, 4, 4096, 128]⟩
abbrev S16384x1024 : Shape := ⟨2, ![16384, 1024]⟩

abbrev nBuf : Space → Nat
  | .hbm => 170
  | .vmem => 0
  | .smem => 0
  | _ => 0

abbrev hbmTy0_0 (i : Nat) : BufTy := match i % 128 with
  | 0 => ⟨S16384x2048, .f32⟩
  | 1 => ⟨S2048, .f32⟩
  | 2 => ⟨S1x2048x5168, .f32⟩
  | 3 => ⟨S1x128, .f32⟩
  | 4 => ⟨S1x128, .f32⟩
  | 5 => ⟨S1x128, .f32⟩
  | 6 => ⟨S4096x16, .f32⟩
  | 7 => ⟨S4096x16, .f32⟩
  | 8 => ⟨S16384x2048, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x2048, .f32⟩
  | 20 => ⟨S16384x2048, .f32⟩
  | 21 => ⟨S1x2048, .f32⟩
  | 22 => ⟨S16384x2048, .f32⟩
  | 23 => ⟨S16384x2048, .f32⟩
  | 24 => ⟨S2048x5168, .f32⟩
  | 25 => ⟨S16384x5168, .f32⟩
  | 26 => ⟨S16384x2048, .f32⟩
  | 27 => ⟨S16384x512, .f32⟩
  | 28 => ⟨S16384x512, .f32⟩
  | 29 => ⟨S16384x512, .f32⟩
  | 30 => ⟨S16384x512, .f32⟩
  | 31 => ⟨S16384x512, .f32⟩
  | 32 => ⟨S16384x512, .f32⟩
  | 33 => ⟨S16384x48, .f32⟩
  | 34 => ⟨S4096x1x16, .f32⟩
  | 35 => ⟨S4096x1x16, .f32⟩
  | 36 => ⟨S4x4096x16x128, .f32⟩
  | 37 => ⟨S128, .f32⟩
  | 38 => ⟨S4x4096x16x128, .f32⟩
  | 39 => ⟨S_, .f32⟩
  | 40 => ⟨S4x4096x16, .f32⟩
  | 41 => ⟨S4x4096x16x1, .f32⟩
  | 42 => ⟨S_, .f32⟩
  | 43 => ⟨S4x4096x16x1, .f32⟩
  | 44 => ⟨S4x4096x16x1, .f32⟩
  | 45 => ⟨S_, .f32⟩
  | 46 => ⟨S4x4096x16x1, .f32⟩
  | 47 => ⟨S4x4096x16x1, .f32⟩
  | 48 => ⟨S4x4096x16x1, .f32⟩
  | 49 => ⟨S4x4096x16x128, .f32⟩
  | 50 => ⟨S4x4096x16x128, .f32⟩
  | 51 => ⟨S1x1x1x128, .f32⟩
  | 52 => ⟨S4x4096x16x128, .f32⟩
  | 53 => ⟨S4x4096x16x128, .f32⟩
  | 54 => ⟨S4x4096x16x16, .f32⟩
  | 55 => ⟨S4x4096x16x16, .f32⟩
  | 56 => ⟨S1x4096x1x16, .f32⟩
  | 57 => ⟨S4x4096x16x16, .f32⟩
  | 58 => ⟨S4x4096x16x16, .f32⟩
  | 59 => ⟨S1x4096x1x16, .f32⟩
  | 60 => ⟨S4x4096x16x16, .f32⟩
  | 61 => ⟨S4x4096x16x16, .f32⟩
  | 62 => ⟨S4x4096x16x16, .f32⟩
  | 63 => ⟨S1x4096x1x16, .f32⟩
  | 64 => ⟨S4x4096x16x16, .f32⟩
  | 65 => ⟨S4x4096x16x16, .f32⟩
  | 66 => ⟨S1x4096x1x16, .f32⟩
  | 67 => ⟨S4x4096x16x16, .f32⟩
  | 68 => ⟨S4x4096x16x16, .f32⟩
  | 69 => ⟨S4x4096x16x16, .f32⟩
  | 70 => ⟨S4x4096x16x96, .f32⟩
  | 71 => ⟨S4x4096x16x128, .f32⟩
  | 72 => ⟨S4x4096x4x128, .f32⟩
  | 73 => ⟨S128, .f32⟩
  | 74 => ⟨S4x4096x4x128, .f32⟩
  | 75 => ⟨S_, .f32⟩
  | 76 => ⟨S4x4096x4, .f32⟩
  | 77 => ⟨S4x4096x4x1, .f32⟩
  | 78 => ⟨S_, .f32⟩
  | 79 => ⟨S4x4096x4x1, .f32⟩
  | 80 => ⟨S4x4096x4x1, .f32⟩
  | 81 => ⟨S_, .f32⟩
  | 82 => ⟨S4x4096x4x1, .f32⟩
  | 83 => ⟨S4x4096x4x1, .f32⟩
  | 84 => ⟨S4x4096x4x1, .f32⟩
  | 85 => ⟨S4x4096x4x128, .f32⟩
  | 86 => ⟨S4x4096x4x128, .f32⟩
  | 87 => ⟨S1x1x1x128, .f32⟩
  | 88 => ⟨S4x4096x4x128, .f32⟩
  | 89 => ⟨S4x4096x4x128, .f32⟩
  | 90 => ⟨S4x4096x4x16, .f32⟩
  | 91 => ⟨S4x4096x4x16, .f32⟩
  | 92 => ⟨S1x4096x1x16, .f32⟩
  | 93 => ⟨S4x4096x4x16, .f32⟩
  | 94 => ⟨S4x4096x4x16, .f32⟩
  | 95 => ⟨S1x4096x1x16, .f32⟩
  | 96 => ⟨S4x4096x4x16, .f32⟩
  | 97 => ⟨S4x4096x4x16, .f32⟩
  | 98 => ⟨S4x4096x4x16, .f32⟩
  | 99 => ⟨S1x4096x1x16, .f32⟩
  | 100 => ⟨S4x4096x4x16, .f32⟩
  | 101 => ⟨S4x4096x4x16, .f32⟩
  | 102 => ⟨S1x4096x1x16, .f32⟩
  | 103 => ⟨S4x4096x4x16, .f32⟩
  | 104 => ⟨S4x4096x4x16, .f32⟩
  | 105 => ⟨S4x4096x4x16, .f32⟩
  | 106 => ⟨S4x4096x4x96, .f32⟩
  | 107 => ⟨S4x4096x4x128, .f32⟩
  | 108 => ⟨S4x4096x4x128, .f32⟩
  | 109 => ⟨S128, .f32⟩
  | 110 => ⟨S4x4096x4x128, .f32⟩
  | 111 => ⟨S_, .f32⟩
  | 112 => ⟨S4x4096x4, .f32⟩
  | 113 => ⟨S4x4096x4x1, .f32⟩
  | 114 => ⟨S_, .f32⟩
  | 115 => ⟨S4x4096x4x1, .f32⟩
  | 116 => ⟨S4x4096x4x1, .f32⟩
  | 117 => ⟨S_, .f32⟩
  | 118 => ⟨S4x4096x4x1, .f32⟩
  | 119 => ⟨S4x4096x4x1, .f32⟩
  | 120 => ⟨S4x4096x4x1, .f32⟩
  | 121 => ⟨S4x4096x4x128, .f32⟩
  | 122 => ⟨S4x4096x4x128, .f32⟩
  | 123 => ⟨S1x1x1x128, .f32⟩
  | 124 => ⟨S4x4096x4x128, .f32⟩
  | 125 => ⟨S4x4096x4x128, .f32⟩
  | 126 => ⟨S4x4096x4x16, .f32⟩
  | 127 => ⟨S4x4096x4x16, .f32⟩
  | _ => ⟨S16384x2048, .f32⟩

abbrev hbmTy0_1 (i : Nat) : BufTy := match i % 128 with
  | 0 => ⟨S1x4096x1x16, .f32⟩
  | 1 => ⟨S4x4096x4x16, .f32⟩
  | 2 => ⟨S4x4096x4x16, .f32⟩
  | 3 => ⟨S1x4096x1x16, .f32⟩
  | 4 => ⟨S4x4096x4x16, .f32⟩
  | 5 => ⟨S4x4096x4x16, .f32⟩
  | 6 => ⟨S4x4096x4x16, .f32⟩
  | 7 => ⟨S1x4096x1x16, .f32⟩
  | 8 => ⟨S4x4096x4x16, .f32⟩
  | 9 => ⟨S4x4096x4x16, .f32⟩
  | 10 => ⟨S1x4096x1x16, .f32⟩
  | 11 => ⟨S4x4096x4x16, .f32⟩
  | 12 => ⟨S4x4096x4x16, .f32⟩
  | 13 => ⟨S4x4096x4x16, .f32⟩
  | 14 => ⟨S4x4096x4x96, .f32⟩
  | 15 => ⟨S4x4096x4x128, .f32⟩
  | 16 => ⟨S16384x48, .f32⟩
  | 17 => ⟨S16384x48, .f32⟩
  | 18 => ⟨S_, .f32⟩
  | 19 => ⟨S16384x48, .f32⟩
  | 20 => ⟨S16384x48, .f32⟩
  | 21 => ⟨S_, .f32⟩
  | 22 => ⟨S16384x48, .f32⟩
  | 23 => ⟨S16384x48, .f32⟩
  | 24 => ⟨S4x4096x4x128, .f32⟩
  | 25 => ⟨S4x4x4096x128, .f32⟩
  | 26 => ⟨S4x4096x4x128, .f32⟩
  | 27 => ⟨S4x4x4096x128, .f32⟩
  | 28 => ⟨S1x4x4x4096x128, .f32⟩
  | 29 => ⟨S1x4x4x4096x128, .f32⟩
  | 30 => ⟨S2x4x4x4096x128, .f32⟩
  | 31 => ⟨S2x4x4x4096x128, .bf16⟩
  | 32 => ⟨S16384x2048, .f32⟩
  | 33 => ⟨S16384x2048, .bf16⟩
  | 34 => ⟨S16384x1024, .f32⟩
  | 35 => ⟨S16384x1024, .bf16⟩
  | 36 => ⟨S16384x512, .f32⟩
  | 37 => ⟨S16384x512, .bf16⟩
  | 38 => ⟨S16384x512, .f32⟩
  | 39 => ⟨S16384x512, .bf16⟩
  | 40 => ⟨S16384x512, .bf16⟩
  | 41 => ⟨S16384x512, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_v61 : Ref sig .tc := ⟨.hbm, 76, rfl⟩
abbrev main_v62 : Ref sig .tc := ⟨.hbm, 77, rfl⟩
abbrev main_cst_6 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_8 : Ref sig .tc := ⟨.hbm, 111, rfl⟩
abbrev main_v94 : Ref sig .tc := ⟨.hbm, 112, rfl⟩
abbrev main_v95 : Ref sig .tc := ⟨.hbm, 113, rfl⟩
abbrev main_cst_9 : Ref sig .tc := ⟨.hbm, 114, rfl⟩
abbrev main_v96 : Ref sig .tc := ⟨.hbm, 115, rfl⟩
abbrev main_v97 : Ref sig .tc := ⟨.hbm, 116, rfl⟩
abbrev main_cst_10 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_11 : Ref sig .tc := ⟨.hbm, 146, rfl⟩
abbrev main_v126 : Ref sig .tc := ⟨.hbm, 147, rfl⟩
abbrev main_v127 : Ref sig .tc := ⟨.hbm, 148, rfl⟩
abbrev main_cst_12 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩

abbrev nD : Nat := 1
abbrev τ : Topo := Topo.v7x

variable {F : FTy → Type} [FloatOps F]
-- ==== Kernel7.lean ====
abbrev S2x4x4x4096x128 : Shape := ⟨5, ![2, 4, 4, 4096, 128]⟩
abbrev S1x32x128 : Shape := ⟨3, ![1, 32, 128]⟩
abbrev S1x4096x128 : Shape := ⟨3, ![1, 4096, 128]⟩
abbrev S1x128x128 : Shape := ⟨3, ![1, 128, 128]⟩
abbrev S1x128 : Shape := ⟨2, ![1, 128]⟩
abbrev S255x16 : Shape := ⟨2, ![255, 16]⟩
abbrev S_ : Shape := ⟨0, ![]⟩
abbrev S256x16 : Shape := ⟨2, ![256, 16]⟩
abbrev S256x128 : Shape := ⟨2, ![256, 128]⟩
abbrev S1 : Shape := ⟨1, ![1]⟩
abbrev S1x256x128 : Shape := ⟨3, ![1, 256, 128]⟩
abbrev S3x256x128 : Shape := ⟨3, ![3, 256, 128]⟩
abbrev S2x16x256x2048 : Shape := ⟨4, ![2, 16, 256, 2048]⟩
abbrev S32x128 : Shape := ⟨2, ![32, 128]⟩
abbrev S2x32x128 : Shape := ⟨3, ![2, 32, 128]⟩
abbrev S2x1x4096 : Shape := ⟨3, ![2, 1, 4096]⟩
abbrev S4096x128 : Shape := ⟨2, ![4096, 128]⟩
abbrev S2x4096x128 : Shape := ⟨3, ![2, 4096, 128]⟩
abbrev S128x128 : Shape := ⟨2, ![128, 128]⟩
abbrev S2x128x128 : Shape := ⟨3, ![2, 128, 128]⟩
abbrev S128 : Shape := ⟨1, ![128]⟩
abbrev S2x16x256x128 : Shape := ⟨4, ![2, 16, 256, 128]⟩
abbrev S1x1x256x2048 : Shape := ⟨4, ![1, 1, 256, 2048]⟩
abbrev S1x1x4096 : Shape := ⟨3, ![1, 1, 4096]⟩
abbrev S1x1x256x128 : Shape := ⟨4, ![1, 1, 256, 128]⟩
abbrev S256x2048 : Shape := ⟨2, ![256, 2048]⟩
abbrev S1x1x2048 : Shape := ⟨3, ![1, 1, 2048]⟩
abbrev S1x2048 : Shape := ⟨2, ![1, 2048]⟩
abbrev S1x2048x128 : Shape := ⟨3, ![1, 2048, 128]⟩
abbrev S2048x128 : Shape := ⟨2, ![2048, 128]⟩
abbrev S256 : Shape := ⟨1, ![256]⟩
abbrev S256x1 : Shape := ⟨2, ![256, 1]⟩
abbrev S2x16x255x128 : Shape := ⟨4, ![2, 16, 255, 128]⟩

abbrev nBuf : Space → Nat
  | .hbm => 62
  | .vmem => 12
  | .smem => 0
  | _ => 0

abbrev bufTy : (tb : Table) → Fin (tcTables nBuf tb) → BufTy
  | .hbm, ⟨0, _⟩ => ⟨S2x4x4x4096x128, .bf16⟩
  | .hbm, ⟨1, _⟩ => ⟨S1x32x128, .f32⟩
  | .hbm, ⟨2, _⟩ => ⟨S1x32x128, .f32⟩
  | .hbm, ⟨3, _⟩ => ⟨S1x4096x128, .f32⟩
  | .hbm, ⟨4, _⟩ => ⟨S1x4096x128, .f32⟩
  | .hbm, ⟨5, _⟩ => ⟨S1x128x128, .f32⟩
  | .hbm, ⟨6, _⟩ => ⟨S1x128x128, .f32⟩
  | .hbm, ⟨7, _⟩ => ⟨S1x128, .f32⟩
  | .hbm, ⟨8, _⟩ => ⟨S255x16, .f32⟩
  | .hbm, ⟨9, _⟩ => ⟨S255x16, .f32⟩
  | .hbm, ⟨10, _⟩ => ⟨S_, .i32⟩
  | .hbm, ⟨11, _⟩ => ⟨S_, .f32⟩
  | .hbm, ⟨12, _⟩ => ⟨S256x16, .f32⟩
  | .hbm, ⟨13, _⟩ => ⟨S_, .i32⟩
  | .hbm, ⟨14, _⟩ => ⟨S_, .f32⟩
  | .hbm, ⟨15, _⟩ => ⟨S256x16, .f32⟩
  | .hbm, ⟨16, _⟩ => ⟨S_, .f32⟩
  | .hbm, ⟨17, _⟩ => ⟨S256x128, .f32⟩
  | .hbm, ⟨18, _⟩ => ⟨S_, .i32⟩
  | .hbm, ⟨19, _⟩ => ⟨S1, .i32⟩
  | .hbm, ⟨20, _⟩ => ⟨S256x128, .f32⟩
  | .hbm, ⟨21, _⟩ => ⟨S_, .i32⟩
  | .hbm, ⟨22, _⟩ => ⟨S1, .i32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x16, .f32⟩
  | .hbm, ⟨27, _⟩ => ⟨S_, .i32⟩
  | .hbm, ⟨28, _⟩ => ⟨S1, .i32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S_, .i32⟩
  | .hbm, ⟨33, _⟩ => ⟨S1, .i32⟩
  | .hbm, ⟨34, _⟩ => ⟨S256x128, .f32⟩
  | .hbm, ⟨35, _⟩ => ⟨S1x256x128, .f32⟩
  | .hbm, ⟨36, _⟩ => ⟨S1x256x128, .f32⟩
  | .hbm, ⟨37, _⟩ => ⟨S1x256x128, .f32⟩
  | .hbm, ⟨38, _⟩ => ⟨S3x256x128, .f32⟩
  | .hbm, ⟨39, _⟩ => ⟨S2x16x256x2048, .bf16⟩
  | .hbm, ⟨40, _⟩ => ⟨S32x128, .f32⟩
  | .hbm, ⟨41, _⟩ => ⟨S32x128, .f32⟩
  | .hbm, ⟨42, _⟩ => ⟨S1x32x128, .f32⟩
  | .hbm, ⟨43, _⟩ => ⟨S1x32x128, .f32⟩
  | .hbm, ⟨44, _⟩ => ⟨S2x32x128, .f32⟩
  | .hbm, ⟨45, _⟩ => ⟨S2x1x4096, .f32⟩
  | .hbm, ⟨46, _⟩ => ⟨S4096x128, .f32⟩
  | .hbm, ⟨47, _⟩ => ⟨S4096x128, .f32⟩
  | .hbm, ⟨48, _⟩ => ⟨S1x4096x128, .f32⟩
  | .hbm, ⟨49, _⟩ => ⟨S1x4096x128, .f32⟩
  | .hbm, ⟨50, _⟩ => ⟨S2x4096x128, .f32⟩
  | .hbm, ⟨51, _⟩ => ⟨S2x4096x128, .bf16⟩
  | .hbm, ⟨52, _⟩ => ⟨S128x128, .f32⟩
  | .hbm, ⟨53, _⟩ => ⟨S128x128, .f32⟩
  | .hbm, ⟨54, _⟩ => ⟨S1x128x128, .f32⟩
  | .hbm, ⟨55, _⟩ => ⟨S1x128x128, .f32⟩
  | .hbm, ⟨56, _⟩ => ⟨S2x128x128, .f32⟩
  | .hbm, ⟨57, _⟩ => ⟨S2x128x128, .bf16⟩
  | .hbm, ⟨58, _⟩ => ⟨S128, .f32⟩
  | .hbm, ⟨59, _⟩ => ⟨S1x128, .f32⟩
  | .hbm, ⟨60, _⟩ => ⟨S2x16x256x128, .bf16⟩
  | .hbm, ⟨61, _⟩ => ⟨S2x16x255x128, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x1x4096, .f32⟩
  | .local _ .vmem, ⟨3, _⟩ => ⟨S1x1x4096, .f32⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128, .f32⟩
  | .local _ .vmem, ⟨9, _⟩ => ⟨S3x256x128, .f32⟩
  | .local _ .vmem, ⟨10, _⟩ => ⟨S1x1x256x128, .bf16⟩
  | .local _ .vmem, ⟨11, _⟩ => ⟨S1x1x256x128, .bf16⟩
  | _, _ => ⟨S2x4x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_c_1 : Ref sig .tc := ⟨.hbm, 18, rfl⟩
abbrev main_v3 : Ref sig .tc := ⟨.hbm, 19, rfl⟩
abbrev main_v4 : Ref sig .tc := ⟨.hbm, 20, rfl⟩
abbrev main_c_2 : Ref sig .tc := ⟨.hbm, 21, rfl⟩
abbrev main_v5 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_v8 : Ref sig .tc := ⟨.hbm, 26, rfl⟩
abbrev main_c_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_c_6 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_23 : BitVec 32 := 0#32
  let v40 : BitVec 1 := Scalar.cmpi .ne v39 c0_i32_23
  v40

def k0_cond2 (i : grid0.Coords) : BitVec 1 :=
  let arg0 : BitVec 32 := BitVec.ofNat 32 (i 0).val
  let c0_i32_24 : BitVec 32 := 0#32
  let v41 : BitVec 1 := Scalar.cmpi .ne arg0 c0_i32_24
  let v42 : BitVec 32 := Scalar.extui v41
  let c0_i32_25 : BitVec 32 := 0#32
  let v43 : BitVec 1 := Scalar.cmpi .ne v42 c0_i32_25
  v43

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x4x4x4096x128 : Shape := ⟨5, ![2, 4, 4, 4096, 128]⟩
abbrev S1x32x128 : Shape := ⟨3, ![1, 32, 128]⟩
abbrev S1x4096x128 : Shape := ⟨3, ![1, 4096, 128]⟩
abbrev S1x128x128 : Shape := ⟨3, ![1, 128, 128]⟩
abbrev S1x128 : Shape := ⟨2, ![1, 128]⟩
abbrev S255x16 : Shape := ⟨2, ![255, 16]⟩
abbrev S1x4x4x4096x128 : Shape := ⟨5, ![1, 4, 4, 4096, 128]⟩
abbrev S4x4x4096x128 : Shape := ⟨4, ![4, 4, 4096, 128]⟩
abbrev S32x128 : Shape := ⟨2, ![32, 128]⟩
abbrev S4096x128 : Shape := ⟨2, ![4096, 128]⟩
abbrev S128x128 : Shape := ⟨2, ![128, 128]⟩
abbrev S255x32 : Shape := ⟨2, ![255, 32]⟩
abbrev S_ : Shape := ⟨0, ![]⟩
abbrev S255x32x1 : Shape := ⟨3, ![255, 32, 1]⟩
abbrev S4x4x255x32x128 : Shape := ⟨5, ![4, 4, 255, 32, 128]⟩
abbrev S1x1x1x32x128 : Shape := ⟨5, ![1, 1, 1, 32, 128]⟩
abbrev S4x4x255x4096 : Shape := ⟨4, ![4, 4, 255, 4096]⟩
abbrev S4x4x255x128 : Shape := ⟨4, ![4, 4, 255, 128]⟩
abbrev S128 : Shape := ⟨1, ![128]⟩
abbrev S4x4x255 : Shape := ⟨3, ![4, 4, 255]⟩
abbrev S4x4x255x1 : Shape := ⟨4, ![4, 4, 255, 1]⟩
abbrev S1x1x1x128 : Shape := ⟨4, ![1, 1, 1, 128]⟩
abbrev S4x4x255x16 : Shape := ⟨4, ![4, 4, 255, 16]⟩
abbrev S1x1x255x16 : Shape := ⟨4, ![1, 1, 255, 16]⟩
abbrev S4x4x255x96 : Shape := ⟨4, ![4, 4, 255, 96]⟩
abbrev S1x4x4x255x128 : Shape := ⟨5, ![1, 4, 4, 255, 128]⟩
abbrev S2x4x4x255x128 : Shape := ⟨5, ![2, 4, 4, 255, 128]⟩
abbrev S2x16x255x128 : Shape := ⟨4, ![2, 16, 255, 128]⟩

abbrev nBuf : Space → Nat
  | .hbm => 138
  | .vmem => 0
  | .smem => 0
  | _ => 0

abbrev hbmTy0_0 (i : Nat) : BufTy := match i % 128 with
  | 0 => ⟨S2x4x4x4096x128, .bf16⟩
  | 1 => ⟨S1x32x128, .f32⟩
  | 2 => ⟨S1x32x128, .f32⟩
  | 3 => ⟨S1x4096x128, .f32⟩
  | 4 => ⟨S1x4096x128, .f32⟩
  | 5 => ⟨S1x128x128, .f32⟩
  | 6 => ⟨S1x128x128, .f32⟩
  | 7 => ⟨S1x128, .f32⟩
  | 8 => ⟨S255x16, .f32⟩
  | 9 => ⟨S255x16, .f32⟩
  | 10 => ⟨S1x4x4x4096x128, .bf16⟩
  | 11 => ⟨S4x4x4096x128, .bf16⟩
  | 12 => ⟨S4x4x4096x128, .f32⟩
  | 13 => ⟨S1x4x4x4096x128, .bf16⟩
  | 14 => ⟨S4x4x4096x128, .bf16⟩
  | 15 => ⟨S4x4x4096x128, .f32⟩
  | 16 => ⟨S32x128, .f32⟩
  | 17 => ⟨S4096x128, .f32⟩
  | 18 => ⟨S128x128, .f32⟩
  | 19 => ⟨S255x32, .i32⟩
  | 20 => ⟨S_, .i32⟩
  | 21 => ⟨S255x32, .i32⟩
  | 22 => ⟨S255x32, .i32⟩
  | 23 => ⟨S255x32, .i32⟩
  | 24 => ⟨S255x32, .i32⟩
  | 25 => ⟨S_, .i32⟩
  | 26 => ⟨S255x32, .i32⟩
  | 27 => ⟨S255x32, .i1⟩
  | 28 => ⟨S_, .i32⟩
  | 29 => ⟨S255x32, .i32⟩
  | 30 => ⟨S255x32, .i32⟩
  | 31 => ⟨S255x32, .i32⟩
  | 32 => ⟨S255x32x1, .i32⟩
  | 33 => ⟨S4x4x255x32x128, .f32⟩
  | 34 => ⟨S1x1x1x32x128, .f32⟩
  | 35 => ⟨S4x4x255x32x128, .f32⟩
  | 36 => ⟨S4x4x255x32x128, .f32⟩
  | 37 => ⟨S4x4x255x4096, .f32⟩
  | 38 => ⟨S4x4x255x128, .f32⟩
  | 39 => ⟨S4x4x255x128, .f32⟩
  | 40 => ⟨S4x4x255x128, .f32⟩
  | 41 => ⟨S_, .f32⟩
  | 42 => ⟨S4x4x255x128, .f32⟩
  | 43 => ⟨S4x4x255x128, .f32⟩
  | 44 => ⟨S4x4x255x128, .f32⟩
  | 45 => ⟨S_, .f32⟩
  | 46 => ⟨S4x4x255x128, .f32⟩
  | 47 => ⟨S4x4x255x128, .f32⟩
  | 48 => ⟨S4x4x255x128, .f32⟩
  | 49 => ⟨S_, .f32⟩
  | 50 => ⟨S4x4x255x128, .f32⟩
  | 51 => ⟨S4x4x255x128, .f32⟩
  | 52 => ⟨S_, .f32⟩
  | 53 => ⟨S4x4x255x128, .f32⟩
  | 54 => ⟨S4x4x255x128, .f32⟩
  | 55 => ⟨S4x4x255x128, .f32⟩
  | 56 => ⟨S4x4x255x128, .f32⟩
  | 57 => ⟨S128, .f32⟩
  | 58 => ⟨S4x4x255x128, .f32⟩
  | 59 => ⟨S_, .f32⟩
  | 60 => ⟨S4x4x255, .f32⟩
  | 61 => ⟨S4x4x255x1, .f32⟩
  | 62 => ⟨S_, .f32⟩
  | 63 => ⟨S4x4x255x1, .f32⟩
  | 64 => ⟨S4x4x255x1, .f32⟩
  | 65 => ⟨S_, .f32⟩
  | 66 => ⟨S4x4x255x1, .f32⟩
  | 67 => ⟨S4x4x255x1, .f32⟩
  | 68 => ⟨S4x4x255x1, .f32⟩
  | 69 => ⟨S4x4x255x128, .f32⟩
  | 70 => ⟨S4x4x255x128, .f32⟩
  | 71 => ⟨S1x1x1x128, .f32⟩
  | 72 => ⟨S4x4x255x128, .f32⟩
  | 73 => ⟨S4x4x255x128, .f32⟩
  | 74 => ⟨S4x4x255x16, .f32⟩
  | 75 => ⟨S4x4x255x16, .f32⟩
  | 76 => ⟨S1x1x255x16, .f32⟩
  | 77 => ⟨S4x4x255x16, .f32⟩
  | 78 => ⟨S4x4x255x16, .f32⟩
  | 79 => ⟨S1x1x255x16, .f32⟩
  | 80 => ⟨S4x4x255x16, .f32⟩
  | 81 => ⟨S4x4x255x16, .f32⟩
  | 82 => ⟨S4x4x255x16, .f32⟩
  | 83 => ⟨S1x1x255x16, .f32⟩
  | 84 => ⟨S4x4x255x16, .f32⟩
  | 85 => ⟨S4x4x255x16, .f32⟩
  | 86 => ⟨S1x1x255x16, .f32⟩
  | 87 => ⟨S4x4x255x16, .f32⟩
  | 88 => ⟨S4x4x255x16, .f32⟩
  | 89 => ⟨S4x4x255x16, .f32⟩
  | 90 => ⟨S4x4x255x96, .f32⟩
  | 91 => ⟨S4x4x255x128, .f32⟩
  | 92 => ⟨S32x128, .f32⟩
  | 93 => ⟨S4096x128, .f32⟩
  | 94 => ⟨S128x128, .f32⟩
  | 95 => ⟨S255x32, .i32⟩
  | 96 => ⟨S_, .i32⟩
  | 97 => ⟨S255x32, .i32⟩
  | 98 => ⟨S255x32, .i32⟩
  | 99 => ⟨S255x32, .i32⟩
  | 100 => ⟨S255x32, .i32⟩
  | 101 => ⟨S_, .i32⟩
  | 102 => ⟨S255x32, .i32⟩
  | 103 => ⟨S255x32, .i1⟩
  | 104 => ⟨S_, .i32⟩
  | 105 => ⟨S255x32, .i32⟩
  | 106 => ⟨S255x32, .i32⟩
  | 107 => ⟨S255x32, .i32⟩
  | 108 => ⟨S255x32x1, .i32⟩
  | 109 => ⟨S4x4x255x32x128, .f32⟩
  | 110 => ⟨S1x1x1x32x128, .f32⟩
  | 111 => ⟨S4x4x255x32x128, .f32⟩
  | 112 => ⟨S4x4x255x32x128, .f32⟩
  | 113 => ⟨S4x4x255x4096, .f32⟩
  | 114 => ⟨S4x4x255x128, .f32⟩
  | 115 => ⟨S4x4x255x128, .f32⟩
  | 116 => ⟨S4x4x255x128, .f32⟩
  | 117 => ⟨S_, .f32⟩
  | 118 => ⟨S4x4x255x128, .f32⟩
  | 119 => ⟨S4x4x255x128, .f32⟩
  | 120 => ⟨S4x4x255x128, .f32⟩
  | 121 => ⟨S_, .f32⟩
  | 122 => ⟨S4x4x255x128, .f32⟩
  | 123 => ⟨S4x4x255x128, .f32⟩
  | 124 => ⟨S4x4x255x128, .f32⟩
  | 125 => ⟨S_, .f32⟩
  | 126 => ⟨S4x4x255x128, .f32⟩
  | 127 => ⟨S4x4x255x128, .f32⟩
  | _ => ⟨S2x4x4x4096x128, .bf16⟩

abbrev hbmTy0_1 (i : Nat) : BufTy := match i % 128 with
  | 0 => ⟨S_, .f32⟩
  | 1 => ⟨S4x4x255x128, .f32⟩
  | 2 => ⟨S4x4x255x128, .f32⟩
  | 3 => ⟨S4x4x255x128, .f32⟩
  | 4 => ⟨S4x4x255x128, .f32⟩
  | 5 => ⟨S1x4x4x255x128, .f32⟩
  | 6 => ⟨S1x4x4x255x128, .f32⟩
  | 7 => ⟨S2x4x4x255x128, .f32⟩
  | 8 => ⟨S2x16x255x128, .f32⟩
  | 9 => ⟨S2x16x255x128, .bf16⟩
  | _ => ⟨S2x4x4x4096x128, .bf16⟩

abbrev hbmTy (i : Nat) : BufTy := match i / 128 with
  | 0 => hbmTy0_0 i
  | 1 => hbmTy0_1 i
  | _ => ⟨S2x4x4x4096x128, .bf16⟩

abbrev bufTy : (tb : Table) → Fin (tcTables nBuf tb) → BufTy
  | .hbm, ⟨i, _⟩ => hbmTy i
  | _, _ => ⟨S2x4x4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_c_9 : Ref sig .tc := ⟨.hbm, 101, rfl⟩
abbrev main_v80 : Ref sig .tc := ⟨.hbm, 102, rfl⟩
abbrev main_v81 : Ref sig .tc := ⟨.hbm, 103, rfl⟩
abbrev main_c_10 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_11 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_12 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_13 : Ref sig .tc := ⟨.hbm, 125, rfl⟩
abbrev main_v100 : Ref sig .tc := ⟨.hbm, 126, rfl⟩
abbrev main_v101 : Ref sig .tc := ⟨.hbm, 127, rfl⟩
abbrev main_cst_14 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩

abbrev nD : Nat := 1
abbrev τ : Topo := Topo.v7x

variable {F : FTy → Type} [FloatOps F]
-- ==== Proof.MlpBlock.lean ====
/-
  The MLP call, one grid point: what the body leaves in the output block and in the scratch block.
-/
module

public import proofs.«01_k».proof.Proof.Gen.Kernel2Ideal.Value
public import Idealize.ShloMosaic.Lib.Pointwise

@[expose] public section

noncomputable section

open Idealize.ShloMosaic Idealize.ShloMosaic.TcCoe Idealize.SL.Sem

namespace Cert.Kernel2Ideal.Mlp

open Cert.Kernel2Ideal Cert.Kernel2Ideal.Gen

/-- The two offsets of a load of a whole block are zero. -/
theorem hz : (![0, 0] : Fin 2 → Nat) = fun _ => 0 := funext fun a => by fin_cases a <;> rfl

/-- Columns `o … o+511` of a block of the first weight. -/
abbrev upHalf (w : Vec Ideal S1x2048x1024 .bf16) (o : Nat) (ho : o + 512 ≤ 1024) : Vec Ideal S1x2048x512 .bf16 :=
  fun j => w (ix3 0 (j 1) ⟨o + (j 2).val, by have : (j 2).val < 512 := (j 2).isLt; omega⟩)

/-- Rows `o … o+511` of a block of the second weight. -/
abbrev downHalf (w : Vec Ideal S1x1024x2048 .bf16) (o : Nat) (ho : o + 512 ≤ 1024) : Vec Ideal S1x512x2048 .bf16 :=
  fun j => w (ix3 0 ⟨o + (j 1).val, by have : (j 1).val < 512 := (j 1).isLt; omega⟩ (j 2))

/-- A load of half a block of the first weight reads those columns. -/
theorem ld_up (w : Vec Ideal S1x2048x1024 .bf16) (o : Nat) (ho : o + 512 ≤ 1024)
    (inb : ∀ a, (![0, 0, o] : Fin 3 → Nat) a + S1x2048x512.size a ≤ S1x2048x1024.size a) :
    View.ld (Val := Elt Ideal) w (Rect.unit (s := S1x2048x1024) ![0, 0, o] S1x2048x512.size inb) = upHalf w o ho := by
  rw [View.ld_unit]
  funext j
  have h0 : (j 0).val < 1 := (j 0).isLt
  refine extractStridedSlice_apply _ _ _ j _ fun a => ?_
  match a with
  | ⟨0, _⟩ => show 0 = 0 + (j 0).val; omega
  | ⟨1, _⟩ => show (j 1).val = 0 + (j 1).val; omega
  | ⟨2, _⟩ => rfl

/-- A load of half a block of the second weight reads those rows. -/
theorem ld_down (w : Vec Ideal S1x1024x2048 .bf16) (o : Nat) (ho : o + 512 ≤ 1024)
    (inb : ∀ a, (![0, o, 0] : Fin 3 → Nat) a + S1x512x2048.size a ≤ S1x1024x2048.size a) :
    View.ld (Val := Elt Ideal) w (Rect.unit (s := S1x1024x2048) ![0, o, 0] S1x512x2048.size inb) = downHalf w o ho := by
  rw [View.ld_unit]
  funext j
  have h0 : (j 0).val < 1 := (j 0).isLt
  refine extractStridedSlice_apply _ _ _ j _ fun a => ?_
  match a with
  | ⟨0, _⟩ => show 0 = 0 + (j 0).val; omega
  | ⟨1, _⟩ => rfl
  | ⟨2, _⟩ => show (j 2).val = 0 + (j 2).val; omega

section
variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S1x2048x1024 .bf16) (h4 : a4.IsWhole) (a5 : Memref sig .tc .vmem S1x1024x2048 .bf16) (h5 : a5.IsWhole)
  (a6 : Memref sig .tc .vmem S512x2048 .f32) (h6 : a6.IsWhole) (a7 : Memref sig .tc .vmem S512x2048 .bf16) (h7 : a7.IsWhole)
  (h : Vec Ideal S512x2048 .f32) (g : Vec Ideal S1x2048 .f32) (w : Vec Ideal S1x2048x1024 .bf16) (d : Vec Ideal S1x1024x2048 .bf16)
  (acc : Vec Ideal S512x2048 .f32) (xs : Vec Ideal S512x2048 .bf16)

/-- A later point of a row block: the output block grows by the two half products of the scratch rows. -/
theorem out_B (hc : ¬cond0_0 i) :
    out0_B_4 c i a2 h2 a3 h3 a4 h4 a5 h5 a6 h6 a7 h7 hc h g w d acc xs
      = k0_pay2 xs (upHalf w 0 (by omega)) (downHalf d 0 (by omega)) xs (upHalf w 512 (by omega)) (downHalf d 512 (by omega)) acc := by
  unfold out0_B_4
  rw [View.read_writes_eq_canon _ _ _ (cover0_B_4 c i a2 h2 a3 h3 a4 h4 a5 h5 a6 h6 a7 h7 hc h g w d acc xs)]
  unfold kernelRun0_B
  dsimp only
  rw [View.canon_unit_zero hz]
  sl_unfold_words
  simp only [View.readAt_eq_ld, h4.read_unread, h5.read_unread, h6.read_unread, h7.read_unread, View.ld_unit_zero (S := S512x2048) hz]
  rw [ld_up w 0, ld_up w 512, ld_down d 0, ld_down d 512]

/-- A later point leaves the scratch block as it was. -/
theorem sout_B (hc : ¬cond0_0 i) :
    sout0_B_0 c i a2 h2 a3 h3 a4 h4 a5 h5 a6 h6 a7 h7 hc h g w d acc xs = xs := by
  rfl

/-- The first point of a row block leaves the normalised rows in the scratch block. -/
theorem sout_A (hc : cond0_0 i) :
    sout0_A_0 c i a2 h2 a3 h3 a4 h4 a5 h5 a6 h6 a7 h7 hc h g w d = k0_pay1 h g := by
  unfold sout0_A_0
  rw [View.read_writes_eq_canon _ _ _ (scover0_A_0 c i a2 h2 a3 h3 a4 h4 a5 h5 a6 h6 a7 h7 hc h g w d)]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- The first point of a row block starts the output block at the rows themselves. -/
theorem out_A (hc : cond0_0 i) :
    out0_A_4 c i a2 h2 a3 h3 a4 h4 a5 h5 a6 h6 a7 h7 hc h g w d
      = k0_pay2 (k0_pay1 h g) (upHalf w 0 (by omega)) (downHalf d 0 (by omega)) (k0_pay1 h g) (upHalf w 512 (by omega)) (downHalf d 512 (by omega)) h := by
  unfold out0_A_4
  rw [View.read_writes_eq_canon _ _ _ (cover0_A_4 c i a2 h2 a3 h3 a4 h4 a5 h5 a6 h6 a7 h7 hc h g w d)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread, h5.read_unread,
    View.ld_unit_zero (S := S512x2048) hz, View.ld_unit_zero (S := S1x2048) hz]
  rw [ld_up w 0, ld_up w 512, ld_down d 0, ld_down d 512]
end

/-! ## The two payloads read at an element -/

/-- The factor a row is scaled by: one over the root of its mean square (plus the printed epsilon). -/
abbrev rowScale (sq : EReal) : EReal :=
  Ideal.rsqrt (Ideal.div sq (Ideal.ofBits .f32 0x45000000#32) + Ideal.ofBits .f32 0x358637BD#32)

/-- The normalised rows, element by element. -/
theorem pay1_apply (h : Vec Ideal S512x2048 .f32) (g : Vec Ideal S1x2048 .f32) (r : Fin 512) (k : Fin 2048) :
    k0_pay1 h g (ix2 r k) = h (ix2 r k) * rowScale (∑ k' : Fin 2048, h (ix2 r k') * h (ix2 r k')) * g (ix2 0 k) := by
  pointwise [k0_pay1]

/-- One step's growth of the output block, element by element. -/
theorem pay2_apply (x : Vec Ideal S512x2048 .bf16) (u0 : Vec Ideal S1x2048x512 .bf16) (d0 : Vec Ideal S1x512x2048 .bf16)
    (u1 : Vec Ideal S1x2048x512 .bf16) (d1 : Vec Ideal S1x512x2048 .bf16) (acc : Vec Ideal S512x2048 .f32) (r : Fin 512) (n : Fin 2048) :
    k0_pay2 x u0 d0 x u1 d1 acc (ix2 r n) = acc (ix2 r n)
      + ((∑ f : Fin 512, max (∑ k : Fin 2048, x (ix2 r k) * u0 (ix3 0 k f)) 0 * max (∑ k : Fin 2048, x (ix2 r k) * u0 (ix3 0 k f)) 0 * d0 (ix3 0 f n))
        + ∑ f : Fin 512, max (∑ k : Fin 2048, x (ix2 r k) * u1 (ix3 0 k f)) 0 * max (∑ k : Fin 2048, x (ix2 r k) * u1 (ix3 0 k f)) 0 * d1 (ix3 0 f n)) := by
  pointwise [k0_pay2]

end Cert.Kernel2Ideal.Mlp
-- ==== Proof.MlpArray.lean ====
/-
  The MLP call: what the output array holds after the run, element by element.
-/
module

public import proofs.«01_k».proof.Proof.MlpBlock

@[expose] public section

noncomputable section

open Idealize.ShloMosaic Idealize.ShloMosaic.TcCoe Idealize.SL.Sem

namespace Cert.Kernel2Ideal.Mlp

open Cert.Kernel2Ideal Cert.Kernel2Ideal.Gen Cert.Kernel2Ideal.Value

/-! ## The layer's own formula -/

section
variable (H : S16384x2048.Idx → EReal) (g : S2048.Idx → EReal) (U : S2x2048x8192.Idx → EReal) (D : S2x8192x2048.Idx → EReal)

/-- The normalised hidden state. -/
def xn (r : Fin 16384) (k : Fin 2048) : EReal :=
  H (ix2 r k) * rowScale (∑ k' : Fin 2048, H (ix2 r k') * H (ix2 r k')) * g (ix1 k)

/-- Hidden unit `f` of row `r` before the activation. -/
def pre (r : Fin 16384) (f : ℕ) : EReal := ∑ k : Fin 2048, xn H g r k * U (ix3 0 k (Fin.ofNat 8192 f))

/-- What hidden unit `f` adds to output column `n` of row `r`: its squared positive part times the second weight. -/
def unit (r : Fin 16384) (n : Fin 2048) (f : ℕ) : EReal :=
  max (pre H g U r f) 0 * max (pre H g U r f) 0 * D (ix3 0 (Fin.ofNat 8192 f) n)

/-- The output after the first `N` hidden units. -/
def partialOut (N : ℕ) (r : Fin 16384) (n : Fin 2048) : EReal :=
  H (ix2 r n) + ∑ f ∈ Finset.range N, unit H g U D r n f

/-- The rows of a block. -/
def rowOf (t : ℕ) (ht : t < 256) (a : Fin 512) : Fin 16384 := ⟨512 * (t / 8) + a.val, by omega⟩

/-- One grid point adds 1024 hidden units, in two halves. -/
theorem step_apply (r : Fin 16384) (j : ℕ) (hj : j < 8) (a : Fin 512) (n : Fin 2048)
    (x : Vec Ideal S512x2048 .bf16) (w : Vec Ideal S1x2048x1024 .bf16) (d : Vec Ideal S1x1024x2048 .bf16) (acc : Vec Ideal S512x2048 .f32)
    (hx : ∀ k, x (ix2 a k) = xn H g r k)
    (hw : ∀ k (f : Fin 1024), w (ix3 0 k f) = U (ix3 0 k (Fin.ofNat 8192 (1024 * j + f.val))))
    (hd : ∀ (f : Fin 1024), d (ix3 0 f n) = D (ix3 0 (Fin.ofNat 8192 (1024 * j + f.val)) n))
    (hacc : acc (ix2 a n) = partialOut H g U D (1024 * j) r n) :
    k0_pay2 x (upHalf w 0 (by omega)) (downHalf d 0 (by omega)) x (upHalf w 512 (by omega)) (downHalf d 512 (by omega)) acc (ix2 a n)
      = partialOut H g U D (1024 * (j + 1)) r n := by
  rw [pay2_apply, hacc]
  unfold partialOut
  rw [add_assoc, show 1024 * (j + 1) = 1024 * j + 512 + 512 by ring, Finset.sum_range_add _ (1024 * j + 512),
    Finset.sum_range_add _ (1024 * j), add_assoc, Finset.sum_range (n := 512), Finset.sum_range (n := 512)]
  congr 3
  · refine Finset.sum_congr rfl fun f _ => ?_
    have e : ∀ k, (upHalf w 0 (by omega)) (ix3 0 k f) = U (ix3 0 k (Fin.ofNat 8192 (1024 * j + f.val))) := fun k => by
      refine (hw k _).trans ?_; simp
    have e' : (downHalf d 0 (by omega)) (ix3 0 f n) = D (ix3 0 (Fin.ofNat 8192 (1024 * j + f.val)) n) := by
      refine (hd _).trans ?_; simp
    simp only [e, e', hx]
    rfl
  · refine Finset.sum_congr rfl fun f _ => ?_
    have e : ∀ k, (upHalf w 512 (by omega)) (ix3 0 k f) = U (ix3 0 k (Fin.ofNat 8192 (1024 * j + 512 + f.val))) := fun k => by
      refine (hw k _).trans ?_; simp [add_assoc]
    have e' : (downHalf d 512 (by omega)) (ix3 0 f n) = D (ix3 0 (Fin.ofNat 8192 (1024 * j + 512 + f.val)) n) := by
      refine (hd _).trans ?_; simp [add_assoc]
    simp only [e, e', hx]
    rfl
end

/-! ## The blocks the points read -/

section
variable (m : (ℓ : Loc nD τ sig) → Buf (Elt Ideal) ℓ)

/-- The four arguments of the call. -/
abbrev argH (c : Dev nD) : S16384x2048.Idx → EReal := m ((c : Thread nD τ).loc main_arg0)
abbrev argG (c : Dev nD) : S2048.Idx → EReal := m ((c : Thread nD τ).loc main_arg1)
abbrev argU (c : Dev nD) : S2x2048x8192.Idx → EReal := m ((c : Thread nD τ).loc main_arg2)
abbrev argD (c : Dev nD) : S2x8192x2048.Idx → EReal := m ((c : Thread nD τ).loc main_arg3)

/-- The cast weights are the weights. -/
theorem V_v0 (c : Dev nD) : V m c main_v0 = argU m c := by
  dsimp only [V, hostOps0]
  after_results
  rfl
theorem V_v1 (c : Dev nD) : V m c main_v1 = argD m c := by
  dsimp only [V, hostOps0]
  after_results
  rfl
/-- The gain seen as one row. -/
theorem V_v2 (c : Dev nD) : V m c main_v2 = (shapeCast S1x2048 (argG m c) shapeCasts_S2048_S1x2048 : S1x2048.Idx → EReal) := by
  dsimp only [V, hostOps0]
  after_results
  rfl

/-- Where each point's blocks lie. -/
theorem idx_facts : ∀ t : Fin cfg0.N, win0_0.index t (0 : Fin 2) = t.val / 8 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 8
    ∧ win0_3.index t (0 : Fin 3) = 0 ∧ win0_3.index t (1 : Fin 3) = t.val % 8 ∧ win0_3.index t (2 : Fin 3) = 0 :=
  (by decide +kernel : ∀ t : Fin grid0.N, _)

theorem lt_N (t : Fin cfg0.N) : t.val < 256 := lt_of_lt_of_eq t.isLt N_0

theorem iblk0_apply (c : Dev nD) (t : Fin cfg0.N) (a : Fin 512) (k : Fin 2048) :
    (iblk m c 0 t : Vec Ideal S512x2048 .f32) (ix2 a k) = argH m c (ix2 (rowOf t.val (lt_N t) a) k) := by
  obtain ⟨e0, e1, -⟩ := idx_facts t
  unfold iblk
  rw [View.read_apply]
  show V m c main_arg0 _ = _
  rw [V_main_arg0]
  show argH m c _ = _
  congr 1
  funext b
  apply Fin.ext
  match b with
  | ⟨0, _⟩ => show win0_0.index t (0 : Fin 2) * 512 + 1 * a.val = 512 * (t.val / 8) + a.val; rw [e0]; omega
  | ⟨1, _⟩ => show win0_0.index t (1 : Fin 2) * 2048 + 1 * k.val = k.val; rw [e1]; omega

theorem iblk1_apply (c : Dev nD) (t : Fin cfg0.N) (k : Fin 2048) :
    (iblk m c 1 t : Vec Ideal S1x2048 .f32) (ix2 0 k) = argG m c (ix1 k) := by
  obtain ⟨-, -, e0, e1, -⟩ := idx_facts t
  unfold iblk
  rw [View.read_apply]
  show V m c main_v2 _ = _
  rw [V_v2]
  refine Eq.trans (b := shapeCast S1x2048 (argG m c) shapeCasts_S2048_S1x2048 (ix2 0 k)) ?_ ?_
  · congr 1
    funext b
    apply Fin.ext
    match b with
    | ⟨0, _⟩ => show win0_1.index t (0 : Fin 2) * 1 + 1 * 0 = 0; rw [e0]
    | ⟨1, _⟩ => show win0_1.index t (1 : Fin 2) * 2048 + 1 * k.val = k.val; rw [e1]; omega
  · pointwise

theorem iblk2_apply (c : Dev nD) (t : Fin cfg0.N) (k : Fin 2048) (f : Fin 1024) :
    (iblk m c 2 t : Vec Ideal S1x2048x1024 .bf16) (ix3 0 k f) = argU m c (ix3 0 k (Fin.ofNat 8192 (1024 * (t.val % 8) + f.val))) := by
  obtain ⟨-, -, -, -, e0, e1, e2, -⟩ := idx_facts t
  unfold iblk
  rw [View.read_apply]
  show V m c main_v0 _ = _
  rw [V_v0]
  congr 1
  funext b
  apply Fin.ext
  match b with
  | ⟨0, _⟩ => show win0_2.index t (0 : Fin 3) * 1 + 1 * 0 = 0; rw [e0]
  | ⟨1, _⟩ => show win0_2.index t (1 : Fin 3) * 2048 + 1 * k.val = k.val; rw [e1]; omega
  | ⟨2, _⟩ => show win0_2.index t (2 : Fin 3) * 1024 + 1 * f.val = (1024 * (t.val % 8) + f.val) % 8192; rw [e2]; omega

theorem iblk3_apply (c : Dev nD) (t : Fin cfg0.N) (f : Fin 1024) (n : Fin 2048) :
    (iblk m c 3 t : Vec Ideal S1x1024x2048 .bf16) (ix3 0 f n) = argD m c (ix3 0 (Fin.ofNat 8192 (1024 * (t.val % 8) + f.val)) n) := by
  obtain ⟨-, -, -, -, -, -, -, e0, e1, e2⟩ := idx_facts t
  unfold iblk
  rw [View.read_apply]
  show V m c main_v1 _ = _
  rw [V_v1]
  congr 1
  funext b
  apply Fin.ext
  match b with
  | ⟨0, _⟩ => show win0_3.index t (0 : Fin 3) * 1 + 1 * 0 = 0; rw [e0]
  | ⟨1, _⟩ => show win0_3.index t (1 : Fin 3) * 1024 + 1 * f.val = (1024 * (t.val % 8) + f.val) % 8192; rw [e1]; omega
  | ⟨2, _⟩ => show win0_3.index t (2 : Fin 3) * 2048 + 1 * n.val = n.val; rw [e2]; omega

/-! ## The carried blocks, point by point -/

/-- After point `t` the scratch block holds the normalised rows of its row block and the output block the rows
    plus the first `1024 * (t % 8 + 1)` hidden units' contributions. -/
theorem outs_apply (c : Dev nD) : ∀ (t : ℕ) (ht : t < cfg0.N) (a : Fin 512),
    (∀ n : Fin 2048, (outsAt0 m c t ht).1 (ix2 a n)
      = partialOut (argH m c) (argG m c) (argU m c) (argD m c) (1024 * (t % 8 + 1)) (rowOf t (lt_N ⟨t, ht⟩) a) n)
    ∧ ∀ k : Fin 2048, (outsAt0 m c t ht).2 (ix2 a k) = xn (argH m c) (argG m c) (rowOf t (lt_N ⟨t, ht⟩) a) k := by
  have caseA : ∀ (t : ℕ) (ht : t < cfg0.N), t % 8 = 0 → ∀ a : Fin 512,
      (∀ n : Fin 2048, (outsAt0 m c t ht).1 (ix2 a n)
        = partialOut (argH m c) (argG m c) (argU m c) (argD m c) (1024 * (t % 8 + 1)) (rowOf t (lt_N ⟨t, ht⟩) a) n)
      ∧ ∀ k : Fin 2048, (outsAt0 m c t ht).2 (ix2 a k) = xn (argH m c) (argG m c) (rowOf t (lt_N ⟨t, ht⟩) a) k := by
    intro t ht h0 a
    have hx : ∀ k : Fin 2048, k0_pay1 (iblk m c 0 ⟨t, ht⟩) (iblk m c 1 ⟨t, ht⟩) (ix2 a k) = xn (argH m c) (argG m c) (rowOf t (lt_N ⟨t, ht⟩) a) k := by
      intro k
      refine (pay1_apply _ _ a k).trans ?_
      simp only [iblk0_apply, iblk1_apply]
      rfl
    have e := outsAt0_A m c ⟨t, ht⟩ h0
    dsimp only at e
    rw [out_A, sout_A] at e
    rw [e]
    refine ⟨fun n => ?_, hx⟩
    refine step_apply _ _ _ _ (rowOf t (lt_N ⟨t, ht⟩) a) (t % 8) (by omega) a n _ _ _ _ hx (fun k f => iblk2_apply m c ⟨t, ht⟩ k f)
      (fun f => iblk3_apply m c ⟨t, ht⟩ f n) ?_
    rw [h0]
    refine (iblk0_apply m c ⟨t, ht⟩ a n).trans ?_
    unfold partialOut
    simp
  intro t
  induction t with
  | zero => exact fun ht a => caseA 0 ht rfl a
  | succ t ih =>
    intro ht a
    by_cases h0 : (t + 1) % 8 = 0
    · exact caseA (t + 1) ht h0 a
    obtain ⟨i1, i2⟩ := ih (Nat.lt_of_succ_lt ht) a
    have hr : rowOf t (lt_N ⟨t, Nat.lt_of_succ_lt ht⟩) a = rowOf (t + 1) (lt_N ⟨t + 1, ht⟩) a := by
      apply Fin.ext
      show 512 * (t / 8) + a.val = 512 * ((t + 1) / 8) + a.val
      omega
    have hj : t % 8 + 1 = (t + 1) % 8 := by omega
    rw [hr] at i1 i2
    rw [hj] at i1
    have e := outsAt0_B m c ⟨t + 1, ht⟩ h0
    dsimp only at e
    rw [out_B, sout_B] at e
    rw [e]
    exact ⟨fun n => step_apply _ _ _ _ (rowOf (t + 1) (lt_N ⟨t + 1, ht⟩) a) ((t + 1) % 8) (by omega) a n _ _ _ _ i2
      (fun k f => iblk2_apply m c ⟨t + 1, ht⟩ k f) (fun f => iblk3_apply m c ⟨t + 1, ht⟩ f n) (i1 n), i2⟩

/-- The output array after the run is the layer's formula over all 8192 hidden units. -/
theorem G4_apply (c : Dev nD) (r : Fin 16384) (n : Fin 2048) :
    G4 m c (ix2 r n) = partialOut (argH m c) (argG m c) (argU m c) (argD m c) 8192 r n := by
  have hr := r.isLt
  have hn := n.isLt
  have hN : cfg0.N = 256 := N_0
  have hp : pt4Of (ix2 r n) = 8 * (r.val / 512) + 7 := by
    show 8 * (1 * (r.val / 512 - 0) + 1 * (n.val / 2048 - 0)) + 7 = _
    omega
  have hlt : pt4Of (ix2 r n) < cfg0.N := by rw [hp, hN]; omega
  have hl : loc4Of (ix2 r n) = ix2 ⟨r.val % 512, Nat.mod_lt _ (by decide)⟩ n := by
    funext b
    apply Fin.ext
    match b with
    | ⟨0, _⟩ => rfl
    | ⟨1, _⟩ => exact Nat.mod_eq_of_lt hn
  unfold G4
  rw [dif_pos hlt, ← outsAt0_sweep, hl]
  refine ((outs_apply m c (pt4Of (ix2 r n)) hlt _).1 n).trans ?_
  congr 1
  · rw [hp]; omega
  · apply Fin.ext
    show 512 * (pt4Of (ix2 r n) / 8) + r.val % 512 = r.val
    rw [hp]; omega
end

end Cert.Kernel2Ideal.Mlp
-- ==== Proof.MlpRef.lean ====
/-
  The MLP call: what the reference computes, element by element.
-/
module

public import proofs.«01_k».proof.Proof.MlpArray
public import proofs.«01_k».proof.Proof.Gen.Reference2Ideal.Read

@[expose] public section

noncomputable section

open Idealize.ShloMosaic Idealize.ShloMosaic.TcCoe Idealize.SL.Sem

namespace Cert.Reference2Ideal.Mlp

open Cert.Reference2Ideal Cert.Reference2Ideal.Gen Cert.Reference2Ideal.Read Cert.Kernel2Ideal.Mlp

variable (H : (⟨S16384x2048, .f32⟩ : BufTy).Contents (Elt Ideal)) (g : (⟨S2048, .f32⟩ : BufTy).Contents (Elt Ideal))
  (U : (⟨S2x2048x8192, .f32⟩ : BufTy).Contents (Elt Ideal)) (D : (⟨S2x8192x2048, .f32⟩ : BufTy).Contents (Elt Ideal))

/-- The normalised hidden state of the reference. -/
theorem v12_apply (r : Fin 16384) (k : Fin 2048) : val_main_v12 (F := Ideal) H g (ix2 r k) = xn H g r k := by
  unfold val_main_v12 val_main_v11 val_main_v10 val_main_v9 val_main_v8 val_main_v7 val_main_v6 val_main_v5 val_main_v4 val_main_v3
    val_main_v2 val_main_v1 val_main_v0 val_main_cst val_main_cst_0 val_main_cst_1 xn rowScale
  pointwise

/-- The hidden units of the reference before the activation. -/
theorem v15_apply (r : Fin 16384) (f : Fin 8192) : val_main_v15 (F := Ideal) H g U (ix2 r f) = pre H g U r f.val := by
  unfold val_main_v15 val_main_v14 val_main_v13 pre
  pointwise
  refine Finset.sum_congr rfl fun k _ => ?_
  rw [v12_apply, show Fin.ofNat 8192 f.val = f from Fin.ext (Nat.mod_eq_of_lt f.isLt)]

/-- The reference's result is the layer's formula over all the hidden units. -/
theorem v21_apply (r : Fin 16384) (n : Fin 2048) :
    val_main_v21 (F := Ideal) H g U D (ix2 r n) = partialOut H g U D 8192 r n := by
  unfold val_main_v21 val_main_v20 val_main_v19 val_main_v18 val_main_v17 val_main_v16 val_main_call0_v0 val_main_call0_cst partialOut unit
  rw [Finset.sum_range]
  pointwise
  refine congrArg (H (ix2 r n) + ·) (Finset.sum_congr rfl fun f _ => ?_)
  rw [v15_apply, show Fin.ofNat 8192 f.val = f from Fin.ext (Nat.mod_eq_of_lt f.isLt)]
end Cert.Reference2Ideal.Mlp
-- ==== Proof.MlpClaim.lean ====
/-
  The MLP call: its claims, put together from the two closed forms.
-/
module

public import proofs.«01_k».proof.Defs
public import proofs.«01_k».proof.Proof.MlpRef
public import proofs.«01_k».proof.Proof.Gen.Kernel2.Frame
public import proofs.«01_k».proof.Proof.Gen.Reference2Ideal.Run
public import Idealize.ShloMosaic.Lib.Claim
public import Idealize.ShloMosaic.Lib.Quiescent

@[expose] public section

noncomputable section

open Idealize.ShloMosaic Idealize.ShloMosaic.TcCoe Idealize.SL.Sem

namespace Cert.MlpClaim

/-- What the MLP kernel's array ends holding is what its reference computes from the same arguments. -/
theorem G4_eq_ref (m : (ℓ : Loc Cert.Kernel2Ideal.nD Cert.Kernel2Ideal.τ Cert.Kernel2Ideal.sig) → Buf (Elt Ideal) ℓ) (c : Dev Cert.Kernel2Ideal.nD) :
    (Cert.Kernel2Ideal.Value.G4 m c : (⟨⟨2, ![16384, 2048]⟩, .f32⟩ : BufTy).Contents (Elt Ideal))
      = Cert.Reference2Ideal.Read.val_main_v21 (F := Ideal) (Cert.Kernel2Ideal.Mlp.argH m c) (Cert.Kernel2Ideal.Mlp.argG m c)
          (Cert.Kernel2Ideal.Mlp.argU m c) (Cert.Kernel2Ideal.Mlp.argD m c) := by
  funext i
  rw [eq_ix2 i]
  exact (Cert.Kernel2Ideal.Mlp.G4_apply m c (i 0) (i 1)).trans (Cert.Reference2Ideal.Mlp.v21_apply _ _ _ _ (i 0) (i 1)).symm

/-- The MLP kernel and its reference end with equal results over the extended reals. -/
theorem algebraic : Cert.algebraic_Kernel2Ideal_Reference2Ideal (hKernel2Ideal := Cert.Kernel2Ideal.Gen.facts) (hReference2Ideal := Cert.Reference2Ideal.Gen.facts) := by
  intro m g m' g' hpre hagree
  refine ⟨fun c => Cert.Kernel2Ideal.Value.G4 m c, Cert.Kernel2Ideal.Value.run m g, ?_⟩
  refine (θ_run _ _ _).mono (fun r h c => ⟨?_, (h c).2⟩) (Cert.Reference2Ideal.Value.run m' g')
  refine ((h c).1.trans (Cert.Reference2Ideal.Read.val_main_v21_eq ..)).trans ?_
  obtain ⟨h0, h1, h2, h3⟩ := hagree c
  rw [h0, h1, h2, h3]
  exact (G4_eq_ref m c).symm

/-- The MLP reference runs, keeps its arguments and leaves every counter at zero. -/
theorem quiescent : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

end Cert.MlpClaim
-- ==== Proof.WinBlock.lean ====
/-
  The window attention's call, one grid point: what the body leaves in the output block, element by element.
-/
module

public import proofs.«01_k».proof.Proof.MlpClaim
public import proofs.«01_k».proof.Proof.Gen.KernelIdeal.Value
public import Idealize.ShloMosaic.Lib.Pointwise

@[expose] public section

noncomputable section

open Idealize.ShloMosaic Idealize.ShloMosaic.TcCoe Idealize.SL.Sem

namespace Cert.KernelIdeal.Win

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## One head's value, as a formula -/

/-- A score of the block: the scaled query row against a key row, plus the bias entry, a negative one being `⊥`. -/
def score (q : Fin 128 → EReal) (k : Fin 768 → Fin 128 → EReal) (b : Fin 768 → EReal) (t : Fin 768) : EReal :=
  ∑ e, q e * (((Real.sqrt 128)⁻¹ * (Real.log 2)⁻¹ : ℝ) : EReal) * k t e + (if b t < 0 then ⊥ else b t)

/-- The block's weighted mean of the values, the sum of the weights divided out at the end. -/
def mean (q : Fin 128 → EReal) (k : Fin 768 → Fin 128 → EReal) (b v : Fin 768 → EReal) : EReal :=
  (∑ t, Ideal.exp2 (score q k b t - Finset.univ.fold max ⊥ (score q k b)) * v t)
    * Ideal.div 1 (∑ t, Ideal.exp2 (score q k b t - Finset.univ.fold max ⊥ (score q k b)))

/-- The named mask constant is `⊥`. -/
theorem named_mask : (Named.named κ "mask" 0xF149F2CA#32 : Ideal .f32) = (⊥ : EReal) :=
  IdealRules.named_const.ideal_named_scalar _ _ _ _ rfl

/-- The named scale is `1 / (√128 · log 2)`. -/
theorem named_qscale : (Named.named κ "qscale" 0x3E0293EE#32 : Ideal .f32)
    = (((Real.sqrt 128)⁻¹ * (Real.log 2)⁻¹ : ℝ) : EReal) :=
  IdealRules.named_const.ideal_named_scalar _ _ _ _ rfl

/-- The word of minus infinity. -/
theorem bits_bot : Ideal.ofBits .f32 0xFF800000#32 = (⊥ : EReal) := by simp [Ideal.ofBits, Ideal.ieee]

/-- The first head's body, up to the gate: the weighted mean. -/
theorem mean_apply (k v : Vec Ideal S1x768x128 .bf16) (q : Vec Ideal S1x256x128 .f32) (b : Vec Ideal S1x256x768 .f32)
    (a : Fin 256) (d : Fin 128) :
    k0_pay14 (k0_pay8 k0_pay2 k (k0_pay3 q) b v) (ix2 a d)
      = mean (fun e => q (ix3 0 a e)) (fun t e => k (ix3 0 t e)) (fun t => b (ix3 0 a t)) (fun t => v (ix3 0 t d)) := by
  unfold mean score
  rw [← named_mask, ← named_qscale]
  pointwise [k0_pay14, k0_pay8, k0_pay2, k0_pay3]
  rw [bits_bot, ← named_mask]
  rfl

/-- The gate's lane of a row: the sum over the row with every other lane at zero. -/
def lane (w : BitVec 32) (g : Fin 128 → EReal) : EReal :=
  ∑ x : Fin 128, Scalar.select (IntOp.cmpi .eq (BitVec.ofNat 32 x.val) (Scalar.addi w 2#32)) (g x) 0

/-- The store of a head: the mean times the gate's lane, plus the branch's addend. -/
theorem gate_apply (w : BitVec 32) (o : FVec Ideal S256x128 .f32) (g ad : Vec Ideal S1x256x128 .f32) (z : Fin 1) (a : Fin 256) (d : Fin 128) :
    k0_pay15 o w g ad (ix3 z a d) = o (ix2 a d) * lane w (fun x => g (ix3 0 a x)) + ad (ix3 0 a d) := by
  obtain rfl : z = 0 := Subsingleton.elim _ _
  unfold lane
  pointwise [k0_pay15]

/-! ## The loads -/

/-- Columns `o … o+127` of a block of the queries, or of the addend. -/
abbrev cols (x : Vec Ideal S1x256x512 .f32) (o : Nat) (ho : o + 128 ≤ 512) : Vec Ideal S1x256x128 .f32 :=
  fun j => x (ix3 0 (j 1) ⟨o + (j 2).val, by have : (j 2).val < 128 := (j 2).isLt; omega⟩)

theorem ld_cols (x : Vec Ideal S1x256x512 .f32) (o : Nat) (ho : o + 128 ≤ 512)
    (inb : ∀ a, (![0, 0, o] : Fin 3 → Nat) a + S1x256x128.size a ≤ S1x256x512.size a) :
    View.ld (Val := Elt Ideal) x (Rect.unit (s := S1x256x512) ![0, 0, o] S1x256x128.size inb) = cols x o ho := by
  rw [View.ld_unit]
  funext j
  have h0 : (j 0).val < 1 := (j 0).isLt
  refine extractStridedSlice_apply _ _ _ j _ fun a => ?_
  match a with
  | ⟨0, _⟩ => show 0 = 0 + (j 0).val; omega
  | ⟨1, _⟩ => show (j 1).val = 0 + (j 1).val; omega
  | ⟨2, _⟩ => rfl

/-- The first key of the window of a grid point. -/
def keyOff (i : grid0.Coords) : Nat := k0_off1 i 1

theorem keyOff_le (i : grid0.Coords) : keyOff i + 768 ≤ 4096 := k0_off1_inb i 1

/-- The bias table's page of a grid point. -/
def page (i : grid0.Coords) : Nat := k0_off2 i 0

theorem page_lt (i : grid0.Coords) : page i < 3 := by
  have h : page i + 1 ≤ 3 := k0_off2_inb i 0
  omega

/-- The 768 rows from `keyOff` on of a block of the keys, or of the values. -/
abbrev rows (x : Vec Ideal S1x4096x128 .bf16) (i : grid0.Coords) : Vec Ideal S1x768x128 .bf16 :=
  fun j => x (ix3 0 ⟨keyOff i + (j 1).val, by have h := keyOff_le i; have : (j 1).val < 768 := (j 1).isLt; omega⟩ (j 2))

theorem ld_rows (x : Vec Ideal S1x4096x128 .bf16) (i : grid0.Coords)
    (inb : ∀ a, k0_off1 i a + S1x768x128.size a ≤ S1x4096x128.size a) :
    View.ld (Val := Elt Ideal) x (Rect.unit (s := S1x4096x128) (k0_off1 i) S1x768x128.size inb) = rows x i := by
  rw [View.ld_unit]
  funext j
  have h0 : (j 0).val < 1 := (j 0).isLt
  refine extractStridedSlice_apply _ _ _ j _ fun a => ?_
  match a with
  | ⟨0, _⟩ => show 0 = 0 + (j 0).val; omega
  | ⟨1, _⟩ => rfl
  | ⟨2, _⟩ => show (j 2).val = 0 + (j 2).val; omega

/-- The page of the bias table. -/
abbrev biasPage (x : Vec Ideal S3x256x768 .f32) (i : grid0.Coords) : Vec Ideal S1x256x768 .f32 :=
  fun j => x (ix3 ⟨page i, page_lt i⟩ (j 1) (j 2))

theorem ld_page (x : Vec Ideal S3x256x768 .f32) (i : grid0.Coords)
    (inb : ∀ a, k0_off2 i a + S1x256x768.size a ≤ S3x256x768.size a) :
    View.ld (Val := Elt Ideal) x (Rect.unit (s := S3x256x768) (k0_off2 i) S1x256x768.size inb) = biasPage x i := by
  rw [View.ld_unit]
  funext j
  have h0 : (j 0).val < 1 := (j 0).isLt
  refine extractStridedSlice_apply _ _ _ j _ fun a => ?_
  match a with
  | ⟨0, _⟩ => show page i = page i + (j 0).val; omega
  | ⟨1, _⟩ => show (j 1).val = 0 + (j 1).val; omega
  | ⟨2, _⟩ => show (j 2).val = 0 + (j 2).val; omega

/-! ## The four heads' stores -/

/-- The word the gate's lane is counted from, of key/value head `u` and its query head `g`. -/
abbrev laneWord (u : Nat) (g : BitVec 32) : BitVec 32 :=
  Scalar.muli (Scalar.addi (Scalar.muli (BitVec.ofNat 32 u) 4#32) g) 3#32

/-- What a head at columns `o …` stores. -/
def stored (i : grid0.Coords) (x0 : Vec Ideal S1x256x512 .f32) (x1 x2 : Vec Ideal S1x4096x128 .bf16) (x3 : Vec Ideal S3x256x768 .f32)
    (x4 : Vec Ideal S1x256x128 .f32) (x5 : Vec Ideal S1x256x512 .f32) (g : BitVec 32) (o : Nat) (ho : o + 128 ≤ 512) : Vec Ideal S1x256x128 .bf16 :=
  k0_pay15 (F := Ideal) (k0_pay14 (F := Ideal) (k0_pay8 (F := Ideal) (k0_pay2 (F := Ideal)) (rows x1 i) (k0_pay3 (F := Ideal) (cols x0 o ho)) (biasPage x3 i) (rows x2 i)))
    (laneWord (i 1).val g) x4 (cols x5 o ho)

section
variable (c : Dev nD) (i : grid0.Coords)
  (a3 : Memref sig .tc .vmem S1x256x512 .f32) (h3 : a3.IsWhole) (a4 : Memref sig .tc .vmem S1x4096x128 .bf16) (h4 : a4.IsWhole)
  (a5 : Memref sig .tc .vmem S1x4096x128 .bf16) (h5 : a5.IsWhole) (a6 : Memref sig .tc .vmem S3x256x768 .f32) (h6 : a6.IsWhole)
  (a7 : Memref sig .tc .vmem S1x256x128 .f32) (h7 : a7.IsWhole) (a8 : Memref sig .tc .vmem S1x256x512 .f32) (h8 : a8.IsWhole)
  (a9 : Memref sig .tc .vmem S1x256x512 .bf16) (h9 : a9.IsWhole) (a10 : Memref sig .tc .vmem S256x128 .bf16) (h10 : a10.IsWhole)
  (a11 : Memref sig .tc .vmem S256x128 .bf16) (h11 : a11.IsWhole) (a12 : Memref sig .tc .vmem S256x128 .bf16) (h12 : a12.IsWhole)
  (a13 : Memref sig .tc .vmem S256x128 .bf16) (h13 : a13.IsWhole)
  (x0 : Vec Ideal S1x256x512 .f32) (x1 x2 : Vec Ideal S1x4096x128 .bf16) (x3 : Vec Ideal S3x256x768 .f32)
  (x4 : Vec Ideal S1x256x128 .f32) (x5 : Vec Ideal S1x256x512 .f32)

/-- The stores of a grid point into the output block, the last first: one for each of the four heads. -/
theorem pieces : (kernelRun0_A (F := Ideal) c i a3 h3 a4 h4 a5 h5 a6 h6 a7 h7 a8 h8 a9 h9 a10 h10 a11 h11 a12 h12 a13 h13 x0 x1 x2 x3 x4 x5).1
    = [⟨Rect.unit ![0, 0, 384] ![1, 256, 128] inb_S1x256x512_S1x256x128_0_0_384, stored i x0 x1 x2 x3 x4 x5 3#32 384 (by omega)⟩,
       ⟨Rect.unit ![0, 0, 256] ![1, 256, 128] inb_S1x256x512_S1x256x128_0_0_256, stored i x0 x1 x2 x3 x4 x5 2#32 256 (by omega)⟩,
       ⟨Rect.unit ![0, 0, 128] ![1, 256, 128] inb_S1x256x512_S1x256x128_0_0_128, stored i x0 x1 x2 x3 x4 x5 1#32 128 (by omega)⟩,
       ⟨Rect.unit ![0, 0, 0] ![1, 256, 128] inb_S1x256x512_S1x256x128_0_0_0, stored i x0 x1 x2 x3 x4 x5 0#32 0 (by omega)⟩] := by
  unfold stored
  rw [← ld_rows x1 i (k0_off1_inb i), ← ld_rows x2 i (k0_off1_inb i), ← ld_page x3 i (k0_off2_inb i),
    ← ld_cols x0 384 (by omega) inb_S1x256x512_S1x256x128_0_0_384, ← ld_cols x0 256 (by omega) inb_S1x256x512_S1x256x128_0_0_256,
    ← ld_cols x0 128 (by omega) inb_S1x256x512_S1x256x128_0_0_128, ← ld_cols x0 0 (by omega) inb_S1x256x512_S1x256x128_0_0_0,
    ← ld_cols x5 384 (by omega) inb_S1x256x512_S1x256x128_0_0_384, ← ld_cols x5 256 (by omega) inb_S1x256x512_S1x256x128_0_0_256,
    ← ld_cols x5 128 (by omega) inb_S1x256x512_S1x256x128_0_0_128, ← ld_cols x5 0 (by omega) inb_S1x256x512_S1x256x128_0_0_0]
  unfold kernelRun0_A
  dsimp only
  sl_unfold_words
  simp only [View.readAt_eq_ld, h3.read_unread, h4.read_unread, h5.read_unread, h6.read_unread, h7.read_unread, h8.read_unread,
    View.readCov_unit_zero (S := S256x128) _ hz2, View.ld_unit_zero (S := S1x256x128) hz3]
  rfl

/-- What the output block holds after a grid point, at row `a` and column `n`, which is lane `n % 128` of head `n / 128`. -/
def blockVal (a : Fin 256) (n : Fin 512) : EReal :=
  mean (fun e => x0 (ix3 0 a ⟨n.val / 128 * 128 + e.val, by have := e.isLt; have := n.isLt; omega⟩))
      (fun t e => rows x1 i (ix3 0 t e)) (fun t => biasPage x3 i (ix3 0 a t))
      (fun t => rows x2 i (ix3 0 t ⟨n.val % 128, by omega⟩))
    * lane (laneWord (i 1).val (BitVec.ofNat 32 (n.val / 128))) (fun x => x4 (ix3 0 a x)) + x5 (ix3 0 a n)

/-- A head's store at an element is the output block's value there. -/
theorem stored_apply (g o : Nat) (ho : o + 128 ≤ 512) (hg : o = g * 128) (a : Fin 256) (d : Fin 128) (z : Fin 1) :
    stored i x0 x1 x2 x3 x4 x5 (BitVec.ofNat 32 g) o ho (ix3 z a d)
      = blockVal i x0 x1 x2 x3 x4 x5 a ⟨o + d.val, by have := d.isLt; omega⟩ := by
  have hd : d.val < 128 := d.isLt
  have e1 : (o + d.val) / 128 = g := by omega
  have e2 : (o + d.val) % 128 = d.val := by omega
  unfold stored blockVal
  rw [gate_apply, mean_apply]
  subst hg
  simp only [e1, e2]
  rfl

/-- What a grid point leaves in the output block. -/
theorem out_apply (z : Fin 1) (a : Fin 256) (n : Fin 512) :
    out0_A_6 (F := Ideal) c i a3 h3 a4 h4 a5 h5 a6 h6 a7 h7 a8 h8 a9 h9 a10 h10 a11 h11 a12 h12 a13 h13 x0 x1 x2 x3 x4 x5 (ix3 z a n)
      = blockVal i x0 x1 x2 x3 x4 x5 a n := by
  have hcov := cover0_A_6 (F := Ideal) c i a3 h3 a4 h4 a5 h5 a6 h6 a7 h7 a8 h8 a9 h9 a10 h10 a11 h11 a12 h12 a13 h13 x0 x1 x2 x3 x4 x5
  unfold out0_A_6
  rw [View.read_writes_eq_canon _ _ _ hcov]
  rw [pieces] at hcov ⊢
  refine View.canon_apply_of_pieces (fun y => blockVal i x0 x1 x2 x3 x4 x5 (y 1) (y 2)) _ ?_ _ (hcov _)
  have key : ∀ (g o : Nat) (ho : o + 128 ≤ 512) (hg : o = g * 128)
      (inb : ∀ a, (![0, 0, o] : Fin 3 → Nat) a + S1x256x128.size a ≤ S1x256x512.size a) (x : S1x256x128.Idx),
      stored i x0 x1 x2 x3 x4 x5 (BitVec.ofNat 32 g) o ho x
        = blockVal i x0 x1 x2 x3 x4 x5 ((Rect.unit (s := S1x256x512) ![0, 0, o] S1x256x128.size inb).emb x 1)
            ((Rect.unit (s := S1x256x512) ![0, 0, o] S1x256x128.size inb).emb x 2) := fun g o ho hg inb x => by
    have h := stored_apply i x0 x1 x2 x3 x4 x5 g o ho hg (x 1) (x 2) (x 0)
    refine (congrArg (stored i x0 x1 x2 x3 x4 x5 (BitVec.ofNat 32 g) o ho) (eq_ix3 x)).trans (h.trans ?_)
    have e1 : (Rect.unit (s := S1x256x512) ![0, 0, o] S1x256x128.size inb).emb x 1 = x 1 :=
      Fin.ext (by show 0 + 1 * (x 1).val = (x 1).val; omega)
    have e2 : (Rect.unit (s := S1x256x512) ![0, 0, o] S1x256x128.size inb).emb x 2 = ⟨o + (x 2).val, by have : (x 2).val < 128 := (x 2).isLt; show _ < 512; omega⟩ :=
      Fin.ext (by show o + 1 * (x 2).val = o + (x 2).val; omega)
    rw [e1, e2]
    rfl
  intro p hp
  simp only [List.mem_cons, List.not_mem_nil, or_false] at hp
  rcases hp with rfl | rfl | rfl | rfl
  · exact key 3 384 (by omega) rfl inb_S1x256x512_S1x256x128_0_0_384
  · exact key 2 256 (by omega) rfl inb_S1x256x512_S1x256x128_0_0_256
  · exact key 1 128 (by omega) rfl inb_S1x256x512_S1x256x128_0_0_128
  · exact key 0 0 (by omega) rfl inb_S1x256x512_S1x256x128_0_0_0

end
end Cert.KernelIdeal.Win
-- ==== Proof.WinMath.lean ====
module

public import Idealize.ShloMosaic.PureOps.Ideal

/-!
The mathematics the attention claims stand on, over the extended reals and with no program in sight:
a weighted mean with weights `2^(t - max t)`, taken over a window of the keys in a rescaled base and divided
once at the end, is the mean with weights `e^(s - max s)`, each divided by its sum, over all the keys.
No value is assumed finite.
-/
@[expose] public section

noncomputable section

namespace Cert.WinMath
open Idealize.ShloMosaic

/-- A nonnegative real factor goes into a finite sum of extended reals. -/
theorem scale_sum {ι : Type*} {c : ℝ} (hc : 0 ≤ c) (A : Finset ι) (f : ι → EReal) :
    (c : EReal) * ∑ i ∈ A, f i = ∑ i ∈ A, (c : EReal) * f i := by
  classical
  induction A using Finset.induction_on with
  | empty => simp
  | insert a A ha ih =>
    rw [Finset.sum_insert ha, Finset.sum_insert ha, ← ih,
      EReal.left_distrib_of_nonneg_of_ne_top (by exact_mod_cast hc) (EReal.coe_ne_top c)]

/-- A power of two at the exponent over `log 2` is the exponential. -/
theorem exp2_scale (x : EReal) : Ideal.exp2 (((Real.log 2)⁻¹ : ℝ) * x) = Ideal.exp x := by
  have h2 : (0 : ℝ) < Real.log 2 := Real.log_pos (by norm_num)
  have hp : (0 : ℝ) < (Real.log 2)⁻¹ := inv_pos.mpr h2
  induction x using EReal.rec with
  | bot => rw [EReal.coe_mul_bot_of_pos hp]; rfl
  | top => rw [EReal.coe_mul_top_of_pos hp]; rfl
  | coe r =>
    rw [← EReal.coe_mul, Ideal.exp2_coe, Ideal.exp_coe]
    have : Real.rpow 2 ((Real.log 2)⁻¹ * r) = Real.exp r := by
      show (2 : ℝ) ^ ((Real.log 2)⁻¹ * r) = _
      rw [Real.rpow_def_of_pos (by norm_num)]
      congr 1
      field_simp
    rw [this]

/-- The largest of a finite family, from `⊥`, is its supremum. -/
theorem fold_eq_sup {ι : Type*} (A : Finset ι) (S : ι → EReal) : A.fold max ⊥ S = A.sup S := rfl

/-- Scaling by a positive real commutes with the largest of a finite family. -/
theorem fold_scale {ι : Type*} {c : ℝ} (hc : 0 < c) (A : Finset ι) (S : ι → EReal) :
    A.fold max ⊥ (fun i => (c : EReal) * S i) = (c : EReal) * A.fold max ⊥ S := by
  classical
  have hm : Monotone fun x : EReal => (c : EReal) * x := fun x y h =>
    mul_le_mul_of_nonneg_left h (by exact_mod_cast hc.le)
  induction A using Finset.induction_on with
  | empty => simp [EReal.coe_mul_bot_of_pos hc]
  | insert a A ha ih => rw [Finset.fold_insert ha, Finset.fold_insert ha, ih]; exact (hm.map_max).symm

/-- Scaling by a real distributes over a difference when it is nonnegative. -/
theorem scale_sub {c : ℝ} (hc : 0 ≤ c) (x y : EReal) :
    (c : EReal) * x - (c : EReal) * y = (c : EReal) * (x - y) := by
  rw [sub_eq_add_neg, sub_eq_add_neg, EReal.left_distrib_of_nonneg_of_ne_top (by exact_mod_cast hc) (EReal.coe_ne_top c),
    mul_neg]

/-- The inclusion of the reals takes finite sums to finite sums. -/
theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

section Mean
variable {κ : Type*} [Fintype κ]

/-- The weight of a score: its exponential, from the largest score. -/
def wt (S : κ → EReal) (j : κ) : EReal := Ideal.exp (S j - Finset.univ.fold max ⊥ S)

/-- A score of `⊥` has weight zero, whatever the others are. -/
theorem wt_bot (S : κ → EReal) (j : κ) (h : S j = ⊥) : wt S j = 0 := by
  unfold wt; rw [h, EReal.bot_sub]; rfl

/-- Every weight is nonnegative. -/
theorem exp_nonneg (x : EReal) : 0 ≤ Ideal.exp x := by
  induction x using EReal.rec with
  | bot => exact le_refl _
  | top => exact le_top
  | coe r => rw [Ideal.exp_coe]; exact_mod_cast (Real.exp_pos r).le

/-- Either all weights are zero, or their sum is a real number that is at least one. -/
theorem wt_cases (S : κ → EReal) :
    (∀ j, wt S j = 0) ∨ ∃ l : ℝ, 1 ≤ l ∧ ∑ j, wt S j = (l : EReal) := by
  classical
  have hle : ∀ j, S j ≤ Finset.univ.fold max ⊥ S := fun j => by
    rw [fold_eq_sup]; exact Finset.le_sup (Finset.mem_univ j)
  rcases eq_or_ne (Finset.univ.fold max ⊥ S) ⊥ with hb | hb
  · exact .inl fun j => wt_bot S j (le_bot_iff.mp (hb ▸ hle j))
  rcases eq_or_ne (Finset.univ.fold max ⊥ S) ⊤ with ht | ht
  · refine .inl fun j => ?_
    unfold wt; rw [ht, EReal.sub_top]; rfl
  right
  have hne : (Finset.univ : Finset κ).Nonempty := by
    rw [Finset.nonempty_iff_ne_empty]; rintro h; apply hb; rw [h]; rfl
  obtain ⟨j₀, -, hj₀⟩ := Finset.exists_mem_eq_sup _ hne S
  rw [← fold_eq_sup] at hj₀
  obtain ⟨M, hM⟩ : ∃ M : ℝ, Finset.univ.fold max ⊥ S = (M : EReal) :=
    ⟨_, (EReal.coe_toReal ht hb).symm⟩
  have hr : ∀ j, ∃ w : ℝ, 0 ≤ w ∧ wt S j = (w : EReal) := fun j => by
    rcases eq_or_ne (S j) ⊥ with h | h
    · exact ⟨0, le_refl _, by rw [wt_bot S j h]; rfl⟩
    · have hj : S j ≠ ⊤ := fun h' => ht (top_le_iff.mp (h' ▸ hle j))
      refine ⟨Real.exp ((S j).toReal - M), (Real.exp_pos _).le, ?_⟩
      unfold wt
      conv_lhs => rw [hM, ← EReal.coe_toReal hj h, ← EReal.coe_sub, Ideal.exp_coe]
  choose w hw0 hw using hr
  refine ⟨∑ j, w j, ?_, ?_⟩
  · have h1 : w j₀ = 1 := by
      have := hw j₀
      unfold wt at this
      rw [← hj₀, hM, ← EReal.coe_sub, sub_self, Ideal.exp_coe, Real.exp_zero] at this
      exact_mod_cast this.symm
    rw [← h1]
    exact Finset.single_le_sum (fun j _ => hw0 j) (Finset.mem_univ j₀)
  · rw [Finset.sum_congr rfl fun j _ => hw j, coe_sum]

/-- Dividing the weighted sum once by the sum of the weights is dividing every weight by that sum, also when
the sum is kept from below by some `ε` that is at most one. -/
theorem mean_eq (S v : κ → EReal) {ε : EReal} (h0 : 0 < ε) (h1 : ε ≤ 1) :
    (∑ j, wt S j * v j) * Ideal.div 1 (∑ j, wt S j)
      = ∑ j, Ideal.div (wt S j) (max (∑ j, wt S j) ε) * v j := by
  rcases wt_cases S with h | ⟨l, hl, h⟩
  · have e : ∀ j, Ideal.div (wt S j) (max (∑ j, wt S j) ε) * v j = 0 := fun j => by
      rw [Finset.sum_congr rfl fun j _ => h j, Finset.sum_const_zero, max_eq_right h0.le, h j, Ideal.div,
        if_neg h0.ne', zero_mul, zero_mul]
    rw [Finset.sum_congr rfl fun j _ => e j, Finset.sum_congr rfl fun j _ => show wt S j * v j = 0 by rw [h j, zero_mul],
      Finset.sum_const_zero, zero_mul]
  · have hl0 : l ≠ 0 := by linarith
    have hmax : max (∑ j, wt S j) ε = (l : EReal) := by
      rw [h]; exact max_eq_left (h1.trans (by exact_mod_cast hl))
    have hp : (0 : ℝ) ≤ 1 / l := by positivity
    rw [hmax, h, Ideal.div_coe hl0, one_mul, mul_comm, scale_sum hp]
    refine Finset.sum_congr rfl fun j _ => ?_
    rw [Ideal.div_coe hl0, ← mul_assoc, mul_comm (wt S j)]

variable {ι : Type*} [Fintype ι]

/-- The largest score over a window that holds all scores other than `⊥` is the largest of all. -/
theorem fold_window (S : κ → EReal) (f : ι → κ) (hf : ∀ j, S j ≠ ⊥ → ∃ i, f i = j) :
    Finset.univ.fold max ⊥ (fun i => S (f i)) = Finset.univ.fold max ⊥ S := by
  rw [fold_eq_sup, fold_eq_sup]
  apply le_antisymm
  · exact Finset.sup_le fun i _ => Finset.le_sup (f := S) (Finset.mem_univ (f i))
  · refine Finset.sup_le fun j _ => ?_
    by_cases h : S j = ⊥
    · rw [h]; exact bot_le
    · obtain ⟨i, rfl⟩ := hf j h
      exact Finset.le_sup (f := fun i => S (f i)) (Finset.mem_univ i)

/-- A sum over such a window of terms that vanish with the score `⊥` is the sum over all. -/
theorem sum_window (S : κ → EReal) (f : ι → κ) (hinj : Function.Injective f) (hf : ∀ j, S j ≠ ⊥ → ∃ i, f i = j)
    (F : κ → EReal) (hF : ∀ j, S j = ⊥ → F j = 0) : ∑ i, F (f i) = ∑ j, F j := by
  classical
  rw [← Finset.sum_image (f := F) (s := Finset.univ) (g := f) (fun a _ b _ h => hinj h)]
  refine Finset.sum_subset (Finset.subset_univ _) fun j _ hj => hF j ?_
  by_contra h
  obtain ⟨i, rfl⟩ := hf j h
  exact hj (Finset.mem_image_of_mem f (Finset.mem_univ i))

/-- The weighted mean over a window, with powers of two of scores in units of `log 2`, divided once at the end,
is the weighted mean over all keys with exponentials, each weight divided. -/
theorem window_mean (S v : κ → EReal) (f : ι → κ) (hinj : Function.Injective f)
    (hf : ∀ j, S j ≠ ⊥ → ∃ i, f i = j) (T : ι → EReal)
    (hT : ∀ i, T i = (((Real.log 2)⁻¹ : ℝ) : EReal) * S (f i)) {ε : EReal} (h0 : 0 < ε) (h1 : ε ≤ 1) :
    (∑ i, Ideal.exp2 (T i - Finset.univ.fold max ⊥ T) * v (f i))
        * Ideal.div 1 (∑ i, Ideal.exp2 (T i - Finset.univ.fold max ⊥ T))
      = ∑ j, Ideal.div (wt S j) (max (∑ j, wt S j) ε) * v j := by
  have hp : (0 : ℝ) < (Real.log 2)⁻¹ := inv_pos.mpr (Real.log_pos (by norm_num))
  obtain rfl : T = fun i => (((Real.log 2)⁻¹ : ℝ) : EReal) * S (f i) := funext hT
  have hw : ∀ i, Ideal.exp2 ((((Real.log 2)⁻¹ : ℝ) : EReal) * S (f i)
      - Finset.univ.fold max ⊥ (fun i => (((Real.log 2)⁻¹ : ℝ) : EReal) * S (f i))) = wt S (f i) := fun i => by
    rw [fold_scale hp, scale_sub hp.le, exp2_scale, fold_window S f hf]; rfl
  rw [← mean_eq S v h0 h1, Finset.sum_congr rfl fun i _ => hw i,
    Finset.sum_congr rfl fun i _ => congrArg (· * v (f i)) (hw i),
    sum_window S f hinj hf (wt S) (fun j h => wt_bot S j h),
    sum_window S f hinj hf (fun j => wt S j * v j) (fun j h => by rw [wt_bot S j h, zero_mul])]

end Mean
end Cert.WinMath
-- ==== Proof.WinArray.lean ====
/-
  The window attention's call: what its result array holds after the run, element by element.
-/
module

public import proofs.«01_k».proof.Proof.WinBlock
public import proofs.«01_k».proof.Proof.WinMath

@[expose] public section

noncomputable section

open Idealize.ShloMosaic Idealize.ShloMosaic.TcCoe Idealize.SL.Sem
open Idealize.ShloMosaic.Pipeline (Dat)

namespace Cert.KernelIdeal.Win

open Cert.KernelIdeal Cert.KernelIdeal.Gen Cert.WinMath

/-! ## The layer, as a formula -/

section Layer
variable (Q : S4x4096x2048.Idx → EReal) (K V : S4x4096x512.Idx → EReal) (G : S4x4096x48.Idx → EReal) (C : S4x4096x2048.Idx → EReal)

/-- Key `j` is in the window of position `s`: not after it, and fewer than 512 positions before it. -/
def inWin (s j : Nat) : Prop := j ≤ s ∧ s < j + 512

instance (s j : Nat) : Decidable (inWin s j) := by unfold inWin; infer_instance

/-- Column `e` of head `h`, of sixteen. -/
abbrev qCol (h : Fin 16) (e : Fin 128) : Fin 2048 := ⟨h.val * 128 + e.val, by omega⟩
/-- Column `e` of the key/value head that four heads share. -/
abbrev kCol (h : Fin 16) (e : Fin 128) : Fin 512 := ⟨h.val / 4 * 128 + e.val, by omega⟩

/-- The masked score of a key: the scaled product inside the window, `⊥` outside. -/
def scoreOf (b : Fin 4) (s : Fin 4096) (h : Fin 16) (j : Fin 4096) : EReal :=
  if inWin s.val j.val then
    (∑ e : Fin 128, Q (ix3 b s (qCol h e)) * K (ix3 b j (kCol h e))) * (((Real.sqrt 128)⁻¹ : ℝ) : EReal)
  else ⊥

/-- The constant the sum of the weights is kept from below by. -/
abbrev eps : EReal := Ideal.ofBits .f32 0x0DA24260#32

/-- The attention of head `h` at lane `d`. -/
def attn (b : Fin 4) (s : Fin 4096) (h : Fin 16) (d : Fin 128) : EReal :=
  ∑ j : Fin 4096, Ideal.div (wt (scoreOf Q K b s h) j) (max (∑ j, wt (scoreOf Q K b s h) j) eps) * V (ix3 b j (kCol h d))

/-- The layer's output: the gated attention on top of the other branches' sum. -/
def layerOut (b : Fin 4) (s : Fin 4096) (n : Fin 2048) : EReal :=
  C (ix3 b s n) + G (ix3 b s ⟨n.val / 128 * 3 + 2, by omega⟩) * attn Q K V b s ⟨n.val / 128, by omega⟩ ⟨n.val % 128, by omega⟩
end Layer

/-- The constant is positive. -/
theorem eps_pos : 0 < eps := by
  unfold eps
  simp [Ideal.ofBits, Ideal.ieee, -EReal.coe_mul]
  try norm_num

/-- The constant is at most one. -/
theorem eps_le : eps ≤ 1 := by
  unfold eps
  rw [show (1 : EReal) = ((1 : ℝ) : EReal) from rfl]
  simp [Ideal.ofBits, Ideal.ieee, -EReal.coe_mul, -EReal.coe_one]
  try norm_num

/-! ## Words -/

/-- The two comparisons of the distance of two small positions say whether the key is in the window. -/
theorem win_word (s j : Nat) (hs : s < 2 ^ 20) (hj : j < 2 ^ 20) :
    IntOp.andi (IntOp.cmpi .sge (IntOp.subi (BitVec.ofNat 32 s) (BitVec.ofNat 32 j)) 0#32)
      (IntOp.cmpi .slt (IntOp.subi (BitVec.ofNat 32 s) (BitVec.ofNat 32 j)) 512#32) = if inWin s j then 1#1 else 0#1 := by
  have hd : (BitVec.ofNat 32 s - BitVec.ofNat 32 j).toInt = (s : Int) - j := by
    rw [BitVec.toInt_sub, BitVec.toInt_ofNat', BitVec.toInt_ofNat']
    simp only [Int.bmod]
    omega
  have e1 : (0#32 : BitVec 32).sle (BitVec.ofNat 32 s - BitVec.ofNat 32 j) = decide (j ≤ s) := by
    rw [BitVec.sle, hd]; simp
  have e2 : (BitVec.ofNat 32 s - BitVec.ofNat 32 j).slt 512#32 = decide (s < j + 512) := by
    rw [BitVec.slt, hd]
    have : (512#32 : BitVec 32).toInt = 512 := by decide
    rw [this]
    exact decide_eq_decide.mpr (by omega)
  unfold IntOp.andi IntOp.cmpi IntOp.subi inWin
  simp only [e1, e2]
  by_cases h1 : j ≤ s <;> by_cases h2 : s < j + 512 <;> simp [h1, h2]

/-- The lane the gate is read from, counted from a key/value head and a head of its four. -/
theorem lane_eq (u : Fin 4) (g : Nat) (hg : g < 4) (f : Fin 128 → EReal) :
    lane (laneWord u.val (BitVec.ofNat 32 g)) f = f ⟨(u.val * 4 + g) * 3 + 2, by omega⟩ := by
  have hw : ∀ (u g : Fin 4), Scalar.addi (laneWord u.val (BitVec.ofNat 32 g.val)) 2#32 = BitVec.ofNat 32 ((u.val * 4 + g.val) * 3 + 2) := by decide
  have hw' := hw u ⟨g, hg⟩
  unfold lane
  rw [Finset.sum_eq_single (⟨(u.val * 4 + g) * 3 + 2, by omega⟩ : Fin 128)]
  · rw [hw']; simp [Scalar.select, IntOp.cmpi]
  · intro x _ hx
    rw [hw']
    have : BitVec.ofNat 32 x.val ≠ BitVec.ofNat 32 ((u.val * 4 + g) * 3 + 2) := fun h => hx (Fin.ext (by
      have := congrArg BitVec.toNat h
      simp only [BitVec.toNat_ofNat] at this
      have := x.isLt
      show x.val = (u.val * 4 + g) * 3 + 2
      omega))
    simp [Scalar.select, IntOp.cmpi, beq_eq_false_iff_ne.mpr this]
  · exact fun h => absurd (Finset.mem_univ _) h

/-! ## The arrays the call finds -/

variable (m : (ℓ : Loc nD τ sig) → Buf (Elt Ideal) ℓ)

/-- The arguments the result depends on. -/
abbrev argQ (c : Dev nD) : S4x4096x2048.Idx → EReal := m ((c : Thread nD τ).loc main_arg0)
abbrev argK (c : Dev nD) : S4x4096x512.Idx → EReal := m ((c : Thread nD τ).loc main_arg3)
abbrev argV (c : Dev nD) : S4x4096x512.Idx → EReal := m ((c : Thread nD τ).loc main_arg5)
abbrev argG (c : Dev nD) : S4x4096x48.Idx → EReal := m ((c : Thread nD τ).loc main_arg6)
abbrev argC (c : Dev nD) : S4x4096x2048.Idx → EReal := m ((c : Thread nD τ).loc main_arg7)

/-- The bias table, as the host builds it. -/
theorem V_v12 (c : Dev nD) : V m c main_v12 = (select (andi
      (cmpi .sge (subi (addi (muli (iotaInDim S3x256x768 32 0) (broadcastInDim S3x256x768 ![] bcast_S_S3x256x768 (constantI S_ 32 256#32))) (iotaInDim S3x256x768 32 1)) (iotaInDim S3x256x768 32 2))
        (broadcastInDim S3x256x768 ![] bcast_S_S3x256x768 (constantI S_ 32 0#32)))
      (cmpi .slt (subi (addi (muli (iotaInDim S3x256x768 32 0) (broadcastInDim S3x256x768 ![] bcast_S_S3x256x768 (constantI S_ 32 256#32))) (iotaInDim S3x256x768 32 1)) (iotaInDim S3x256x768 32 2))
        (broadcastInDim S3x256x768 ![] bcast_S_S3x256x768 (constantI S_ 32 512#32))))
     (broadcastInDim S3x256x768 ![] bcast_S_S3x256x768 (constant (F := Ideal) S_ .f32 0x00000000#32))
     (broadcastInDim S3x256x768 ![] bcast_S_S3x256x768 (constant (F := Ideal) S_ .f32 0xF149F2CA#32)) : S3x256x768.Idx → EReal) := by
  unfold V
  simp only [hostOps0, hostOps0_1, hostOps0_2, hostOps0_3, List.flatten_cons, List.flatten_nil, List.append_nil, List.cons_append, List.nil_append]
  after_results
  rfl

/-- Entry `(p, a, t)` of the bias table is zero when key `t` is in the window of position `256 p + a`, and negative otherwise. -/
theorem V_v12_apply (c : Dev nD) (p : Fin 3) (a : Fin 256) (t : Fin 768) :
    (V m c main_v12 : S3x256x768.Idx → EReal) (ix3 p a t)
      = if inWin (256 * p.val + a.val) t.val then 0 else Ideal.ofBits .f32 0xF149F2CA#32 := by
  rw [V_v12]
  have e : IntOp.addi (IntOp.muli (BitVec.ofNat 32 p.val) 256#32) (BitVec.ofNat 32 a.val) = BitVec.ofNat 32 (256 * p.val + a.val) := by
    unfold IntOp.addi IntOp.muli
    apply BitVec.eq_of_toNat_eq
    simp only [BitVec.toNat_add, BitVec.toNat_mul, BitVec.toNat_ofNat]
    omega
  have hw := win_word (256 * p.val + a.val) t.val (by omega) (by omega)
  pointwise
  rw [e, hw]
  by_cases h : inWin (256 * p.val + a.val) t.val <;> simp [h, Scalar.select]

/-- The joined projections. -/
theorem V_v14 (c : Dev nD) : V m c main_v14 = (concatenate S4x4096x5120 2 [⟨S4x4096x2048, argQ m c⟩,
     ⟨S4x4096x1024, (m ((c : Thread nD τ).loc main_arg1) : S4x4096x1024.Idx → EReal)⟩, ⟨S4x4096x512, (m ((c : Thread nD τ).loc main_arg2) : S4x4096x512.Idx → EReal)⟩,
     ⟨S4x4096x512, argK m c⟩, ⟨S4x4096x512, (m ((c : Thread nD τ).loc main_arg4) : S4x4096x512.Idx → EReal)⟩, ⟨S4x4096x512, argV m c⟩]
     concatenates_S4x4096x2048_S4x4096x1024_S4x4096x512_S4x4096x512_S4x4096x512_S4x4096x512_S4x4096x5120_d2 : S4x4096x5120.Idx → EReal) := by
  unfold V
  simp only [hostOps0, hostOps0_1, hostOps0_2, hostOps0_3, List.flatten_cons, List.flatten_nil, List.append_nil, List.cons_append, List.nil_append]
  after_results
  rfl

/-- The keys lie from column 3584 on. -/
theorem V_v14_k (c : Dev nD) (b : Fin 4) (s : Fin 4096) (t : Fin 512) :
    (V m c main_v14 : S4x4096x5120.Idx → EReal) (ix3 b s ⟨3584 + t.val, by omega⟩) = argK m c (ix3 b s t) := by
  rw [V_v14]
  pointwise
  rw [dif_neg (by omega), dif_neg (by omega), dif_neg (by omega), dif_pos (by omega)]
  refine congrArg (fun x => argK m c (ix3 b s x)) ?_
  exact Fin.ext (by show 3584 + t.val - 2048 - 1024 - 512 = t.val; omega)

/-- The values lie from column 4608 on. -/
theorem V_v14_v (c : Dev nD) (b : Fin 4) (s : Fin 4096) (t : Fin 512) :
    (V m c main_v14 : S4x4096x5120.Idx → EReal) (ix3 b s ⟨4608 + t.val, by omega⟩) = argV m c (ix3 b s t) := by
  rw [V_v14]
  pointwise
  rw [dif_neg (by omega), dif_neg (by omega), dif_neg (by omega), dif_neg (by omega), dif_neg (by omega)]
  refine congrArg (fun x => argV m c (ix3 b s x)) ?_
  exact Fin.ext (by show 4608 + t.val - 2048 - 1024 - 512 - 512 - 512 = t.val; omega)

/-- The gates, padded. -/
theorem V_v15 (c : Dev nD) : V m c main_v15 = (pad S4x4096x128 ![0, 0, 0] ![0, 0, 80] ![0, 0, 0] (argG m c)
    (sitofp (F := Ideal) .f32 (constantI S_ 32 0#32)) pads_S4x4096x48_S4x4096x128_000_000_0800 h_S_ : S4x4096x128.Idx → EReal) := by
  unfold V
  simp only [hostOps0, hostOps0_1, hostOps0_2, hostOps0_3, List.flatten_cons, List.flatten_nil, List.append_nil, List.cons_append, List.nil_append]
  after_results
  rfl

/-- The first 48 columns of the padded gates are the gates. -/
theorem V_v15_apply (c : Dev nD) (b : Fin 4) (s : Fin 4096) (t : Fin 48) :
    (V m c main_v15 : S4x4096x128.Idx → EReal) (ix3 b s ⟨t.val, by omega⟩) = argG m c (ix3 b s t) := by
  rw [V_v15]
  pointwise

/-! ## Where the blocks of a grid point lie -/

theorem idx_facts : ∀ t : Fin cfg0.N,
    win0_0.index t (0 : Fin 3) = t.val / 64 ∧ win0_0.index t (1 : Fin 3) = t.val % 16 ∧ win0_0.index t (2 : Fin 3) = t.val / 16 % 4
    ∧ win0_1.index t (0 : Fin 3) = t.val / 64 ∧ win0_1.index t (1 : Fin 3) = 0 ∧ win0_1.index t (2 : Fin 3) = 28 + t.val / 16 % 4
    ∧ win0_2.index t (0 : Fin 3) = t.val / 64 ∧ win0_2.index t (1 : Fin 3) = 0 ∧ win0_2.index t (2 : Fin 3) = 36 + t.val / 16 % 4 :=
  (by decide +kernel : ∀ t : Fin grid0.N, _)

theorem idx_facts' : ∀ t : Fin cfg0.N,
    win0_3.index t (0 : Fin 3) = 0 ∧ win0_3.index t (1 : Fin 3) = 0 ∧ win0_3.index t (2 : Fin 3) = 0
    ∧ win0_4.index t (0 : Fin 3) = t.val / 64 ∧ win0_4.index t (1 : Fin 3) = t.val % 16 ∧ win0_4.index t (2 : Fin 3) = 0
    ∧ win0_5.index t (0 : Fin 3) = t.val / 64 ∧ win0_5.index t (1 : Fin 3) = t.val % 16 ∧ win0_5.index t (2 : Fin 3) = t.val / 16 % 4
    ∧ win0_6.index t (0 : Fin 3) = t.val / 64 ∧ win0_6.index t (1 : Fin 3) = t.val % 16 ∧ win0_6.index t (2 : Fin 3) = t.val / 16 % 4 :=
  (by decide +kernel : ∀ t : Fin grid0.N, _)

/-- The window's first key, the bias page and the key/value head of a grid point. -/
theorem point_facts : ∀ t : Fin cfg0.N,
    keyOff (grid0.coords t) = t.val % 16 * 256 - 512 ∧ page (grid0.coords t) = min (t.val % 16) 2 ∧ (grid0.coords t 1).val = t.val / 16 % 4 :=
  (by decide +kernel : ∀ t : Fin grid0.N, _)

theorem lt_N (t : Fin cfg0.N) : t.val < 256 := lt_of_lt_of_eq t.isLt N_0

/-- The batch, the position of row `a` and the column of lane `n` of a grid point. -/
abbrev bat (t : Nat) (ht : t < 256) : Fin 4 := ⟨t / 64, by omega⟩
abbrev pos (t : Nat) (a : Fin 256) : Fin 4096 := ⟨t % 16 * 256 + a.val, by omega⟩
abbrev col (t : Nat) (n : Fin 512) : Fin 2048 := ⟨t / 16 % 4 * 512 + n.val, by omega⟩
abbrev kvc (t : Nat) (e : Fin 128) : Fin 512 := ⟨t / 16 % 4 * 128 + e.val, by omega⟩

theorem iblk0_apply (c : Dev nD) (t : Fin cfg0.N) (a : Fin 256) (n : Fin 512) :
    (iblk m c 0 t : Vec Ideal S1x256x512 .f32) (ix3 0 a n) = argQ m c (ix3 (bat t.val (lt_N t)) (pos t.val a) (col t.val n)) := by
  obtain ⟨e0, e1, e2, -⟩ := idx_facts t
  unfold iblk
  rw [View.read_apply]
  show V m c main_arg0 _ = _
  rw [V_main_arg0]
  show argQ m c _ = _
  congr 1
  funext b
  apply Fin.ext
  match b with
  | ⟨0, _⟩ => show win0_0.index t (0 : Fin 3) * 1 + 1 * 0 = t.val / 64; rw [e0]; omega
  | ⟨1, _⟩ => show win0_0.index t (1 : Fin 3) * 256 + 1 * a.val = t.val % 16 * 256 + a.val; rw [e1]; omega
  | ⟨2, _⟩ => show win0_0.index t (2 : Fin 3) * 512 + 1 * n.val = t.val / 16 % 4 * 512 + n.val; rw [e2]; omega

theorem iblk1_apply (c : Dev nD) (t : Fin cfg0.N) (j : Fin 4096) (e : Fin 128) :
    (iblk m c 1 t : Vec Ideal S1x4096x128 .bf16) (ix3 0 j e) = argK m c (ix3 (bat t.val (lt_N t)) j (kvc t.val e)) := by
  obtain ⟨-, -, -, e0, e1, e2, -⟩ := idx_facts t
  rw [← V_v14_k]
  unfold iblk
  rw [View.read_apply]
  show V m c main_v14 _ = _
  congr 1
  funext b
  apply Fin.ext
  match b with
  | ⟨0, _⟩ => show win0_1.index t (0 : Fin 3) * 1 + 1 * 0 = t.val / 64; rw [e0]; omega
  | ⟨1, _⟩ => show win0_1.index t (1 : Fin 3) * 4096 + 1 * j.val = j.val; rw [e1]; omega
  | ⟨2, _⟩ => show win0_1.index t (2 : Fin 3) * 128 + 1 * e.val = 3584 + (t.val / 16 % 4 * 128 + e.val); rw [e2]; omega

theorem iblk2_apply (c : Dev nD) (t : Fin cfg0.N) (j : Fin 4096) (e : Fin 128) :
    (iblk m c 2 t : Vec Ideal S1x4096x128 .bf16) (ix3 0 j e) = argV m c (ix3 (bat t.val (lt_N t)) j (kvc t.val e)) := by
  obtain ⟨-, -, -, -, -, -, e0, e1, e2⟩ := idx_facts t
  rw [← V_v14_v]
  unfold iblk
  rw [View.read_apply]
  show V m c main_v14 _ = _
  congr 1
  funext b
  apply Fin.ext
  match b with
  | ⟨0, _⟩ => show win0_2.index t (0 : Fin 3) * 1 + 1 * 0 = t.val / 64; rw [e0]; omega
  | ⟨1, _⟩ => show win0_2.index t (1 : Fin 3) * 4096 + 1 * j.val = j.val; rw [e1]; omega
  | ⟨2, _⟩ => show win0_2.index t (2 : Fin 3) * 128 + 1 * e.val = 4608 + (t.val / 16 % 4 * 128 + e.val); rw [e2]; omega

theorem iblk3_apply (c : Dev nD) (t : Fin cfg0.N) (p : Fin 3) (a : Fin 256) (j : Fin 768) :
    (iblk m c 3 t : Vec Ideal S3x256x768 .f32) (ix3 p a j) = if inWin (256 * p.val + a.val) j.val then 0 else Ideal.ofBits .f32 0xF149F2CA#32 := by
  obtain ⟨e0, e1, e2, -⟩ := idx_facts' t
  rw [← V_v12_apply m c]
  unfold iblk
  rw [View.read_apply]
  show V m c main_v12 _ = _
  congr 1
  funext b
  apply Fin.ext
  match b with
  | ⟨0, _⟩ => show win0_3.index t (0 : Fin 3) * 3 + 1 * p.val = p.val; rw [e0]; omega
  | ⟨1, _⟩ => show win0_3.index t (1 : Fin 3) * 256 + 1 * a.val = a.val; rw [e1]; omega
  | ⟨2, _⟩ => show win0_3.index t (2 : Fin 3) * 768 + 1 * j.val = j.val; rw [e2]; omega

theorem iblk4_apply (c : Dev nD) (t : Fin cfg0.N) (a : Fin 256) (x : Fin 48) :
    (iblk m c 4 t : Vec Ideal S1x256x128 .f32) (ix3 0 a ⟨x.val, by omega⟩) = argG m c (ix3 (bat t.val (lt_N t)) (pos t.val a) x) := by
  obtain ⟨-, -, -, e0, e1, e2, -⟩ := idx_facts' t
  rw [← V_v15_apply]
  unfold iblk
  rw [View.read_apply]
  show V m c main_v15 _ = _
  congr 1
  funext b
  apply Fin.ext
  match b with
  | ⟨0, _⟩ => show win0_4.index t (0 : Fin 3) * 1 + 1 * 0 = t.val / 64; rw [e0]; omega
  | ⟨1, _⟩ => show win0_4.index t (1 : Fin 3) * 256 + 1 * a.val = t.val % 16 * 256 + a.val; rw [e1]; omega
  | ⟨2, _⟩ => show win0_4.index t (2 : Fin 3) * 128 + 1 * x.val = x.val; rw [e2]; omega

theorem iblk5_apply (c : Dev nD) (t : Fin cfg0.N) (a : Fin 256) (n : Fin 512) :
    (iblk m c 5 t : Vec Ideal S1x256x512 .f32) (ix3 0 a n) = argC m c (ix3 (bat t.val (lt_N t)) (pos t.val a) (col t.val n)) := by
  obtain ⟨-, -, -, -, -, -, e0, e1, e2, -⟩ := idx_facts' t
  unfold iblk
  rw [View.read_apply]
  show V m c main_arg7 _ = _
  rw [V_main_arg7]
  show argC m c _ = _
  congr 1
  funext b
  apply Fin.ext
  match b with
  | ⟨0, _⟩ => show win0_5.index t (0 : Fin 3) * 1 + 1 * 0 = t.val / 64; rw [e0]; omega
  | ⟨1, _⟩ => show win0_5.index t (1 : Fin 3) * 256 + 1 * a.val = t.val % 16 * 256 + a.val; rw [e1]; omega
  | ⟨2, _⟩ => show win0_5.index t (2 : Fin 3) * 512 + 1 * n.val = t.val / 16 % 4 * 512 + n.val; rw [e2]; omega

/-! ## A grid point's block is the layer's formula there -/

/-- The mask's word is a negative number. -/
theorem bits_neg : Ideal.ofBits .f32 0xF149F2CA#32 < (0 : EReal) := by
  simp [Ideal.ofBits, Ideal.ieee, -EReal.coe_mul]
  try norm_num

/-- The block's mean over a window that holds every key with a score other than `⊥` is the attention over all keys. -/
theorem mean_eq_attn (q : Fin 128 → EReal) (k : Fin 768 → Fin 128 → EReal) (b v : Fin 768 → EReal) (S v' : Fin 4096 → EReal)
    (f : Fin 768 → Fin 4096) (hinj : Function.Injective f) (hf : ∀ j, S j ≠ ⊥ → ∃ x, f x = j) (hv : ∀ x, v x = v' (f x))
    (hs : ∀ x, score q k b x = (((Real.log 2)⁻¹ : ℝ) : EReal) * S (f x)) :
    mean q k b v = ∑ j : Fin 4096, Ideal.div (wt S j) (max (∑ j, wt S j) eps) * v' j := by
  obtain rfl : v = fun x => v' (f x) := funext hv
  exact window_mean S v' f hinj hf (score q k b) hs eps_pos eps_le

/-- A score of the block, in units of `log 2`, is the masked score of its key. -/
theorem score_eq (q : Fin 128 → EReal) (k : Fin 768 → Fin 128 → EReal) (b : Fin 768 → EReal) (x : Fin 768) (Q' K' : Fin 128 → EReal)
    (w : Prop) [Decidable w] (hq : ∀ e, q e = Q' e) (hk : ∀ e, k x e = K' e) (hb : b x = if w then 0 else Ideal.ofBits .f32 0xF149F2CA#32) :
    score q k b x = (((Real.log 2)⁻¹ : ℝ) : EReal) * (if w then (∑ e, Q' e * K' e) * (((Real.sqrt 128)⁻¹ : ℝ) : EReal) else ⊥) := by
  have hp : (0 : ℝ) ≤ (Real.sqrt 128)⁻¹ * (Real.log 2)⁻¹ :=
    mul_nonneg (by positivity) (inv_nonneg.mpr (Real.log_nonneg (by norm_num)))
  unfold score
  rw [hb]
  by_cases h : w
  · rw [if_pos h, if_neg (lt_irrefl _), if_pos h, add_zero, mul_comm (∑ e, _), ← mul_assoc, ← EReal.coe_mul, mul_comm (Real.log 2)⁻¹,
      scale_sum hp]
    refine Finset.sum_congr rfl fun e _ => ?_
    rw [mul_comm (q e), mul_assoc, hq, hk]
  · rw [if_neg h, if_pos bits_neg, if_neg h, EReal.add_bot,
      EReal.coe_mul_bot_of_pos (inv_pos.mpr (Real.log_pos (by norm_num)))]

/-- A grid point's output at row `a` and lane `n`. -/
theorem block_apply (c : Dev nD) (t : Fin cfg0.N) (a : Fin 256) (n : Fin 512) :
    blockVal (grid0.coords t) (iblk m c 0 t) (iblk m c 1 t) (iblk m c 2 t) (iblk m c 3 t) (iblk m c 4 t) (iblk m c 5 t) a n
      = layerOut (argQ m c) (argK m c) (argV m c) (argG m c) (argC m c) (bat t.val (lt_N t)) (pos t.val a) (col t.val n) := by
  obtain ⟨f0, f1, f2⟩ := point_facts t
  have ht := lt_N t
  have hn := n.isLt
  have ha := a.isLt
  unfold blockVal layerOut attn
  rw [iblk5_apply, add_comm, show (grid0.coords t 1).val = (⟨t.val / 16 % 4, by omega⟩ : Fin 4).val from f2, lane_eq _ _ (by omega), mul_comm]
  congr 1
  have hcol : (t.val / 16 % 4 * 512 + n.val) / 128 = t.val / 16 % 4 * 4 + n.val / 128 := by omega
  have hcol4 : (t.val / 16 % 4 * 512 + n.val) / 128 / 4 = t.val / 16 % 4 := by omega
  have hmod : (t.val / 16 % 4 * 512 + n.val) % 128 = n.val % 128 := by omega
  congr 1
  · refine (iblk4_apply m c t a ⟨(t.val / 16 % 4 * 4 + n.val / 128) * 3 + 2, by omega⟩).trans ?_
    congr 2
    exact Fin.ext (by show (t.val / 16 % 4 * 4 + n.val / 128) * 3 + 2 = (t.val / 16 % 4 * 512 + n.val) / 128 * 3 + 2; rw [hcol])
  · -- the window's keys among all keys
    have hoff := keyOff_le (grid0.coords t)
    let f : Fin 768 → Fin 4096 := fun x => ⟨keyOff (grid0.coords t) + x.val, by omega⟩
    have hinj : Function.Injective f := fun x y h => Fin.ext (by
      have : keyOff (grid0.coords t) + x.val = keyOff (grid0.coords t) + y.val := congrArg Fin.val h
      omega)
    let S := scoreOf (argQ m c) (argK m c) (bat t.val ht) (pos t.val a) ⟨(t.val / 16 % 4 * 512 + n.val) / 128, by omega⟩
    have hf : ∀ j, S j ≠ ⊥ → ∃ x, f x = j := fun j hj => by
      have hw : inWin (t.val % 16 * 256 + a.val) j.val := by
        by_contra h
        exact hj (if_neg h)
      unfold inWin at hw
      exact ⟨⟨j.val - keyOff (grid0.coords t), by omega⟩, Fin.ext (by show keyOff (grid0.coords t) + (j.val - keyOff (grid0.coords t)) = j.val; omega)⟩
    refine mean_eq_attn _ _ _ _ S _ f hinj hf (fun x => ?_) (fun x => ?_)
    · show iblk m c 2 t (ix3 0 (f x) ⟨n.val % 128, by omega⟩) = _
      refine (iblk2_apply m c t (f x) ⟨n.val % 128, by omega⟩).trans ?_
      congr 2
      exact Fin.ext (by show t.val / 16 % 4 * 128 + n.val % 128 = (t.val / 16 % 4 * 512 + n.val) / 128 / 4 * 128 + (t.val / 16 % 4 * 512 + n.val) % 128; rw [hcol4, hmod])
    · have hx := x.isLt
      have hb : biasPage (iblk m c 3 t) (grid0.coords t) (ix3 0 a x)
          = if inWin (t.val % 16 * 256 + a.val) (f x).val then 0 else Ideal.ofBits .f32 0xF149F2CA#32 := by
        refine (iblk3_apply m c t ⟨page (grid0.coords t), page_lt _⟩ a x).trans ?_
        have : inWin (256 * page (grid0.coords t) + a.val) x.val ↔ inWin (t.val % 16 * 256 + a.val) (f x).val := by
          show inWin _ _ ↔ inWin _ (keyOff (grid0.coords t) + x.val)
          unfold inWin
          rw [f0, f1]
          omega
        simp only [this]
      refine score_eq _ _ _ _ (fun e => argQ m c (ix3 (bat t.val ht) (pos t.val a) (qCol ⟨(t.val / 16 % 4 * 512 + n.val) / 128, by omega⟩ e)))
        (fun e => argK m c (ix3 (bat t.val ht) (f x) (kCol ⟨(t.val / 16 % 4 * 512 + n.val) / 128, by omega⟩ e))) _ (fun e => ?_) (fun e => ?_) hb
      · refine (iblk0_apply m c t a _).trans (congrArg (fun y => argQ m c (ix3 (bat t.val ht) (pos t.val a) y)) ?_)
        exact Fin.ext (by show t.val / 16 % 4 * 512 + (n.val / 128 * 128 + e.val) = (t.val / 16 % 4 * 512 + n.val) / 128 * 128 + e.val; rw [hcol]; omega)
      · refine (iblk1_apply m c t (f x) e).trans (congrArg (fun y => argK m c (ix3 (bat t.val ht) (f x) y)) ?_)
        exact Fin.ext (by show t.val / 16 % 4 * 128 + e.val = (t.val / 16 % 4 * 512 + n.val) / 128 / 4 * 128 + e.val; rw [hcol4])

/-! ## The array -/

/-- The result array, as the layer's formula. -/
def G6 (c : Dev nD) : S4x4096x2048.Idx → EReal := fun i =>
  layerOut (argQ m c) (argK m c) (argV m c) (argG m c) (argC m c) (i 0) (i 1) (i 2)

/-- What a grid point leaves in the output block. -/
theorem outs_apply (c : Dev nD) (t : Fin cfg0.N) (z : Fin 1) (a : Fin 256) (n : Fin 512) :
    outsAt0 m c t (ix3 z a n)
      = layerOut (argQ m c) (argK m c) (argV m c) (argG m c) (argC m c) (bat t.val (lt_N t)) (pos t.val a) (col t.val n) := by
  unfold outsAt0
  rw [out_apply, block_apply]

/-- What a grid point writes back is its block of that array. -/
theorem flushed6_eq (c : Dev nD) (t : Fin cfg0.N) :
    (dats m 0 c).flushed 6 t = ((cfg0.win 6).blk t).view.read (Elt Ideal) (G6 m c) := by
  rw [Value.flushed6]
  obtain ⟨-, -, -, -, -, -, -, -, -, e0, e1, e2⟩ := idx_facts' t
  funext y
  have hy0 : (y 0).val < 1 := (y 0).isLt
  have hy1 : (y 1).val < 256 := (y 1).isLt
  have hy2 : (y 2).val < 512 := (y 2).isLt
  have hl : (cfg0.win 6).xinj (grid0.coords t) y = ix3 (⟨(y 0).val, hy0⟩ : Fin 1) (⟨(y 1).val, hy1⟩ : Fin 256) (⟨(y 2).val, hy2⟩ : Fin 512) := by
    funext a
    match a with
    | ⟨0, _⟩ => rfl
    | ⟨1, _⟩ => rfl
    | ⟨2, _⟩ => rfl
  have hb : ((cfg0.win 6).blk t).view.emb y = ix3 (bat t.val (lt_N t)) (pos t.val ⟨(y 1).val, hy1⟩) (col t.val ⟨(y 2).val, hy2⟩) := by
    funext a
    apply Fin.ext
    match a with
    | ⟨0, _⟩ => show win0_6.index t (0 : Fin 3) * 1 + 1 * (y 0).val = t.val / 64; rw [e0]; omega
    | ⟨1, _⟩ => show win0_6.index t (1 : Fin 3) * 256 + 1 * (y 1).val = t.val % 16 * 256 + (y 1).val; rw [e1]; omega
    | ⟨2, _⟩ => show win0_6.index t (2 : Fin 3) * 512 + 1 * (y 2).val = t.val / 16 % 4 * 512 + (y 2).val; rw [e2]; omega
  show outsAt0 m c t ((cfg0.win 6).xinj (grid0.coords t) y) = G6 m c (((cfg0.win 6).blk t).view.emb y)
  rw [hl, hb, outs_apply]
  rfl

/-- Every grid point writes its block back. -/
theorem flush_all : ∀ t : Fin cfg0.N, (cfg0.win 6).flush t = true := (by decide +kernel : ∀ t : Fin grid0.N, _)

/-- The array after the run is the layer's formula. -/
theorem final6 (c : Dev nD) : (dats m 0 c).arrAt 6 cfg0.N = G6 m c := by
  refine (dats m 0 c).arrAt_eq_of_cover 6 _ (fun t _ => flushed6_eq m c t) fun i => ?_
  have h0 : (i 0).val < 4 := (i 0).isLt
  have h1 : (i 1).val < 4096 := (i 1).isLt
  have h2 : (i 2).val < 2048 := (i 2).isLt
  let t : Fin cfg0.N := ⟨(i 0).val * 64 + (i 2).val / 512 * 16 + (i 1).val / 256, by rw [show cfg0.N = 256 from N_0]; omega⟩
  have ht : t.val = (i 0).val * 64 + (i 2).val / 512 * 16 + (i 1).val / 256 := rfl
  obtain ⟨-, -, -, -, -, -, -, -, -, e0, e1, e2⟩ := idx_facts' t
  refine ⟨t, flush_all t, ?_⟩
  show i ∈ ((View.whole main_v16).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 512 ≤ (i 2).val ∧ (i 2).val < win0_6.index t (2 : Fin 3) * 512 + 512; omega

end Cert.KernelIdeal.Win
-- ==== Proof.WinRef.lean ====
/-
  The window attention's call: what the reference computes, element by element.
-/
module

public import proofs.«01_k».proof.Proof.WinArray
public import proofs.«01_k».proof.Proof.Gen.ReferenceIdeal.Read

@[expose] public section

noncomputable section

open Idealize.ShloMosaic Idealize.ShloMosaic.TcCoe Idealize.SL.Sem

namespace Cert.ReferenceIdeal.Win

open Cert.ReferenceIdeal Cert.ReferenceIdeal.Gen Cert.ReferenceIdeal.Read Cert.KernelIdeal.Win Cert.WinMath

variable (Q C : (⟨S4x4096x2048, .f32⟩ : BufTy).Contents (Elt Ideal)) (K V : (⟨S4x4096x512, .bf16⟩ : BufTy).Contents (Elt Ideal))
  (G : (⟨S4x4096x48, .f32⟩ : BufTy).Contents (Elt Ideal))

/-- Head `g` of the four that share key/value head `u`. -/
abbrev hd (u g : Fin 4) : Fin 16 := ⟨u.val * 4 + g.val, by omega⟩

/-- The products of queries and keys. -/
theorem v10_apply (b u g : Fin 4) (s j : Fin 4096) :
    val_main_v10 (F := Ideal) Q K (ix5 b u g s j) = ∑ e : Fin 128, Q (ix3 b s (qCol (hd u g) e)) * K (ix3 b j (kCol (hd u g) e)) := by
  unfold val_main_v10 val_main_v1 val_main_v0 val_main_v4 val_main_v3 val_main_v2
  pointwise
  refine Finset.sum_congr rfl fun e _ => ?_
  refine congrArg₂ (· * ·) (congrArg (fun y => Q (ix3 b s y)) (Fin.ext ?_)) (congrArg (fun y => K (ix3 b j y)) (Fin.ext ?_))
  · show u.val * 512 + g.val * 128 + e.val = (u.val * 4 + g.val) * 128 + e.val; omega
  · show u.val * 128 + e.val = (u.val * 4 + g.val) / 4 * 128 + e.val; omega

/-- The mask is the window. -/
theorem v24_apply (s j : Fin 4096) :
    val_main_v24 (F := Ideal) (ix2 s j) = if inWin s.val j.val then 1#1 else 0#1 := by
  unfold val_main_v24 val_main_v23 val_main_v22 val_main_c_0 val_main_v21 val_main_v20 val_main_c val_main_v19 val_main_v18 val_main_v17
    val_main_v16 val_main_v15 val_main_v14
  rw [← win_word s.val j.val (by omega) (by omega)]
  pointwise

/-- The divisor of the scores is the root of 128. -/
theorem sqrt_word : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]
    norm_num
  rw [h, Ideal.sqrt_coe, if_neg (by norm_num)]

/-- The masked scores. -/
theorem v25_apply (b u g : Fin 4) (s j : Fin 4096) :
    val_main_v25 (F := Ideal) Q K (ix5 b u g s j) = scoreOf Q K b s (hd u g) j := by
  unfold val_main_v25 val_main_call0_v1 val_main_call0_v2 val_main_call0_v0 val_main_v13 val_main_v12 val_main_v11 val_main_cst val_main_cst_1
    scoreOf
  pointwise
  rw [v24_apply, v10_apply, sqrt_word, Ideal.div_coe (by positivity), one_div]
  by_cases h : inWin s.val j.val
  · rw [if_pos h, if_pos h]; rfl
  · rw [if_neg h, if_neg h]; exact bits_bot

/-- The masked exponentials are the weights: a key outside the window has weight zero anyhow. -/
theorem v31_apply (b u g : Fin 4) (s j : Fin 4096) :
    val_main_v31 (F := Ideal) Q K (ix5 b u g s j) = wt (scoreOf Q K b s (hd u g)) j := by
  unfold val_main_v31 val_main_call1_v1 val_main_call1_v2 val_main_call1_v0 val_main_v30 val_main_v29 val_main_v28 val_main_v27 val_main_v26
    val_main_cst_2 val_main_cst_3
  pointwise
  rw [v24_apply]
  by_cases h : inWin s.val j.val
  · rw [if_pos h]
    refine Eq.trans (b := Ideal.exp _) rfl ?_
    unfold wt
    rw [bits_bot, v25_apply, show (fun x => val_main_v25 (F := Ideal) Q K (ix5 b u g s x)) = scoreOf Q K b s (hd u g) from
      funext fun x => v25_apply Q K b u g s x]
  · rw [if_neg h, wt_bot _ _ (by unfold scoreOf; exact if_neg h)]
    exact (by simp [Ideal.ofBits, Ideal.ieee] : Ideal.ofBits .f32 0x00000000#32 = (0 : EReal))

/-- The attention of each head. -/
theorem v38_apply (b u g : Fin 4) (s : Fin 4096) (d : Fin 128) :
    val_main_v38 (F := Ideal) Q K V (ix5 b u g s d) = attn Q K V b s (hd u g) d := by
  unfold val_main_v38 val_main_v7 val_main_v6 val_main_v5 val_main_v37 val_main_v36 val_main_v35 val_main_v34 val_main_cst_5 val_main_v33
    val_main_v32 val_main_cst_4 attn
  pointwise
  simp only [v31_apply]
  refine Finset.sum_congr rfl fun j _ => congrArg (_ * ·) (congrArg (fun y => V (ix3 b j y)) (Fin.ext ?_))
  show u.val * 128 + d.val = (u.val * 4 + g.val) / 4 * 128 + d.val; omega

/-- The reference's result is the layer's formula. -/
theorem v45_apply (b : Fin 4) (s : Fin 4096) (n : Fin 2048) :
    val_main_v45 (F := Ideal) Q K V G C (ix3 b s n) = layerOut Q K V G C b s n := by
  have hn := n.isLt
  unfold val_main_v45 val_main_v44 val_main_v43 val_main_v42 val_main_v41 val_main_v40 val_main_v39 val_main_v9 val_main_v8 layerOut
  pointwise
  rw [v38_apply]
  have e : n.val / 512 * 4 + n.val / 128 % 4 = n.val / 128 := by omega
  refine congrArg (C (ix3 b s n) + ·) (congrArg₂ (· * ·) (congrArg (fun y => G (ix3 b s y)) (Fin.ext ?_))
    (congrArg (fun h => attn Q K V b s h ⟨n.val % 128, by omega⟩) (Fin.ext e)))
  show n.val / 512 * 12 + n.val / 128 % 4 * 3 + 2 = n.val / 128 * 3 + 2; omega

end Cert.ReferenceIdeal.Win
-- ==== Proof.WinClaim.lean ====
/-
  The window attention's call: its claims, put together from the two closed forms.
-/
module

public import proofs.«01_k».proof.Defs
public import proofs.«01_k».proof.Proof.WinRef
public import proofs.«01_k».proof.Proof.Gen.Kernel.Frame
public import proofs.«01_k».proof.Proof.Gen.ReferenceIdeal.Run
public import Idealize.ShloMosaic.Lib.Claim
public import Idealize.ShloMosaic.Lib.Quiescent

@[expose] public section

noncomputable section

open Idealize.ShloMosaic Idealize.ShloMosaic.TcCoe Idealize.SL.Sem

namespace Cert.WinClaim

/-- What the window attention's array ends holding is what its reference computes from the same arguments. -/
theorem G6_eq_ref (m : (ℓ : Loc Cert.KernelIdeal.nD Cert.KernelIdeal.τ Cert.KernelIdeal.sig) → Buf (Elt Ideal) ℓ) (c : Dev Cert.KernelIdeal.nD) :
    (Cert.KernelIdeal.Win.G6 m c : (⟨⟨3, ![4, 4096, 2048]⟩, .bf16⟩ : BufTy).Contents (Elt Ideal))
      = Cert.ReferenceIdeal.Read.val_main_v45 (F := Ideal) (Cert.KernelIdeal.Win.argQ m c) (Cert.KernelIdeal.Win.argK m c)
          (Cert.KernelIdeal.Win.argV m c) (Cert.KernelIdeal.Win.argG m c) (Cert.KernelIdeal.Win.argC m c) := by
  funext i
  rw [eq_ix3 i]
  exact (Cert.ReferenceIdeal.Win.v45_apply _ _ _ _ _ (i 0) (i 1) (i 2)).symm

/-- The window attention and its reference end with equal results over the extended reals. -/
theorem algebraic : Cert.algebraic_KernelIdeal_ReferenceIdeal (hKernelIdeal := Cert.KernelIdeal.Gen.facts) (hReferenceIdeal := Cert.ReferenceIdeal.Gen.facts) := by
  intro m g m' g' hpre hagree
  refine ⟨fun c => Cert.KernelIdeal.Win.G6 m c, ?_, ?_⟩
  · exact (θ_run _ _ _).mono (fun r h c => ⟨((h c).1).trans (Cert.KernelIdeal.Win.final6 m c), (h c).2⟩) (Cert.KernelIdeal.Value.run_blocks m g)
  refine (θ_run _ _ _).mono (fun r h c => ⟨?_, (h c).2⟩) (Cert.ReferenceIdeal.Value.run m' g')
  refine ((h c).1.trans (Cert.ReferenceIdeal.Read.val_main_v45_eq ..)).trans ?_
  obtain ⟨h0, h1, h2, h3, h4, h5, h6, h7⟩ := hagree c
  rw [h0, h3, h5, h6, h7]
  exact (G6_eq_ref m c).symm

/-- The window reference runs, keeps its arguments and leaves every counter at zero. -/
theorem quiescent : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The two named constants are the printed ones, given their exact values. -/
theorem preserves : Cert.preserves_Kernel_KernelIdeal :=
  ⟨IdealRules.named_const.statement Cert.KernelIdeal.κ "qscale" .f32 0x3E0293EE#32 _ rfl,
   IdealRules.named_const.statement Cert.KernelIdeal.κ "mask" .f32 0xF149F2CA#32 _ rfl⟩

end Cert.WinClaim
-- ==== Proof.OutEven.lean ====
/-
  The output projection of the even layer: one grid point, the array after the run, the reference, the claims.
-/
module

public import proofs.«01_k».proof.Defs
public import proofs.«01_k».proof.Proof.WinClaim
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Claim
public import Idealize.ShloMosaic.Lib.Quiescent

@[expose] public section

noncomputable section

open Idealize.ShloMosaic Idealize.ShloMosaic.TcCoe Idealize.SL.Sem

namespace Cert.Kernel3Ideal.Out

open Cert.Kernel3Ideal Cert.Kernel3Ideal.Gen Cert.Kernel3Ideal.Value

/-- The two offsets of a load of a whole block are zero. -/
theorem hz : (![0, 0] : Fin 2 → Nat) = fun _ => 0 := funext fun a => by fin_cases a <;> rfl

/-- A grid point's output block: the residual plus the products. -/
theorem out_apply (x0 : Vec Ideal S1024x1024 .bf16) (x1 : Vec Ideal S1024x1024 .bf16) (x2 : Vec Ideal S1024x1024 .bf16) (x3 : Vec Ideal S1024x1024 .bf16) (x4 : Vec Ideal S1024x1024 .f32)
    (r n : Fin 1024) : out0_5 x0 x1 x2 x3 x4 (ix2 r n) = x4 (ix2 r n) + (∑ k : Fin 1024, x0 (ix2 r k) * x2 (ix2 k n)) + (∑ k : Fin 1024, x1 (ix2 r k) * x3 (ix2 k n)) := by
  unfold out0_5 r0_0
  rw [View.canon_unit_zero hz]
  simp only [View.ld_unit_zero (S := S1024x1024) hz]
  pointwise [k0_pay1]

/-- The layer's formula: the residual plus the mixed heads times the output weight. -/
def proj (A B : S16384x1024.Idx → EReal) (W : S1x2048x2048.Idx → EReal) (H : S16384x2048.Idx → EReal) (r : Fin 16384) (n : Fin 2048) : EReal :=
  H (ix2 r n) + (∑ k : Fin 1024, A (ix2 r k) * W (ix3 0 ⟨k.val, by omega⟩ n)) + (∑ k : Fin 1024, B (ix2 r k) * W (ix3 0 ⟨1024 + k.val, by omega⟩ n))

variable (m : (ℓ : Loc nD τ sig) → Buf (Elt Ideal) ℓ)

/-- The arguments of the call. -/
abbrev argA (c : Dev nD) : S16384x1024.Idx → EReal := m ((c : Thread nD τ).loc main_arg0)
abbrev argB (c : Dev nD) : S16384x1024.Idx → EReal := m ((c : Thread nD τ).loc main_arg1)
abbrev argW (c : Dev nD) : S1x2048x2048.Idx → EReal := m ((c : Thread nD τ).loc main_arg2)
abbrev argH (c : Dev nD) : S16384x2048.Idx → EReal := m ((c : Thread nD τ).loc main_arg3)

/-- The weight as the call gets it. -/
theorem V_w0 (c : Dev nD) : V m c main_v2 = (extractStridedSlice S1024x2048 ![0, 0] (shapeCast S2048x2048 (argW m c) shapeCasts_S1x2048x2048_S2048x2048 : S2048x2048.Idx → EReal) slices_S2048x2048_S1024x2048_0_0 : S1024x2048.Idx → EReal) := by
  dsimp only [V, hostOps0]
  after_results
  rfl

theorem w0_apply (c : Dev nD) (k : Fin 1024) (n : Fin 2048) :
    (V m c main_v2 : S1024x2048.Idx → EReal) (ix2 k n) = argW m c (ix3 0 ⟨k.val, by omega⟩ n) := by
  rw [V_w0]
  pointwise

/-- The weight as the call gets it. -/
theorem V_w1 (c : Dev nD) : V m c main_v3 = (extractStridedSlice S1024x2048 ![1024, 0] (shapeCast S2048x2048 (argW m c) shapeCasts_S1x2048x2048_S2048x2048 : S2048x2048.Idx → EReal) slices_S2048x2048_S1024x2048_1024_0 : S1024x2048.Idx → EReal) := by
  dsimp only [V, hostOps0]
  after_results
  rfl

theorem w1_apply (c : Dev nD) (k : Fin 1024) (n : Fin 2048) :
    (V m c main_v3 : S1024x2048.Idx → EReal) (ix2 k n) = argW m c (ix3 0 ⟨1024 + k.val, by omega⟩ n) := by
  rw [V_w1]
  pointwise

/-- Where each point's blocks lie. -/
theorem idx_facts : ∀ t : Fin cfg0.N, win0_0.index t (0 : Fin 2) = t.val / 2 ∧ win0_0.index t (1 : Fin 2) = 0 ∧ win0_1.index t (0 : Fin 2) = t.val / 2 ∧ win0_1.index t (1 : Fin 2) = 0 ∧ win0_2.index t (0 : Fin 2) = 0 ∧ win0_2.index t (1 : Fin 2) = t.val % 2 ∧ win0_3.index t (0 : Fin 2) = 0 ∧ win0_3.index t (1 : Fin 2) = t.val % 2 ∧ win0_4.index t (0 : Fin 2) = t.val / 2 ∧ win0_4.index t (1 : Fin 2) = t.val % 2 ∧ win0_5.index t (0 : Fin 2) = t.val / 2 ∧ win0_5.index t (1 : Fin 2) = t.val % 2 :=
  (by decide +kernel : ∀ t : Fin grid0.N, _)

theorem lt_N (t : Fin cfg0.N) : t.val < 32 := lt_of_lt_of_eq t.isLt N_0

/-- The row and the column of an element of a point's block. -/
abbrev row (t : ℕ) (ht : t < 32) (a : Fin 1024) : Fin 16384 := ⟨t / 2 * 1024 + a.val, by omega⟩
abbrev col (t : ℕ) (n : Fin 1024) : Fin 2048 := ⟨t % 2 * 1024 + n.val, by omega⟩

theorem iblk0_apply (c : Dev nD) (t : Fin cfg0.N) (a : Fin 1024) (k : Fin 1024) :
    (iblk m c 0 t : Vec Ideal S1024x1024 .bf16) (ix2 a k) = argA m c (ix2 (row t.val (lt_N t) a) k) := by
  obtain ⟨e0, e1, -⟩ := idx_facts t
  unfold iblk
  rw [View.read_apply]
  show V m c main_arg0 _ = _
  rw [V_main_arg0]
  show argA m c _ = _
  congr 1
  funext b
  apply Fin.ext
  match b with
  | ⟨0, _⟩ => show win0_0.index t (0 : Fin 2) * 1024 + 1 * a.val = t.val / 2 * 1024 + a.val; rw [e0]; omega
  | ⟨1, _⟩ => show win0_0.index t (1 : Fin 2) * 1024 + 1 * k.val = k.val; rw [e1]; omega

theorem iblk1_apply (c : Dev nD) (t : Fin cfg0.N) (a : Fin 1024) (k : Fin 1024) :
    (iblk m c 1 t : Vec Ideal S1024x1024 .bf16) (ix2 a k) = argB m c (ix2 (row t.val (lt_N t) a) k) := by
  obtain ⟨-, -, e0, e1, -⟩ := idx_facts t
  unfold iblk
  rw [View.read_apply]
  show V m c main_arg1 _ = _
  rw [V_main_arg1]
  show argB m c _ = _
  congr 1
  funext b
  apply Fin.ext
  match b with
  | ⟨0, _⟩ => show win0_1.index t (0 : Fin 2) * 1024 + 1 * a.val = t.val / 2 * 1024 + a.val; rw [e0]; omega
  | ⟨1, _⟩ => show win0_1.index t (1 : Fin 2) * 1024 + 1 * k.val = k.val; rw [e1]; omega

theorem iblk2_apply (c : Dev nD) (t : Fin cfg0.N) (k : Fin 1024) (n : Fin 1024) :
    (iblk m c 2 t : Vec Ideal S1024x1024 .bf16) (ix2 k n) = argW m c (ix3 0 ⟨k.val, by omega⟩ (col t.val n)) := by
  obtain ⟨-, -, -, -, e0, e1, -⟩ := idx_facts t
  rw [← w0_apply]
  unfold iblk
  rw [View.read_apply]
  show V m c main_v2 _ = _
  congr 1
  funext b
  apply Fin.ext
  match b with
  | ⟨0, _⟩ => show win0_2.index t (0 : Fin 2) * 1024 + 1 * k.val = k.val; rw [e0]; omega
  | ⟨1, _⟩ => show win0_2.index t (1 : Fin 2) * 1024 + 1 * n.val = t.val % 2 * 1024 + n.val; rw [e1]; omega

theorem iblk3_apply (c : Dev nD) (t : Fin cfg0.N) (k : Fin 1024) (n : Fin 1024) :
    (iblk m c 3 t : Vec Ideal S1024x1024 .bf16) (ix2 k n) = argW m c (ix3 0 ⟨1024 + k.val, by omega⟩ (col t.val n)) := by
  obtain ⟨-, -, -, -, -, -, e0, e1, -⟩ := idx_facts t
  rw [← w1_apply]
  unfold iblk
  rw [View.read_apply]
  show V m c main_v3 _ = _
  congr 1
  funext b
  apply Fin.ext
  match b with
  | ⟨0, _⟩ => show win0_3.index t (0 : Fin 2) * 1024 + 1 * k.val = k.val; rw [e0]; omega
  | ⟨1, _⟩ => show win0_3.index t (1 : Fin 2) * 1024 + 1 * n.val = t.val % 2 * 1024 + n.val; rw [e1]; omega

theorem iblk4_apply (c : Dev nD) (t : Fin cfg0.N) (a n : Fin 1024) :
    (iblk m c 4 t : Vec Ideal S1024x1024 .f32) (ix2 a n) = argH m c (ix2 (row t.val (lt_N t) a) (col t.val n)) := by
  obtain ⟨-, -, -, -, -, -, -, -, e0, e1, -⟩ := idx_facts t
  unfold iblk
  rw [View.read_apply]
  show V m c main_arg3 _ = _
  rw [V_main_arg3]
  show argH m c _ = _
  congr 1
  funext b
  apply Fin.ext
  match b with
  | ⟨0, _⟩ => show win0_4.index t (0 : Fin 2) * 1024 + 1 * a.val = t.val / 2 * 1024 + a.val; rw [e0]; omega
  | ⟨1, _⟩ => show win0_4.index t (1 : Fin 2) * 1024 + 1 * n.val = t.val % 2 * 1024 + n.val; rw [e1]; omega

/-- The result array, as the layer's formula. -/
def G (c : Dev nD) : S16384x2048.Idx → EReal := fun i => proj (argA m c) (argB m c) (argW m c) (argH m c) (i 0) (i 1)

/-- What a grid point writes back is its block of that array. -/
theorem flushed_eq (c : Dev nD) (t : Fin cfg0.N) :
    (dats m 0 c).flushed 5 t = ((cfg0.win 5).blk t).view.read (Elt Ideal) (G m c) := by
  rw [flushed5]
  obtain ⟨-, -, -, -, -, -, -, -, -, -, e0, e1⟩ := idx_facts t
  funext y
  have hy0 : (y 0).val < 1024 := (y 0).isLt
  have hy1 : (y 1).val < 1024 := (y 1).isLt
  have hl : (cfg0.win 5).xinj (grid0.coords t) y = ix2 (⟨(y 0).val, hy0⟩ : Fin 1024) (⟨(y 1).val, hy1⟩ : Fin 1024) := by
    funext a
    match a with
    | ⟨0, _⟩ => rfl
    | ⟨1, _⟩ => rfl
  have hb : ((cfg0.win 5).blk t).view.emb y = ix2 (row t.val (lt_N t) ⟨(y 0).val, hy0⟩) (col t.val ⟨(y 1).val, hy1⟩) := by
    funext a
    apply Fin.ext
    match a with
    | ⟨0, _⟩ => show win0_5.index t (0 : Fin 2) * 1024 + 1 * (y 0).val = t.val / 2 * 1024 + (y 0).val; rw [e0]; omega
    | ⟨1, _⟩ => show win0_5.index t (1 : Fin 2) * 1024 + 1 * (y 1).val = t.val % 2 * 1024 + (y 1).val; rw [e1]; omega
  show out0_5 (iblk m c 0 t) (iblk m c 1 t) (iblk m c 2 t) (iblk m c 3 t) (iblk m c 4 t) ((cfg0.win 5).xinj (grid0.coords t) y)
    = G m c (((cfg0.win 5).blk t).view.emb y)
  rw [hl, hb]
  refine (out_apply _ _ _ _ _ _ _).trans ?_
  simp only [iblk0_apply, iblk1_apply, iblk2_apply, iblk3_apply, iblk4_apply]
  rfl

/-- Every grid point writes its block back. -/
theorem flush_all : ∀ t : Fin cfg0.N, (cfg0.win 5).flush t = true := (by decide +kernel : ∀ t : Fin grid0.N, _)

/-- The array after the run is the layer's formula. -/
theorem final (c : Dev nD) : (dats m 0 c).arrAt 5 cfg0.N = G m c := by
  refine (dats m 0 c).arrAt_eq_of_cover 5 _ (fun t _ => flushed_eq m c t) fun i => ?_
  have h0 : (i 0).val < 16384 := (i 0).isLt
  have h1 : (i 1).val < 2048 := (i 1).isLt
  let t : Fin cfg0.N := ⟨(i 0).val / 1024 * 2 + (i 1).val / 1024, by rw [show cfg0.N = 32 from N_0]; omega⟩
  have ht : t.val = (i 0).val / 1024 * 2 + (i 1).val / 1024 := rfl
  obtain ⟨-, -, -, -, -, -, -, -, -, -, e0, e1⟩ := idx_facts t
  refine ⟨t, flush_all t, ?_⟩
  show i ∈ ((View.whole main_v4).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

end Cert.Kernel3Ideal.Out

namespace Cert.Reference3Ideal.Out

open Cert.Reference3Ideal Cert.Reference3Ideal.Gen Cert.Reference3Ideal.Read

variable (A B : (⟨S16384x1024, .bf16⟩ : BufTy).Contents (Elt Ideal)) (W : (⟨S1x2048x2048, .f32⟩ : BufTy).Contents (Elt Ideal))
  (H : (⟨S16384x2048, .f32⟩ : BufTy).Contents (Elt Ideal))

/-- The first half of the joined heads. -/
theorem left_apply (r : Fin 16384) (k : Fin 1024) :
    val_main_v2 (F := Ideal) A B (ix2 r (Fin.castAdd 1024 k : Fin 2048)) = A (ix2 r k) := by
  unfold val_main_v2 val_main_v1 val_main_v0
  pointwise
  exact dif_pos k.isLt

/-- The second half of the joined heads. -/
theorem right_apply (r : Fin 16384) (k : Fin 1024) :
    val_main_v2 (F := Ideal) A B (ix2 r (Fin.natAdd 1024 k : Fin 2048)) = B (ix2 r k) := by
  unfold val_main_v2 val_main_v1 val_main_v0
  pointwise
  refine (dif_neg (by simp)).trans (congrArg (fun y => B (ix2 r y)) (Fin.ext ?_))
  show 1024 + k.val - 1024 = k.val; omega

/-- The reference's result is the layer's formula. -/
theorem v5_apply (r : Fin 16384) (n : Fin 2048) :
    val_main_v5 (F := Ideal) A B W H (ix2 r n) = Cert.Kernel3Ideal.Out.proj A B W H r n := by
  unfold val_main_v5 val_main_v4 val_main_v3 Cert.Kernel3Ideal.Out.proj
  rw [add_assoc]
  pointwise
  refine congrArg (H (ix2 r n) + ·) ?_
  refine (Fin.sum_univ_add (a := 1024) (b := 1024) _).trans (congrArg₂ (· + ·) ?_ ?_)
  · refine Finset.sum_congr rfl fun k _ => congrArg₂ (· * ·) ?_ (congrArg (fun y => W (ix3 0 y n)) (Fin.ext rfl))
    exact left_apply A B r k
  · refine Finset.sum_congr rfl fun k _ => congrArg₂ (· * ·) ?_ (congrArg (fun y => W (ix3 0 y n)) (Fin.ext rfl))
    exact right_apply A B r k

end Cert.Reference3Ideal.Out

namespace Cert.OutEvenClaim

/-- What the kernel's array ends holding is what its reference computes from the same arguments. -/
theorem G_eq_ref (m : (ℓ : Loc Cert.Kernel3Ideal.nD Cert.Kernel3Ideal.τ Cert.Kernel3Ideal.sig) → Buf (Elt Ideal) ℓ) (c : Dev Cert.Kernel3Ideal.nD) :
    (Cert.Kernel3Ideal.Out.G m c : (⟨⟨2, ![16384, 2048]⟩, .f32⟩ : BufTy).Contents (Elt Ideal))
      = Cert.Reference3Ideal.Read.val_main_v5 (F := Ideal) (Cert.Kernel3Ideal.Out.argA m c) (Cert.Kernel3Ideal.Out.argB m c) (Cert.Kernel3Ideal.Out.argW m c) (Cert.Kernel3Ideal.Out.argH m c) := by
  funext i
  rw [eq_ix2 i]
  exact (Cert.Reference3Ideal.Out.v5_apply _ _ _ _ (i 0) (i 1)).symm

/-- The projection and its reference end with equal results over the extended reals. -/
theorem algebraic : Cert.algebraic_Kernel3Ideal_Reference3Ideal (hKernel3Ideal := Cert.Kernel3Ideal.Gen.facts) (hReference3Ideal := Cert.Reference3Ideal.Gen.facts) := by
  intro m g m' g' hpre hagree
  refine ⟨fun c => Cert.Kernel3Ideal.Out.G m c, ?_, ?_⟩
  · exact (θ_run _ _ _).mono (fun r h c => ⟨((h c).1).trans (Cert.Kernel3Ideal.Out.final m c), (h c).2⟩) (Cert.Kernel3Ideal.Value.run_blocks m g)
  refine (θ_run _ _ _).mono (fun r h c => ⟨?_, (h c).2⟩) (Cert.Reference3Ideal.Value.run m' g')
  refine ((h c).1.trans (Cert.Reference3Ideal.Read.val_main_v5_eq ..)).trans ?_
  obtain ⟨h0, h1, h2, h3⟩ := hagree c
  rw [h0, h1, h2, h3]
  exact (G_eq_ref m c).symm

/-- The projection's reference runs, keeps its arguments and leaves every counter at zero. -/
theorem quiescent : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

end Cert.OutEvenClaim
-- ==== Proof.OutOdd.lean ====
/-
  The output projection of the odd layer: one grid point, the array after the run, the reference, the claims.
-/
module

public import proofs.«01_k».proof.Defs
public import proofs.«01_k».proof.Proof.OutEven
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Claim
public import Idealize.ShloMosaic.Lib.Quiescent

@[expose] public section

noncomputable section

open Idealize.ShloMosaic Idealize.ShloMosaic.TcCoe Idealize.SL.Sem

namespace Cert.Kernel4Ideal.Out

open Cert.Kernel4Ideal Cert.Kernel4Ideal.Gen Cert.Kernel4Ideal.Value

/-- The two offsets of a load of a whole block are zero. -/
theorem hz : (![0, 0] : Fin 2 → Nat) = fun _ => 0 := funext fun a => by fin_cases a <;> rfl

/-- A grid point's output block: the residual plus the product. -/
theorem out_apply (x0 : Vec Ideal S1024x2048 .bf16) (x1 : Vec Ideal S2048x1024 .bf16) (x2 : Vec Ideal S1024x1024 .f32)
    (r n : Fin 1024) : out0_3 x0 x1 x2 (ix2 r n) = x2 (ix2 r n) + (∑ k : Fin 2048, x0 (ix2 r k) * x1 (ix2 k n)) := by
  unfold out0_3 r0_0 r0_1 r0_2
  rw [View.canon_unit_zero hz]
  simp only [View.ld_unit_zero (S := S1024x1024) hz, View.ld_unit_zero (S := S1024x2048) hz, View.ld_unit_zero (S := S2048x1024) hz]
  pointwise [k0_pay1]

/-- The layer's formula: the residual plus the mixed heads times the output weight. -/
def proj (A : S16384x2048.Idx → EReal) (W : S1x2048x2048.Idx → EReal) (H : S16384x2048.Idx → EReal) (r : Fin 16384) (n : Fin 2048) : EReal :=
  H (ix2 r n) + (∑ k : Fin 2048, A (ix2 r k) * W (ix3 0 k n))

variable (m : (ℓ : Loc nD τ sig) → Buf (Elt Ideal) ℓ)

/-- The arguments of the call. -/
abbrev argA (c : Dev nD) : S16384x2048.Idx → EReal := m ((c : Thread nD τ).loc main_arg0)
abbrev argW (c : Dev nD) : S1x2048x2048.Idx → EReal := m ((c : Thread nD τ).loc main_arg1)
abbrev argH (c : Dev nD) : S16384x2048.Idx → EReal := m ((c : Thread nD τ).loc main_arg2)

/-- The weight as the call gets it. -/
theorem V_w0 (c : Dev nD) : V m c main_v1 = (shapeCast S2048x2048 (argW m c) shapeCasts_S1x2048x2048_S2048x2048 : S2048x2048.Idx → EReal) := by
  dsimp only [V, hostOps0]
  after_results
  rfl

theorem w0_apply (c : Dev nD) (k : Fin 2048) (n : Fin 2048) :
    (V m c main_v1 : S2048x2048.Idx → EReal) (ix2 k n) = argW m c (ix3 0 k n) := by
  rw [V_w0]
  pointwise

/-- Where each point's blocks lie. -/
theorem idx_facts : ∀ t : Fin cfg0.N, win0_0.index t (0 : Fin 2) = t.val / 2 ∧ win0_0.index t (1 : Fin 2) = 0 ∧ win0_1.index t (0 : Fin 2) = 0 ∧ win0_1.index t (1 : Fin 2) = t.val % 2 ∧ win0_2.index t (0 : Fin 2) = t.val / 2 ∧ win0_2.index t (1 : Fin 2) = t.val % 2 ∧ win0_3.index t (0 : Fin 2) = t.val / 2 ∧ win0_3.index t (1 : Fin 2) = t.val % 2 :=
  (by decide +kernel : ∀ t : Fin grid0.N, _)

theorem lt_N (t : Fin cfg0.N) : t.val < 32 := lt_of_lt_of_eq t.isLt N_0

/-- The row and the column of an element of a point's block. -/
abbrev row (t : ℕ) (ht : t < 32) (a : Fin 1024) : Fin 16384 := ⟨t / 2 * 1024 + a.val, by omega⟩
abbrev col (t : ℕ) (n : Fin 1024) : Fin 2048 := ⟨t % 2 * 1024 + n.val, by omega⟩

theorem iblk0_apply (c : Dev nD) (t : Fin cfg0.N) (a : Fin 1024) (k : Fin 2048) :
    (iblk m c 0 t : Vec Ideal S1024x2048 .bf16) (ix2 a k) = argA m c (ix2 (row t.val (lt_N t) a) k) := by
  obtain ⟨e0, e1, -⟩ := idx_facts t
  unfold iblk
  rw [View.read_apply]
  show V m c main_arg0 _ = _
  rw [V_main_arg0]
  show argA m c _ = _
  congr 1
  funext b
  apply Fin.ext
  match b with
  | ⟨0, _⟩ => show win0_0.index t (0 : Fin 2) * 1024 + 1 * a.val = t.val / 2 * 1024 + a.val; rw [e0]; omega
  | ⟨1, _⟩ => show win0_0.index t (1 : Fin 2) * 2048 + 1 * k.val = k.val; rw [e1]; omega

theorem iblk1_apply (c : Dev nD) (t : Fin cfg0.N) (k : Fin 2048) (n : Fin 1024) :
    (iblk m c 1 t : Vec Ideal S2048x1024 .bf16) (ix2 k n) = argW m c (ix3 0 k (col t.val n)) := by
  obtain ⟨-, -, e0, e1, -⟩ := idx_facts t
  rw [← w0_apply]
  unfold iblk
  rw [View.read_apply]
  show V m c main_v1 _ = _
  congr 1
  funext b
  apply Fin.ext
  match b with
  | ⟨0, _⟩ => show win0_1.index t (0 : Fin 2) * 2048 + 1 * k.val = k.val; rw [e0]; omega
  | ⟨1, _⟩ => show win0_1.index t (1 : Fin 2) * 1024 + 1 * n.val = t.val % 2 * 1024 + n.val; rw [e1]; omega

theorem iblk2_apply (c : Dev nD) (t : Fin cfg0.N) (a n : Fin 1024) :
    (iblk m c 2 t : Vec Ideal S1024x1024 .f32) (ix2 a n) = argH m c (ix2 (row t.val (lt_N t) a) (col t.val n)) := by
  obtain ⟨-, -, -, -, e0, e1, -⟩ := idx_facts t
  unfold iblk
  rw [View.read_apply]
  show V m c main_arg2 _ = _
  rw [V_main_arg2]
  show argH m c _ = _
  congr 1
  funext b
  apply Fin.ext
  match b with
  | ⟨0, _⟩ => show win0_2.index t (0 : Fin 2) * 1024 + 1 * a.val = t.val / 2 * 1024 + a.val; rw [e0]; omega
  | ⟨1, _⟩ => show win0_2.index t (1 : Fin 2) * 1024 + 1 * n.val = t.val % 2 * 1024 + n.val; rw [e1]; omega

/-- The result array, as the layer's formula. -/
def G (c : Dev nD) : S16384x2048.Idx → EReal := fun i => proj (argA m c) (argW m c) (argH m c) (i 0) (i 1)

/-- What a grid point writes back is its block of that array. -/
theorem flushed_eq (c : Dev nD) (t : Fin cfg0.N) :
    (dats m 0 c).flushed 3 t = ((cfg0.win 3).blk t).view.read (Elt Ideal) (G m c) := by
  rw [flushed3]
  obtain ⟨-, -, -, -, -, -, e0, e1⟩ := idx_facts t
  funext y
  have hy0 : (y 0).val < 1024 := (y 0).isLt
  have hy1 : (y 1).val < 1024 := (y 1).isLt
  have hl : (cfg0.win 3).xinj (grid0.coords t) y = ix2 (⟨(y 0).val, hy0⟩ : Fin 1024) (⟨(y 1).val, hy1⟩ : Fin 1024) := by
    funext a
    match a with
    | ⟨0, _⟩ => rfl
    | ⟨1, _⟩ => rfl
  have hb : ((cfg0.win 3).blk t).view.emb y = ix2 (row t.val (lt_N t) ⟨(y 0).val, hy0⟩) (col t.val ⟨(y 1).val, hy1⟩) := by
    funext a
    apply Fin.ext
    match a with
    | ⟨0, _⟩ => show win0_3.index t (0 : Fin 2) * 1024 + 1 * (y 0).val = t.val / 2 * 1024 + (y 0).val; rw [e0]; omega
    | ⟨1, _⟩ => show win0_3.index t (1 : Fin 2) * 1024 + 1 * (y 1).val = t.val % 2 * 1024 + (y 1).val; rw [e1]; omega
  show out0_3 (iblk m c 0 t) (iblk m c 1 t) (iblk m c 2 t) ((cfg0.win 3).xinj (grid0.coords t) y)
    = G m c (((cfg0.win 3).blk t).view.emb y)
  rw [hl, hb]
  refine (out_apply _ _ _ _ _).trans ?_
  simp only [iblk0_apply, iblk1_apply, iblk2_apply]
  rfl

/-- Every grid point writes its block back. -/
theorem flush_all : ∀ t : Fin cfg0.N, (cfg0.win 3).flush t = true := (by decide +kernel : ∀ t : Fin grid0.N, _)

/-- The array after the run is the layer's formula. -/
theorem final (c : Dev nD) : (dats m 0 c).arrAt 3 cfg0.N = G m c := by
  refine (dats m 0 c).arrAt_eq_of_cover 3 _ (fun t _ => flushed_eq m c t) fun i => ?_
  have h0 : (i 0).val < 16384 := (i 0).isLt
  have h1 : (i 1).val < 2048 := (i 1).isLt
  let t : Fin cfg0.N := ⟨(i 0).val / 1024 * 2 + (i 1).val / 1024, by rw [show cfg0.N = 32 from N_0]; omega⟩
  have ht : t.val = (i 0).val / 1024 * 2 + (i 1).val / 1024 := rfl
  obtain ⟨-, -, -, -, -, -, e0, e1⟩ := idx_facts t
  refine ⟨t, flush_all t, ?_⟩
  show i ∈ ((View.whole main_v2).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

end Cert.Kernel4Ideal.Out

namespace Cert.Reference4Ideal.Out

open Cert.Reference4Ideal Cert.Reference4Ideal.Gen Cert.Reference4Ideal.Read

variable (A : (⟨S16384x2048, .bf16⟩ : BufTy).Contents (Elt Ideal)) (W : (⟨S1x2048x2048, .f32⟩ : BufTy).Contents (Elt Ideal))
  (H : (⟨S16384x2048, .f32⟩ : BufTy).Contents (Elt Ideal))

/-- The reference's result is the layer's formula. -/
theorem v3_apply (r : Fin 16384) (n : Fin 2048) :
    val_main_v3 (F := Ideal) A W H (ix2 r n) = Cert.Kernel4Ideal.Out.proj A W H r n := by
  unfold val_main_v3 val_main_v2 val_main_v1 val_main_v0 Cert.Kernel4Ideal.Out.proj
  pointwise

end Cert.Reference4Ideal.Out

namespace Cert.OutOddClaim

/-- What the kernel's array ends holding is what its reference computes from the same arguments. -/
theorem G_eq_ref (m : (ℓ : Loc Cert.Kernel4Ideal.nD Cert.Kernel4Ideal.τ Cert.Kernel4Ideal.sig) → Buf (Elt Ideal) ℓ) (c : Dev Cert.Kernel4Ideal.nD) :
    (Cert.Kernel4Ideal.Out.G m c : (⟨⟨2, ![16384, 2048]⟩, .f32⟩ : BufTy).Contents (Elt Ideal))
      = Cert.Reference4Ideal.Read.val_main_v3 (F := Ideal) (Cert.Kernel4Ideal.Out.argA m c) (Cert.Kernel4Ideal.Out.argW m c) (Cert.Kernel4Ideal.Out.argH m c) := by
  funext i
  rw [eq_ix2 i]
  exact (Cert.Reference4Ideal.Out.v3_apply _ _ _ (i 0) (i 1)).symm

/-- The projection and its reference end with equal results over the extended reals. -/
theorem algebraic : Cert.algebraic_Kernel4Ideal_Reference4Ideal (hKernel4Ideal := Cert.Kernel4Ideal.Gen.facts) (hReference4Ideal := Cert.Reference4Ideal.Gen.facts) := by
  intro m g m' g' hpre hagree
  refine ⟨fun c => Cert.Kernel4Ideal.Out.G m c, ?_, ?_⟩
  · exact (θ_run _ _ _).mono (fun r h c => ⟨((h c).1).trans (Cert.Kernel4Ideal.Out.final m c), (h c).2⟩) (Cert.Kernel4Ideal.Value.run_blocks m g)
  refine (θ_run _ _ _).mono (fun r h c => ⟨?_, (h c).2⟩) (Cert.Reference4Ideal.Value.run m' g')
  refine ((h c).1.trans (Cert.Reference4Ideal.Read.val_main_v3_eq ..)).trans ?_
  obtain ⟨h0, h1, h2⟩ := hagree c
  rw [h0, h1, h2]
  exact (G_eq_ref m c).symm

/-- The projection's reference runs, keeps its arguments and leaves every counter at zero. -/
theorem quiescent : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

end Cert.OutOddClaim
-- ==== Proof.ProjIdeal.Pts.lean ====
/-
  The even projection's grid: which of the eight cases a point is in, which windows rest there, and the buffers the body is called with.
-/
module

public import proofs.«01_k».proof.Proof.Gen.Kernel5Ideal.Frame
public import proofs.«01_k».proof.Proof.Gen.Kernel5Ideal.Skeleton
public import Idealize.ShloMosaic.Lib.Pipeline.TableIdle

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's case 0. -/
abbrev cond0 (i : grid0.Coords) : Prop := k0_cond1 i = 1#1

/-- It is the points whose column is 0. -/
theorem cond0_iff (t : Fin cfg0.N) : cond0 (grid0.coords t) ↔ t.val % 8 = 0 := by
  have ht : t.val < 128 := Nat.lt_of_lt_of_eq t.isLt N_0
  have e1 : (grid0.coords t 1).val = t.val / 1 % 8 := Pipeline.Grid.coords_val t 1 (by decide) rfl
  simp only [cond0, k0_cond1, e1]
  word_cmp

/-- The body's case 1. -/
abbrev cond1 (i : grid0.Coords) : Prop := k0_cond2 i = 1#1

/-- It is the points whose column is 1. -/
theorem cond1_iff (t : Fin cfg0.N) : cond1 (grid0.coords t) ↔ t.val % 8 = 1 := by
  have ht : t.val < 128 := Nat.lt_of_lt_of_eq t.isLt N_0
  have e1 : (grid0.coords t 1).val = t.val / 1 % 8 := Pipeline.Grid.coords_val t 1 (by decide) rfl
  simp only [cond1, k0_cond2, e1]
  word_cmp

/-- The body's case 2. -/
abbrev cond2 (i : grid0.Coords) : Prop := k0_cond3 i = 1#1

/-- It is the points whose column is 2. -/
theorem cond2_iff (t : Fin cfg0.N) : cond2 (grid0.coords t) ↔ t.val % 8 = 2 := by
  have ht : t.val < 128 := Nat.lt_of_lt_of_eq t.isLt N_0
  have e1 : (grid0.coords t 1).val = t.val / 1 % 8 := Pipeline.Grid.coords_val t 1 (by decide) rfl
  simp only [cond2, k0_cond3, e1]
  word_cmp

/-- The body's case 3. -/
abbrev cond3 (i : grid0.Coords) : Prop := k0_cond4 i = 1#1

/-- It is the points whose column is 3. -/
theorem cond3_iff (t : Fin cfg0.N) : cond3 (grid0.coords t) ↔ t.val % 8 = 3 := by
  have ht : t.val < 128 := Nat.lt_of_lt_of_eq t.isLt N_0
  have e1 : (grid0.coords t 1).val = t.val / 1 % 8 := Pipeline.Grid.coords_val t 1 (by decide) rfl
  simp only [cond3, k0_cond4, e1]
  word_cmp

/-- The body's case 4. -/
abbrev cond4 (i : grid0.Coords) : Prop := k0_cond5 i = 1#1

/-- It is the points whose column is 4. -/
theorem cond4_iff (t : Fin cfg0.N) : cond4 (grid0.coords t) ↔ t.val % 8 = 4 := by
  have ht : t.val < 128 := Nat.lt_of_lt_of_eq t.isLt N_0
  have e1 : (grid0.coords t 1).val = t.val / 1 % 8 := Pipeline.Grid.coords_val t 1 (by decide) rfl
  simp only [cond4, k0_cond5, e1]
  word_cmp

/-- The body's case 5. -/
abbrev cond5 (i : grid0.Coords) : Prop := k0_cond6 i = 1#1

/-- It is the points whose column is 5. -/
theorem cond5_iff (t : Fin cfg0.N) : cond5 (grid0.coords t) ↔ t.val % 8 = 5 := by
  have ht : t.val < 128 := Nat.lt_of_lt_of_eq t.isLt N_0
  have e1 : (grid0.coords t 1).val = t.val / 1 % 8 := Pipeline.Grid.coords_val t 1 (by decide) rfl
  simp only [cond5, k0_cond6, e1]
  word_cmp

/-- The body's case 6. -/
abbrev cond6 (i : grid0.Coords) : Prop := k0_cond7 i = 1#1

/-- It is the points whose column is 6. -/
theorem cond6_iff (t : Fin cfg0.N) : cond6 (grid0.coords t) ↔ t.val % 8 = 6 := by
  have ht : t.val < 128 := Nat.lt_of_lt_of_eq t.isLt N_0
  have e1 : (grid0.coords t 1).val = t.val / 1 % 8 := Pipeline.Grid.coords_val t 1 (by decide) rfl
  simp only [cond6, k0_cond7, e1]
  word_cmp

/-- The body's case 7. -/
abbrev cond7 (i : grid0.Coords) : Prop := k0_cond8 i = 1#1

/-- It is the points whose column is 7. -/
theorem cond7_iff (t : Fin cfg0.N) : cond7 (grid0.coords t) ↔ t.val % 8 = 7 := by
  have ht : t.val < 128 := Nat.lt_of_lt_of_eq t.isLt N_0
  have e1 : (grid0.coords t 1).val = t.val / 1 % 8 := Pipeline.Grid.coords_val t 1 (by decide) rfl
  simp only [cond7, k0_cond8, e1]
  word_cmp

theorem lt_N (t : Fin cfg0.N) : t.val < 128 := lt_of_lt_of_eq t.isLt N_0

/-- The point of row block `q` and column `j`. -/
def pt (q j : ℕ) : Fin cfg0.N := ⟨(8 * q + j) % 128, by rw [show cfg0.N = 128 from N_0]; omega⟩

theorem pt_val (q j : ℕ) (hq : q < 16) (hj : j < 8) : (pt q j).val = 8 * q + j := by
  show (8 * q + j) % 128 = _; omega

theorem pt_mod (q j : ℕ) (hj : j < 8) : (pt q j).val % 8 = j := by
  show (8 * q + j) % 128 % 8 = _; omega

/-- Every point is one of these. -/
theorem pt_of (t : Fin cfg0.N) (j : ℕ) (h : t.val % 8 = j) : ∃ q, q < 16 ∧ t = pt q j := by
  have ht := lt_N t
  exact ⟨t.val / 8, by omega, Fin.ext (by show t.val = (8 * (t.val / 8) + j) % 128; omega)⟩

/-- Where the two output windows rest, and where they are written back. -/
theorem idle6 : ∀ t : Fin cfg0.N, cfg0.idle 6 (grid0.coords t) = decide (t.val % 8 = 0) := (by decide +kernel : ∀ t : Fin grid0.N, _)
theorem idle7 : ∀ t : Fin cfg0.N, cfg0.idle 7 (grid0.coords t) = !decide (t.val % 8 = 0) := (by decide +kernel : ∀ t : Fin grid0.N, _)
theorem flush6_zero : ∀ t : Fin cfg0.N, t.val % 8 = 0 → (cfg0.win 6).flush t = false := (by decide +kernel : ∀ t : Fin grid0.N, _)
theorem flush6_pos : ∀ t : Fin cfg0.N, t.val % 8 ≠ 0 → (cfg0.win 6).flush t = true := (by decide +kernel : ∀ t : Fin grid0.N, _)
theorem flush7 : ∀ t : Fin cfg0.N, (cfg0.win 7).flush t = decide (t.val % 8 = 7) := (by decide +kernel : ∀ t : Fin grid0.N, _)

/-- The gate window's buffer holds what the body stored, but at a row block's first point. -/
theorem fresh7 (t : Fin cfg0.N) : cfg0.fresh 7 t.val = decide (t.val % 8 = 0) := by
  refine Pipeline.Cfg.fresh_tab cfg0 7 (fun n => decide (n % 8 = 0)) rfl ?_ t.val (Nat.le_of_lt t.isLt)
  intro t
  rw [flush7 t]
  show decide ((t.val + 1) % 8 = 0) = (decide (t.val % 8 = 7) || (cfg0.idle 7 (grid0.coords t) && decide (t.val % 8 = 0)))
  rw [idle7 t]
  by_cases h : t.val % 8 = 7
  · simp [h, show (t.val + 1) % 8 = 0 by omega]
  · by_cases h0 : t.val % 8 = 0
    · simp [h0, show (t.val + 1) % 8 = 1 by omega]
    · simp [h, h0, show ¬ (t.val + 1) % 8 = 0 by omega]

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3x1024x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)

abbrev sc0 : Memref sig .tc .vmem S1024x2048 .bf16 := Memref.whole cc0_scratch0
abbrev sc1 : Memref sig .tc .vmem S1024x1024 .f32 := Memref.whole cc0_scratch1
abbrev sc2 : Memref sig .tc .vmem S1024x1024 .f32 := Memref.whole cc0_scratch2
abbrev sc3 : Memref sig .tc .vmem S1024x1024 .f32 := Memref.whole cc0_scratch3

/-- The region's own buffers, each at some contents, and the generator's register. -/
theorem anything_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA
  rw [scopedRest0_eq]
  simp only [sc0, sc1, sc2, sc3, owns_whole]
  rfl

/-- The body is its skeleton. -/
theorem body_skeleton : cc0_norm_proj (F := F) = cc0_norm_proj_skel (F := F) := by
  simp only [cc0_norm_proj_eq_skeleton]

end Cert.Kernel5Ideal.Proj
-- ==== Proof.ProjIdeal.Run0.lean ====
/-
  The even projection's body in case 0: it normalises the block of rows, multiplies it by the gate weight and by the first column block.
-/
module

public import proofs.«01_k».proof.Proof.ProjIdeal.Pts

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 0, where it normalises the block of rows, multiplies it by the gate weight and by the first column block: the pieces each of its stores leaves in a buffer, with the
    proof that the body runs to them from its operands and keeps the rest as it was. -/
def run0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (hc0 : cond0 i) (hc1 : ¬cond1 i) (hc2 : ¬cond2 i) (hc3 : ¬cond3 i) (hc4 : ¬cond4 i) (hc5 : ¬cond5 i) (hc6 : ¬cond6 i) (hc7 : ¬cond7 i)
    (x0 : Vec F S1024x2048 .f32) (x1 : Vec F S1x2048 .f32) (x2 : Vec F S2048x1024 .bf16) (x3 : Vec F S2048x128 .bf16) (x4 : Vec F S8x128 .f32) (x5 : Vec F S3x1024x128 .f32) :
    Σ' (G : List (View.Piece (Elt F) S1024x128 .f32)), Σ' (X : List (View.Piece (Elt F) S1024x2048 .bf16)), { N : List (View.Piece (Elt F) S1024x1024 .f32) //
      ∀ (xi6 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f G) ∗ (∃ f, arg10.view.loc (c : Thread nD τ) ↦[arg10.view.set]{fullShare} arg10.view.writes (Elt F) f X) ∗ (∃ f, arg11.view.loc (c : Thread nD τ) ↦[arg11.view.set]{fullShare} arg11.view.writes (Elt F) f N) ∗ (∃ d, owns (c : Thread nD τ) arg12 fullShare d) ∗ (∃ d, owns (c : Thread nD τ) arg13 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K } := by
  refine ⟨?_, ?_, ?_, fun xi6 E K => ?run⟩
  case run =>
    rw [body_skeleton]
    unfold cc0_norm_proj_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc0 | sl_exact hc1 | sl_exact hc2 | sl_exact hc3 | sl_exact hc4 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    isplitl [H12]
    · iexists _; iexists _; isplitr; swap; · iexact H12
      ipureintro; rfl
    iexists _; iexists _; isplitr; swap; · iexact H13
    ipureintro; rfl

end Cert.Kernel5Ideal.Proj
-- ==== Proof.ProjIdeal.Run1.lean ====
/-
  The even projection's body in case 1: it writes column block 0 out and multiplies the rows by column block 1.
-/
module

public import proofs.«01_k».proof.Proof.ProjIdeal.Run0

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 1, where it writes column block 0 out and multiplies the rows by column block 1: the pieces each of its stores leaves in a buffer, with the
    proof that the body runs to them from its operands and keeps the rest as it was. -/
def run1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (hc0 : ¬cond0 i) (hc1 : cond1 i) (hc2 : ¬cond2 i) (hc3 : ¬cond3 i) (hc4 : ¬cond4 i) (hc5 : ¬cond5 i) (hc6 : ¬cond6 i) (hc7 : ¬cond7 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (L : List (View.Piece (Elt F) S1024x1024 .bf16)), { N : List (View.Piece (Elt F) S1024x1024 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xn ∗ owns (c : Thread nD τ) arg11 fullShare a ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xn ∗ (∃ d, owns (c : Thread nD τ) arg11 fullShare d) ∗ (∃ f, arg12.view.loc (c : Thread nD τ) ↦[arg12.view.set]{fullShare} arg12.view.writes (Elt F) f N) ∗ (∃ d, owns (c : Thread nD τ) arg13 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K } := by
  refine ⟨?_, ?_, fun xi7 E K => ?run⟩
  case run =>
    rw [body_skeleton]
    unfold cc0_norm_proj_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11
    sl_exec (disch := first | sl_exact hc0 | sl_exact hc1 | sl_exact hc2 | sl_exact hc3 | sl_exact hc4 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; iexists _; isplitr; swap; · iexact H11
      ipureintro; rfl
    isplitl [H12]
    · iexists _; iexact H12
    iexists _; iexists _; isplitr; swap; · iexact H13
    ipureintro; rfl

end Cert.Kernel5Ideal.Proj
-- ==== Proof.ProjIdeal.Run2.lean ====
/-
  The even projection's body in case 2: it writes column block 1 out and multiplies the rows by column block 2.
-/
module

public import proofs.«01_k».proof.Proof.ProjIdeal.Run1

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 2, where it writes column block 1 out and multiplies the rows by column block 2: the pieces each of its stores leaves in a buffer, with the
    proof that the body runs to them from its operands and keeps the rest as it was. -/
def run2 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (hc0 : ¬cond0 i) (hc1 : ¬cond1 i) (hc2 : cond2 i) (hc3 : ¬cond3 i) (hc4 : ¬cond4 i) (hc5 : ¬cond5 i) (hc6 : ¬cond6 i) (hc7 : ¬cond7 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (L : List (View.Piece (Elt F) S1024x1024 .bf16)), { N : List (View.Piece (Elt F) S1024x1024 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xn ∗ (∃ d, owns (c : Thread nD τ) arg11 fullShare d) ∗ owns (c : Thread nD τ) arg12 fullShare a ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xn ∗ (∃ f, arg11.view.loc (c : Thread nD τ) ↦[arg11.view.set]{fullShare} arg11.view.writes (Elt F) f N) ∗ (∃ d, owns (c : Thread nD τ) arg12 fullShare d) ∗ (∃ d, owns (c : Thread nD τ) arg13 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K } := by
  refine ⟨?_, ?_, fun xi7 E K => ?run⟩
  case run =>
    rw [body_skeleton]
    unfold cc0_norm_proj_skel
    simp only [k0_part9_eq_skeleton, k0_part10_eq_skeleton, k0_part11_eq_skeleton, k0_part12_eq_skeleton, k0_part13_eq_skeleton, k0_part14_eq_skeleton, k0_part15_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%f12, %hf12, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg12.eq_unread hf12
    sl_exec (disch := first | sl_exact hc0 | sl_exact hc1 | sl_exact hc2 | sl_exact hc3 | sl_exact hc4 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexists _; isplitr; swap; · iexact H12
      ipureintro; rfl
    iexists _; iexists _; isplitr; swap; · iexact H13
    ipureintro; rfl

end Cert.Kernel5Ideal.Proj
-- ==== Proof.ProjIdeal.Run3.lean ====
/-
  The even projection's body in case 3: it writes column block 2 out and multiplies the rows by column block 3.
-/
module

public import proofs.«01_k».proof.Proof.ProjIdeal.Run2

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 3, where it writes column block 2 out and multiplies the rows by column block 3: the pieces each of its stores leaves in a buffer, with the
    proof that the body runs to them from its operands and keeps the rest as it was. -/
def run3 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (hc0 : ¬cond0 i) (hc1 : ¬cond1 i) (hc2 : ¬cond2 i) (hc3 : cond3 i) (hc4 : ¬cond4 i) (hc5 : ¬cond5 i) (hc6 : ¬cond6 i) (hc7 : ¬cond7 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (L : List (View.Piece (Elt F) S1024x1024 .bf16)), { N : List (View.Piece (Elt F) S1024x1024 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xn ∗ owns (c : Thread nD τ) arg11 fullShare a ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xn ∗ (∃ d, owns (c : Thread nD τ) arg11 fullShare d) ∗ (∃ f, arg12.view.loc (c : Thread nD τ) ↦[arg12.view.set]{fullShare} arg12.view.writes (Elt F) f N) ∗ (∃ d, owns (c : Thread nD τ) arg13 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K } := by
  refine ⟨?_, ?_, fun xi7 E K => ?run⟩
  case run =>
    rw [body_skeleton]
    unfold cc0_norm_proj_skel
    simp only [k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11
    sl_exec (disch := first | sl_exact hc0 | sl_exact hc1 | sl_exact hc2 | sl_exact hc3 | sl_exact hc4 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; iexists _; isplitr; swap; · iexact H11
      ipureintro; rfl
    isplitl [H12]
    · iexists _; iexact H12
    iexists _; iexists _; isplitr; swap; · iexact H13
    ipureintro; rfl

end Cert.Kernel5Ideal.Proj
-- ==== Proof.ProjIdeal.Run4.lean ====
/-
  The even projection's body in case 4: it writes column block 3 out and multiplies the rows by column block 4.
-/
module

public import proofs.«01_k».proof.Proof.ProjIdeal.Run3

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 4, where it writes column block 3 out and multiplies the rows by column block 4: the pieces each of its stores leaves in a buffer, with the
    proof that the body runs to them from its operands and keeps the rest as it was. -/
def run4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (hc0 : ¬cond0 i) (hc1 : ¬cond1 i) (hc2 : ¬cond2 i) (hc3 : ¬cond3 i) (hc4 : cond4 i) (hc5 : ¬cond5 i) (hc6 : ¬cond6 i) (hc7 : ¬cond7 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (L : List (View.Piece (Elt F) S1024x1024 .bf16)), { N : List (View.Piece (Elt F) S1024x1024 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xn ∗ (∃ d, owns (c : Thread nD τ) arg11 fullShare d) ∗ owns (c : Thread nD τ) arg12 fullShare a ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xn ∗ (∃ f, arg11.view.loc (c : Thread nD τ) ↦[arg11.view.set]{fullShare} arg11.view.writes (Elt F) f N) ∗ (∃ d, owns (c : Thread nD τ) arg12 fullShare d) ∗ (∃ d, owns (c : Thread nD τ) arg13 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K } := by
  refine ⟨?_, ?_, fun xi7 E K => ?run⟩
  case run =>
    rw [body_skeleton]
    unfold cc0_norm_proj_skel
    simp only [k0_part17_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%f12, %hf12, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg12.eq_unread hf12
    sl_exec (disch := first | sl_exact hc0 | sl_exact hc1 | sl_exact hc2 | sl_exact hc3 | sl_exact hc4 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexists _; isplitr; swap; · iexact H12
      ipureintro; rfl
    iexists _; iexists _; isplitr; swap; · iexact H13
    ipureintro; rfl

end Cert.Kernel5Ideal.Proj
-- ==== Proof.ProjIdeal.Run5.lean ====
/-
  The even projection's body in case 5: it writes column block 4 out and multiplies the rows by column block 5.
-/
module

public import proofs.«01_k».proof.Proof.ProjIdeal.Run4

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 5, where it writes column block 4 out and multiplies the rows by column block 5: the pieces each of its stores leaves in a buffer, with the
    proof that the body runs to them from its operands and keeps the rest as it was. -/
def run5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (hc0 : ¬cond0 i) (hc1 : ¬cond1 i) (hc2 : ¬cond2 i) (hc3 : ¬cond3 i) (hc4 : ¬cond4 i) (hc5 : cond5 i) (hc6 : ¬cond6 i) (hc7 : ¬cond7 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (L : List (View.Piece (Elt F) S1024x1024 .bf16)), { N : List (View.Piece (Elt F) S1024x1024 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xn ∗ owns (c : Thread nD τ) arg11 fullShare a ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xn ∗ (∃ d, owns (c : Thread nD τ) arg11 fullShare d) ∗ (∃ f, arg12.view.loc (c : Thread nD τ) ↦[arg12.view.set]{fullShare} arg12.view.writes (Elt F) f N) ∗ (∃ d, owns (c : Thread nD τ) arg13 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K } := by
  refine ⟨?_, ?_, fun xi7 E K => ?run⟩
  case run =>
    rw [body_skeleton]
    unfold cc0_norm_proj_skel
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11
    sl_exec (disch := first | sl_exact hc0 | sl_exact hc1 | sl_exact hc2 | sl_exact hc3 | sl_exact hc4 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; iexists _; isplitr; swap; · iexact H11
      ipureintro; rfl
    isplitl [H12]
    · iexists _; iexact H12
    iexists _; iexists _; isplitr; swap; · iexact H13
    ipureintro; rfl

end Cert.Kernel5Ideal.Proj
-- ==== Proof.ProjIdeal.Run6.lean ====
/-
  The even projection's body in case 6: it writes column block 5 out and multiplies the rows by column block 6.
-/
module

public import proofs.«01_k».proof.Proof.ProjIdeal.Run5

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 6, where it writes column block 5 out and multiplies the rows by column block 6: the pieces each of its stores leaves in a buffer, with the
    proof that the body runs to them from its operands and keeps the rest as it was. -/
def run6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (hc0 : ¬cond0 i) (hc1 : ¬cond1 i) (hc2 : ¬cond2 i) (hc3 : ¬cond3 i) (hc4 : ¬cond4 i) (hc5 : ¬cond5 i) (hc6 : cond6 i) (hc7 : ¬cond7 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (L : List (View.Piece (Elt F) S1024x1024 .bf16)), { N : List (View.Piece (Elt F) S1024x1024 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xn ∗ (∃ d, owns (c : Thread nD τ) arg11 fullShare d) ∗ owns (c : Thread nD τ) arg12 fullShare a ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xn ∗ (∃ f, arg11.view.loc (c : Thread nD τ) ↦[arg11.view.set]{fullShare} arg11.view.writes (Elt F) f N) ∗ (∃ d, owns (c : Thread nD τ) arg12 fullShare d) ∗ (∃ d, owns (c : Thread nD τ) arg13 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K } := by
  refine ⟨?_, ?_, fun xi7 E K => ?run⟩
  case run =>
    rw [body_skeleton]
    unfold cc0_norm_proj_skel
    simp only [k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%f12, %hf12, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg12.eq_unread hf12
    sl_exec (disch := first | sl_exact hc0 | sl_exact hc1 | sl_exact hc2 | sl_exact hc3 | sl_exact hc4 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexists _; isplitr; swap; · iexact H12
      ipureintro; rfl
    iexists _; iexists _; isplitr; swap; · iexact H13
    ipureintro; rfl

end Cert.Kernel5Ideal.Proj
-- ==== Proof.ProjIdeal.Run7.lean ====
/-
  The even projection's body in case 7: it writes the last column block out.
-/
module

public import proofs.«01_k».proof.Proof.ProjIdeal.Run6

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 7, where it writes the last column block out: the pieces each of its stores leaves in a buffer, with the
    proof that the body runs to them from its operands and keeps the rest as it was. -/
def run7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (hc0 : ¬cond0 i) (hc1 : ¬cond1 i) (hc2 : ¬cond2 i) (hc3 : ¬cond3 i) (hc4 : ¬cond4 i) (hc5 : ¬cond5 i) (hc6 : ¬cond6 i) (hc7 : cond7 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (a : Vec F S1024x1024 .f32) :
    { L : List (View.Piece (Elt F) S1024x1024 .bf16) //
      ∀ (xi7 : Vec F S1024x128 .f32) (xn : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xn ∗ owns (c : Thread nD τ) arg11 fullShare a ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xn ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K } := by
  refine ⟨?_, fun xi7 xn E K => ?run⟩
  case run =>
    rw [body_skeleton]
    unfold cc0_norm_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11
    sl_exec (disch := first | sl_exact hc0 | sl_exact hc1 | sl_exact hc2 | sl_exact hc3 | sl_exact hc4 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

end Cert.Kernel5Ideal.Proj
-- ==== Proof.ProjIdeal.Frame.lean ====
/-
  What the even projection's buffers hold point by point, the body at every point, and the run of the whole launch.
-/
module

public import proofs.«01_k».proof.Proof.ProjIdeal.Run7
public import Idealize.ShloMosaic.Lib.Claim

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Case 0 at a point of the grid. -/
abbrev r0 (c : Dev nD) (t : Fin cfg0.N) (h : t.val % 8 = 0) :=
  run0 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _)
    ((cond0_iff t).mpr h) (fun e => by have := (cond1_iff t).mp e; omega) (fun e => by have := (cond2_iff t).mp e; omega) (fun e => by have := (cond3_iff t).mp e; omega) (fun e => by have := (cond4_iff t).mp e; omega) (fun e => by have := (cond5_iff t).mp e; omega) (fun e => by have := (cond6_iff t).mp e; omega) (fun e => by have := (cond7_iff t).mp e; omega)
    (iblk m c 0 t) (iblk m c 1 t) (iblk m c 2 t) (iblk m c 3 t) (iblk m c 4 t) (iblk m c 5 t)

theorem cover0_og (c : Dev nD) (t : Fin cfg0.N) (h : t.val % 8 = 0) (y : S1024x128.Idx) :
    ∃ pc ∈ (r0 m c t h).1, y ∈ pc.1.set :=
  View.cover_of_tiledL (r0 m c t h).1 S1024x128.size (by sl_kernel_rfl) y

theorem cover0_xn (c : Dev nD) (t : Fin cfg0.N) (h : t.val % 8 = 0) (y : S1024x2048.Idx) :
    ∃ pc ∈ (r0 m c t h).2.1, y ∈ pc.1.set :=
  View.cover_of_tiledL (r0 m c t h).2.1 S1024x2048.size (by sl_kernel_rfl) y

theorem cover0_acc (c : Dev nD) (t : Fin cfg0.N) (h : t.val % 8 = 0) (y : S1024x1024.Idx) :
    ∃ pc ∈ (r0 m c t h).2.2.val, y ∈ pc.1.set :=
  View.cover_of_tiledL (r0 m c t h).2.2.val S1024x256.size (by sl_kernel_rfl) y

/-- Case 1 at a point of the grid. -/
abbrev r1 (c : Dev nD) (t : Fin cfg0.N) (h : t.val % 8 = 1) (xn : Vec F S1024x2048 .bf16) (a : Vec F S1024x1024 .f32) :=
  run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _)
    (fun e => by have := (cond0_iff t).mp e; omega) ((cond1_iff t).mpr h) (fun e => by have := (cond2_iff t).mp e; omega) (fun e => by have := (cond3_iff t).mp e; omega) (fun e => by have := (cond4_iff t).mp e; omega) (fun e => by have := (cond5_iff t).mp e; omega) (fun e => by have := (cond6_iff t).mp e; omega) (fun e => by have := (cond7_iff t).mp e; omega)
    (iblk m c 0 t) (iblk m c 1 t) (iblk m c 2 t) (iblk m c 3 t) (iblk m c 4 t) (iblk m c 5 t) xn a

theorem cover1_o (c : Dev nD) (t : Fin cfg0.N) (h : t.val % 8 = 1) (xn : Vec F S1024x2048 .bf16) (a : Vec F S1024x1024 .f32) (y : S1024x1024.Idx) :
    ∃ pc ∈ (r1 m c t h xn a).1, y ∈ pc.1.set :=
  View.cover_of_tiledL (r1 m c t h xn a).1 S1024x128.size (by sl_kernel_rfl) y

theorem cover1_acc (c : Dev nD) (t : Fin cfg0.N) (h : t.val % 8 = 1) (xn : Vec F S1024x2048 .bf16) (a : Vec F S1024x1024 .f32) (y : S1024x1024.Idx) :
    ∃ pc ∈ (r1 m c t h xn a).2.val, y ∈ pc.1.set :=
  View.cover_of_tiledL (r1 m c t h xn a).2.val S1024x256.size (by sl_kernel_rfl) y

/-- Case 2 at a point of the grid. -/
abbrev r2 (c : Dev nD) (t : Fin cfg0.N) (h : t.val % 8 = 2) (xn : Vec F S1024x2048 .bf16) (a : Vec F S1024x1024 .f32) :=
  run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) ((cond2_iff t).mpr h) (fun e => by have := (cond3_iff t).mp e; omega) (fun e => by have := (cond4_iff t).mp e; omega) (fun e => by have := (cond5_iff t).mp e; omega) (fun e => by have := (cond6_iff t).mp e; omega) (fun e => by have := (cond7_iff t).mp e; omega)
    (iblk m c 0 t) (iblk m c 1 t) (iblk m c 2 t) (iblk m c 3 t) (iblk m c 4 t) (iblk m c 5 t) xn a

theorem cover2_o (c : Dev nD) (t : Fin cfg0.N) (h : t.val % 8 = 2) (xn : Vec F S1024x2048 .bf16) (a : Vec F S1024x1024 .f32) (y : S1024x1024.Idx) :
    ∃ pc ∈ (r2 m c t h xn a).1, y ∈ pc.1.set :=
  View.cover_of_tiledL (r2 m c t h xn a).1 S1024x128.size (by sl_kernel_rfl) y

theorem cover2_acc (c : Dev nD) (t : Fin cfg0.N) (h : t.val % 8 = 2) (xn : Vec F S1024x2048 .bf16) (a : Vec F S1024x1024 .f32) (y : S1024x1024.Idx) :
    ∃ pc ∈ (r2 m c t h xn a).2.val, y ∈ pc.1.set :=
  View.cover_of_tiledL (r2 m c t h xn a).2.val S1024x256.size (by sl_kernel_rfl) y

/-- Case 3 at a point of the grid. -/
abbrev r3 (c : Dev nD) (t : Fin cfg0.N) (h : t.val % 8 = 3) (xn : Vec F S1024x2048 .bf16) (a : Vec F S1024x1024 .f32) :=
  run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) (fun e => by have := (cond2_iff t).mp e; omega) ((cond3_iff t).mpr h) (fun e => by have := (cond4_iff t).mp e; omega) (fun e => by have := (cond5_iff t).mp e; omega) (fun e => by have := (cond6_iff t).mp e; omega) (fun e => by have := (cond7_iff t).mp e; omega)
    (iblk m c 0 t) (iblk m c 1 t) (iblk m c 2 t) (iblk m c 3 t) (iblk m c 4 t) (iblk m c 5 t) xn a

theorem cover3_o (c : Dev nD) (t : Fin cfg0.N) (h : t.val % 8 = 3) (xn : Vec F S1024x2048 .bf16) (a : Vec F S1024x1024 .f32) (y : S1024x1024.Idx) :
    ∃ pc ∈ (r3 m c t h xn a).1, y ∈ pc.1.set :=
  View.cover_of_tiledL (r3 m c t h xn a).1 S1024x1024.size (by sl_kernel_rfl) y

theorem cover3_acc (c : Dev nD) (t : Fin cfg0.N) (h : t.val % 8 = 3) (xn : Vec F S1024x2048 .bf16) (a : Vec F S1024x1024 .f32) (y : S1024x1024.Idx) :
    ∃ pc ∈ (r3 m c t h xn a).2.val, y ∈ pc.1.set :=
  View.cover_of_tiledL (r3 m c t h xn a).2.val S1024x256.size (by sl_kernel_rfl) y

/-- Case 4 at a point of the grid. -/
abbrev r4 (c : Dev nD) (t : Fin cfg0.N) (h : t.val % 8 = 4) (xn : Vec F S1024x2048 .bf16) (a : Vec F S1024x1024 .f32) :=
  run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) (fun e => by have := (cond2_iff t).mp e; omega) (fun e => by have := (cond3_iff t).mp e; omega) ((cond4_iff t).mpr h) (fun e => by have := (cond5_iff t).mp e; omega) (fun e => by have := (cond6_iff t).mp e; omega) (fun e => by have := (cond7_iff t).mp e; omega)
    (iblk m c 0 t) (iblk m c 1 t) (iblk m c 2 t) (iblk m c 3 t) (iblk m c 4 t) (iblk m c 5 t) xn a

theorem cover4_o (c : Dev nD) (t : Fin cfg0.N) (h : t.val % 8 = 4) (xn : Vec F S1024x2048 .bf16) (a : Vec F S1024x1024 .f32) (y : S1024x1024.Idx) :
    ∃ pc ∈ (r4 m c t h xn a).1, y ∈ pc.1.set :=
  View.cover_of_tiledL (r4 m c t h xn a).1 S1024x1024.size (by sl_kernel_rfl) y

theorem cover4_acc (c : Dev nD) (t : Fin cfg0.N) (h : t.val % 8 = 4) (xn : Vec F S1024x2048 .bf16) (a : Vec F S1024x1024 .f32) (y : S1024x1024.Idx) :
    ∃ pc ∈ (r4 m c t h xn a).2.val, y ∈ pc.1.set :=
  View.cover_of_tiledL (r4 m c t h xn a).2.val S1024x256.size (by sl_kernel_rfl) y

/-- Case 5 at a point of the grid. -/
abbrev r5 (c : Dev nD) (t : Fin cfg0.N) (h : t.val % 8 = 5) (xn : Vec F S1024x2048 .bf16) (a : Vec F S1024x1024 .f32) :=
  run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) (fun e => by have := (cond2_iff t).mp e; omega) (fun e => by have := (cond3_iff t).mp e; omega) (fun e => by have := (cond4_iff t).mp e; omega) ((cond5_iff t).mpr h) (fun e => by have := (cond6_iff t).mp e; omega) (fun e => by have := (cond7_iff t).mp e; omega)
    (iblk m c 0 t) (iblk m c 1 t) (iblk m c 2 t) (iblk m c 3 t) (iblk m c 4 t) (iblk m c 5 t) xn a

theorem cover5_o (c : Dev nD) (t : Fin cfg0.N) (h : t.val % 8 = 5) (xn : Vec F S1024x2048 .bf16) (a : Vec F S1024x1024 .f32) (y : S1024x1024.Idx) :
    ∃ pc ∈ (r5 m c t h xn a).1, y ∈ pc.1.set :=
  View.cover_of_tiledL (r5 m c t h xn a).1 S1024x128.size (by sl_kernel_rfl) y

theorem cover5_acc (c : Dev nD) (t : Fin cfg0.N) (h : t.val % 8 = 5) (xn : Vec F S1024x2048 .bf16) (a : Vec F S1024x1024 .f32) (y : S1024x1024.Idx) :
    ∃ pc ∈ (r5 m c t h xn a).2.val, y ∈ pc.1.set :=
  View.cover_of_tiledL (r5 m c t h xn a).2.val S1024x256.size (by sl_kernel_rfl) y

/-- Case 6 at a point of the grid. -/
abbrev r6 (c : Dev nD) (t : Fin cfg0.N) (h : t.val % 8 = 6) (xn : Vec F S1024x2048 .bf16) (a : Vec F S1024x1024 .f32) :=
  run6 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) (fun e => by have := (cond2_iff t).mp e; omega) (fun e => by have := (cond3_iff t).mp e; omega) (fun e => by have := (cond4_iff t).mp e; omega) (fun e => by have := (cond5_iff t).mp e; omega) ((cond6_iff t).mpr h) (fun e => by have := (cond7_iff t).mp e; omega)
    (iblk m c 0 t) (iblk m c 1 t) (iblk m c 2 t) (iblk m c 3 t) (iblk m c 4 t) (iblk m c 5 t) xn a

theorem cover6_o (c : Dev nD) (t : Fin cfg0.N) (h : t.val % 8 = 6) (xn : Vec F S1024x2048 .bf16) (a : Vec F S1024x1024 .f32) (y : S1024x1024.Idx) :
    ∃ pc ∈ (r6 m c t h xn a).1, y ∈ pc.1.set :=
  View.cover_of_tiledL (r6 m c t h xn a).1 S1024x128.size (by sl_kernel_rfl) y

theorem cover6_acc (c : Dev nD) (t : Fin cfg0.N) (h : t.val % 8 = 6) (xn : Vec F S1024x2048 .bf16) (a : Vec F S1024x1024 .f32) (y : S1024x1024.Idx) :
    ∃ pc ∈ (r6 m c t h xn a).2.val, y ∈ pc.1.set :=
  View.cover_of_tiledL (r6 m c t h xn a).2.val S1024x256.size (by sl_kernel_rfl) y

/-- Case 7 at a point of the grid. -/
abbrev r7 (c : Dev nD) (t : Fin cfg0.N) (h : t.val % 8 = 7) (a : Vec F S1024x1024 .f32) :=
  run7 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) (fun e => by have := (cond2_iff t).mp e; omega) (fun e => by have := (cond3_iff t).mp e; omega) (fun e => by have := (cond4_iff t).mp e; omega) (fun e => by have := (cond5_iff t).mp e; omega) (fun e => by have := (cond6_iff t).mp e; omega) ((cond7_iff t).mpr h)
    (iblk m c 0 t) (iblk m c 1 t) (iblk m c 2 t) (iblk m c 3 t) (iblk m c 4 t) (iblk m c 5 t) a

theorem cover7_o (c : Dev nD) (t : Fin cfg0.N) (h : t.val % 8 = 7) (a : Vec F S1024x1024 .f32) (y : S1024x1024.Idx) :
    ∃ pc ∈ (r7 m c t h a).val, y ∈ pc.1.set :=
  View.cover_of_tiledL (r7 m c t h a).val S1024x1024.size (by sl_kernel_rfl) y

/-- The gate logits of row block `q`, its normalised rows, and its product with each column block. -/
def gateOf (c : Dev nD) (q : ℕ) : Vec F S1024x128 .f32 := View.canon (r0 m c (pt q 0) (pt_mod q 0 (by decide))).1
def rowsOf (c : Dev nD) (q : ℕ) : Vec F S1024x2048 .bf16 := View.canon (r0 m c (pt q 0) (pt_mod q 0 (by decide))).2.1
def acc0 (c : Dev nD) (q : ℕ) : Vec F S1024x1024 .f32 := View.canon (r0 m c (pt q 0) (pt_mod q 0 (by decide))).2.2.val
def acc1 (c : Dev nD) (q : ℕ) : Vec F S1024x1024 .f32 := View.canon (r1 m c (pt q 1) (pt_mod q 1 (by decide)) (rowsOf m c q) (acc0 m c q)).2.val
def acc2 (c : Dev nD) (q : ℕ) : Vec F S1024x1024 .f32 := View.canon (r2 m c (pt q 2) (pt_mod q 2 (by decide)) (rowsOf m c q) (acc1 m c q)).2.val
def acc3 (c : Dev nD) (q : ℕ) : Vec F S1024x1024 .f32 := View.canon (r3 m c (pt q 3) (pt_mod q 3 (by decide)) (rowsOf m c q) (acc2 m c q)).2.val
def acc4 (c : Dev nD) (q : ℕ) : Vec F S1024x1024 .f32 := View.canon (r4 m c (pt q 4) (pt_mod q 4 (by decide)) (rowsOf m c q) (acc3 m c q)).2.val
def acc5 (c : Dev nD) (q : ℕ) : Vec F S1024x1024 .f32 := View.canon (r5 m c (pt q 5) (pt_mod q 5 (by decide)) (rowsOf m c q) (acc4 m c q)).2.val
def acc6 (c : Dev nD) (q : ℕ) : Vec F S1024x1024 .f32 := View.canon (r6 m c (pt q 6) (pt_mod q 6 (by decide)) (rowsOf m c q) (acc5 m c q)).2.val

/-- What is written out at each point of row block `q`: the finished column block before it. -/
def outOf (c : Dev nD) (q : ℕ) : ℕ → Vec F S1024x1024 .bf16
  | 1 => View.canon (r1 m c (pt q 1) (pt_mod q 1 (by decide)) (rowsOf m c q) (acc0 m c q)).1
  | 2 => View.canon (r2 m c (pt q 2) (pt_mod q 2 (by decide)) (rowsOf m c q) (acc1 m c q)).1
  | 3 => View.canon (r3 m c (pt q 3) (pt_mod q 3 (by decide)) (rowsOf m c q) (acc2 m c q)).1
  | 4 => View.canon (r4 m c (pt q 4) (pt_mod q 4 (by decide)) (rowsOf m c q) (acc3 m c q)).1
  | 5 => View.canon (r5 m c (pt q 5) (pt_mod q 5 (by decide)) (rowsOf m c q) (acc4 m c q)).1
  | 6 => View.canon (r6 m c (pt q 6) (pt_mod q 6 (by decide)) (rowsOf m c q) (acc5 m c q)).1
  | _ => View.canon (r7 m c (pt q 7) (pt_mod q 7 (by decide)) (acc6 m c q)).val

/-- What is held before point `j` of row block `q`: at a row block's start anything; later the normalised rows and the
    column block to be written next. -/
def held (c : Dev nD) (q : ℕ) : ℕ → sProp 𝕄
  | 1 => iprop(iprop(owns (c : Thread nD τ) sc0 fullShare (rowsOf m c q) ∗ owns (c : Thread nD τ) sc1 fullShare (acc0 m c q) ∗ (∃ d, owns (c : Thread nD τ) sc2 fullShare d) ∗ (∃ d, owns (c : Thread nD τ) sc3 fullShare d)) ∗ (∃ r, prngReg c r))
  | 2 => iprop(iprop(owns (c : Thread nD τ) sc0 fullShare (rowsOf m c q) ∗ (∃ d, owns (c : Thread nD τ) sc1 fullShare d) ∗ owns (c : Thread nD τ) sc2 fullShare (acc1 m c q) ∗ (∃ d, owns (c : Thread nD τ) sc3 fullShare d)) ∗ (∃ r, prngReg c r))
  | 3 => iprop(iprop(owns (c : Thread nD τ) sc0 fullShare (rowsOf m c q) ∗ owns (c : Thread nD τ) sc1 fullShare (acc2 m c q) ∗ (∃ d, owns (c : Thread nD τ) sc2 fullShare d) ∗ (∃ d, owns (c : Thread nD τ) sc3 fullShare d)) ∗ (∃ r, prngReg c r))
  | 4 => iprop(iprop(owns (c : Thread nD τ) sc0 fullShare (rowsOf m c q) ∗ (∃ d, owns (c : Thread nD τ) sc1 fullShare d) ∗ owns (c : Thread nD τ) sc2 fullShare (acc3 m c q) ∗ (∃ d, owns (c : Thread nD τ) sc3 fullShare d)) ∗ (∃ r, prngReg c r))
  | 5 => iprop(iprop(owns (c : Thread nD τ) sc0 fullShare (rowsOf m c q) ∗ owns (c : Thread nD τ) sc1 fullShare (acc4 m c q) ∗ (∃ d, owns (c : Thread nD τ) sc2 fullShare d) ∗ (∃ d, owns (c : Thread nD τ) sc3 fullShare d)) ∗ (∃ r, prngReg c r))
  | 6 => iprop(iprop(owns (c : Thread nD τ) sc0 fullShare (rowsOf m c q) ∗ (∃ d, owns (c : Thread nD τ) sc1 fullShare d) ∗ owns (c : Thread nD τ) sc2 fullShare (acc5 m c q) ∗ (∃ d, owns (c : Thread nD τ) sc3 fullShare d)) ∗ (∃ r, prngReg c r))
  | 7 => iprop(iprop(owns (c : Thread nD τ) sc0 fullShare (rowsOf m c q) ∗ owns (c : Thread nD τ) sc1 fullShare (acc6 m c q) ∗ (∃ d, owns (c : Thread nD τ) sc2 fullShare d) ∗ (∃ d, owns (c : Thread nD τ) sc3 fullShare d)) ∗ (∃ r, prngReg c r))
  | _ => Pipeline.ΦA spec0 c

/-! ## The proof data -/

/-- The arrays as the region finds them; after a point each input's buffer at its block, the outputs' at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outOf m c (t.val / 8) (t.val % 8)
    | ⟨7, _⟩ => gateOf m c (t.val / 8)
  Φ t := held m c (t.val / 8) (t.val % 8)
  q _ := fullShare
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outOf m c (t.val / 8) (t.val % 8) := by dsimp only [dats]
theorem after7 (c : Dev nD) (t : Fin cfg0.N) : (dats m 0 c).after 7 t = gateOf m c (t.val / 8) := by dsimp only [dats]
theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d
theorem before4 (c : Dev nD) (t : Fin cfg0.N) (d) : (dats m 0 c).before 4 t d = iblk m c 4 t :=
  before0_4_of m (dats m 0 c) (arrays m c 4) (after4 m c) t d
theorem before5 (c : Dev nD) (t : Fin cfg0.N) (d) : (dats m 0 c).before 5 t d = iblk m c 5 t :=
  before0_5_of m (dats m 0 c) (arrays m c 5) (after5 m c) t d

/-- The gate logits stay in their buffer through the points that rest it, to the last of the row block. -/
theorem before7 (c : Dev nD) (t : Fin cfg0.N) (h : t.val % 8 = 7) (d) :
    (dats m 0 c).before 7 t d = gateOf m c (t.val / 8) := by
  have key : ∀ (s : Fin cfg0.N) (_ : s.val ≠ 0), cfg0.idle 7 (grid0.coords s) = true → cfg0.fresh 7 s.val = false →
      (dats m 0 c).after 7 s = (dats m 0 c).after 7 ⟨s.val - 1, by omega⟩ := by
    intro s h0 _ hf
    rw [fresh7] at hf
    have h8 : ¬ s.val % 8 = 0 := of_decide_eq_false hf
    rw [after7, after7]
    show gateOf m c (s.val / 8) = gateOf m c ((s.val - 1) / 8)
    rw [show (s.val - 1) / 8 = s.val / 8 by omega]
  rw [Dat.before_out_traj _ 7 rfl (fun _ _ => rfl) key t.val t rfl d, if_neg (by rw [fresh7]; simp [h]), after7]
  show gateOf m c ((t.val - 1) / 8) = _
  rw [show (t.val - 1) / 8 = t.val / 8 by omega]

/-! ## The body at every point -/

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (q j : ℕ) (hq : q < 16) (h0 : 0 < j) (hj : j < 8) :
    (dats m 0 c).leavesExact 6 (pt q j) = owns (c : Thread nD τ) (ms6 (pt q j)) fullShare (outOf m c q j) := by
  have e := pt_val q j hq hj
  unfold Dat.leavesExact
  rw [show cfg0.idle 6 (cfg0.grid.coords (pt q j)) = false from (idle6 _).trans (decide_eq_false (by omega)), after6,
    show (pt q j).val / 8 = q by omega, show (pt q j).val % 8 = j by omega]
theorem leaves7_idle (c : Dev nD) (q j : ℕ) (hq : q < 16) (h0 : 0 < j) (hj : j < 7) :
    (dats m 0 c).leavesExact 7 (pt q j) = iprop(∃ d, owns (c : Thread nD τ) (ms7 (pt q j)) fullShare ((dats m 0 c).before 7 (pt q j) d)) := by
  have e := pt_val q j hq (by omega)
  exact Dat.leavesExact_idle (dats m 0 c) 7 (pt q j) ((idle7 _).trans (by rw [decide_eq_false (by omega)]; rfl))
    ((flush7 _).trans (decide_eq_false (by omega)))
theorem leaves7_first (c : Dev nD) (q : ℕ) (hq : q < 16) :
    (dats m 0 c).leavesExact 7 (pt q 0) = owns (c : Thread nD τ) (ms7 (pt q 0)) fullShare (gateOf m c q) := by
  have e := pt_val q 0 hq (by decide)
  unfold Dat.leavesExact
  rw [show cfg0.idle 7 (cfg0.grid.coords (pt q 0)) = false from (idle7 _).trans (by rw [decide_eq_true (by omega)]; rfl), after7,
    show (pt q 0).val / 8 = q by omega]
theorem leaves7_last (c : Dev nD) (q : ℕ) (hq : q < 16) :
    (dats m 0 c).leavesExact 7 (pt q 7) = owns (c : Thread nD τ) (ms7 (pt q 7)) fullShare (gateOf m c q) := by
  have e := pt_val q 7 hq (by decide)
  unfold Dat.leavesExact
  rw [show cfg0.idle 7 (cfg0.grid.coords (pt q 7)) = true from (idle7 _).trans (by rw [decide_eq_false (by omega)]; rfl),
    show (cfg0.win 7).flush (pt q 7) = true from (flush7 _).trans (decide_eq_true (by omega)), after7, show (pt q 7).val / 8 = q by omega]
theorem leaves6_first (c : Dev nD) (q : ℕ) (hq : q < 16) :
    (dats m 0 c).leavesExact 6 (pt q 0) = iprop(∃ d, owns (c : Thread nD τ) (ms6 (pt q 0)) fullShare ((dats m 0 c).before 6 (pt q 0) d)) := by
  have e := pt_val q 0 hq (by decide)
  exact Dat.leavesExact_idle (dats m 0 c) 6 (pt q 0) ((idle6 _).trans (decide_eq_true (by omega))) (flush6_zero _ (by omega))

/-- What is held before and after a point. -/
theorem held_before (c : Dev nD) (q j : ℕ) (hq : q < 16) (hj : j < 8) : (dats m 0 c).Φ (pt q j).castSucc = held m c q j := by
  have e := pt_val q j hq hj
  show held m c ((pt q j).val / 8) ((pt q j).val % 8) = _
  rw [show (pt q j).val / 8 = q by omega, show (pt q j).val % 8 = j by omega]
theorem held_after (c : Dev nD) (q j : ℕ) (hq : q < 16) (hj : j < 7) : (dats m 0 c).Φ (pt q j).succ = held m c q (j + 1) := by
  have e := pt_val q j hq (by omega)
  show held m c (((pt q j).val + 1) / 8) (((pt q j).val + 1) % 8) = _
  rw [show ((pt q j).val + 1) / 8 = q by omega, show ((pt q j).val + 1) % 8 = j + 1 by omega]
theorem held_last (c : Dev nD) (q : ℕ) (hq : q < 16) : (dats m 0 c).Φ (pt q 7).succ = Pipeline.ΦA spec0 c := by
  have e := pt_val q 7 hq (by decide)
  show held m c (((pt q 7).val + 1) / 8) (((pt q 7).val + 1) % 8) = _
  rw [show ((pt q 7).val + 1) % 8 = 0 by omega]
  rfl

set_option maxHeartbeats 4000000 in
/-- The body at a row block's point 0. -/
theorem body0 (c : Dev nD) (q : ℕ) (hq : q < 16) :
    bodyPre m c (pt q 0) ⊢ wp frame (wpE (defs₀ (F := F)) Variants.none c none) Set.univ (bodyAt0 (pt q 0)) (fun _ => bodyPost m c (pt q 0)) := by
  unfold bodyPre bodyPost bodyAt0
  simp only [before0, before1, before2, before3, before4, before5]
  rw [show (dats m 0 c).owesAt () (pt q 0).succ = (dats m 0 c).owesAt () (pt q 0).castSucc from rfl,
    held_before m c q 0 hq (by decide), show held m c q 0 = Pipeline.ΦA spec0 c from rfl, anything_eq,
    held_after m c q 0 hq (by decide), show held m c q (0 + 1) = iprop(iprop(owns (c : Thread nD τ) sc0 fullShare (rowsOf m c q) ∗ owns (c : Thread nD τ) sc1 fullShare (acc0 m c q) ∗ (∃ d, owns (c : Thread nD τ) sc2 fullShare d) ∗ (∃ d, owns (c : Thread nD τ) sc3 fullShare d)) ∗ (∃ r, prngReg c r)) from rfl,
    leaves0, leaves1, leaves2, leaves3, leaves4, leaves5, leaves6_first m c q hq, leaves7_first m c q hq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((r0 m c (pt q 0) (pt_mod q 0 (by decide))).2.2.property _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  iintro ⟨H0, H1, H2, H3, H4, H5, H6, ⟨%e7, H7⟩, ⟨%u0, S0⟩, ⟨%u1, S1⟩, S2, S3⟩
  isplitl [S0 S1 S2 S3 Hg]
  · isplitl [S0 S1 S2 S3]
    · isplitl [S0]
      · unfold owns; iexists _; isplitr
        swap; · iexact S0
        ipureintro; exact View.read_writes_eq_canon _ _ _ (cover0_xn m c (pt q 0) (pt_mod q 0 (by decide)))
      isplitl [S1]
      · unfold owns; iexists _; isplitr
        swap; · iexact S1
        ipureintro; exact View.read_writes_eq_canon _ _ _ (cover0_acc m c (pt q 0) (pt_mod q 0 (by decide)))
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  unfold owns; iexists _; isplitr
  swap; · iexact H7
  ipureintro; exact View.read_writes_eq_canon _ _ _ (cover0_og m c (pt q 0) (pt_mod q 0 (by decide)))

set_option maxHeartbeats 4000000 in
/-- The body at a row block's point 1. -/
theorem body1 (c : Dev nD) (q : ℕ) (hq : q < 16) :
    bodyPre m c (pt q 1) ⊢ wp frame (wpE (defs₀ (F := F)) Variants.none c none) Set.univ (bodyAt0 (pt q 1)) (fun _ => bodyPost m c (pt q 1)) := by
  unfold bodyPre bodyPost bodyAt0
  simp only [before0, before1, before2, before3, before4, before5]
  rw [show (dats m 0 c).owesAt () (pt q 1).succ = (dats m 0 c).owesAt () (pt q 1).castSucc from rfl,
    held_before m c q 1 hq (by decide), show held m c q 1 = iprop(iprop(owns (c : Thread nD τ) sc0 fullShare (rowsOf m c q) ∗ owns (c : Thread nD τ) sc1 fullShare (acc0 m c q) ∗ (∃ d, owns (c : Thread nD τ) sc2 fullShare d) ∗ (∃ d, owns (c : Thread nD τ) sc3 fullShare d)) ∗ (∃ r, prngReg c r)) from rfl,
    held_after m c q 1 hq (by decide), show held m c q (1 + 1) = iprop(iprop(owns (c : Thread nD τ) sc0 fullShare (rowsOf m c q) ∗ (∃ d, owns (c : Thread nD τ) sc1 fullShare d) ∗ owns (c : Thread nD τ) sc2 fullShare (acc1 m c q) ∗ (∃ d, owns (c : Thread nD τ) sc3 fullShare d)) ∗ (∃ r, prngReg c r)) from rfl,
    leaves0, leaves1, leaves2, leaves3, leaves4, leaves5, leaves6 m c q 1 hq (by decide) (by decide), leaves7_idle m c q 1 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((r1 m c (pt q 1) (pt_mod q 1 (by decide)) (rowsOf m c q) (acc0 m c q)).2.property _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [S0]; · iexact S0
  isplitl [S1]; · iexact S1
  isplitl [S2]; · iexact S2
  isplitl [S3]; · iexact S3
  iintro ⟨H0, H1, H2, H3, H4, H5, ⟨%e6, H6⟩, H7, S0, S1, ⟨%u2, S2⟩, S3⟩
  isplitl [S0 S1 S2 S3 Hg]
  · isplitl [S0 S1 S2 S3]
    · isplitl [S0]
      · iexact S0
      isplitl [S1]
      · iexact S1
      isplitl [S2]
      · unfold owns; iexists _; isplitr
        swap; · iexact S2
        ipureintro; exact View.read_writes_eq_canon _ _ _ (cover1_acc m c (pt q 1) (pt_mod q 1 (by decide)) (rowsOf m c q) (acc0 m c q))
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover1_o m c (pt q 1) (pt_mod q 1 (by decide)) (rowsOf m c q) (acc0 m c q))
  iexists _; iexact H7

set_option maxHeartbeats 4000000 in
/-- The body at a row block's point 2. -/
theorem body2 (c : Dev nD) (q : ℕ) (hq : q < 16) :
    bodyPre m c (pt q 2) ⊢ wp frame (wpE (defs₀ (F := F)) Variants.none c none) Set.univ (bodyAt0 (pt q 2)) (fun _ => bodyPost m c (pt q 2)) := by
  unfold bodyPre bodyPost bodyAt0
  simp only [before0, before1, before2, before3, before4, before5]
  rw [show (dats m 0 c).owesAt () (pt q 2).succ = (dats m 0 c).owesAt () (pt q 2).castSucc from rfl,
    held_before m c q 2 hq (by decide), show held m c q 2 = iprop(iprop(owns (c : Thread nD τ) sc0 fullShare (rowsOf m c q) ∗ (∃ d, owns (c : Thread nD τ) sc1 fullShare d) ∗ owns (c : Thread nD τ) sc2 fullShare (acc1 m c q) ∗ (∃ d, owns (c : Thread nD τ) sc3 fullShare d)) ∗ (∃ r, prngReg c r)) from rfl,
    held_after m c q 2 hq (by decide), show held m c q (2 + 1) = iprop(iprop(owns (c : Thread nD τ) sc0 fullShare (rowsOf m c q) ∗ owns (c : Thread nD τ) sc1 fullShare (acc2 m c q) ∗ (∃ d, owns (c : Thread nD τ) sc2 fullShare d) ∗ (∃ d, owns (c : Thread nD τ) sc3 fullShare d)) ∗ (∃ r, prngReg c r)) from rfl,
    leaves0, leaves1, leaves2, leaves3, leaves4, leaves5, leaves6 m c q 2 hq (by decide) (by decide), leaves7_idle m c q 2 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((r2 m c (pt q 2) (pt_mod q 2 (by decide)) (rowsOf m c q) (acc1 m c q)).2.property _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [S0]; · iexact S0
  isplitl [S1]; · iexact S1
  isplitl [S2]; · iexact S2
  isplitl [S3]; · iexact S3
  iintro ⟨H0, H1, H2, H3, H4, H5, ⟨%e6, H6⟩, H7, S0, ⟨%u1, S1⟩, S2, S3⟩
  isplitl [S0 S1 S2 S3 Hg]
  · isplitl [S0 S1 S2 S3]
    · isplitl [S0]
      · iexact S0
      isplitl [S1]
      · unfold owns; iexists _; isplitr
        swap; · iexact S1
        ipureintro; exact View.read_writes_eq_canon _ _ _ (cover2_acc m c (pt q 2) (pt_mod q 2 (by decide)) (rowsOf m c q) (acc1 m c q))
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover2_o m c (pt q 2) (pt_mod q 2 (by decide)) (rowsOf m c q) (acc1 m c q))
  iexists _; iexact H7

set_option maxHeartbeats 4000000 in
/-- The body at a row block's point 3. -/
theorem body3 (c : Dev nD) (q : ℕ) (hq : q < 16) :
    bodyPre m c (pt q 3) ⊢ wp frame (wpE (defs₀ (F := F)) Variants.none c none) Set.univ (bodyAt0 (pt q 3)) (fun _ => bodyPost m c (pt q 3)) := by
  unfold bodyPre bodyPost bodyAt0
  simp only [before0, before1, before2, before3, before4, before5]
  rw [show (dats m 0 c).owesAt () (pt q 3).succ = (dats m 0 c).owesAt () (pt q 3).castSucc from rfl,
    held_before m c q 3 hq (by decide), show held m c q 3 = iprop(iprop(owns (c : Thread nD τ) sc0 fullShare (rowsOf m c q) ∗ owns (c : Thread nD τ) sc1 fullShare (acc2 m c q) ∗ (∃ d, owns (c : Thread nD τ) sc2 fullShare d) ∗ (∃ d, owns (c : Thread nD τ) sc3 fullShare d)) ∗ (∃ r, prngReg c r)) from rfl,
    held_after m c q 3 hq (by decide), show held m c q (3 + 1) = iprop(iprop(owns (c : Thread nD τ) sc0 fullShare (rowsOf m c q) ∗ (∃ d, owns (c : Thread nD τ) sc1 fullShare d) ∗ owns (c : Thread nD τ) sc2 fullShare (acc3 m c q) ∗ (∃ d, owns (c : Thread nD τ) sc3 fullShare d)) ∗ (∃ r, prngReg c r)) from rfl,
    leaves0, leaves1, leaves2, leaves3, leaves4, leaves5, leaves6 m c q 3 hq (by decide) (by decide), leaves7_idle m c q 3 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((r3 m c (pt q 3) (pt_mod q 3 (by decide)) (rowsOf m c q) (acc2 m c q)).2.property _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [S0]; · iexact S0
  isplitl [S1]; · iexact S1
  isplitl [S2]; · iexact S2
  isplitl [S3]; · iexact S3
  iintro ⟨H0, H1, H2, H3, H4, H5, ⟨%e6, H6⟩, H7, S0, S1, ⟨%u2, S2⟩, S3⟩
  isplitl [S0 S1 S2 S3 Hg]
  · isplitl [S0 S1 S2 S3]
    · isplitl [S0]
      · iexact S0
      isplitl [S1]
      · iexact S1
      isplitl [S2]
      · unfold owns; iexists _; isplitr
        swap; · iexact S2
        ipureintro; exact View.read_writes_eq_canon _ _ _ (cover3_acc m c (pt q 3) (pt_mod q 3 (by decide)) (rowsOf m c q) (acc2 m c q))
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover3_o m c (pt q 3) (pt_mod q 3 (by decide)) (rowsOf m c q) (acc2 m c q))
  iexists _; iexact H7

set_option maxHeartbeats 4000000 in
/-- The body at a row block's point 4. -/
theorem body4 (c : Dev nD) (q : ℕ) (hq : q < 16) :
    bodyPre m c (pt q 4) ⊢ wp frame (wpE (defs₀ (F := F)) Variants.none c none) Set.univ (bodyAt0 (pt q 4)) (fun _ => bodyPost m c (pt q 4)) := by
  unfold bodyPre bodyPost bodyAt0
  simp only [before0, before1, before2, before3, before4, before5]
  rw [show (dats m 0 c).owesAt () (pt q 4).succ = (dats m 0 c).owesAt () (pt q 4).castSucc from rfl,
    held_before m c q 4 hq (by decide), show held m c q 4 = iprop(iprop(owns (c : Thread nD τ) sc0 fullShare (rowsOf m c q) ∗ (∃ d, owns (c : Thread nD τ) sc1 fullShare d) ∗ owns (c : Thread nD τ) sc2 fullShare (acc3 m c q) ∗ (∃ d, owns (c : Thread nD τ) sc3 fullShare d)) ∗ (∃ r, prngReg c r)) from rfl,
    held_after m c q 4 hq (by decide), show held m c q (4 + 1) = iprop(iprop(owns (c : Thread nD τ) sc0 fullShare (rowsOf m c q) ∗ owns (c : Thread nD τ) sc1 fullShare (acc4 m c q) ∗ (∃ d, owns (c : Thread nD τ) sc2 fullShare d) ∗ (∃ d, owns (c : Thread nD τ) sc3 fullShare d)) ∗ (∃ r, prngReg c r)) from rfl,
    leaves0, leaves1, leaves2, leaves3, leaves4, leaves5, leaves6 m c q 4 hq (by decide) (by decide), leaves7_idle m c q 4 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((r4 m c (pt q 4) (pt_mod q 4 (by decide)) (rowsOf m c q) (acc3 m c q)).2.property _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [S0]; · iexact S0
  isplitl [S1]; · iexact S1
  isplitl [S2]; · iexact S2
  isplitl [S3]; · iexact S3
  iintro ⟨H0, H1, H2, H3, H4, H5, ⟨%e6, H6⟩, H7, S0, ⟨%u1, S1⟩, S2, S3⟩
  isplitl [S0 S1 S2 S3 Hg]
  · isplitl [S0 S1 S2 S3]
    · isplitl [S0]
      · iexact S0
      isplitl [S1]
      · unfold owns; iexists _; isplitr
        swap; · iexact S1
        ipureintro; exact View.read_writes_eq_canon _ _ _ (cover4_acc m c (pt q 4) (pt_mod q 4 (by decide)) (rowsOf m c q) (acc3 m c q))
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover4_o m c (pt q 4) (pt_mod q 4 (by decide)) (rowsOf m c q) (acc3 m c q))
  iexists _; iexact H7

set_option maxHeartbeats 4000000 in
/-- The body at a row block's point 5. -/
theorem body5 (c : Dev nD) (q : ℕ) (hq : q < 16) :
    bodyPre m c (pt q 5) ⊢ wp frame (wpE (defs₀ (F := F)) Variants.none c none) Set.univ (bodyAt0 (pt q 5)) (fun _ => bodyPost m c (pt q 5)) := by
  unfold bodyPre bodyPost bodyAt0
  simp only [before0, before1, before2, before3, before4, before5]
  rw [show (dats m 0 c).owesAt () (pt q 5).succ = (dats m 0 c).owesAt () (pt q 5).castSucc from rfl,
    held_before m c q 5 hq (by decide), show held m c q 5 = iprop(iprop(owns (c : Thread nD τ) sc0 fullShare (rowsOf m c q) ∗ owns (c : Thread nD τ) sc1 fullShare (acc4 m c q) ∗ (∃ d, owns (c : Thread nD τ) sc2 fullShare d) ∗ (∃ d, owns (c : Thread nD τ) sc3 fullShare d)) ∗ (∃ r, prngReg c r)) from rfl,
    held_after m c q 5 hq (by decide), show held m c q (5 + 1) = iprop(iprop(owns (c : Thread nD τ) sc0 fullShare (rowsOf m c q) ∗ (∃ d, owns (c : Thread nD τ) sc1 fullShare d) ∗ owns (c : Thread nD τ) sc2 fullShare (acc5 m c q) ∗ (∃ d, owns (c : Thread nD τ) sc3 fullShare d)) ∗ (∃ r, prngReg c r)) from rfl,
    leaves0, leaves1, leaves2, leaves3, leaves4, leaves5, leaves6 m c q 5 hq (by decide) (by decide), leaves7_idle m c q 5 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((r5 m c (pt q 5) (pt_mod q 5 (by decide)) (rowsOf m c q) (acc4 m c q)).2.property _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [S0]; · iexact S0
  isplitl [S1]; · iexact S1
  isplitl [S2]; · iexact S2
  isplitl [S3]; · iexact S3
  iintro ⟨H0, H1, H2, H3, H4, H5, ⟨%e6, H6⟩, H7, S0, S1, ⟨%u2, S2⟩, S3⟩
  isplitl [S0 S1 S2 S3 Hg]
  · isplitl [S0 S1 S2 S3]
    · isplitl [S0]
      · iexact S0
      isplitl [S1]
      · iexact S1
      isplitl [S2]
      · unfold owns; iexists _; isplitr
        swap; · iexact S2
        ipureintro; exact View.read_writes_eq_canon _ _ _ (cover5_acc m c (pt q 5) (pt_mod q 5 (by decide)) (rowsOf m c q) (acc4 m c q))
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover5_o m c (pt q 5) (pt_mod q 5 (by decide)) (rowsOf m c q) (acc4 m c q))
  iexists _; iexact H7

set_option maxHeartbeats 4000000 in
/-- The body at a row block's point 6. -/
theorem body6 (c : Dev nD) (q : ℕ) (hq : q < 16) :
    bodyPre m c (pt q 6) ⊢ wp frame (wpE (defs₀ (F := F)) Variants.none c none) Set.univ (bodyAt0 (pt q 6)) (fun _ => bodyPost m c (pt q 6)) := by
  unfold bodyPre bodyPost bodyAt0
  simp only [before0, before1, before2, before3, before4, before5]
  rw [show (dats m 0 c).owesAt () (pt q 6).succ = (dats m 0 c).owesAt () (pt q 6).castSucc from rfl,
    held_before m c q 6 hq (by decide), show held m c q 6 = iprop(iprop(owns (c : Thread nD τ) sc0 fullShare (rowsOf m c q) ∗ (∃ d, owns (c : Thread nD τ) sc1 fullShare d) ∗ owns (c : Thread nD τ) sc2 fullShare (acc5 m c q) ∗ (∃ d, owns (c : Thread nD τ) sc3 fullShare d)) ∗ (∃ r, prngReg c r)) from rfl,
    held_after m c q 6 hq (by decide), show held m c q (6 + 1) = iprop(iprop(owns (c : Thread nD τ) sc0 fullShare (rowsOf m c q) ∗ owns (c : Thread nD τ) sc1 fullShare (acc6 m c q) ∗ (∃ d, owns (c : Thread nD τ) sc2 fullShare d) ∗ (∃ d, owns (c : Thread nD τ) sc3 fullShare d)) ∗ (∃ r, prngReg c r)) from rfl,
    leaves0, leaves1, leaves2, leaves3, leaves4, leaves5, leaves6 m c q 6 hq (by decide) (by decide), leaves7_idle m c q 6 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((r6 m c (pt q 6) (pt_mod q 6 (by decide)) (rowsOf m c q) (acc5 m c q)).2.property _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [S0]; · iexact S0
  isplitl [S1]; · iexact S1
  isplitl [S2]; · iexact S2
  isplitl [S3]; · iexact S3
  iintro ⟨H0, H1, H2, H3, H4, H5, ⟨%e6, H6⟩, H7, S0, ⟨%u1, S1⟩, S2, S3⟩
  isplitl [S0 S1 S2 S3 Hg]
  · isplitl [S0 S1 S2 S3]
    · isplitl [S0]
      · iexact S0
      isplitl [S1]
      · unfold owns; iexists _; isplitr
        swap; · iexact S1
        ipureintro; exact View.read_writes_eq_canon _ _ _ (cover6_acc m c (pt q 6) (pt_mod q 6 (by decide)) (rowsOf m c q) (acc5 m c q))
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover6_o m c (pt q 6) (pt_mod q 6 (by decide)) (rowsOf m c q) (acc5 m c q))
  iexists _; iexact H7

set_option maxHeartbeats 4000000 in
/-- The body at a row block's point 7. -/
theorem body7 (c : Dev nD) (q : ℕ) (hq : q < 16) :
    bodyPre m c (pt q 7) ⊢ wp frame (wpE (defs₀ (F := F)) Variants.none c none) Set.univ (bodyAt0 (pt q 7)) (fun _ => bodyPost m c (pt q 7)) := by
  unfold bodyPre bodyPost bodyAt0
  simp only [before0, before1, before2, before3, before4, before5]
  simp only [before7 m c (pt q 7) (pt_mod q 7 (by decide))]
  rw [show (pt q 7).val / 8 = q by have e := pt_val q 7 hq (by decide); omega]
  rw [show (dats m 0 c).owesAt () (pt q 7).succ = (dats m 0 c).owesAt () (pt q 7).castSucc from rfl,
    held_before m c q 7 hq (by decide), show held m c q 7 = iprop(iprop(owns (c : Thread nD τ) sc0 fullShare (rowsOf m c q) ∗ owns (c : Thread nD τ) sc1 fullShare (acc6 m c q) ∗ (∃ d, owns (c : Thread nD τ) sc2 fullShare d) ∗ (∃ d, owns (c : Thread nD τ) sc3 fullShare d)) ∗ (∃ r, prngReg c r)) from rfl,
    held_last m c q hq, anything_eq,
    leaves0, leaves1, leaves2, leaves3, leaves4, leaves5, leaves6 m c q 7 hq (by decide) (by decide), leaves7_last m c q hq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((r7 m c (pt q 7) (pt_mod q 7 (by decide)) (acc6 m c q)).property _ (rowsOf m c q) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [S0]; · iexact S0
  isplitl [S1]; · iexact S1
  isplitl [S2]; · iexact S2
  isplitl [S3]; · iexact S3
  iintro ⟨H0, H1, H2, H3, H4, H5, ⟨%e6, H6⟩, H7, S0, S1, S2, S3⟩
  isplitl [S0 S1 S2 S3 Hg]
  · isplitl [S0 S1 S2 S3]
    · isplitl [S0]
      · iexists _; iexact S0
      isplitl [S1]
      · iexact S1
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover7_o m c (pt q 7) (pt_mod q 7 (by decide)) (acc6 m c q))
  iexact H7

/-- The body at any point. -/
theorem body_sound (c : Dev nD) (t : Fin cfg0.N) :
    bodyPre m c t ⊢ wp frame (wpE (defs₀ (F := F)) Variants.none c none) Set.univ (bodyAt0 t) (fun _ => bodyPost m c t) := by
  have h8 := Nat.mod_lt t.val (show 0 < 8 by decide)
  obtain h | h | h | h | h | h | h | h : t.val % 8 = 0 ∨ t.val % 8 = 1 ∨ t.val % 8 = 2 ∨ t.val % 8 = 3 ∨ t.val % 8 = 4
      ∨ t.val % 8 = 5 ∨ t.val % 8 = 6 ∨ t.val % 8 = 7 := by omega
  · obtain ⟨q, hq, rfl⟩ := pt_of t 0 h; exact body0 m c q hq
  · obtain ⟨q, hq, rfl⟩ := pt_of t 1 h; exact body1 m c q hq
  · obtain ⟨q, hq, rfl⟩ := pt_of t 2 h; exact body2 m c q hq
  · obtain ⟨q, hq, rfl⟩ := pt_of t 3 h; exact body3 m c q hq
  · obtain ⟨q, hq, rfl⟩ := pt_of t 4 h; exact body4 m c q hq
  · obtain ⟨q, hq, rfl⟩ := pt_of t 5 h; exact body5 m c q hq
  · obtain ⟨q, hq, rfl⟩ := pt_of t 6 h; exact body6 m c q hq
  · obtain ⟨q, hq, rfl⟩ := pt_of t 7 h; exact body7 m c q hq

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

theorem held_in (c : Dev nD) : Pipeline.ΦA spec0 c ⊢ (dats m 0 c).Φ 0 := by
  rw [show (dats m 0 c).Φ 0 = Pipeline.ΦA spec0 c from rfl]
  try exact Idealize.SL.BI.Entails.refl _

theorem held_out (c : Dev nD) : (dats m 0 c).Φ (Fin.last cfg0.N) ⊢ Pipeline.ΦA spec0 c := by
  rw [show (dats m 0 c).Φ (Fin.last cfg0.N) = Pipeline.ΦA spec0 c by
    show held m c ((Fin.last cfg0.N).val / 8) ((Fin.last cfg0.N).val % 8) = _
    rw [Fin.val_last, show cfg0.N = 128 from N_0]; rfl]
  try exact Idealize.SL.BI.Entails.refl _

/-! ## The run and the frame -/

set_option backward.isDefEq.respectTransparency.types false in
set_option maxHeartbeats 800000 in
/-- The launch: every array as the proof data says, every other buffer as the lines after the region leave it, every counter
    at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays m) (hin := held_in m) (hout := held_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- Every execution terminates with the argument arrays unchanged and every counter at zero. -/
theorem proj_frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (arrays m) (run_main m ρ)) ((θ_run defs _ _).mono (fun _ h => h.2) (run_quiescent m ρ))

end Cert.Kernel5Ideal.Proj
-- ==== Proof.ProjSame.lean ====
/-
  The even projection's frame at the machine's floats: its idealization is the same text, so one run serves both.
-/
module

public import proofs.«01_k».proof.Defs
public import proofs.«01_k».proof.Proof.Gen.Kernel5.Frame
public import proofs.«01_k».proof.Proof.ProjIdeal.Frame

@[expose] public section

set_option maxRecDepth 16384

noncomputable section

namespace Cert.ProjSame

open Idealize.ShloMosaic Idealize.ShloMosaic.TcCoe Idealize.SL.Sem Idealize.ShloMosaic.Tactic

/-- The two programs and their tables of procedures are the same. -/
theorem main_same : @Cert.Kernel5.main Bits _ Cert.Kernel5.Gen.facts = @Cert.Kernel5Ideal.main Bits _ Cert.Kernel5Ideal.Gen.facts := by
  sl_kernel_rfl
theorem defs_same : @Cert.Kernel5.defs Bits _ Cert.Kernel5.Gen.facts = @Cert.Kernel5Ideal.defs Bits _ Cert.Kernel5Ideal.Gen.facts := by
  sl_kernel_rfl

/-- So the kernel's run keeps its arguments and leaves every counter at zero, as the run of the same text does. -/
theorem kept : Cert.quiescent_Kernel5 (hKernel5 := Cert.Kernel5.Gen.facts) := by
  intro m ρ _
  have h := @Cert.Kernel5Ideal.Proj.proj_frame Bits _ m ρ
  rw [← main_same, ← defs_same] at h
  exact h

end Cert.ProjSame
-- ==== Proof.ProjIdeal.Pays.lean ====
/-
  The even projection's kernel, store by store: what each stored value is, element by element.
-/
module

public import proofs.«01_k».proof.Proof.ProjIdeal.Run7
public import Idealize.ShloMosaic.Lib.Pointwise

@[expose] public section

noncomputable section

open Idealize.ShloMosaic Idealize.ShloMosaic.TcCoe Idealize.SL.Sem

namespace Cert.Kernel5Ideal.Proj

open Cert.Kernel5Ideal Cert.Kernel5Ideal.Gen

/-- The reciprocal root mean square of a head's 128 entries. -/
def rinvHead (v : Fin 128 → EReal) : EReal :=
  Ideal.rsqrt (Ideal.div (∑ e, v e * v e) (Ideal.ofBits .f32 0x43000000#32) + Ideal.ofBits .f32 0x358637BD#32)

/-- The reciprocal root mean square of a row's 2048 entries. -/
def rinvRow (v : Fin 2048 → EReal) : EReal :=
  Ideal.rsqrt (Ideal.div (∑ e, v e * v e) (Ideal.ofBits .f32 0x45000000#32) + Ideal.ofBits .f32 0x358637BD#32)

/-- The first value is the normalised row. -/
theorem rows_apply (h : Vec Ideal S1024x2048 .f32) (g : Vec Ideal S1x2048 .f32) (r : Fin 1024) (k : Fin 2048) :
    k0_pay20 h g (ix2 r k) = h (ix2 r k) * rinvRow (fun e => h (ix2 r e)) * g (ix2 0 k) := by
  unfold rinvRow
  pointwise [k0_pay20]

/-- The gate logits are the rows times the gate weight. -/
theorem gate_apply (x : Vec Ideal S1024x2048 .bf16) (w : Vec Ideal S2048x128 .bf16) (r : Fin 1024) (d : Fin 128) :
    k0_pay21 x w (ix2 r d) = ∑ k : Fin 2048, x (ix2 r k) * w (ix2 k d) := by
  pointwise [k0_pay21]

/-- A quarter of a column block is the rows times a quarter of the weight's block. -/
theorem mm_apply (x : Vec Ideal S1024x2048 .bf16) (w : Vec Ideal S2048x256 .bf16) (r : Fin 1024) (d : Fin 256) :
    k0_pay22 x w (ix2 r d) = ∑ k : Fin 2048, x (ix2 r k) * w (ix2 k d) := by
  pointwise [k0_pay22]

/-- A head's scale, in every lane. -/
theorem scale_apply (v : Vec Ideal S1024x128 .f32) (r : Fin 1024) (d : Fin 128) :
    k0_pay23 v (ix2 r d) = rinvHead (fun e => v (ix2 r e)) := by
  unfold rinvHead
  pointwise [k0_pay23]

/-- A head normalised: times the scale, times the gain. -/
theorem gain_apply (v s : Vec Ideal S1024x128 .f32) (g : Vec Ideal S1x128 .f32) (r : Fin 1024) (d : Fin 128) :
    k0_pay33 v s g (ix2 r d) = v (ix2 r d) * s (ix2 r d) * g (ix2 0 d) := by
  pointwise [k0_pay33]

/-- A head written out as it is. -/
theorem plain_apply (v : Vec Ideal S1024x128 .f32) (r : Fin 1024) (d : Fin 128) : k0_pay43 v (ix2 r d) = v (ix2 r d) := by
  pointwise [k0_pay43]

/-- A head turned: each lane times its first table entry, plus the lanes 16 above and 16 below times theirs. -/
theorem turn_apply (v : Vec Ideal S1024x128 .f32) (t0 t1 t2 : Vec Ideal S1x1024x128 .f32) (r : Fin 1024) (d : Fin 128) :
    k0_pay112 v t0 t1 t2 (ix2 r d) = v (ix2 r d) * t0 (ix3 0 r d)
      + v (ix2 r ⟨(d.val + 16) % 128, Nat.mod_lt _ (by decide)⟩) * t1 (ix3 0 r d)
      + v (ix2 r ⟨(d.val + 112) % 128, Nat.mod_lt _ (by decide)⟩) * t2 (ix3 0 r d) := by
  pointwise [k0_pay112]
  rw [show (⟨(d.val + 128 - 112) % 128, Nat.mod_lt _ (by decide)⟩ : Fin 128) = ⟨(d.val + 16) % 128, Nat.mod_lt _ (by decide)⟩ from
      Fin.ext (by show (d.val + 128 - 112) % 128 = (d.val + 16) % 128; omega),
    show (⟨(d.val + 128 - 16) % 128, Nat.mod_lt _ (by decide)⟩ : Fin 128) = ⟨(d.val + 112) % 128, Nat.mod_lt _ (by decide)⟩ from
      Fin.ext (by show (d.val + 128 - 16) % 128 = (d.val + 112) % 128; omega)]

/-- The sigmoid of a column block. -/
theorem sig_apply (v : Vec Ideal S1024x1024 .f32) (r : Fin 1024) (d : Fin 1024) :
    k0_pay88 v (ix2 r d) = Ideal.div (Ideal.ofBits .f32 0x3F800000#32) (Ideal.ofBits .f32 0x3F800000#32 + Ideal.exp (0 - v (ix2 r d))) := by
  pointwise [k0_pay88]

/-- A column block written out as it is. -/
theorem whole_apply (v : Vec Ideal S1024x1024 .f32) : (k0_pay83 v : S1024x1024.Idx → EReal) = v := by
  funext y
  rw [eq_ix2 y]
  pointwise [k0_pay83]

end Cert.Kernel5Ideal.Proj
-- ==== Proof.ProjIdeal.Lists.lean ====
/-
  The even projection's stores, block by block: what a point leaves in the buffers it fills head by head or quarter by quarter.
-/
module

public import proofs.«01_k».proof.Proof.ProjIdeal.Pays

@[expose] public section

noncomputable section

open Idealize.ShloMosaic Idealize.ShloMosaic.TcCoe Idealize.SL.Sem

namespace Cert.Kernel5Ideal.Proj

open Cert.Kernel5Ideal Cert.Kernel5Ideal.Gen

theorem hz2 : (![0, 0] : Fin 2 → Nat) = fun _ => 0 := funext fun a => by fin_cases a <;> rfl

/-! ## Heads: 128 columns of a 1024 × 1024 block -/

/-- The columns `o … o+127` of a block, as a rectangle. -/
theorem inHead (o : Nat) (ho : o + 128 ≤ 1024) : ∀ a, (![0, o] : Fin 2 → Nat) a + S1024x128.size a ≤ S1024x1024.size a := fun a =>
  match a with
  | ⟨0, _⟩ => Nat.le_of_eq rfl
  | ⟨1, _⟩ => ho

abbrev headBox (o : Nat) (ho : o + 128 ≤ 1024) : Rect S1024x1024 := Rect.unit (s := S1024x1024) ![0, o] S1024x128.size (inHead o ho)

/-- Eight stores, one for each head, the last head's on top. -/
def heads8 {e : EltTy} (f : (o : Nat) → o + 128 ≤ 1024 → Vec Ideal S1024x128 e) : List (View.Piece (Elt Ideal) S1024x1024 e) :=
  [⟨headBox 896 (by decide), f 896 (by decide)⟩, ⟨headBox 768 (by decide), f 768 (by decide)⟩,
   ⟨headBox 640 (by decide), f 640 (by decide)⟩, ⟨headBox 512 (by decide), f 512 (by decide)⟩,
   ⟨headBox 384 (by decide), f 384 (by decide)⟩, ⟨headBox 256 (by decide), f 256 (by decide)⟩,
   ⟨headBox 128 (by decide), f 128 (by decide)⟩, ⟨headBox 0 (by decide), f 0 (by decide)⟩]

/-- Where a head's column stands in the block. -/
theorem headBox_emb (o : Nat) (ho : o + 128 ≤ 1024) (x : S1024x128.Idx) :
    (headBox o ho).emb x = ix2 (x 0) ⟨o + (x 1).val, by have : (x 1).val < 128 := (x 1).isLt; omega⟩ := by
  funext a
  match a with
  | ⟨0, _⟩ => exact Fin.ext (by show 0 + 1 * (x 0).val = (x 0).val; omega)
  | ⟨1, _⟩ => exact Fin.ext (by show o + 1 * (x 1).val = o + (x 1).val; omega)

/-- The eight stores leave, at every element, the value that each of them stores there. -/
theorem canon_heads8 {e : EltTy} (f : (o : Nat) → o + 128 ≤ 1024 → Vec Ideal S1024x128 e) (G : Fin 1024 → Fin 1024 → Elt Ideal e)
    (h : ∀ (k : Nat) (hk : k < 8) (r : Fin 1024) (d : Fin 128), f (128 * k) (by omega) (ix2 r d) = G r ⟨128 * k + d.val, by have := d.isLt; omega⟩)
    (r : Fin 1024) (n : Fin 1024) : View.canon (Val := Elt Ideal) (heads8 f) (ix2 r n) = G r n := by
  refine View.canon_apply_of_pieces (Val := Elt Ideal) (fun y => G (y 0) (y 1)) (heads8 f) ?_ (ix2 r n)
    (View.cover_of_tiledL (heads8 f) S1024x128.size (by sl_kernel_rfl) _)
  have key : ∀ (k : Nat) (hk : k < 8) (x : S1024x128.Idx), f (128 * k) (by omega) x
      = (fun y : S1024x1024.Idx => G (y 0) (y 1)) ((headBox (128 * k) (by omega)).emb x) := fun k hk x => by
    rw [headBox_emb]
    exact (congrArg _ (eq_ix2 x)).trans (h k hk (x 0) (x 1))
  intro p hp
  simp only [heads8, List.mem_cons, List.not_mem_nil, or_false] at hp
  rcases hp with rfl | rfl | rfl | rfl | rfl | rfl | rfl | rfl
  · exact key 7 (by decide)
  · exact key 6 (by decide)
  · exact key 5 (by decide)
  · exact key 4 (by decide)
  · exact key 3 (by decide)
  · exact key 2 (by decide)
  · exact key 1 (by decide)
  · exact key 0 (by decide)

/-- A head loaded from a block. -/
theorem ld_head {e : EltTy} (a : Vec Ideal S1024x1024 e) (o : Nat) (ho : o + 128 ≤ 1024) (r : Fin 1024) (d : Fin 128) :
    View.ld (Val := Elt Ideal) a (headBox o ho) (ix2 r d) = a (ix2 r ⟨o + d.val, by have := d.isLt; omega⟩) :=
  congrArg a (headBox_emb o ho (ix2 r d))

/-- The scales of the eight heads, stored. -/
def scales (a : Vec Ideal S1024x1024 .f32) : List (View.Piece (Elt Ideal) S1024x1024 .f32) :=
  heads8 fun o ho => k0_pay23 (F := Ideal) (View.ld (Val := Elt Ideal) a (headBox o ho))

/-- The heads normalised, stored back over the block. -/
def gained (v : View sig .tc .vmem S1024x1024 .f32) (a : Vec Ideal S1024x1024 .f32) (g : Vec Ideal S1x128 .f32) :
    List (View.Piece (Elt Ideal) S1024x1024 .f32) :=
  heads8 fun o ho => k0_pay33 (F := Ideal) (View.ld (Val := Elt Ideal) a (headBox o ho)) (v.readCov (scales a) (headBox o ho).toLoadRect) g

/-- The heads written out. -/
def normed (u v : View sig .tc .vmem S1024x1024 .f32) (a : Vec Ideal S1024x1024 .f32) (g : Vec Ideal S1x128 .f32) :
    List (View.Piece (Elt Ideal) S1024x1024 .bf16) :=
  heads8 fun o ho => k0_pay43 (F := Ideal) (u.readCov (gained v a g) (headBox o ho).toLoadRect)

/-- The heads turned and written out. -/
def turned (u v : View sig .tc .vmem S1024x1024 .f32) (a : Vec Ideal S1024x1024 .f32) (g : Vec Ideal S1x128 .f32)
    (t0 t1 t2 : Vec Ideal S1x1024x128 .f32) : List (View.Piece (Elt Ideal) S1024x1024 .bf16) :=
  heads8 fun o ho => k0_pay112 (F := Ideal) (u.readCov (gained v a g) (headBox o ho).toLoadRect) t0 t1 t2

/-! ## Quarters: 256 columns -/

theorem inQuarter (o : Nat) (ho : o + 256 ≤ 1024) : ∀ a, (![0, o] : Fin 2 → Nat) a + S1024x256.size a ≤ S1024x1024.size a := fun a =>
  match a with
  | ⟨0, _⟩ => Nat.le_of_eq rfl
  | ⟨1, _⟩ => ho

theorem inWeight (o : Nat) (ho : o + 256 ≤ 1024) : ∀ a, (![0, o] : Fin 2 → Nat) a + S2048x256.size a ≤ S2048x1024.size a := fun a =>
  match a with
  | ⟨0, _⟩ => Nat.le_of_eq rfl
  | ⟨1, _⟩ => ho

abbrev quarterBox (o : Nat) (ho : o + 256 ≤ 1024) : Rect S1024x1024 := Rect.unit (s := S1024x1024) ![0, o] S1024x256.size (inQuarter o ho)
abbrev weightBox (o : Nat) (ho : o + 256 ≤ 1024) : Rect S2048x1024 := Rect.unit (s := S2048x1024) ![0, o] S2048x256.size (inWeight o ho)

/-- The rows times the weight's block, stored quarter by quarter. -/
def product (x : Vec Ideal S1024x2048 .bf16) (w : Vec Ideal S2048x1024 .bf16) : List (View.Piece (Elt Ideal) S1024x1024 .f32) :=
  [⟨quarterBox 768 (by decide), k0_pay22 (F := Ideal) x (View.ld (Val := Elt Ideal) w (weightBox 768 (by decide)))⟩,
   ⟨quarterBox 512 (by decide), k0_pay22 (F := Ideal) x (View.ld (Val := Elt Ideal) w (weightBox 512 (by decide)))⟩,
   ⟨quarterBox 256 (by decide), k0_pay22 (F := Ideal) x (View.ld (Val := Elt Ideal) w (weightBox 256 (by decide)))⟩,
   ⟨quarterBox 0 (by decide), k0_pay22 (F := Ideal) x (View.ld (Val := Elt Ideal) w (weightBox 0 (by decide)))⟩]

/-- What it leaves. -/
theorem canon_product (x : Vec Ideal S1024x2048 .bf16) (w : Vec Ideal S2048x1024 .bf16) (r n : Fin 1024) :
    View.canon (Val := Elt Ideal) (product x w) (ix2 r n) = ∑ k : Fin 2048, x (ix2 r k) * w (ix2 k n) := by
  refine View.canon_apply_of_pieces (Val := Elt Ideal) (fun y : S1024x1024.Idx => ∑ k : Fin 2048, x (ix2 (y 0) k) * w (ix2 k (y 1))) (product x w) ?_ (ix2 r n)
    (View.cover_of_tiledL (product x w) S1024x256.size (by sl_kernel_rfl) _)
  have key : ∀ (o : Nat) (ho : o + 256 ≤ 1024) (z : S1024x256.Idx), k0_pay22 (F := Ideal) x (View.ld (Val := Elt Ideal) w (weightBox o ho)) z
      = (fun y : S1024x1024.Idx => ∑ k : Fin 2048, x (ix2 (y 0) k) * w (ix2 k (y 1))) ((quarterBox o ho).emb z) := fun o ho z => by
    refine (congrArg _ (eq_ix2 z)).trans ((mm_apply _ _ (z 0) (z 1)).trans ?_)
    refine Finset.sum_congr rfl fun k _ => ?_
    have e0 : (quarterBox o ho).emb z 0 = z 0 := Fin.ext (by show 0 + 1 * (z 0).val = (z 0).val; omega)
    refine congrArg₂ (· * ·) (congrArg x ?_) (congrArg w ?_)
    · funext a
      match a with
      | ⟨0, _⟩ => exact e0.symm
      | ⟨1, _⟩ => rfl
    · funext a
      match a with
      | ⟨0, _⟩ => exact Fin.ext (by show 0 + 1 * k.val = k.val; omega)
      | ⟨1, _⟩ => rfl
  intro p hp
  simp only [product, List.mem_cons, List.not_mem_nil, or_false] at hp
  rcases hp with rfl | rfl | rfl | rfl
  · exact key 768 (by decide)
  · exact key 512 (by decide)
  · exact key 256 (by decide)
  · exact key 0 (by decide)

/-! ## The values -/

/-- A head of a row of a block. -/
abbrev headOf (a : Vec Ideal S1024x1024 .f32) (r n : Fin 1024) : Fin 128 → EReal :=
  fun e => a (ix2 r ⟨n.val / 128 * 128 + e.val, by have := e.isLt; have := n.isLt; omega⟩)

/-- The normalised block. -/
def normVal (a : Vec Ideal S1024x1024 .f32) (g : Fin 128 → EReal) (r n : Fin 1024) : EReal :=
  a (ix2 r n) * rinvHead (headOf a r n) * g ⟨n.val % 128, by omega⟩

theorem scales_apply (a : Vec Ideal S1024x1024 .f32) (r n : Fin 1024) :
    View.canon (Val := Elt Ideal) (scales a) (ix2 r n) = rinvHead (headOf a r n) := by
  refine canon_heads8 (e := .f32) _ (fun r n => rinvHead (headOf a r n)) ?_ r n
  intro k hk r d
  have hd := d.isLt
  refine (scale_apply _ r d).trans (congrArg rinvHead (funext fun e => ?_))
  rw [ld_head]
  exact congrArg a (congrArg (ix2 r) (Fin.ext (by show 128 * k + e.val = (128 * k + d.val) / 128 * 128 + e.val; omega)))

theorem gained_apply (v : View sig .tc .vmem S1024x1024 .f32) (a : Vec Ideal S1024x1024 .f32) (g : Vec Ideal S1x128 .f32) (r n : Fin 1024) :
    View.canon (Val := Elt Ideal) (gained v a g) (ix2 r n) = normVal a (fun e => g (ix2 0 e)) r n := by
  refine canon_heads8 (e := .f32) _ (normVal a (fun e => g (ix2 0 e))) ?_ r n
  intro k hk r d
  have hd := d.isLt
  refine (gain_apply _ _ g r d).trans ?_
  unfold normVal
  rw [ld_head, View.readCov_eq_canon']
  have e := (congrArg (View.canon (Val := Elt Ideal) (scales a)) (headBox_emb (128 * k) (by omega) (ix2 r d))).trans (scales_apply a r _)
  refine congrArg₂ (· * ·) (congrArg (a _ * ·) e) (congrArg (fun z => g (ix2 0 z)) (Fin.ext ?_))
  show d.val = (128 * k + d.val) % 128
  omega

/-- What the heads written out hold. -/
theorem normed_apply (u v : View sig .tc .vmem S1024x1024 .f32) (a : Vec Ideal S1024x1024 .f32) (g : Vec Ideal S1x128 .f32) (r n : Fin 1024) :
    View.canon (Val := Elt Ideal) (normed u v a g) (ix2 r n) = normVal a (fun e => g (ix2 0 e)) r n := by
  refine canon_heads8 (e := .bf16) _ (normVal a (fun e => g (ix2 0 e))) ?_ r n
  intro k hk r d
  refine (plain_apply _ r d).trans ?_
  rw [View.readCov_eq_canon']
  exact (congrArg (View.canon (Val := Elt Ideal) (gained v a g)) (headBox_emb (128 * k) (by omega) (ix2 r d))).trans (gained_apply v a g r _)

/-- A turned block: in each head, a lane times its first entry plus the lanes 16 above and below (round the head) times theirs. -/
def turnVal (y : Fin 1024 → Fin 1024 → EReal) (t0 t1 t2 : Fin 1024 → Fin 128 → EReal) (r n : Fin 1024) : EReal :=
  y r n * t0 r ⟨n.val % 128, by omega⟩
    + y r ⟨n.val / 128 * 128 + (n.val % 128 + 16) % 128, by have := n.isLt; omega⟩ * t1 r ⟨n.val % 128, by omega⟩
    + y r ⟨n.val / 128 * 128 + (n.val % 128 + 112) % 128, by have := n.isLt; omega⟩ * t2 r ⟨n.val % 128, by omega⟩

/-- What the heads turned and written out hold. -/
theorem turned_apply (u v : View sig .tc .vmem S1024x1024 .f32) (a : Vec Ideal S1024x1024 .f32) (g : Vec Ideal S1x128 .f32)
    (t0 t1 t2 : Vec Ideal S1x1024x128 .f32) (r n : Fin 1024) :
    View.canon (Val := Elt Ideal) (turned u v a g t0 t1 t2) (ix2 r n)
      = turnVal (normVal a (fun e => g (ix2 0 e))) (fun r d => t0 (ix3 0 r d)) (fun r d => t1 (ix3 0 r d)) (fun r d => t2 (ix3 0 r d)) r n := by
  refine canon_heads8 (e := .bf16) _ (turnVal (normVal a (fun e => g (ix2 0 e))) (fun r d => t0 (ix3 0 r d)) (fun r d => t1 (ix3 0 r d)) (fun r d => t2 (ix3 0 r d))) ?_ r n
  intro k hk r d
  have hd := d.isLt
  have e : ∀ z : Fin 128, u.readCov (gained v a g) (headBox (128 * k) (by omega)).toLoadRect (ix2 r z)
      = normVal a (fun e => g (ix2 0 e)) r ⟨128 * k + z.val, by have := z.isLt; omega⟩ := fun z => by
    rw [View.readCov_eq_canon']
    exact (congrArg (View.canon (Val := Elt Ideal) (gained v a g)) (headBox_emb (128 * k) (by omega) (ix2 r z))).trans (gained_apply v a g r _)
  refine (turn_apply _ t0 t1 t2 r d).trans ?_
  rw [e, e, e]
  unfold turnVal
  have hm : (128 * k + d.val) % 128 = d.val := by omega
  have hq : (128 * k + d.val) / 128 * 128 = 128 * k := by omega
  simp only [hm, hq]

end Cert.Kernel5Ideal.Proj
-- ==== Proof.ProjIdeal.Pieces.lean ====
/-
  The even projection's pieces in each case are the block's heads, or its quarters, with the values named before.
-/
module

public import proofs.«01_k».proof.Proof.ProjIdeal.Lists

@[expose] public section

set_option maxRecDepth 16384

noncomputable section

open Idealize.ShloMosaic Idealize.ShloMosaic.TcCoe Idealize.ShloMosaic.Tactic Idealize.SL.Sem

namespace Cert.Kernel5Ideal.Proj

open Cert.Kernel5Ideal Cert.Kernel5Ideal.Gen

theorem inGain (o : Nat) (ho : o + 1 ≤ 8) : ∀ a, (![o, 0] : Fin 2 → Nat) a + S1x128.size a ≤ S8x128.size a := fun a =>
  match a with
  | ⟨0, _⟩ => ho
  | ⟨1, _⟩ => Nat.le_of_eq rfl

theorem inTab (o : Nat) (ho : o + 1 ≤ 3) : ∀ a, (![o, 0, 0] : Fin 3 → Nat) a + S1x1024x128.size a ≤ S3x1024x128.size a := fun a =>
  match a with
  | ⟨0, _⟩ => ho
  | ⟨1, _⟩ => Nat.le_of_eq rfl
  | ⟨2, _⟩ => Nat.le_of_eq rfl

/-- A row of the gains, and a page of the tables. -/
def gainRow (x4 : Vec Ideal S8x128 .f32) (o : Nat) (ho : o + 1 ≤ 8) : Vec Ideal S1x128 .f32 :=
  View.ld (Val := Elt Ideal) x4 (Rect.unit (s := S8x128) ![o, 0] S1x128.size (inGain o ho))
def tabPage (x5 : Vec Ideal S3x1024x128 .f32) (o : Nat) (ho : o + 1 ≤ 3) : Vec Ideal S1x1024x128 .f32 :=
  View.ld (Val := Elt Ideal) x5 (Rect.unit (s := S3x1024x128) ![o, 0, 0] S1x1024x128.size (inTab o ho))

theorem gainRow_apply (x4 : Vec Ideal S8x128 .f32) (o : Nat) (ho : o + 1 ≤ 8) (d : Fin 128) :
    gainRow x4 o ho (ix2 0 d) = x4 (ix2 ⟨o, by omega⟩ d) := by
  refine congrArg x4 (funext fun a => ?_)
  match a with
  | ⟨0, _⟩ => exact Fin.ext (by show o + 1 * 0 = o; omega)
  | ⟨1, _⟩ => exact Fin.ext (by show 0 + 1 * d.val = d.val; omega)

theorem tabPage_apply (x5 : Vec Ideal S3x1024x128 .f32) (o : Nat) (ho : o + 1 ≤ 3) (r : Fin 1024) (d : Fin 128) :
    tabPage x5 o ho (ix3 0 r d) = x5 (ix3 ⟨o, by omega⟩ r d) := by
  refine congrArg x5 (funext fun a => ?_)
  match a with
  | ⟨0, _⟩ => exact Fin.ext (by show o + 1 * 0 = o; omega)
  | ⟨1, _⟩ => exact Fin.ext (by show 0 + 1 * r.val = r.val; omega)
  | ⟨2, _⟩ => exact Fin.ext (by show 0 + 1 * d.val = d.val; omega)

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole)
  (x0 : Vec Ideal S1024x2048 .f32) (x1 : Vec Ideal S1x2048 .f32) (x2 : Vec Ideal S2048x1024 .bf16) (x3 : Vec Ideal S2048x128 .bf16) (x4 : Vec Ideal S8x128 .f32) (x5 : Vec Ideal S3x1024x128 .f32) (xn : Vec Ideal S1024x2048 .bf16) (a : Vec Ideal S1024x1024 .f32)

set_option maxHeartbeats 1000000 in
/-- Case 0 stores the gate logits whole, -/
theorem gate_pieces (hc0 : cond0 i) (hc1 : ¬cond1 i) (hc2 : ¬cond2 i) (hc3 : ¬cond3 i) (hc4 : ¬cond4 i) (hc5 : ¬cond5 i) (hc6 : ¬cond6 i) (hc7 : ¬cond7 i) : (run0 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5).1 = [⟨Rect.unit (s := S1024x128) ![0, 0] S1024x128.size inb_S1024x128_S1024x128_0_0, k0_pay21 (F := Ideal) (k0_pay20 (F := Ideal) x0 x1) x3⟩] := by
  unfold run0
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]

set_option maxHeartbeats 1000000 in
/-- the normalised rows whole, -/
theorem rows_pieces (hc0 : cond0 i) (hc1 : ¬cond1 i) (hc2 : ¬cond2 i) (hc3 : ¬cond3 i) (hc4 : ¬cond4 i) (hc5 : ¬cond5 i) (hc6 : ¬cond6 i) (hc7 : ¬cond7 i) : (run0 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5).2.1 = [⟨Rect.unit (s := S1024x2048) ![0, 0] S1024x2048.size inb_S1024x2048_S1024x2048_0_0, k0_pay20 (F := Ideal) x0 x1⟩] := by
  unfold run0
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]

set_option maxHeartbeats 1000000 in
/-- and the first column block. -/
theorem acc_pieces0 (hc0 : cond0 i) (hc1 : ¬cond1 i) (hc2 : ¬cond2 i) (hc3 : ¬cond3 i) (hc4 : ¬cond4 i) (hc5 : ¬cond5 i) (hc6 : ¬cond6 i) (hc7 : ¬cond7 i) : (run0 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5).2.2.val = product (k0_pay20 (F := Ideal) x0 x1) x2 := by
  unfold run0
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 1 stores the next column block. -/
theorem acc_pieces1 (hc0 : ¬cond0 i) (hc1 : cond1 i) (hc2 : ¬cond2 i) (hc3 : ¬cond3 i) (hc4 : ¬cond4 i) (hc5 : ¬cond5 i) (hc6 : ¬cond6 i) (hc7 : ¬cond7 i) : (run1 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).2.val = product xn x2 := by
  unfold run1
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 2 stores the next column block. -/
theorem acc_pieces2 (hc0 : ¬cond0 i) (hc1 : ¬cond1 i) (hc2 : cond2 i) (hc3 : ¬cond3 i) (hc4 : ¬cond4 i) (hc5 : ¬cond5 i) (hc6 : ¬cond6 i) (hc7 : ¬cond7 i) : (run2 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).2.val = product xn x2 := by
  unfold run2
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 3 stores the next column block. -/
theorem acc_pieces3 (hc0 : ¬cond0 i) (hc1 : ¬cond1 i) (hc2 : ¬cond2 i) (hc3 : cond3 i) (hc4 : ¬cond4 i) (hc5 : ¬cond5 i) (hc6 : ¬cond6 i) (hc7 : ¬cond7 i) : (run3 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).2.val = product xn x2 := by
  unfold run3
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 4 stores the next column block. -/
theorem acc_pieces4 (hc0 : ¬cond0 i) (hc1 : ¬cond1 i) (hc2 : ¬cond2 i) (hc3 : ¬cond3 i) (hc4 : cond4 i) (hc5 : ¬cond5 i) (hc6 : ¬cond6 i) (hc7 : ¬cond7 i) : (run4 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).2.val = product xn x2 := by
  unfold run4
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 5 stores the next column block. -/
theorem acc_pieces5 (hc0 : ¬cond0 i) (hc1 : ¬cond1 i) (hc2 : ¬cond2 i) (hc3 : ¬cond3 i) (hc4 : ¬cond4 i) (hc5 : cond5 i) (hc6 : ¬cond6 i) (hc7 : ¬cond7 i) : (run5 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).2.val = product xn x2 := by
  unfold run5
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 6 stores the next column block. -/
theorem acc_pieces6 (hc0 : ¬cond0 i) (hc1 : ¬cond1 i) (hc2 : ¬cond2 i) (hc3 : ¬cond3 i) (hc4 : ¬cond4 i) (hc5 : ¬cond5 i) (hc6 : cond6 i) (hc7 : ¬cond7 i) : (run6 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).2.val = product xn x2 := by
  unfold run6
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 1 writes the normalised heads out, -/
theorem out_pieces1 (hc0 : ¬cond0 i) (hc1 : cond1 i) (hc2 : ¬cond2 i) (hc3 : ¬cond3 i) (hc4 : ¬cond4 i) (hc5 : ¬cond5 i) (hc6 : ¬cond6 i) (hc7 : ¬cond7 i) : (run1 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).1 = normed arg11.view arg13.view a (gainRow x4 0 (by decide)) := by
  unfold run1
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 2 writes the normalised heads out, -/
theorem out_pieces2 (hc0 : ¬cond0 i) (hc1 : ¬cond1 i) (hc2 : cond2 i) (hc3 : ¬cond3 i) (hc4 : ¬cond4 i) (hc5 : ¬cond5 i) (hc6 : ¬cond6 i) (hc7 : ¬cond7 i) : (run2 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).1 = normed arg12.view arg13.view a (gainRow x4 1 (by decide)) := by
  unfold run2
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- case 3 the block as it is, -/
theorem out_pieces3 (hc0 : ¬cond0 i) (hc1 : ¬cond1 i) (hc2 : ¬cond2 i) (hc3 : cond3 i) (hc4 : ¬cond4 i) (hc5 : ¬cond5 i) (hc6 : ¬cond6 i) (hc7 : ¬cond7 i) : (run3 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).1 = [⟨Rect.unit (s := S1024x1024) ![0, 0] S1024x1024.size inb_S1024x1024_S1024x1024_0_0, k0_pay83 (F := Ideal) a⟩] := by
  unfold run3
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]

set_option maxHeartbeats 1000000 in
/-- case 4 its sigmoid, -/
theorem out_pieces4 (hc0 : ¬cond0 i) (hc1 : ¬cond1 i) (hc2 : ¬cond2 i) (hc3 : ¬cond3 i) (hc4 : cond4 i) (hc5 : ¬cond5 i) (hc6 : ¬cond6 i) (hc7 : ¬cond7 i) : (run4 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).1 = [⟨Rect.unit (s := S1024x1024) ![0, 0] S1024x1024.size inb_S1024x1024_S1024x1024_0_0, k0_pay88 (F := Ideal) a⟩] := by
  unfold run4
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]

set_option maxHeartbeats 1000000 in
/-- case 5 the heads normalised and turned, -/
theorem out_pieces5 (hc0 : ¬cond0 i) (hc1 : ¬cond1 i) (hc2 : ¬cond2 i) (hc3 : ¬cond3 i) (hc4 : ¬cond4 i) (hc5 : cond5 i) (hc6 : ¬cond6 i) (hc7 : ¬cond7 i) : (run5 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).1 = turned arg11.view arg13.view a (gainRow x4 2 (by decide)) (tabPage x5 0 (by decide)) (tabPage x5 1 (by decide)) (tabPage x5 2 (by decide)) := by
  unfold run5
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- case 6 the heads normalised and turned, -/
theorem out_pieces6 (hc0 : ¬cond0 i) (hc1 : ¬cond1 i) (hc2 : ¬cond2 i) (hc3 : ¬cond3 i) (hc4 : ¬cond4 i) (hc5 : ¬cond5 i) (hc6 : cond6 i) (hc7 : ¬cond7 i) : (run6 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xn a).1 = turned arg12.view arg13.view a (gainRow x4 3 (by decide)) (tabPage x5 0 (by decide)) (tabPage x5 1 (by decide)) (tabPage x5 2 (by decide)) := by
  unfold run6
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- and case 7 the last block as it is. -/
theorem out_pieces7 (hc0 : ¬cond0 i) (hc1 : ¬cond1 i) (hc2 : ¬cond2 i) (hc3 : ¬cond3 i) (hc4 : ¬cond4 i) (hc5 : ¬cond5 i) (hc6 : ¬cond6 i) (hc7 : cond7 i) : (run7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 a).val = [⟨Rect.unit (s := S1024x1024) ![0, 0] S1024x1024.size inb_S1024x1024_S1024x1024_0_0, k0_pay83 (F := Ideal) a⟩] := by
  unfold run7
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

end Cert.Kernel5Ideal.Proj
-- ==== Proof.ProjIdeal.Tables.lean ====
/-
  The even projection's host side: the tables, the joined weights and the gains, as the call gets them, element by element.
-/
module

public import proofs.«01_k».proof.Proof.Gen.Kernel5Ideal.Frame
public import Idealize.ShloMosaic.Lib.Pointwise
public import Idealize.ShloMosaic.Lib.Routing.OpsSet
public import Idealize.ShloMosaic.Lib.Routing.OpsOne

@[expose] public section

noncomputable section

open Idealize.ShloMosaic Idealize.ShloMosaic.TcCoe Idealize.SL.Sem

/-! ## A block written over a matrix at one literal start -/

namespace Cert.Place

open Idealize.ShloMosaic.Routing

/-- With one index word, every update starts at that word on the axis it names. -/
theorem start_named {R C w : Nat} {u : Shape} (d : ScatterDims (shape2 R C) (shape1 1) u) (q : Fin 2) (hsd : d.scatterDimsToOperandDims = [q])
    (hivd : d.indexVectorDim = 0) (idx : IVec (shape1 1) w) (j : u.Idx) : d.start j idx q = (idx (ix1 (0 : Fin 1))).toInt := by
  have hm : q ∈ d.scatterDimsToOperandDims := by rw [hsd]; simp
  unfold ScatterDims.start
  rw [dif_pos hm]
  congr 2
  funext b
  match b with
  | ⟨0, _⟩ => exact Subsingleton.elim (α := Fin 1) _ _

/-- On the other axis every update starts at zero. -/
theorem start_other {R C w : Nat} {u : Shape} (d : ScatterDims (shape2 R C) (shape1 1) u) (q p : Fin 2) (hpq : p ≠ q) (hsd : d.scatterDimsToOperandDims = [q])
    (idx : IVec (shape1 1) w) (j : u.Idx) : d.start j idx p = 0 := by
  unfold ScatterDims.start
  rw [dif_neg (by rw [hsd]; simpa using hpq)]

/-- An update's own coordinates are its window coordinates. -/
theorem window_eq {R C A B : Nat} (d : ScatterDims (shape2 R C) (shape1 1) (shape2 A B)) (huw : d.updateWindowDims = [0, 1]) (hiw : d.insertedWindowDims = [])
    (a : Fin A) (b : Fin B) : d.window (ix2 a b) 0 = a.val ∧ d.window (ix2 a b) 1 = b.val := by
  have hk : d.sKept = [0, 1] := by
    show (shape2 R C).kept d.insertedWindowDims = _
    rw [hiw]
    rfl
  constructor
  · unfold ScatterDims.window
    rw [dif_pos (by rw [hk]; simp)]
    have : d.updateWindowDims[d.sKept.idxOf 0]'(by rw [huw, hk]; exact (by decide : List.idxOf (0 : Fin 2) [0, 1] < 2)) = 0 := by simp only [hk, huw]; rfl
    rw [this]
    rfl
  · unfold ScatterDims.window
    rw [dif_pos (by rw [hk]; simp)]
    have : d.updateWindowDims[d.sKept.idxOf 1]'(by rw [huw, hk]; exact (by decide : List.idxOf (1 : Fin 2) [0, 1] < 2)) = 1 := by simp only [hk, huw]; rfl
    rw [this]
    rfl

/-- A block of columns written over the matrix from column `k` on. -/
theorem cols {α : Type} {R C B w : Nat} (d : ScatterDims (shape2 R C) (shape1 1) (shape2 R B)) (huw : d.updateWindowDims = [0, 1]) (hiw : d.insertedWindowDims = [])
    (hsd : d.scatterDimsToOperandDims = [1]) (hivd : d.indexVectorDim = 0) (x : (shape2 R C).Idx → α) (idx : IVec (shape1 1) w) (u : (shape2 R B).Idx → α)
    (k : ℕ) (hk : (idx (ix1 (0 : Fin 1))).toInt = (k : Int)) (r : Fin R) (c : Fin C) :
    Host.scatter d (fun _ b => b) x idx u (ix2 r c) = if h : k ≤ c.val ∧ c.val < k + B then u (ix2 r ⟨c.val - k, by omega⟩) else x (ix2 r c) := by
  have lands : ∀ (a : Fin R) (b : Fin B), d.resultIdx? (ix2 a b) idx = some (ix2 r c) ↔ a.val = r.val ∧ k + b.val = c.val := fun a b => by
    obtain ⟨w0, w1⟩ := window_eq d huw hiw a b
    show d.resultIdx? (ix2 a b) idx = some (ValueIdx.ix2 r c) ↔ _
    rw [resultIdx?_ix2, start_named d 1 hsd hivd, start_other d 1 0 (by decide) hsd, w0, w1, hk]
    omega
  by_cases h : k ≤ c.val ∧ c.val < k + B
  · rw [dif_pos h]
    refine scatter_set_hit d x idx u _ _ (fun y hy => ?_) (ix2 r ⟨c.val - k, by omega⟩) ((lands _ _).2 ⟨rfl, by show k + (c.val - k) = c.val; omega⟩)
    rw [eq_ix2 y] at hy ⊢
    obtain ⟨e0, e1⟩ := (lands _ _).1 hy
    congr 1
    rw [show y 0 = r from Fin.ext e0]
    exact congrArg (ix2 r) (Fin.ext (by show (y 1).val = c.val - k; omega))
  · rw [dif_neg h]
    refine scatter_set_miss d x idx u _ fun y hy => h ?_
    rw [eq_ix2 y] at hy
    obtain ⟨e0, e1⟩ := (lands _ _).1 hy
    have := (y 1).isLt
    have hb : (y 1).val < B := (y 1).isLt
    omega

/-- A block of rows written over the matrix from row `k` on. -/
theorem rows {α : Type} {R C A w : Nat} (d : ScatterDims (shape2 R C) (shape1 1) (shape2 A C)) (huw : d.updateWindowDims = [0, 1]) (hiw : d.insertedWindowDims = [])
    (hsd : d.scatterDimsToOperandDims = [0]) (hivd : d.indexVectorDim = 0) (x : (shape2 R C).Idx → α) (idx : IVec (shape1 1) w) (u : (shape2 A C).Idx → α)
    (k : ℕ) (hk : (idx (ix1 (0 : Fin 1))).toInt = (k : Int)) (r : Fin R) (c : Fin C) :
    Host.scatter d (fun _ b => b) x idx u (ix2 r c) = if h : k ≤ r.val ∧ r.val < k + A then u (ix2 ⟨r.val - k, by omega⟩ c) else x (ix2 r c) := by
  have lands : ∀ (a : Fin A) (b : Fin C), d.resultIdx? (ix2 a b) idx = some (ix2 r c) ↔ k + a.val = r.val ∧ b.val = c.val := fun a b => by
    obtain ⟨w0, w1⟩ := window_eq d huw hiw a b
    show d.resultIdx? (ix2 a b) idx = some (ValueIdx.ix2 r c) ↔ _
    rw [resultIdx?_ix2, start_named d 0 hsd hivd, start_other d 0 1 (by decide) hsd, w0, w1, hk]
    omega
  by_cases h : k ≤ r.val ∧ r.val < k + A
  · rw [dif_pos h]
    refine scatter_set_hit d x idx u _ _ (fun y hy => ?_) (ix2 ⟨r.val - k, by omega⟩ c) ((lands _ _).2 ⟨by show k + (r.val - k) = r.val; omega, rfl⟩)
    rw [eq_ix2 y] at hy ⊢
    obtain ⟨e0, e1⟩ := (lands _ _).1 hy
    congr 1
    rw [show y 1 = c from Fin.ext e1]
    exact congrArg (ix2 · c) (Fin.ext (by show (y 0).val = r.val - k; omega))
  · rw [dif_neg h]
    refine scatter_set_miss d x idx u _ fun y hy => h ?_
    rw [eq_ix2 y] at hy
    obtain ⟨e0, e1⟩ := (lands _ _).1 hy
    have hb : (y 0).val < A := (y 0).isLt
    omega

end Cert.Place

namespace Cert.Kernel5Ideal.Proj

open Cert.Kernel5Ideal Cert.Kernel5Ideal.Gen

/-! ## The three tables of the rotation -/

/-- A block of 16 columns written over a 4096 × 128 table from column `k` on. -/
def put16 (k : BitVec 32) (x : S4096x128.Idx → EReal) (u : S4096x16.Idx → EReal) : S4096x128.Idx → EReal :=
  Host.scatter scatter_S4096x128_S1_S4096x16_01_n_1_0 (fun _ b => b) x (broadcastInDim S1 ![] bcast_S_S1 (constantI S_ 32 k)) u

theorem put16_apply (k : BitVec 32) (n : ℕ) (hn : k.toInt = (n : Int)) (x : S4096x128.Idx → EReal) (u : S4096x16.Idx → EReal) (r : Fin 4096) (c : Fin 128) :
    put16 k x u (ix2 r c) = if h : n ≤ c.val ∧ c.val < n + 16 then u (ix2 r ⟨c.val - n, by omega⟩) else x (ix2 r c) :=
  Cert.Place.cols (R := 4096) (C := 128) (B := 16) scatter_S4096x128_S1_S4096x16_01_n_1_0 rfl rfl rfl rfl x _ u n hn r c

/-- A table filled with one number. -/
abbrev filled (w : BitVec 32) : S4096x128.Idx → EReal := broadcastInDim S4096x128 ![] bcast_S_S4096x128 (constant (F := Ideal) S_ .f32 w)

/-- The three tables, stacked. -/
def tabs (cs sn : S4096x16.Idx → EReal) : S3x4096x128.Idx → EReal :=
  concatenate S3x4096x128 0
    [⟨S1x4096x128, (broadcastInDim S1x4096x128 ![1, 2] bcast_S4096x128_S1x4096x128_1_2 (put16 16#32 (put16 0#32 (filled 0x3F800000#32) cs) cs) : S1x4096x128.Idx → EReal)⟩,
     ⟨S1x4096x128, (broadcastInDim S1x4096x128 ![1, 2] bcast_S4096x128_S1x4096x128_1_2 (put16 0#32 (filled 0x00000000#32) (Host.negf (F := Ideal) (φ := .f32) sn)) : S1x4096x128.Idx → EReal)⟩,
     ⟨S1x4096x128, (broadcastInDim S1x4096x128 ![1, 2] bcast_S4096x128_S1x4096x128_1_2 (put16 16#32 (filled 0x00000000#32) sn) : S1x4096x128.Idx → EReal)⟩]
    concatenates_S1x4096x128_S1x4096x128_S1x4096x128_S3x4096x128_d0

theorem zero_word : Ideal.ofBits .f32 0x00000000#32 = 0 := by
  simp [Ideal.ofBits, Ideal.ieee, -EReal.coe_mul]

theorem one_word : Ideal.ofBits .f32 0x3F800000#32 = 1 := by
  simp [Ideal.ofBits, Ideal.ieee, -EReal.coe_mul]
  norm_num

theorem filled_apply (w : BitVec 32) (r : Fin 4096) (d : Fin 128) : filled w (ix2 r d) = Ideal.ofBits .f32 w := by
  pointwise

/-- The first table: the cosines in the first 32 lanes, one elsewhere. -/
theorem tabs0 (cs sn : S4096x16.Idx → EReal) (r : Fin 4096) (d : Fin 128) :
    tabs cs sn (ix3 0 r d) = if h : d.val < 32 then cs (ix2 r ⟨d.val % 16, by omega⟩) else Ideal.ofBits .f32 0x3F800000#32 := by
  unfold tabs
  pointwise
  rw [put16_apply 16#32 16 (by decide), put16_apply 0#32 0 (by decide), filled_apply]
  by_cases h : d.val < 32
  · rw [dif_pos h]
    by_cases h' : 16 ≤ d.val
    · rw [dif_pos (by omega)]
      exact congrArg (fun y => cs (ix2 r y)) (Fin.ext (by show d.val - 16 = d.val % 16; omega))
    · rw [dif_neg (by omega), dif_pos (by omega)]
      exact congrArg (fun y => cs (ix2 r y)) (Fin.ext (by show d.val - 0 = d.val % 16; omega))
  · rw [dif_neg h, dif_neg (by omega), dif_neg (by omega)]
    exact one_word

/-- The second table: minus the sines in the first 16 lanes, zero elsewhere. -/
theorem tabs1 (cs sn : S4096x16.Idx → EReal) (r : Fin 4096) (d : Fin 128) :
    tabs cs sn (ix3 1 r d) = if h : d.val < 16 then -sn (ix2 r ⟨d.val, h⟩) else 0 := by
  unfold tabs
  pointwise
  rw [put16_apply 0#32 0 (by decide), filled_apply]
  by_cases h : d.val < 16
  · rw [dif_pos h, dif_pos (by omega)]
    rfl
  · rw [dif_neg h, dif_neg (by omega)]
    exact zero_word

/-- The third table: the sines in lanes 16 to 31, zero elsewhere. -/
theorem tabs2 (cs sn : S4096x16.Idx → EReal) (r : Fin 4096) (d : Fin 128) :
    tabs cs sn (ix3 2 r d) = if h : 16 ≤ d.val ∧ d.val < 32 then sn (ix2 r ⟨d.val - 16, by omega⟩) else 0 := by
  unfold tabs
  pointwise
  rw [put16_apply 16#32 16 (by decide), filled_apply]
  by_cases h : 16 ≤ d.val ∧ d.val < 32
  · rw [dif_pos h, dif_pos (by omega)]
  · rw [dif_neg h, dif_neg (by omega)]
    exact zero_word

/-! ## The weights and the gains -/

variable (m : (ℓ : Loc nD τ sig) → Buf (Elt Ideal) ℓ)

/-- The arguments of the call. -/
abbrev argH (c : Dev nD) : S16384x2048.Idx → EReal := m ((c : Thread nD τ).loc main_arg0)
abbrev argG (c : Dev nD) : S2048.Idx → EReal := m ((c : Thread nD τ).loc main_arg1)
abbrev argW (c : Dev nD) : S1x2048x7176.Idx → EReal := m ((c : Thread nD τ).loc main_arg2)
abbrev argQ (c : Dev nD) : S1x128.Idx → EReal := m ((c : Thread nD τ).loc main_arg3)
abbrev argK (c : Dev nD) : S1x128.Idx → EReal := m ((c : Thread nD τ).loc main_arg4)
abbrev argQd (c : Dev nD) : S1x128.Idx → EReal := m ((c : Thread nD τ).loc main_arg5)
abbrev argKd (c : Dev nD) : S1x128.Idx → EReal := m ((c : Thread nD τ).loc main_arg6)
abbrev argC (c : Dev nD) : S4096x16.Idx → EReal := m ((c : Thread nD τ).loc main_arg7)
abbrev argS (c : Dev nD) : S4096x16.Idx → EReal := m ((c : Thread nD τ).loc main_arg8)

/-- Equal parts joined are equal. -/
theorem three {a a' b b' c c' : S1x4096x128.Idx → EReal} (h0 : a = a') (h1 : b = b') (h2 : c = c') :
    concatenate S3x4096x128 0 [⟨S1x4096x128, a⟩, ⟨S1x4096x128, b⟩, ⟨S1x4096x128, c⟩] concatenates_S1x4096x128_S1x4096x128_S1x4096x128_S3x4096x128_d0
      = concatenate S3x4096x128 0 [⟨S1x4096x128, a'⟩, ⟨S1x4096x128, b'⟩, ⟨S1x4096x128, c'⟩] concatenates_S1x4096x128_S1x4096x128_S1x4096x128_S3x4096x128_d0 := by
  rw [h0, h1, h2]

set_option maxRecDepth 100000 in
theorem V_tabs (c : Dev nD) : V m c main_v15 = tabs (argC m c) (argS m c) := by
  simp only [V, V0, hostOps0, List.flatten_cons, List.flatten_nil, List.append_nil]
  after_results
  refine three ?_ ?_ ?_
  · change (_ : Valuation τ sig (Elt Ideal)) (Proc.tc.devRef main_v12) = _
    after_results
    rfl
  · change (_ : Valuation τ sig (Elt Ideal)) (Proc.tc.devRef main_v13) = _
    after_results
    rfl
  · change (_ : Valuation τ sig (Elt Ideal)) (Proc.tc.devRef main_v14) = _
    after_results
    rfl

set_option maxRecDepth 100000 in
theorem V_gain (c : Dev nD) : V m c main_v38 = (shapeCast S1x2048 (argG m c) shapeCasts_S2048_S1x2048 : S1x2048.Idx → EReal) := by
  simp only [V, V0, hostOps0, List.flatten_cons, List.flatten_nil, List.append_nil]
  after_results
  rfl

/-- The weight without its layer axis. -/
abbrev flatW (W : S1x2048x7176.Idx → EReal) : S2048x7176.Idx → EReal := shapeCast S2048x7176 W shapeCasts_S1x2048x7176_S2048x7176

/-- The weight's columns but the eight gate columns. -/
def mainW (W : S1x2048x7176.Idx → EReal) : S2048x7168.Idx → EReal :=
  concatenate S2048x7168 1 [⟨S2048x4096, extractStridedSlice S2048x4096 ![0, 0] (flatW W) slices_S2048x7176_S2048x4096_0_0⟩,
    ⟨S2048x3072, extractStridedSlice S2048x3072 ![0, 4104] (flatW W) slices_S2048x7176_S2048x3072_0_4104⟩] concatenates_S2048x4096_S2048x3072_S2048x7168_d1

set_option maxRecDepth 100000 in
theorem V_main (c : Dev nD) : V m c main_v20 = mainW (argW m c) := by
  simp only [V, V0, hostOps0, List.flatten_cons, List.flatten_nil, List.append_nil]
  after_results
  rfl

theorem mainW_apply (W : S1x2048x7176.Idx → EReal) (k : Fin 2048) (n : Fin 7168) :
    mainW W (ix2 k n) = W (ix3 0 k ⟨if n.val < 4096 then n.val else n.val + 8, by split <;> omega⟩) := by
  unfold mainW
  pointwise
  by_cases h : n.val < 4096
  · rw [dif_pos h]
    exact congrArg (fun y => W (ix3 0 k y)) (Fin.ext (by show n.val = if n.val < 4096 then n.val else n.val + 8; split <;> omega))
  · rw [dif_neg h]
    exact congrArg (fun y => W (ix3 0 k y)) (Fin.ext (by show 4104 + (n.val - 4096) = if n.val < 4096 then n.val else n.val + 8; split <;> omega))

/-- The eight gate columns, padded to 128 lanes. -/
def gateW (W : S1x2048x7176.Idx → EReal) : S2048x128.Idx → EReal :=
  Host.scatter scatter_S2048x128_S1_S2048x8_01_n_1_0 (fun _ b => b) (broadcastInDim S2048x128 ![] bcast_S_S2048x128 (constant (F := Ideal) S_ .f32 0x00000000#32))
    (broadcastInDim S1 ![] bcast_S_S1 (constantI S_ 32 0#32)) (extractStridedSlice S2048x8 ![0, 4096] (flatW W) slices_S2048x7176_S2048x8_0_4096)

/-- A cast changes no value. -/
theorem cast_id {s : Shape} (x : FVec Ideal s .f32) (h) : truncf (F := Ideal) .bf16 x h = (x : s.Idx → EReal) := rfl

set_option maxRecDepth 100000 in
theorem V_gate (c : Dev nD) : V m c main_v25 = gateW (argW m c) := by
  simp only [V, V0, hostOps0, List.flatten_cons, List.flatten_nil, List.append_nil]
  after_results
  refine Eq.trans (b := (truncf (F := Ideal) .bf16 (gateW (argW m c) : FVec Ideal S2048x128 .f32) bitsLt_bf16_f32 : S2048x128.Idx → EReal)) ?_ (cast_id _ _)
  refine congrArg (fun z : FVec Ideal S2048x128 .f32 => truncf (F := Ideal) .bf16 z bitsLt_bf16_f32) ?_
  unfold gateW
  rfl

theorem gateW_apply (W : S1x2048x7176.Idx → EReal) (k : Fin 2048) (d : Fin 128) (h : d.val < 8) :
    gateW W (ix2 k d) = W (ix3 0 k ⟨4096 + d.val, by omega⟩) := by
  refine (Cert.Place.cols (R := 2048) (C := 128) (B := 8) scatter_S2048x128_S1_S2048x8_01_n_1_0 rfl rfl rfl rfl _ _ _ 0 (by decide) k d).trans ?_
  rw [dif_pos (by omega)]
  pointwise

/-- The four gains, one to a row of eight. -/
def gains (a b c d : S1x128.Idx → EReal) : S8x128.Idx → EReal :=
  Host.scatter scatter_S8x128_S1_S4x128_01_n_0_0 (fun _ b => b) (broadcastInDim S8x128 ![] bcast_S_S8x128 (constant (F := Ideal) S_ .f32 0x00000000#32))
    (broadcastInDim S1 ![] bcast_S_S1 (constantI S_ 32 0#32))
    (concatenate S4x128 0 [⟨S1x128, broadcastInDim S1x128 ![1] bcast_S128_S1x128_1 (shapeCast S128 a shapeCasts_S1x128_S128)⟩,
      ⟨S1x128, broadcastInDim S1x128 ![1] bcast_S128_S1x128_1 (shapeCast S128 b shapeCasts_S1x128_S128)⟩,
      ⟨S1x128, broadcastInDim S1x128 ![1] bcast_S128_S1x128_1 (shapeCast S128 c shapeCasts_S1x128_S128)⟩,
      ⟨S1x128, broadcastInDim S1x128 ![1] bcast_S128_S1x128_1 (shapeCast S128 d shapeCasts_S1x128_S128)⟩] concatenates_S1x128_S1x128_S1x128_S1x128_S4x128_d0)

/-- Equal rows joined are equal. -/
theorem four {a a' b b' c c' d d' : S1x128.Idx → EReal} (h0 : a = a') (h1 : b = b') (h2 : c = c') (h3 : d = d') :
    concatenate S4x128 0 [⟨S1x128, a⟩, ⟨S1x128, b⟩, ⟨S1x128, c⟩, ⟨S1x128, d⟩] concatenates_S1x128_S1x128_S1x128_S1x128_S4x128_d0
      = concatenate S4x128 0 [⟨S1x128, a'⟩, ⟨S1x128, b'⟩, ⟨S1x128, c'⟩, ⟨S1x128, d'⟩] concatenates_S1x128_S1x128_S1x128_S1x128_S4x128_d0 := by
  rw [h0, h1, h2, h3]

set_option maxRecDepth 100000 in
theorem V_gains (c : Dev nD) : V m c main_v37 = gains (argQ m c) (argK m c) (argQd m c) (argKd m c) := by
  simp only [V, V0, hostOps0, List.flatten_cons, List.flatten_nil, List.append_nil]
  after_results
  unfold gains
  refine congrArg (Host.scatter scatter_S8x128_S1_S4x128_01_n_0_0 (fun _ b => b) _ _) ?_
  refine four ?_ ?_ ?_ ?_
  · change (_ : Valuation τ sig (Elt Ideal)) (Proc.tc.devRef main_v30) = _
    after_results
    rfl
  · change (_ : Valuation τ sig (Elt Ideal)) (Proc.tc.devRef main_v31) = _
    after_results
    rfl
  · change (_ : Valuation τ sig (Elt Ideal)) (Proc.tc.devRef main_v32) = _
    after_results
    rfl
  · change (_ : Valuation τ sig (Elt Ideal)) (Proc.tc.devRef main_v33) = _
    after_results
    rfl

theorem gains_apply (a b c d : S1x128.Idx → EReal) (e : Fin 128) :
    gains a b c d (ix2 0 e) = a (ix2 0 e) ∧ gains a b c d (ix2 1 e) = b (ix2 0 e)
      ∧ gains a b c d (ix2 2 e) = c (ix2 0 e) ∧ gains a b c d (ix2 3 e) = d (ix2 0 e) := by
  refine ⟨?_, ?_, ?_, ?_⟩ <;>
  · refine (Cert.Place.rows (R := 8) (C := 128) (A := 4) scatter_S8x128_S1_S4x128_01_n_0_0 rfl rfl rfl rfl _ _ _ 0 (by decide) _ e).trans ?_
    rw [dif_pos (by decide)]
    pointwise

end Cert.Kernel5Ideal.Proj
-- ==== Proof.ProjIdeal.Values.lean ====
/-
  The even projection, block by block: what a row block's buffers hold, in the layer's own terms.
-/
module

public import proofs.«01_k».proof.Proof.ProjIdeal.Frame
public import proofs.«01_k».proof.Proof.ProjIdeal.Pieces
public import proofs.«01_k».proof.Proof.ProjIdeal.Tables

@[expose] public section

noncomputable section

open Idealize.ShloMosaic Idealize.ShloMosaic.TcCoe Idealize.SL.Sem

namespace Cert.Kernel5Ideal.Proj

open Cert.Kernel5Ideal Cert.Kernel5Ideal.Gen

/-! ## The layer's own formulas -/

/-- The normalised hidden state. -/
def hidden (H : S16384x2048.Idx → EReal) (g : S2048.Idx → EReal) (r : Fin 16384) (k : Fin 2048) : EReal :=
  H (ix2 r k) * rinvRow (fun e => H (ix2 r e)) * g (ix1 k)

/-- Column `n` of the projection. -/
def column (H : S16384x2048.Idx → EReal) (g : S2048.Idx → EReal) (W : S1x2048x7176.Idx → EReal) (r : Fin 16384) (n : ℕ) : EReal :=
  ∑ k : Fin 2048, hidden H g r k * W (ix3 0 k (Fin.ofNat 7176 n))

/-- Eight heads normalised, each by its root mean square, and scaled by the gain. -/
def headNorm (y : Fin 1024 → EReal) (g : S1x128.Idx → EReal) (n : Fin 1024) : EReal :=
  y n * rinvHead (fun e => y ⟨n.val / 128 * 128 + e.val, by have := e.isLt; have := n.isLt; omega⟩) * g (ix2 0 ⟨n.val % 128, by omega⟩)

/-- The first 32 entries of each head turned, pair by pair, by the token's angles. -/
def rotate (y : Fin 1024 → EReal) (cs sn : Fin 16 → EReal) (n : Fin 1024) : EReal :=
  if h : n.val % 128 < 16 then y n * cs ⟨n.val % 128, h⟩ - y ⟨n.val + 16, by have := n.isLt; omega⟩ * sn ⟨n.val % 128, h⟩
  else if h' : n.val % 128 < 32 then y n * cs ⟨n.val % 128 - 16, by omega⟩ + y ⟨n.val - 16, by have := n.isLt; omega⟩ * sn ⟨n.val % 128 - 16, by omega⟩
  else y n

/-- The kernel's three-term form of the turn is the turn. -/
theorem rotate_eq (y : Fin 1024 → EReal) (C S : S4096x16.Idx → EReal) (p : Fin 4096) (n : Fin 1024) :
    y n * tabs C S (ix3 0 p ⟨n.val % 128, by omega⟩)
      + y ⟨n.val / 128 * 128 + (n.val % 128 + 16) % 128, by have := n.isLt; omega⟩ * tabs C S (ix3 1 p ⟨n.val % 128, by omega⟩)
      + y ⟨n.val / 128 * 128 + (n.val % 128 + 112) % 128, by have := n.isLt; omega⟩ * tabs C S (ix3 2 p ⟨n.val % 128, by omega⟩)
    = rotate y (fun d => C (ix2 p d)) (fun d => S (ix2 p d)) n := by
  rw [tabs0, tabs1, tabs2]
  unfold rotate
  dsimp only
  by_cases h : n.val % 128 < 16
  · rw [dif_pos h, dif_pos (by omega), dif_pos h, dif_neg (by omega), mul_zero, add_zero, mul_neg, sub_eq_add_neg]
    refine congrArg₂ (· + ·) (congrArg (fun z => y n * C (ix2 p z)) (Fin.ext (by show n.val % 128 % 16 = n.val % 128; omega))) ?_
    refine congrArg (fun z => -(y z * _)) (Fin.ext ?_)
    show n.val / 128 * 128 + (n.val % 128 + 16) % 128 = n.val + 16
    omega
  · rw [dif_neg h]
    by_cases h' : n.val % 128 < 32
    · rw [dif_pos h', dif_pos (by omega), dif_neg h, dif_pos (by omega), mul_zero, add_zero]
      refine congrArg₂ (· + ·) (congrArg (fun z => y n * C (ix2 p z)) (Fin.ext (by show n.val % 128 % 16 = n.val % 128 - 16; omega))) ?_
      refine congrArg (fun z => y z * _) (Fin.ext ?_)
      show n.val / 128 * 128 + (n.val % 128 + 112) % 128 = n.val - 16
      omega
    · rw [dif_neg h', dif_neg (by omega), dif_neg h, dif_neg (by omega), mul_zero, mul_zero, add_zero, add_zero, one_word, mul_one]

variable (m : (ℓ : Loc nD τ sig) → Buf (Elt Ideal) ℓ)

/-! ## The blocks the points read -/

/-- Where each point's blocks lie. -/
theorem idx_facts : ∀ t : Fin cfg0.N, (win0_0.index t (0 : Fin 2) = t.val / 8 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = min (t.val % 8) 6)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = t.val / 8 % 4 ∧ win0_5.index t (2 : Fin 3) = 0)
    ∧ (win0_6.index t (0 : Fin 2) = t.val / 8 ∧ win0_6.index t (1 : Fin 2) = t.val % 8 - 1)
    ∧ (win0_7.index t (0 : Fin 2) = t.val / 8 ∧ win0_7.index t (1 : Fin 2) = 0) :=
  (by decide +kernel : ∀ t : Fin grid0.N, _)

/-- The row of the array that row `r` of block `q` is. -/
abbrev row (q : ℕ) (hq : q < 16) (r : Fin 1024) : Fin 16384 := ⟨1024 * q + r.val, by omega⟩

theorem iblk0_apply (c : Dev nD) (t : Fin cfg0.N) (r : Fin 1024) (k : Fin 2048) :
    (iblk m c 0 t : Vec Ideal S1024x2048 .f32) (ix2 r k) = argH m c (ix2 (row (t.val / 8) (by have := lt_N t; omega) r) k) := by
  obtain ⟨⟨e0, e1⟩, -⟩ := idx_facts t
  unfold iblk
  rw [View.read_apply]
  show V m c main_arg0 _ = _
  rw [V_main_arg0]
  show argH m c _ = _
  congr 1
  funext b
  apply Fin.ext
  match b with
  | ⟨0, _⟩ => show win0_0.index t (0 : Fin 2) * 1024 + 1 * r.val = 1024 * (t.val / 8) + r.val; rw [e0]; omega
  | ⟨1, _⟩ => show win0_0.index t (1 : Fin 2) * 2048 + 1 * k.val = k.val; rw [e1]; omega

theorem iblk1_apply (c : Dev nD) (t : Fin cfg0.N) (k : Fin 2048) :
    (iblk m c 1 t : Vec Ideal S1x2048 .f32) (ix2 0 k) = argG m c (ix1 k) := by
  obtain ⟨-, ⟨e0, e1⟩, -⟩ := idx_facts t
  unfold iblk
  rw [View.read_apply]
  show V m c main_v38 _ = _
  rw [V_gain]
  refine Eq.trans (b := shapeCast S1x2048 (argG m c) shapeCasts_S2048_S1x2048 (ix2 0 k)) ?_ ?_
  · congr 1
    funext b
    apply Fin.ext
    match b with
    | ⟨0, _⟩ => show win0_1.index t (0 : Fin 2) * 1 + 1 * 0 = 0; rw [e0]
    | ⟨1, _⟩ => show win0_1.index t (1 : Fin 2) * 2048 + 1 * k.val = k.val; rw [e1]; omega
  · pointwise

theorem iblk2_apply (c : Dev nD) (t : Fin cfg0.N) (k : Fin 2048) (n : Fin 1024) :
    (iblk m c 2 t : Vec Ideal S2048x1024 .bf16) (ix2 k n)
      = mainW (argW m c) (ix2 k ⟨min (t.val % 8) 6 * 1024 + n.val, by have := n.isLt; omega⟩) := by
  obtain ⟨-, -, ⟨e0, e1⟩, -⟩ := idx_facts t
  unfold iblk
  rw [View.read_apply]
  show V m c main_v20 _ = _
  rw [V_main]
  congr 1
  funext b
  apply Fin.ext
  match b with
  | ⟨0, _⟩ => show win0_2.index t (0 : Fin 2) * 2048 + 1 * k.val = k.val; rw [e0]; omega
  | ⟨1, _⟩ => show win0_2.index t (1 : Fin 2) * 1024 + 1 * n.val = min (t.val % 8) 6 * 1024 + n.val; rw [e1]; omega

theorem iblk3_apply (c : Dev nD) (t : Fin cfg0.N) (k : Fin 2048) (d : Fin 128) :
    (iblk m c 3 t : Vec Ideal S2048x128 .bf16) (ix2 k d) = gateW (argW m c) (ix2 k d) := by
  obtain ⟨-, -, -, ⟨e0, e1⟩, -⟩ := idx_facts t
  unfold iblk
  rw [View.read_apply]
  show V m c main_v25 _ = _
  rw [V_gate]
  congr 1
  funext b
  apply Fin.ext
  match b with
  | ⟨0, _⟩ => show win0_3.index t (0 : Fin 2) * 2048 + 1 * k.val = k.val; rw [e0]; omega
  | ⟨1, _⟩ => show win0_3.index t (1 : Fin 2) * 128 + 1 * d.val = d.val; rw [e1]; omega

theorem iblk4_apply (c : Dev nD) (t : Fin cfg0.N) (o : Fin 8) (d : Fin 128) :
    (iblk m c 4 t : Vec Ideal S8x128 .f32) (ix2 o d) = gains (argQ m c) (argK m c) (argQd m c) (argKd m c) (ix2 o d) := by
  obtain ⟨-, -, -, -, ⟨e0, e1⟩, -⟩ := idx_facts t
  unfold iblk
  rw [View.read_apply]
  show V m c main_v37 _ = _
  rw [V_gains]
  congr 1
  funext b
  apply Fin.ext
  match b with
  | ⟨0, _⟩ => show win0_4.index t (0 : Fin 2) * 8 + 1 * o.val = o.val; rw [e0]; omega
  | ⟨1, _⟩ => show win0_4.index t (1 : Fin 2) * 128 + 1 * d.val = d.val; rw [e1]; omega

theorem iblk5_apply (c : Dev nD) (t : Fin cfg0.N) (o : Fin 3) (r : Fin 1024) (d : Fin 128) :
    (iblk m c 5 t : Vec Ideal S3x1024x128 .f32) (ix3 o r d) = tabs (argC m c) (argS m c) (ix3 o ⟨t.val / 8 % 4 * 1024 + r.val, by have := r.isLt; omega⟩ d) := by
  obtain ⟨-, -, -, -, -, ⟨e0, e1, e2⟩, -⟩ := idx_facts t
  unfold iblk
  rw [View.read_apply]
  show V m c main_v15 _ = _
  rw [V_tabs]
  congr 1
  funext b
  apply Fin.ext
  match b with
  | ⟨0, _⟩ => show win0_5.index t (0 : Fin 3) * 3 + 1 * o.val = o.val; rw [e0]; omega
  | ⟨1, _⟩ => show win0_5.index t (1 : Fin 3) * 1024 + 1 * r.val = t.val / 8 % 4 * 1024 + r.val; rw [e1]; omega
  | ⟨2, _⟩ => show win0_5.index t (2 : Fin 3) * 128 + 1 * d.val = d.val; rw [e2]; omega

/-! ## What the row block's buffers hold -/

theorem rows_val (c : Dev nD) (q : ℕ) (hq : q < 16) (r : Fin 1024) (k : Fin 2048) :
    rowsOf m c q (ix2 r k) = hidden (argH m c) (argG m c) (row q hq r) k := by
  simp only [rowsOf, r0, rows_pieces]
  rw [View.canon_unit_zero hz2]
  refine (rows_apply _ _ r k).trans ?_
  have e : (pt q 0).val / 8 = q := by rw [pt_val q 0 hq (by decide)]; omega
  simp only [iblk0_apply, iblk1_apply, hidden, e]

/-- The gate logits. -/
theorem gate_val (c : Dev nD) (q : ℕ) (hq : q < 16) (r : Fin 1024) (d : Fin 128) (hd : d.val < 8) :
    gateOf m c q (ix2 r d) = column (argH m c) (argG m c) (argW m c) (row q hq r) (4096 + d.val) := by
  simp only [gateOf, r0, gate_pieces]
  rw [View.canon_unit_zero hz2]
  refine (gate_apply _ _ r d).trans ?_
  unfold column
  refine Finset.sum_congr rfl fun k _ => congrArg₂ (· * ·) ?_ ?_
  · refine (rows_apply _ _ r k).trans ?_
    have e : (pt q 0).val / 8 = q := by rw [pt_val q 0 hq (by decide)]; omega
    simp only [iblk0_apply, iblk1_apply, hidden, e]
  · rw [iblk3_apply, gateW_apply _ _ _ hd]
    exact congrArg (fun z => argW m c (ix3 0 k z)) (Fin.ext (by show 4096 + d.val = (4096 + d.val) % 7176; omega))

/-- Column `n` of column block `s` in the weight. -/
def colBase (s : ℕ) : ℕ := if s < 4 then 1024 * s else 1024 * s + 8

/-- The rows times a column block. -/
theorem product_val (c : Dev nD) (q j : ℕ) (hq : q < 16) (hj : j < 7) (x : Vec Ideal S1024x2048 .bf16)
    (hx : ∀ r k, x (ix2 r k) = hidden (argH m c) (argG m c) (row q hq r) k) (r n : Fin 1024) :
    View.canon (Val := Elt Ideal) (product x (iblk m c 2 (pt q j))) (ix2 r n)
      = column (argH m c) (argG m c) (argW m c) (row q hq r) (colBase j + n.val) := by
  refine (canon_product _ _ r n).trans ?_
  unfold column
  refine Finset.sum_congr rfl fun k _ => congrArg₂ (· * ·) (hx r k) ?_
  rw [iblk2_apply, mainW_apply]
  refine congrArg (fun z => argW m c (ix3 0 k z)) (Fin.ext ?_)
  have e : (pt q j).val % 8 = j := pt_mod q j (by omega)
  have hn := n.isLt
  show (if min ((pt q j).val % 8) 6 * 1024 + n.val < 4096 then min ((pt q j).val % 8) 6 * 1024 + n.val else min ((pt q j).val % 8) 6 * 1024 + n.val + 8)
    = (colBase j + n.val) % 7176
  rw [e, Nat.min_eq_left (by omega)]
  unfold colBase
  split <;> split <;> omega

theorem acc0_val (c : Dev nD) (q : ℕ) (hq : q < 16) (r n : Fin 1024) :
    acc0 m c q (ix2 r n) = column (argH m c) (argG m c) (argW m c) (row q hq r) (colBase 0 + n.val) := by
  simp only [acc0, r0, acc_pieces0]
  exact product_val m c q 0 hq (by decide) _ (fun r k => by
    refine (rows_apply _ _ r k).trans ?_
    have e : (pt q 0).val / 8 = q := by rw [pt_val q 0 hq (by decide)]; omega
    simp only [iblk0_apply, iblk1_apply, hidden, e]) r n

theorem acc1_val (c : Dev nD) (q : ℕ) (hq : q < 16) (r n : Fin 1024) :
    acc1 m c q (ix2 r n) = column (argH m c) (argG m c) (argW m c) (row q hq r) (colBase 1 + n.val) := by
  simp only [acc1, r1, acc_pieces1]
  exact product_val m c q 1 hq (by decide) _ (rows_val m c q hq) r n

theorem acc2_val (c : Dev nD) (q : ℕ) (hq : q < 16) (r n : Fin 1024) :
    acc2 m c q (ix2 r n) = column (argH m c) (argG m c) (argW m c) (row q hq r) (colBase 2 + n.val) := by
  simp only [acc2, r2, acc_pieces2]
  exact product_val m c q 2 hq (by decide) _ (rows_val m c q hq) r n

theorem acc3_val (c : Dev nD) (q : ℕ) (hq : q < 16) (r n : Fin 1024) :
    acc3 m c q (ix2 r n) = column (argH m c) (argG m c) (argW m c) (row q hq r) (colBase 3 + n.val) := by
  simp only [acc3, r3, acc_pieces3]
  exact product_val m c q 3 hq (by decide) _ (rows_val m c q hq) r n

theorem acc4_val (c : Dev nD) (q : ℕ) (hq : q < 16) (r n : Fin 1024) :
    acc4 m c q (ix2 r n) = column (argH m c) (argG m c) (argW m c) (row q hq r) (colBase 4 + n.val) := by
  simp only [acc4, r4, acc_pieces4]
  exact product_val m c q 4 hq (by decide) _ (rows_val m c q hq) r n

theorem acc5_val (c : Dev nD) (q : ℕ) (hq : q < 16) (r n : Fin 1024) :
    acc5 m c q (ix2 r n) = column (argH m c) (argG m c) (argW m c) (row q hq r) (colBase 5 + n.val) := by
  simp only [acc5, r5, acc_pieces5]
  exact product_val m c q 5 hq (by decide) _ (rows_val m c q hq) r n

theorem acc6_val (c : Dev nD) (q : ℕ) (hq : q < 16) (r n : Fin 1024) :
    acc6 m c q (ix2 r n) = column (argH m c) (argG m c) (argW m c) (row q hq r) (colBase 6 + n.val) := by
  simp only [acc6, r6, acc_pieces6]
  exact product_val m c q 6 hq (by decide) _ (rows_val m c q hq) r n

/-! ## What is written out -/

/-- A column block of a row, the seven of them in the projection's order. -/
abbrev seg (c : Dev nD) (s : ℕ) (r : Fin 16384) (n : Fin 1024) : EReal := column (argH m c) (argG m c) (argW m c) r (colBase s + n.val)

/-- A gate's sigmoid, as the kernel computes it. -/
def gated (v : EReal) : EReal :=
  Ideal.div (Ideal.ofBits .f32 0x3F800000#32) (Ideal.ofBits .f32 0x3F800000#32 + Ideal.exp (0 - v))

/-- The angles of a row's token. -/
abbrev angle (T : S4096x16.Idx → EReal) (r : Fin 16384) (d : Fin 16) : EReal := T (ix2 ⟨r.val % 4096, by omega⟩ d)

/-- Column block `s` as it is written out. -/
def result (c : Dev nD) (r : Fin 16384) (s : ℕ) (n : Fin 1024) : EReal :=
  match s with
  | 0 => headNorm (seg m c 0 r) (argQ m c) n
  | 1 => headNorm (seg m c 1 r) (argK m c) n
  | 2 => seg m c 2 r n
  | 3 => gated (seg m c 3 r n)
  | 4 => rotate (headNorm (seg m c 4 r) (argQd m c)) (angle (argC m c) r) (angle (argS m c) r) n
  | 5 => rotate (headNorm (seg m c 5 r) (argKd m c)) (angle (argC m c) r) (angle (argS m c) r) n
  | _ => seg m c 6 r n

/-- A normalised block in the layer's terms. -/
theorem normVal_eq (a : Vec Ideal S1024x1024 .f32) (y : Fin 1024 → Fin 1024 → EReal) (ha : ∀ r n, a (ix2 r n) = y r n) (g : Fin 128 → EReal)
    (g' : S1x128.Idx → EReal) (hg : ∀ d, g d = g' (ix2 0 d)) (r n : Fin 1024) : normVal a g r n = headNorm (y r) g' n := by
  unfold normVal headNorm headOf
  simp only [ha, hg]

theorem out1_val (c : Dev nD) (q : ℕ) (hq : q < 16) (r n : Fin 1024) : outOf m c q 1 (ix2 r n) = result m c (row q hq r) 0 n := by
  simp only [outOf, r1, out_pieces1]
  refine (normed_apply _ _ _ _ r n).trans ?_
  exact normVal_eq _ (fun r => seg m c 0 (row q hq r)) (acc0_val m c q hq) _ (argQ m c) (fun d => by
    rw [gainRow_apply, iblk4_apply]
    exact (gains_apply _ _ _ _ d).1) r n

theorem out2_val (c : Dev nD) (q : ℕ) (hq : q < 16) (r n : Fin 1024) : outOf m c q 2 (ix2 r n) = result m c (row q hq r) 1 n := by
  simp only [outOf, r2, out_pieces2]
  refine (normed_apply _ _ _ _ r n).trans ?_
  exact normVal_eq _ (fun r => seg m c 1 (row q hq r)) (acc1_val m c q hq) _ (argK m c) (fun d => by
    rw [gainRow_apply, iblk4_apply]
    exact (gains_apply _ _ _ _ d).2.1) r n

theorem out3_val (c : Dev nD) (q : ℕ) (hq : q < 16) (r n : Fin 1024) : outOf m c q 3 (ix2 r n) = result m c (row q hq r) 2 n := by
  simp only [outOf, r3, out_pieces3]
  rw [View.canon_unit_zero hz2, whole_apply]
  exact acc2_val m c q hq r n

theorem out4_val (c : Dev nD) (q : ℕ) (hq : q < 16) (r n : Fin 1024) : outOf m c q 4 (ix2 r n) = result m c (row q hq r) 3 n := by
  simp only [outOf, r4, out_pieces4]
  rw [View.canon_unit_zero hz2]
  refine (sig_apply _ r n).trans ?_
  rw [acc3_val m c q hq]
  rfl

theorem out7_val (c : Dev nD) (q : ℕ) (hq : q < 16) (r n : Fin 1024) : outOf m c q 7 (ix2 r n) = result m c (row q hq r) 6 n := by
  simp only [outOf, r7, out_pieces7]
  rw [View.canon_unit_zero hz2, whole_apply]
  exact acc6_val m c q hq r n

theorem out5_val (c : Dev nD) (q : ℕ) (hq : q < 16) (r n : Fin 1024) : outOf m c q 5 (ix2 r n) = result m c (row q hq r) 4 n := by
  simp only [outOf, r5, out_pieces5]
  refine (turned_apply _ _ _ _ _ _ _ r n).trans ?_
  have hy : ∀ n, normVal (acc4 m c q) (fun e => gainRow (iblk m c 4 (pt q 5)) 2 (by decide) (ix2 0 e)) r n
      = headNorm (seg m c 4 (row q hq r)) (argQd m c) n := fun n =>
    normVal_eq _ (fun r => seg m c 4 (row q hq r)) (acc4_val m c q hq) _ (argQd m c) (fun d => by
      rw [gainRow_apply, iblk4_apply]
      exact (gains_apply _ _ _ _ d).2.2.1) r n
  unfold turnVal
  rw [hy, hy, hy]
  simp only [tabPage_apply, iblk5_apply]
  have e : (pt q 5).val / 8 = q := by rw [pt_val q 5 hq (by decide)]; omega
  have hp : (⟨(pt q 5).val / 8 % 4 * 1024 + r.val, by have := r.isLt; omega⟩ : Fin 4096) = ⟨(row q hq r).val % 4096, by omega⟩ :=
    Fin.ext (by show (pt q 5).val / 8 % 4 * 1024 + r.val = (1024 * q + r.val) % 4096; rw [e]; have := r.isLt; omega)
  rw [hp]
  exact rotate_eq (headNorm (seg m c 4 (row q hq r)) (argQd m c)) (argC m c) (argS m c) ⟨(row q hq r).val % 4096, by omega⟩ n

theorem out6_val (c : Dev nD) (q : ℕ) (hq : q < 16) (r n : Fin 1024) : outOf m c q 6 (ix2 r n) = result m c (row q hq r) 5 n := by
  simp only [outOf, r6, out_pieces6]
  refine (turned_apply _ _ _ _ _ _ _ r n).trans ?_
  have hy : ∀ n, normVal (acc5 m c q) (fun e => gainRow (iblk m c 4 (pt q 6)) 3 (by decide) (ix2 0 e)) r n
      = headNorm (seg m c 5 (row q hq r)) (argKd m c) n := fun n =>
    normVal_eq _ (fun r => seg m c 5 (row q hq r)) (acc5_val m c q hq) _ (argKd m c) (fun d => by
      rw [gainRow_apply, iblk4_apply]
      exact (gains_apply _ _ _ _ d).2.2.2) r n
  unfold turnVal
  rw [hy, hy, hy]
  simp only [tabPage_apply, iblk5_apply]
  have e : (pt q 6).val / 8 = q := by rw [pt_val q 6 hq (by decide)]; omega
  have hp : (⟨(pt q 6).val / 8 % 4 * 1024 + r.val, by have := r.isLt; omega⟩ : Fin 4096) = ⟨(row q hq r).val % 4096, by omega⟩ :=
    Fin.ext (by show (pt q 6).val / 8 % 4 * 1024 + r.val = (1024 * q + r.val) % 4096; rw [e]; have := r.isLt; omega)
  rw [hp]
  exact rotate_eq (headNorm (seg m c 5 (row q hq r)) (argKd m c)) (argC m c) (argS m c) ⟨(row q hq r).val % 4096, by omega⟩ n

theorem out_val (c : Dev nD) (q : ℕ) (hq : q < 16) (s : ℕ) (hs : s < 7) (r n : Fin 1024) : outOf m c q (s + 1) (ix2 r n) = result m c (row q hq r) s n := by
  interval_cases s
  · exact out1_val m c q hq r n
  · exact out2_val m c q hq r n
  · exact out3_val m c q hq r n
  · exact out4_val m c q hq r n
  · exact out5_val m c q hq r n
  · exact out6_val m c q hq r n
  · exact out7_val m c q hq r n

end Cert.Kernel5Ideal.Proj
-- ==== Proof.ProjIdeal.Array.lean ====
/-
  The even projection: the two arrays the kernel leaves, and the eight results the host cuts out of them.
-/
module

public import proofs.«01_k».proof.Proof.ProjIdeal.Values

@[expose] public section

noncomputable section

open Idealize.ShloMosaic Idealize.ShloMosaic.TcCoe Idealize.SL.Sem

namespace Cert.Kernel5Ideal.Proj

open Cert.Kernel5Ideal Cert.Kernel5Ideal.Gen

variable (m : (ℓ : Loc nD τ sig) → Buf (Elt Ideal) ℓ)

/-- The projection's array: seven column blocks of 1024, each finished in its own way. -/
def G6 (c : Dev nD) : S16384x7168.Idx → EReal := fun i =>
  result m c (i 0) ((i 1).val / 1024) ⟨(i 1).val % 1024, by omega⟩

/-- Row blocks stacked on one another. -/
def stacked (x : ℕ → Vec Ideal S1024x128 .f32) (r : Fin 16384) (d : Fin 128) : EReal :=
  x (r.val / 1024) (ix2 (⟨r.val % 1024, by omega⟩ : Fin 1024) d)

/-- A stacked block's row. -/
theorem stacked_row (x : ℕ → Vec Ideal S1024x128 .f32) (q : ℕ) (hq : q < 16) (r : Fin 1024) (d : Fin 128) :
    stacked x (row q hq r) d = x q (ix2 r d) := by
  unfold stacked
  have ha : (row q hq r).val / 1024 = q := by show (1024 * q + r.val) / 1024 = q; omega
  rw [ha]
  exact congrArg (fun z => x q (ix2 z d)) (Fin.ext (by show (1024 * q + r.val) % 1024 = r.val; omega))

/-- The gate array, 128 columns wide. -/
def G7 (c : Dev nD) : S16384x128.Idx → EReal := fun i => stacked (gateOf m c) (i 0) (i 1)

/-- What a point writes back of the projection is its block of that array. -/
theorem flushed6 (c : Dev nD) (t : Fin cfg0.N) (ht : (cfg0.win 6).flush t = true) :
    (dats m 0 c).flushed 6 t = ((cfg0.win 6).blk t).view.read (Elt Ideal) (G6 m c) := by
  have hj : t.val % 8 ≠ 0 := fun h => by rw [flush6_zero t h] at ht; exact Bool.noConfusion ht
  show (cfg0.win 6).cut (grid0.coords t) ((dats m 0 c).after 6 t) = _
  rw [after6]
  obtain ⟨-, -, -, -, -, -, ⟨e0, e1⟩, -⟩ := idx_facts t
  have hq : t.val / 8 < 16 := by have := lt_N t; omega
  funext y
  have hy0 : (y 0).val < 1024 := (y 0).isLt
  have hy1 : (y 1).val < 1024 := (y 1).isLt
  have hl : (cfg0.win 6).xinj (grid0.coords t) y = ix2 (⟨(y 0).val, hy0⟩ : Fin 1024) (⟨(y 1).val, hy1⟩ : Fin 1024) := by
    funext a
    match a with
    | ⟨0, _⟩ => rfl
    | ⟨1, _⟩ => rfl
  have hb : ((cfg0.win 6).blk t).view.emb y
      = ix2 (row (t.val / 8) hq ⟨(y 0).val, hy0⟩) (⟨(t.val % 8 - 1) * 1024 + (y 1).val, by omega⟩ : Fin 7168) := by
    funext a
    apply Fin.ext
    match a with
    | ⟨0, _⟩ => show win0_6.index t (0 : Fin 2) * 1024 + 1 * (y 0).val = 1024 * (t.val / 8) + (y 0).val; rw [e0]; omega
    | ⟨1, _⟩ => show win0_6.index t (1 : Fin 2) * 1024 + 1 * (y 1).val = (t.val % 8 - 1) * 1024 + (y 1).val; rw [e1]; omega
  show outOf m c (t.val / 8) (t.val % 8) ((cfg0.win 6).xinj (grid0.coords t) y) = G6 m c (((cfg0.win 6).blk t).view.emb y)
  rw [hl, hb]
  have hv := out_val m c (t.val / 8) hq (t.val % 8 - 1) (by omega) ⟨(y 0).val, hy0⟩ ⟨(y 1).val, hy1⟩
  rw [show t.val % 8 - 1 + 1 = t.val % 8 by omega] at hv
  refine hv.trans ?_
  show _ = result m c (row (t.val / 8) hq ⟨(y 0).val, hy0⟩) (((t.val % 8 - 1) * 1024 + (y 1).val) / 1024)
    ⟨((t.val % 8 - 1) * 1024 + (y 1).val) % 1024, by omega⟩
  have ha : ((t.val % 8 - 1) * 1024 + (y 1).val) / 1024 = t.val % 8 - 1 := by omega
  rw [ha]
  exact congrArg (result m c (row (t.val / 8) hq ⟨(y 0).val, hy0⟩) (t.val % 8 - 1))
    (Fin.ext (by show (y 1).val = ((t.val % 8 - 1) * 1024 + (y 1).val) % 1024; omega))

/-- The projection's array after the run. -/
theorem final6 (c : Dev nD) : (dats m 0 c).arrAt 6 cfg0.N = G6 m c := by
  refine (dats m 0 c).arrAt_eq_of_cover 6 _ (fun t ht => flushed6 m c t ht) fun i => ?_
  have h0 : (i 0).val < 16384 := (i 0).isLt
  have h1 : (i 1).val < 7168 := (i 1).isLt
  let t : Fin cfg0.N := ⟨(i 0).val / 1024 * 8 + (i 1).val / 1024 + 1, by rw [show cfg0.N = 128 from N_0]; omega⟩
  have ht : t.val = (i 0).val / 1024 * 8 + (i 1).val / 1024 + 1 := rfl
  obtain ⟨-, -, -, -, -, -, ⟨e0, e1⟩, -⟩ := idx_facts t
  refine ⟨t, flush6_pos t (by omega), ?_⟩
  show i ∈ ((View.whole main_v39_0).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- What a row block's last point writes back of the gates is its block of that array. -/
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after7]
  obtain ⟨-, -, -, -, -, -, -, e0, e1⟩ := idx_facts t
  have hq : t.val / 8 < 16 := by have := lt_N t; omega
  funext y
  have hy0 : (y 0).val < 1024 := (y 0).isLt
  have hy1 : (y 1).val < 128 := (y 1).isLt
  obtain ⟨a, ha⟩ : ∃ a : Fin 1024, a.val = (y 0).val := ⟨⟨(y 0).val, hy0⟩, rfl⟩
  obtain ⟨b, hb⟩ : ∃ b : Fin 128, b.val = (y 1).val := ⟨⟨(y 1).val, hy1⟩, rfl⟩
  have hl : (cfg0.win 7).xinj (grid0.coords t) y = ix2 a b := by
    funext z
    match z with
    | ⟨0, _⟩ => exact Fin.ext ha.symm
    | ⟨1, _⟩ => exact Fin.ext hb.symm
  have hb : ((cfg0.win 7).blk t).view.emb y = ix2 (row (t.val / 8) hq a) b := by
    funext z
    apply Fin.ext
    match z with
    | ⟨0, _⟩ => show win0_7.index t (0 : Fin 2) * 1024 + 1 * (y 0).val = 1024 * (t.val / 8) + a.val; rw [e0, ha]; omega
    | ⟨1, _⟩ => show win0_7.index t (1 : Fin 2) * 128 + 1 * (y 1).val = b.val; rw [e1, hb]; omega
  have hv := stacked_row (gateOf m c) (t.val / 8) hq a b
  have h1 : gateOf m c (t.val / 8) ((cfg0.win 7).xinj (grid0.coords t) y) = gateOf m c (t.val / 8) (ix2 a b) :=
    congrArg (gateOf m c (t.val / 8)) hl
  have h2 : G7 m c (((cfg0.win 7).blk t).view.emb y) = gateOf m c (t.val / 8) (ix2 a b) := (congrArg (G7 m c) hb).trans hv
  generalize G7 m c = Z at h2 ⊢
  exact h1.trans h2.symm

/-- The gate array after the run. -/
theorem final7 (c : Dev nD) : (dats m 0 c).arrAt 7 cfg0.N = G7 m c := by
  refine (dats m 0 c).arrAt_eq_of_cover 7 _ (fun t _ => flushed7 m c t) fun i => ?_
  have h0 : (i 0).val < 16384 := (i 0).isLt
  have h1 : (i 1).val < 128 := (i 1).isLt
  let t : Fin cfg0.N := ⟨(i 0).val / 1024 * 8 + 7, by rw [show cfg0.N = 128 from N_0]; omega⟩
  have ht : t.val = (i 0).val / 1024 * 8 + 7 := rfl
  obtain ⟨-, -, -, -, -, -, -, e0, e1⟩ := idx_facts t
  refine ⟨t, (flush7 t).trans (decide_eq_true (by omega)), ?_⟩
  show i ∈ ((View.whole main_v39_1).slice (win0_7.rect t)).set
  rw [View.set_slice_whole, Rect.mem_set_unit]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 128 ≤ (i 1).val ∧ (i 1).val < win0_7.index t (1 : Fin 2) * 128 + 128; omega

/-! ## The results the host cuts out -/

/-- Result `s` of the seven: column block `s`. -/
def part (c : Dev nD) (s : ℕ) : S16384x1024.Idx → EReal := fun i => result m c (i 0) s (i 1)

/-- The gate logits, eight columns. -/
def logits (c : Dev nD) : S16384x8.Idx → EReal := fun i => column (argH m c) (argG m c) (argW m c) (i 0) (4096 + (i 1).val)

/-- Cutting column block `s` out of the projection's array. -/
theorem part_eq (c : Dev nD) (s : ℕ) (x : S16384x1024.Idx → EReal)
    (hx : ∀ (r : Fin 16384) (n : Fin 1024) (h : s * 1024 + n.val < 7168), x (ix2 r n) = G6 m c (ix2 r (⟨s * 1024 + n.val, h⟩ : Fin 7168)))
    (hs : s < 7) : x = part m c s := by
  funext i
  have h1 : (i 1).val < 1024 := (i 1).isLt
  rw [eq_ix2 i]
  refine (hx (i 0) (i 1) (by show s * 1024 + (i 1).val < 7168; omega)).trans ?_
  show result m c (i 0) ((s * 1024 + (i 1).val) / 1024) ⟨(s * 1024 + (i 1).val) % 1024, by omega⟩ = result m c (i 0) s (i 1)
  rw [show (s * 1024 + (i 1).val) / 1024 = s by omega]
  exact congrArg (result m c (i 0) s) (Fin.ext (by show (s * 1024 + (i 1).val) % 1024 = (i 1).val; omega))

/-- The first eight columns of the gate array are the logits. -/
theorem stacked_gate (c : Dev nD) (r : Fin 16384) (d : Fin 8) :
    stacked (gateOf m c) r (Fin.castLE (by decide) d : Fin 128) = column (argH m c) (argG m c) (argW m c) r (4096 + d.val) := by
  unfold stacked
  refine (gate_val m c (r.val / 1024) (by omega) ⟨r.val % 1024, by omega⟩ (Fin.castLE (by decide) d) d.isLt).trans ?_
  exact congrArg (fun z => column (argH m c) (argG m c) (argW m c) z (4096 + d.val))
    (Fin.ext (by show 1024 * (r.val / 1024) + r.val % 1024 = r.val; omega))

/-- Cutting the eight logits out of the gate array. -/
theorem logits_eq (c : Dev nD) (x : S16384x8.Idx → EReal)
    (hx : ∀ (r : Fin 16384) (d : Fin 8), x (ix2 r d) = stacked (gateOf m c) r (Fin.castLE (by decide) d : Fin 128)) : x = logits m c := by
  funext i
  rw [eq_ix2 i]
  exact (hx (i 0) (i 1)).trans (stacked_gate m c (i 0) (i 1))

/-- The arrays' windows have arrays of their own. -/
theorem arrays_inj : Function.Injective (Pipeline.arrRef spec0) := by decide

/-- The projection's array as the host finds it. -/
theorem found6 (c : Dev nD) : (Pipeline.withArrays (cfgs 0).spec c (V0 m c) (fun w => (dats m 0 c).arrAt w (cfgs 0).N) (Proc.tc.devRef main_v39_0)
    : S16384x7168.Idx → EReal) = G6 m c :=
  (Pipeline.withArrays_arr spec0 arrays_inj c (V0 m c) (fun w => (dats m 0 c).arrAt w (cfgs 0).N) 6).trans (final6 m c)

/-- The gate array as the host finds it. -/
theorem found7 (c : Dev nD) : (Pipeline.withArrays (cfgs 0).spec c (V0 m c) (fun w => (dats m 0 c).arrAt w (cfgs 0).N) (Proc.tc.devRef main_v39_1)
    : S16384x128.Idx → EReal) = G7 m c :=
  (Pipeline.withArrays_arr spec0 arrays_inj c (V0 m c) (fun w => (dats m 0 c).arrAt w (cfgs 0).N) 7).trans (final7 m c)

/-- Column block 0. -/
theorem W40 (c : Dev nD) : Pipeline.afterTail₀ cfgs (dats m) 0 (V0 m) [hostOps1] c main_v40 = part m c 0 := by
  unfold Pipeline.afterTail₀
  simp only [hostOps1, List.flatten_cons, List.flatten_nil, List.append_nil]
  after_results
  rw [found6 m c]
  refine part_eq m c 0 _ (fun r n h => ?_) (by decide)
  generalize G6 m c = x
  pointwise
  done

/-- Column block 1. -/
theorem W41 (c : Dev nD) : Pipeline.afterTail₀ cfgs (dats m) 0 (V0 m) [hostOps1] c main_v41 = part m c 1 := by
  unfold Pipeline.afterTail₀
  simp only [hostOps1, List.flatten_cons, List.flatten_nil, List.append_nil]
  after_results
  rw [found6 m c]
  refine part_eq m c 1 _ (fun r n h => ?_) (by decide)
  generalize G6 m c = x
  pointwise
  done

/-- Column block 2. -/
theorem W42 (c : Dev nD) : Pipeline.afterTail₀ cfgs (dats m) 0 (V0 m) [hostOps1] c main_v42 = part m c 2 := by
  unfold Pipeline.afterTail₀
  simp only [hostOps1, List.flatten_cons, List.flatten_nil, List.append_nil]
  after_results
  rw [found6 m c]
  refine part_eq m c 2 _ (fun r n h => ?_) (by decide)
  generalize G6 m c = x
  pointwise
  done

/-- Column block 3. -/
theorem W43 (c : Dev nD) : Pipeline.afterTail₀ cfgs (dats m) 0 (V0 m) [hostOps1] c main_v43 = part m c 3 := by
  unfold Pipeline.afterTail₀
  simp only [hostOps1, List.flatten_cons, List.flatten_nil, List.append_nil]
  after_results
  rw [found6 m c]
  refine part_eq m c 3 _ (fun r n h => ?_) (by decide)
  generalize G6 m c = x
  pointwise
  done

/-- Column block 4. -/
theorem W45 (c : Dev nD) : Pipeline.afterTail₀ cfgs (dats m) 0 (V0 m) [hostOps1] c main_v45 = part m c 4 := by
  unfold Pipeline.afterTail₀
  simp only [hostOps1, List.flatten_cons, List.flatten_nil, List.append_nil]
  after_results
  rw [found6 m c]
  refine part_eq m c 4 _ (fun r n h => ?_) (by decide)
  generalize G6 m c = x
  pointwise
  done

/-- Column block 5. -/
theorem W46 (c : Dev nD) : Pipeline.afterTail₀ cfgs (dats m) 0 (V0 m) [hostOps1] c main_v46 = part m c 5 := by
  unfold Pipeline.afterTail₀
  simp only [hostOps1, List.flatten_cons, List.flatten_nil, List.append_nil]
  after_results
  rw [found6 m c]
  refine part_eq m c 5 _ (fun r n h => ?_) (by decide)
  generalize G6 m c = x
  pointwise
  done

/-- Column block 6. -/
theorem W47 (c : Dev nD) : Pipeline.afterTail₀ cfgs (dats m) 0 (V0 m) [hostOps1] c main_v47 = part m c 6 := by
  unfold Pipeline.afterTail₀
  simp only [hostOps1, List.flatten_cons, List.flatten_nil, List.append_nil]
  after_results
  rw [found6 m c]
  refine part_eq m c 6 _ (fun r n h => ?_) (by decide)
  generalize G6 m c = x
  pointwise
  done

/-- The gate logits. -/
theorem W44 (c : Dev nD) : Pipeline.afterTail₀ cfgs (dats m) 0 (V0 m) [hostOps1] c main_v44 = logits m c := by
  unfold Pipeline.afterTail₀
  simp only [hostOps1, List.flatten_cons, List.flatten_nil, List.append_nil]
  after_results
  rw [found7 m c]
  refine logits_eq m c _ (fun r d => ?_)
  unfold G7
  generalize gateOf m c = x
  pointwise
  exact congrArg (stacked x r) (Fin.ext rfl)

end Cert.Kernel5Ideal.Proj
-- ==== Proof.ProjRef.lean ====
/-
  The even projection: what its reference computes, element by element.
-/
module

public import proofs.«01_k».proof.Proof.ProjIdeal.Values
public import proofs.«01_k».proof.Proof.Gen.Reference5Ideal.Read

@[expose] public section

noncomputable section

open Idealize.ShloMosaic Idealize.ShloMosaic.TcCoe Idealize.SL.Sem

namespace Cert.Reference5Ideal.Proj

open Cert.Reference5Ideal Cert.Reference5Ideal.Gen Cert.Reference5Ideal.Read
open Cert.Kernel5Ideal.Proj (column headNorm rotate gated angle rinvRow rinvHead)

variable (H : (⟨S16384x2048, .f32⟩ : BufTy).Contents (Elt Ideal)) (g : (⟨S2048, .f32⟩ : BufTy).Contents (Elt Ideal))
  (W : (⟨S1x2048x7176, .f32⟩ : BufTy).Contents (Elt Ideal))

/-- The normalised hidden state of the reference. -/
theorem v12_apply (r : Fin 16384) (k : Fin 2048) : val_main_v12 (F := Ideal) H g (ix2 r k) = Cert.Kernel5Ideal.Proj.hidden H g r k := by
  unfold val_main_v12 val_main_v11 val_main_v10 val_main_v9 val_main_v8 val_main_v7 val_main_v6 val_main_v5 val_main_v4 val_main_v3
    val_main_v2 val_main_v1 val_main_v0 val_main_cst val_main_cst_0 val_main_cst_1 Cert.Kernel5Ideal.Proj.hidden rinvRow
  pointwise

/-- The projection of the reference. -/
theorem v14_apply (r : Fin 16384) (n : Fin 7176) : val_main_v14 (F := Ideal) H g W (ix2 r n) = column H g W r n.val := by
  unfold val_main_v14 val_main_v13 column
  pointwise
  refine Finset.sum_congr rfl fun k _ => ?_
  rw [v12_apply, show Fin.ofNat 7176 n.val = n from Fin.ext (Nat.mod_eq_of_lt n.isLt)]

/-- 1024 columns from column `o` on. -/
theorem cut_apply (o : ℕ) (x : Vec Ideal S16384x7176 .f32) (hx : ∀ r n, x (ix2 r n) = column H g W r n.val) (ho : o + 1024 ≤ 7176)
    (y : Vec Ideal S16384x1024 .f32)
    (hy : ∀ (r : Fin 16384) (n : Fin 1024), y (ix2 r n) = x (ix2 r (⟨o + n.val, by omega⟩ : Fin 7176))) (r : Fin 16384) (n : Fin 1024) :
    y (ix2 r n) = column H g W r (o + n.val) := (hy r n).trans (hx r _)

theorem v15_apply (r : Fin 16384) (n : Fin 1024) : val_main_v15 (F := Ideal) H g W (ix2 r n) = column H g W r (0 + n.val) := by
  refine cut_apply H g W 0 (val_main_v14 (F := Ideal) H g W) (v14_apply H g W) (by decide) _ (fun r n => ?_) r n
  unfold val_main_v15
  generalize val_main_v14 (F := Ideal) H g W = x
  pointwise
  done

theorem v16_apply (r : Fin 16384) (n : Fin 1024) : val_main_v16 (F := Ideal) H g W (ix2 r n) = column H g W r (1024 + n.val) := by
  refine cut_apply H g W 1024 (val_main_v14 (F := Ideal) H g W) (v14_apply H g W) (by decide) _ (fun r n => ?_) r n
  unfold val_main_v16
  generalize val_main_v14 (F := Ideal) H g W = x
  pointwise
  done

/-- Splitting 16384 rows of 1024 into 4 times 4096 rows of 8 heads of 128. -/
theorem split_apply (x : Vec Ideal S16384x1024 .f32) (b : Fin 4) (s : Fin 4096) (h : Fin 8) (d : Fin 128) :
    shapeCast S4x4096x8x128 x shapeCasts_S16384x1024_S4x4096x8x128 (ix4 b s h d)
      = x (ix2 (⟨b.val * 4096 + s.val, by omega⟩ : Fin 16384) (⟨h.val * 128 + d.val, by omega⟩ : Fin 1024)) :=
  shapeCast_apply x shapeCasts_S16384x1024_S4x4096x8x128 _ _ (by
    rewrite [Shape.rowMajor_val_two, Shape.rowMajor_val_four]
    show (b.val * 4096 + s.val) * 1024 + (h.val * 128 + d.val) = ((b.val * 4096 + s.val) * 8 + h.val) * 128 + d.val
    omega)

/-- Joining them again. -/
theorem join_apply (x : Vec Ideal S4x4096x8x128 .f32) (r : Fin 16384) (n : Fin 1024) :
    shapeCast S16384x1024 x shapeCasts_S4x4096x8x128_S16384x1024 (ix2 r n)
      = x (ix4 (⟨r.val / 4096, by omega⟩ : Fin 4) (⟨r.val % 4096, by omega⟩ : Fin 4096) (⟨n.val / 128, by omega⟩ : Fin 8) (⟨n.val % 128, by omega⟩ : Fin 128)) :=
  shapeCast_apply x shapeCasts_S4x4096x8x128_S16384x1024 _ _ (by
    rewrite [Shape.rowMajor_val_two, Shape.rowMajor_val_four]
    show ((r.val / 4096 * 4096 + r.val % 4096) * 8 + n.val / 128) * 128 + n.val % 128 = r.val * 1024 + n.val
    omega)

/-- Four-axis heads at the coordinates of row `r`, column `n`. -/
abbrev at4 (r : Fin 16384) (n : Fin 1024) : S4x4096x8x128.Idx :=
  ix4 (⟨r.val / 4096, by omega⟩ : Fin 4) (⟨r.val % 4096, by omega⟩ : Fin 4096) (⟨n.val / 128, by omega⟩ : Fin 8) (⟨n.val % 128, by omega⟩ : Fin 128)

/-- Splitting read at joined coordinates. -/
theorem split_at (x : Vec Ideal S16384x1024 .f32) (r : Fin 16384) (n : Fin 1024) :
    shapeCast S4x4096x8x128 x shapeCasts_S16384x1024_S4x4096x8x128 (at4 r n) = x (ix2 r n) := by
  refine (split_apply x _ _ _ _).trans (congrArg₂ (fun a b => x (ix2 a b)) (Fin.ext ?_) (Fin.ext ?_))
  · show r.val / 4096 * 4096 + r.val % 4096 = r.val; omega
  · show n.val / 128 * 128 + n.val % 128 = n.val; omega

/-- The head norm as the reference writes it. -/
def normStage (x : FVec Ideal S4x4096x8x128 .f32) (g : FVec Ideal S1x128 .f32) : FVec Ideal S4x4096x8x128 .f32 :=
  mulf (mulf x (broadcastInDim S4x4096x8x128 ![0, 1, 2, 3] bcast_S4x4096x8x1_S4x4096x8x128_0_1_2_3
      (Host.rsqrt (addf (Host.divf (broadcastInDim S4x4096x8x1 ![0, 1, 2] bcast_S4x4096x8_S4x4096x8x1_0_1_2
        (Host.reduceAdd (mulf x x) (constant S_ .f32 0x00000000#32) reducesTo_S4x4096x8x128_S4x4096x8_d3 h_S_))
        (broadcastInDim S4x4096x8x1 ![] bcast_S_S4x4096x8x1 (constant S_ .f32 0x43000000#32)))
        (broadcastInDim S4x4096x8x1 ![] bcast_S_S4x4096x8x1 (constant S_ .f32 0x358637BD#32))))))
    (broadcastInDim S4x4096x8x128 ![0, 1, 2, 3] bcast_S1x1x1x128_S4x4096x8x128_0_1_2_3
      (broadcastInDim S1x1x1x128 ![3] bcast_S128_S1x1x1x128_3 (shapeCast _ g shapeCasts_S1x128_S128)))

/-- The head norm read at an element. -/
theorem norm_apply (x : FVec Ideal S4x4096x8x128 .f32) (g : FVec Ideal S1x128 .f32) (b : Fin 4) (s : Fin 4096) (h : Fin 8) (d : Fin 128) :
    normStage x g (ix4 b s h d) = x (ix4 b s h d) * rinvHead (fun e => x (ix4 b s h e)) * g (ix2 0 d) := by
  unfold normStage rinvHead
  pointwise

/-- The head norm of the reference over a split projection. -/
theorem head_apply (x : FVec Ideal S16384x1024 .f32) (g : FVec Ideal S1x128 .f32) (r : Fin 16384) (n : Fin 1024) :
    normStage (shapeCast S4x4096x8x128 x shapeCasts_S16384x1024_S4x4096x8x128) g (at4 r n) = headNorm (fun e => x (ix2 r e)) g n := by
  refine (norm_apply _ _ _ _ _ _).trans ?_
  unfold headNorm
  refine congrArg₂ (· * ·) (congrArg₂ (· * ·) (split_at x r n) (congrArg rinvHead (funext fun e => ?_))) rfl
  refine (split_apply x _ _ _ _).trans (congrArg₂ (fun a b => x (ix2 a b)) (Fin.ext ?_) rfl)
  show r.val / 4096 * 4096 + r.val % 4096 = r.val; omega

/-- An angle table spread over batch and heads, as the reference writes it. -/
def spread (C : FVec Ideal S4096x16 .f32) : FVec Ideal S4x4096x8x16 .f32 :=
  broadcastInDim S4x4096x8x16 ![0, 1, 2, 3] bcast_S1x4096x1x16_S4x4096x8x16_0_1_2_3
    (broadcastInDim S1x4096x1x16 ![1, 2, 3] bcast_S4096x1x16_S1x4096x1x16_1_2_3 (broadcastInDim S4096x1x16 ![0, 2] bcast_S4096x16_S4096x1x16_0_2 C))

theorem spread_apply (C : FVec Ideal S4096x16 .f32) (b : Fin 4) (s : Fin 4096) (h : Fin 8) (d : Fin 16) : spread C (ix4 b s h d) = C (ix2 s d) := by
  unfold spread
  pointwise
  done

/-- The turn as the reference writes it. -/
def turnStage (x : FVec Ideal S4x4096x8x128 .f32) (C S : FVec Ideal S4096x16 .f32) : FVec Ideal S4x4096x8x128 .f32 :=
  concatenate S4x4096x8x128 3 [⟨S4x4096x8x16, (subf
      (mulf (extractStridedSlice S4x4096x8x16 ![0, 0, 0, 0] x slices_S4x4096x8x128_S4x4096x8x16_0_0_0_0) (spread C))
      (mulf (extractStridedSlice S4x4096x8x16 ![0, 0, 0, 16] x slices_S4x4096x8x128_S4x4096x8x16_0_0_0_16) (spread S)) : FVec Ideal S4x4096x8x16 .f32)⟩,
      ⟨S4x4096x8x16, (addf
      (mulf (extractStridedSlice S4x4096x8x16 ![0, 0, 0, 16] x slices_S4x4096x8x128_S4x4096x8x16_0_0_0_16) (spread C))
      (mulf (extractStridedSlice S4x4096x8x16 ![0, 0, 0, 0] x slices_S4x4096x8x128_S4x4096x8x16_0_0_0_0) (spread S)) : FVec Ideal S4x4096x8x16 .f32)⟩,
      ⟨S4x4096x8x96, (extractStridedSlice S4x4096x8x96 ![0, 0, 0, 32] x slices_S4x4096x8x128_S4x4096x8x96_0_0_0_32 : FVec Ideal S4x4096x8x96 .f32)⟩]
      concatenates_S4x4096x8x16_S4x4096x8x16_S4x4096x8x96_S4x4096x8x128_d3

/-- The turn read at an element. -/
theorem turn_apply (x : FVec Ideal S4x4096x8x128 .f32) (C S : FVec Ideal S4096x16 .f32) (r : Fin 16384) (n : Fin 1024) :
    turnStage x C S (at4 r n) = rotate (fun e => x (at4 r e)) (angle C r) (angle S r) n := by
  have key : ∀ (r : Fin 16384) (n : Fin 1024) (k : Fin 128), (h : n.val / 128 * 128 + k.val < 1024) →
      x (ix4 (⟨r.val / 4096, by omega⟩ : Fin 4) (⟨r.val % 4096, by omega⟩ : Fin 4096) (⟨n.val / 128, by omega⟩ : Fin 8) k)
        = x (at4 r ⟨n.val / 128 * 128 + k.val, h⟩) := fun r n k h =>
    congrArg₂ (fun a b => x (ix4 (⟨r.val / 4096, by omega⟩ : Fin 4) (⟨r.val % 4096, by omega⟩ : Fin 4096) a b))
      (Fin.ext (by show n.val / 128 = (n.val / 128 * 128 + k.val) / 128; omega)) (Fin.ext (by show k.val = (n.val / 128 * 128 + k.val) % 128; omega))
  have hn := n.isLt
  have same : ∀ a b : Fin 1024, a.val = b.val → x (at4 r a) = x (at4 r b) := fun a b h => congrArg (fun z => x (at4 r z)) (Fin.ext h)
  unfold turnStage
  pointwise
  unfold rotate
  by_cases h : n.val % 128 < 16
  · rw [dif_pos h, dif_pos h, spread_apply, spread_apply]
    refine congrArg₂ (· - ·) rfl (congrArg₂ (· * ·) ?_ rfl)
    refine (key r n ⟨16 + n.val % 128, by omega⟩ (by show n.val / 128 * 128 + (16 + n.val % 128) < 1024; omega)).trans (same _ _ ?_)
    show n.val / 128 * 128 + (16 + n.val % 128) = n.val + 16
    omega
  · rw [dif_neg h, dif_neg h]
    by_cases h' : n.val % 128 < 32
    · rw [dif_pos (by omega), dif_pos h', spread_apply, spread_apply]
      refine congrArg₂ (· + ·) (congrArg₂ (· * ·) ?_ rfl) (congrArg₂ (· * ·) ?_ rfl)
      · refine (key r n ⟨16 + (n.val % 128 - 16), by omega⟩ (by show n.val / 128 * 128 + (16 + (n.val % 128 - 16)) < 1024; omega)).trans (same _ _ ?_)
        show n.val / 128 * 128 + (16 + (n.val % 128 - 16)) = n.val
        omega
      · refine (key r n ⟨n.val % 128 - 16, by omega⟩ (by show n.val / 128 * 128 + (n.val % 128 - 16) < 1024; omega)).trans (same _ _ ?_)
        show n.val / 128 * 128 + (n.val % 128 - 16) = n.val - 16
        omega
    · rw [dif_neg (by omega), dif_neg h']
      refine (key r n ⟨32 + (n.val % 128 - 16 - 16), by omega⟩ (by show n.val / 128 * 128 + (32 + (n.val % 128 - 16 - 16)) < 1024; omega)).trans (same _ _ ?_)
      show n.val / 128 * 128 + (32 + (n.val % 128 - 16 - 16)) = n.val
      omega

/-! ## The eight results -/

/-- Column `o + n`, for every `n`. -/
abbrev block (o : ℕ) (r : Fin 16384) (n : Fin 1024) : EReal := column H g W r (o + n.val)

theorem v17_apply (r : Fin 16384) (n : Fin 1024) : val_main_v17 (F := Ideal) H g W (ix2 r n) = block H g W 2048 r n := by
  refine cut_apply H g W 2048 (val_main_v14 (F := Ideal) H g W) (v14_apply H g W) (by decide) _ (fun r n => ?_) r n
  unfold val_main_v17
  generalize val_main_v14 (F := Ideal) H g W = x
  pointwise
  done

theorem v18_apply (r : Fin 16384) (n : Fin 1024) : val_main_v18 (F := Ideal) H g W (ix2 r n) = block H g W 3072 r n := by
  refine cut_apply H g W 3072 (val_main_v14 (F := Ideal) H g W) (v14_apply H g W) (by decide) _ (fun r n => ?_) r n
  unfold val_main_v18
  generalize val_main_v14 (F := Ideal) H g W = x
  pointwise
  done

theorem v20_apply (r : Fin 16384) (n : Fin 1024) : val_main_v20 (F := Ideal) H g W (ix2 r n) = block H g W 4104 r n := by
  refine cut_apply H g W 4104 (val_main_v14 (F := Ideal) H g W) (v14_apply H g W) (by decide) _ (fun r n => ?_) r n
  unfold val_main_v20
  generalize val_main_v14 (F := Ideal) H g W = x
  pointwise
  done

theorem v21_apply (r : Fin 16384) (n : Fin 1024) : val_main_v21 (F := Ideal) H g W (ix2 r n) = block H g W 5128 r n := by
  refine cut_apply H g W 5128 (val_main_v14 (F := Ideal) H g W) (v14_apply H g W) (by decide) _ (fun r n => ?_) r n
  unfold val_main_v21
  generalize val_main_v14 (F := Ideal) H g W = x
  pointwise
  done

theorem v22_apply (r : Fin 16384) (n : Fin 1024) : val_main_v22 (F := Ideal) H g W (ix2 r n) = block H g W 6152 r n := by
  refine cut_apply H g W 6152 (val_main_v14 (F := Ideal) H g W) (v14_apply H g W) (by decide) _ (fun r n => ?_) r n
  unfold val_main_v22
  generalize val_main_v14 (F := Ideal) H g W = x
  pointwise
  done

/-- The gate logits of the reference. -/
theorem v19_apply (r : Fin 16384) (d : Fin 8) : val_main_v19 (F := Ideal) H g W (ix2 r d) = column H g W r (4096 + d.val) := by
  refine Eq.trans (b := val_main_v14 (F := Ideal) H g W (ix2 r (⟨4096 + d.val, by omega⟩ : Fin 7176))) ?_ (v14_apply H g W r _)
  unfold val_main_v19
  generalize val_main_v14 (F := Ideal) H g W = x
  pointwise
  done

/-- The queries of the first attention. -/
theorem v128_apply (x3 : FVec Ideal S1x128 .f32) (r : Fin 16384) (n : Fin 1024) :
    val_main_v128 (F := Ideal) H g W x3 (ix2 r n) = headNorm (block H g W 0 r) x3 n := by
  refine (join_apply (normStage (shapeCast S4x4096x8x128 (val_main_v15 (F := Ideal) H g W) shapeCasts_S16384x1024_S4x4096x8x128) x3) r n).trans ?_
  refine (head_apply _ _ r n).trans ?_
  simp only [v15_apply]

/-- Its keys. -/
theorem v130_apply (x4 : FVec Ideal S1x128 .f32) (r : Fin 16384) (n : Fin 1024) :
    val_main_v130 (F := Ideal) H g W x4 (ix2 r n) = headNorm (block H g W 1024 r) x4 n := by
  refine (join_apply (normStage (shapeCast S4x4096x8x128 (val_main_v16 (F := Ideal) H g W) shapeCasts_S16384x1024_S4x4096x8x128) x4) r n).trans ?_
  refine (head_apply _ _ r n).trans ?_
  simp only [v16_apply]

/-- Its values. -/
theorem v131_apply (r : Fin 16384) (n : Fin 1024) : val_main_v131 (F := Ideal) H g W (ix2 r n) = block H g W 2048 r n :=
  v17_apply H g W r n

/-- Its output gates. -/
theorem v132_apply (r : Fin 16384) (n : Fin 1024) : val_main_v132 (F := Ideal) H g W (ix2 r n) = gated (block H g W 3072 r n) := by
  unfold val_main_v132 val_main_v58 val_main_v57 val_main_v56 val_main_v55 val_main_v54 val_main_v53 val_main_cst_8 val_main_cst_9 gated
  pointwise
  rw [v18_apply, zero_sub]

/-- The queries of the second attention. -/
theorem v134_apply (x5 : FVec Ideal S1x128 .f32) (C S : FVec Ideal S4096x16 .f32) (r : Fin 16384) (n : Fin 1024) :
    val_main_v134 (F := Ideal) H g W x5 C S (ix2 r n) = rotate (headNorm (block H g W 4104 r) x5) (angle C r) (angle S r) n := by
  refine (join_apply (turnStage (normStage (shapeCast S4x4096x8x128 (val_main_v20 (F := Ideal) H g W) shapeCasts_S16384x1024_S4x4096x8x128) x5) C S) r n).trans ?_
  refine (turn_apply _ _ _ r n).trans ?_
  simp only [head_apply, v20_apply]

/-- Its keys. -/
theorem v136_apply (x6 : FVec Ideal S1x128 .f32) (C S : FVec Ideal S4096x16 .f32) (r : Fin 16384) (n : Fin 1024) :
    val_main_v136 (F := Ideal) H g W x6 C S (ix2 r n) = rotate (headNorm (block H g W 5128 r) x6) (angle C r) (angle S r) n := by
  refine (join_apply (turnStage (normStage (shapeCast S4x4096x8x128 (val_main_v21 (F := Ideal) H g W) shapeCasts_S16384x1024_S4x4096x8x128) x6) C S) r n).trans ?_
  refine (turn_apply _ _ _ r n).trans ?_
  simp only [head_apply, v21_apply]

/-- Its values. -/
theorem v137_apply (r : Fin 16384) (n : Fin 1024) : val_main_v137 (F := Ideal) H g W (ix2 r n) = block H g W 6152 r n :=
  v22_apply H g W r n

end Cert.Reference5Ideal.Proj
-- ==== Proof.ProjClaim.lean ====
/-
  The even projection: the kernel's eight results are its reference's.
-/
module

public import proofs.«01_k».proof.Proof.ProjIdeal.Array
public import proofs.«01_k».proof.Proof.ProjRef
public import proofs.«01_k».proof.Defs
public import proofs.«01_k».proof.Proof.Gen.Reference5Ideal.Run

@[expose] public section

noncomputable section

open Idealize.ShloMosaic Idealize.ShloMosaic.TcCoe Idealize.SL.Sem

namespace Cert.ProjClaim

open Cert.Kernel5Ideal.Proj (part logits argH argG argW argQ argK argQd argKd argC argS)
open Cert.Reference5Ideal.Read Cert.Reference5Ideal.Proj

variable (m : (ℓ : Loc Cert.Kernel5Ideal.nD Cert.Kernel5Ideal.τ Cert.Kernel5Ideal.sig) → Buf (Elt Ideal) ℓ) (c : Dev Cert.Kernel5Ideal.nD)

/-- The first attention's queries agree. -/
theorem eq0 : (part m c 0 : (⟨⟨2, ![16384, 1024]⟩, .bf16⟩ : BufTy).Contents (Elt Ideal)) = val_main_v128 (F := Ideal) (argH m c) (argG m c) (argW m c) (argQ m c) := by
  funext i
  rw [eq_ix2 i]
  exact (v128_apply _ _ _ _ (i 0) (i 1)).symm

/-- Its keys agree. -/
theorem eq1 : (part m c 1 : (⟨⟨2, ![16384, 1024]⟩, .bf16⟩ : BufTy).Contents (Elt Ideal)) = val_main_v130 (F := Ideal) (argH m c) (argG m c) (argW m c) (argK m c) := by
  funext i
  rw [eq_ix2 i]
  exact (v130_apply _ _ _ _ (i 0) (i 1)).symm

/-- Its values agree. -/
theorem eq2 : (part m c 2 : (⟨⟨2, ![16384, 1024]⟩, .bf16⟩ : BufTy).Contents (Elt Ideal)) = val_main_v131 (F := Ideal) (argH m c) (argG m c) (argW m c) := by
  funext i
  rw [eq_ix2 i]
  exact (v131_apply _ _ _ (i 0) (i 1)).symm

/-- Its output gates agree. -/
theorem eq3 : (part m c 3 : (⟨⟨2, ![16384, 1024]⟩, .bf16⟩ : BufTy).Contents (Elt Ideal)) = val_main_v132 (F := Ideal) (argH m c) (argG m c) (argW m c) := by
  funext i
  rw [eq_ix2 i]
  exact (v132_apply _ _ _ (i 0) (i 1)).symm

/-- The forget gates' logits agree. -/
theorem eq4 : (logits m c : (⟨⟨2, ![16384, 8]⟩, .f32⟩ : BufTy).Contents (Elt Ideal)) = val_main_v19 (F := Ideal) (argH m c) (argG m c) (argW m c) := by
  funext i
  rw [eq_ix2 i]
  exact (v19_apply _ _ _ (i 0) (i 1)).symm

/-- The second attention's queries agree. -/
theorem eq5 : (part m c 4 : (⟨⟨2, ![16384, 1024]⟩, .bf16⟩ : BufTy).Contents (Elt Ideal))
    = val_main_v134 (F := Ideal) (argH m c) (argG m c) (argW m c) (argQd m c) (argC m c) (argS m c) := by
  funext i
  rw [eq_ix2 i]
  exact (v134_apply _ _ _ _ _ _ (i 0) (i 1)).symm

/-- Its keys agree. -/
theorem eq6 : (part m c 5 : (⟨⟨2, ![16384, 1024]⟩, .bf16⟩ : BufTy).Contents (Elt Ideal))
    = val_main_v136 (F := Ideal) (argH m c) (argG m c) (argW m c) (argKd m c) (argC m c) (argS m c) := by
  funext i
  rw [eq_ix2 i]
  exact (v136_apply _ _ _ _ _ _ (i 0) (i 1)).symm

/-- Its values agree. -/
theorem eq7 : (part m c 6 : (⟨⟨2, ![16384, 1024]⟩, .bf16⟩ : BufTy).Contents (Elt Ideal)) = val_main_v137 (F := Ideal) (argH m c) (argG m c) (argW m c) := by
  funext i
  rw [eq_ix2 i]
  exact (v137_apply _ _ _ (i 0) (i 1)).symm

end Cert.ProjClaim

namespace Cert.Kernel5Ideal.Proj

open Cert.Kernel5Ideal Cert.Kernel5Ideal.Gen

/-- The kernel's run, its eight results named. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40) = part m c 0
      ∧ r.2.mem ((c.tc : Thread nD τ).loc main_v41) = part m c 1
      ∧ r.2.mem ((c.tc : Thread nD τ).loc main_v42) = part m c 2
      ∧ r.2.mem ((c.tc : Thread nD τ).loc main_v43) = part m c 3
      ∧ r.2.mem ((c.tc : Thread nD τ).loc main_v44) = logits m c
      ∧ r.2.mem ((c.tc : Thread nD τ).loc main_v45) = part m c 4
      ∧ r.2.mem ((c.tc : Thread nD τ).loc main_v46) = part m c 5
      ∧ r.2.mem ((c.tc : Thread nD τ).loc main_v47) = part m c 6) :=
  (θ_run _ _ _).mono (fun r h c =>
    ⟨((h c).2 main_v40 (Pipeline.mem_restRefs_of main_v40 (by decide) (by decide))).trans (W40 m c),
     ((h c).2 main_v41 (Pipeline.mem_restRefs_of main_v41 (by decide) (by decide))).trans (W41 m c),
     ((h c).2 main_v42 (Pipeline.mem_restRefs_of main_v42 (by decide) (by decide))).trans (W42 m c),
     ((h c).2 main_v43 (Pipeline.mem_restRefs_of main_v43 (by decide) (by decide))).trans (W43 m c),
     ((h c).2 main_v44 (Pipeline.mem_restRefs_of main_v44 (by decide) (by decide))).trans (W44 m c),
     ((h c).2 main_v45 (Pipeline.mem_restRefs_of main_v45 (by decide) (by decide))).trans (W45 m c),
     ((h c).2 main_v46 (Pipeline.mem_restRefs_of main_v46 (by decide) (by decide))).trans (W46 m c),
     ((h c).2 main_v47 (Pipeline.mem_restRefs_of main_v47 (by decide) (by decide))).trans (W47 m c)⟩) (run_main m ρ)

end Cert.Kernel5Ideal.Proj

namespace Cert.ProjClaim

open Cert.Kernel5Ideal.Proj (part logits)

/-- The projection and its reference end with equal results over the extended reals. -/
theorem algebraic : Cert.algebraic_Kernel5Ideal_Reference5Ideal (hKernel5Ideal := Cert.Kernel5Ideal.Gen.facts) (hReference5Ideal := Cert.Reference5Ideal.Gen.facts) := by
  intro m g m' g' hpre hagree
  refine ⟨fun c => part m c 0, fun c => part m c 1, fun c => part m c 2, fun c => part m c 3, fun c => logits m c,
    fun c => part m c 4, fun c => part m c 5, fun c => part m c 6, ?_, ?_⟩
  · refine (θ_run _ _ _).mono (fun r h c => ?_) (θ_run_and (Cert.Kernel5Ideal.Proj.run_results m g) (Cert.Kernel5Ideal.Proj.proj_frame m g))
    obtain ⟨a0, a1, a2, a3, a4, a5, a6, a7⟩ := h.1 c
    exact ⟨a0, a1, a2, a3, a4, a5, a6, a7, h.2.1 c⟩
  refine (θ_run _ _ _).mono (fun r h c => ?_) (Cert.Reference5Ideal.Value.run m' g')
  obtain ⟨h0, h1, h2, h3, h4, h5, h6, h7, h8⟩ := hagree c
  obtain ⟨a0, a1, a2, a3, a4, a5, a6, a7, k⟩ := h c
  refine ⟨(a0.trans (Cert.Reference5Ideal.Read.val_main_v128_eq ..)).trans ?_, (a1.trans (Cert.Reference5Ideal.Read.val_main_v130_eq ..)).trans ?_,
    (a2.trans (Cert.Reference5Ideal.Read.val_main_v131_eq ..)).trans ?_, (a3.trans (Cert.Reference5Ideal.Read.val_main_v132_eq ..)).trans ?_,
    (a4.trans (Cert.Reference5Ideal.Read.val_main_v19_eq ..)).trans ?_, (a5.trans (Cert.Reference5Ideal.Read.val_main_v134_eq ..)).trans ?_,
    (a6.trans (Cert.Reference5Ideal.Read.val_main_v136_eq ..)).trans ?_, (a7.trans (Cert.Reference5Ideal.Read.val_main_v137_eq ..)).trans ?_, k⟩
  · rw [h0, h1, h2, h3]; exact (eq0 m c).symm
  · rw [h0, h1, h2, h4]; exact (eq1 m c).symm
  · rw [h0, h1, h2]; exact (eq2 m c).symm
  · rw [h0, h1, h2]; exact (eq3 m c).symm
  · rw [h0, h1, h2]; exact (eq4 m c).symm
  · rw [h0, h1, h2, h5, h7, h8]; exact (eq5 m c).symm
  · rw [h0, h1, h2, h6, h7, h8]; exact (eq6 m c).symm
  · rw [h0, h1, h2]; exact (eq7 m c).symm

/-- The projection's reference runs, keeps its arguments and leaves every counter at zero. -/
theorem quiescent : Cert.quiescent_Reference5Ideal (hReference5Ideal := Cert.Reference5Ideal.Gen.facts) := fun m g _ =>
  (θ_run _ _ _).mono (fun r h => ⟨fun c => (h c).2.2.2.2.2.2.2.2, sem_eq_zero_of_no_sems (by decide) r.2⟩) (Cert.Reference5Ideal.Value.run m g)

end Cert.ProjClaim
-- ==== Proof.OddIdeal.Pts.lean ====
/-
  The odd projection's grid: which of the six cases a point is in, which windows rest there, and the buffers the body is called with.
-/
module

public import proofs.«01_k».proof.Proof.Gen.Kernel6Ideal.Frame
public import proofs.«01_k».proof.Proof.Gen.Kernel6Ideal.Skeleton
public import Idealize.ShloMosaic.Lib.Pipeline.TableIdle

@[expose] public section

set_option maxRecDepth 16384

noncomputable section

namespace Cert.Kernel6Ideal.Proj

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's case 0. -/
abbrev cond0 (i : grid0.Coords) : Prop := k0_cond1 i = 1#1

/-- It is the points whose column is 0. -/
theorem cond0_iff (t : Fin cfg0.N) : cond0 (grid0.coords t) ↔ t.val % 6 = 0 := by
  have ht : t.val < 96 := Nat.lt_of_lt_of_eq t.isLt N_0
  have e1 : (grid0.coords t 1).val = t.val / 1 % 6 := Pipeline.Grid.coords_val t 1 (by decide) rfl
  simp only [cond0, k0_cond1, e1]
  word_cmp

/-- The body's case 1. -/
abbrev cond1 (i : grid0.Coords) : Prop := k0_cond2 i = 1#1

/-- It is the points whose column is 1. -/
theorem cond1_iff (t : Fin cfg0.N) : cond1 (grid0.coords t) ↔ t.val % 6 = 1 := by
  have ht : t.val < 96 := Nat.lt_of_lt_of_eq t.isLt N_0
  have e1 : (grid0.coords t 1).val = t.val / 1 % 6 := Pipeline.Grid.coords_val t 1 (by decide) rfl
  simp only [cond1, k0_cond2, e1]
  word_cmp

/-- The body's case 2. -/
abbrev cond2 (i : grid0.Coords) : Prop := k0_cond3 i = 1#1

/-- It is the points whose column is 2. -/
theorem cond2_iff (t : Fin cfg0.N) : cond2 (grid0.coords t) ↔ t.val % 6 = 2 := by
  have ht : t.val < 96 := Nat.lt_of_lt_of_eq t.isLt N_0
  have e1 : (grid0.coords t 1).val = t.val / 1 % 6 := Pipeline.Grid.coords_val t 1 (by decide) rfl
  simp only [cond2, k0_cond3, e1]
  word_cmp

/-- The body's case 3. -/
abbrev cond3 (i : grid0.Coords) : Prop := k0_cond4 i = 1#1

/-- It is the points whose column is 3. -/
theorem cond3_iff (t : Fin cfg0.N) : cond3 (grid0.coords t) ↔ t.val % 6 = 3 := by
  have ht : t.val < 96 := Nat.lt_of_lt_of_eq t.isLt N_0
  have e1 : (grid0.coords t 1).val = t.val / 1 % 6 := Pipeline.Grid.coords_val t 1 (by decide) rfl
  simp only [cond3, k0_cond4, e1]
  word_cmp

/-- The body's case 4. -/
abbrev cond4 (i : grid0.Coords) : Prop := k0_cond5 i = 1#1

/-- It is the points whose column is 4. -/
theorem cond4_iff (t : Fin cfg0.N) : cond4 (grid0.coords t) ↔ t.val % 6 = 4 := by
  have ht : t.val < 96 := Nat.lt_of_lt_of_eq t.isLt N_0
  have e1 : (grid0.coords t 1).val = t.val / 1 % 6 := Pipeline.Grid.coords_val t 1 (by decide) rfl
  simp only [cond4, k0_cond5, e1]
  word_cmp

/-- The body's case 5. -/
abbrev cond5 (i : grid0.Coords) : Prop := k0_cond6 i = 1#1

/-- It is the points whose column is 5. -/
theorem cond5_iff (t : Fin cfg0.N) : cond5 (grid0.coords t) ↔ t.val % 6 = 5 := by
  have ht : t.val < 96 := Nat.lt_of_lt_of_eq t.isLt N_0
  have e1 : (grid0.coords t 1).val = t.val / 1 % 6 := Pipeline.Grid.coords_val t 1 (by decide) rfl
  simp only [cond5, k0_cond6, e1]
  word_cmp

theorem lt_N (t : Fin cfg0.N) : t.val < 96 := lt_of_lt_of_eq t.isLt N_0

/-- The point of row block `q` and column `j`. -/
def pt (q j : ℕ) : Fin cfg0.N := ⟨(6 * q + j) % 96, by rw [show cfg0.N = 96 from N_0]; omega⟩

theorem pt_val (q j : ℕ) (hq : q < 16) (hj : j < 6) : (pt q j).val = 6 * q + j := by
  show (6 * q + j) % 96 = _; omega

theorem pt_mod (q j : ℕ) (hj : j < 6) : (pt q j).val % 6 = j := by
  show (6 * q + j) % 96 % 6 = _; omega

/-- Every point is one of these. -/
theorem pt_of (t : Fin cfg0.N) (j : ℕ) (h : t.val % 6 = j) : ∃ q, q < 16 ∧ t = pt q j := by
  have ht := lt_N t
  exact ⟨t.val / 6, by omega, Fin.ext (by show t.val = (6 * (t.val / 6) + j) % 96; omega)⟩

/-- Where the three output windows rest, and where they are written back. -/
theorem idle6 : ∀ t : Fin cfg0.N, cfg0.idle 6 (grid0.coords t) = decide (t.val % 6 = 0) := (by decide +kernel : ∀ t : Fin grid0.N, _)
theorem idle7 : ∀ t : Fin cfg0.N, cfg0.idle 7 (grid0.coords t) = !decide (t.val % 6 = 0) := (by decide +kernel : ∀ t : Fin grid0.N, _)
theorem idle8 : ∀ t : Fin cfg0.N, cfg0.idle 8 (grid0.coords t) = !decide (t.val % 6 = 3) := (by decide +kernel : ∀ t : Fin grid0.N, _)
theorem flush6_zero : ∀ t : Fin cfg0.N, t.val % 6 = 0 → (cfg0.win 6).flush t = false := (by decide +kernel : ∀ t : Fin grid0.N, _)
theorem flush6_pos : ∀ t : Fin cfg0.N, t.val % 6 ≠ 0 → (cfg0.win 6).flush t = true := (by decide +kernel : ∀ t : Fin grid0.N, _)
theorem flush7 : ∀ t : Fin cfg0.N, (cfg0.win 7).flush t = decide (t.val % 6 = 5) := (by decide +kernel : ∀ t : Fin grid0.N, _)
theorem flush8 : ∀ t : Fin cfg0.N, (cfg0.win 8).flush t = decide (t.val % 6 = 5) := (by decide +kernel : ∀ t : Fin grid0.N, _)

/-- The gate window's buffer holds what the body stored, but at a row block's first point. -/
theorem fresh7 (t : Fin cfg0.N) : cfg0.fresh 7 t.val = decide (t.val % 6 = 0) := by
  refine Pipeline.Cfg.fresh_tab cfg0 7 (fun n => decide (n % 6 = 0)) rfl ?_ t.val (Nat.le_of_lt t.isLt)
  intro t
  rw [flush7 t]
  show decide ((t.val + 1) % 6 = 0) = (decide (t.val % 6 = 5) || (cfg0.idle 7 (grid0.coords t) && decide (t.val % 6 = 0)))
  rw [idle7 t]
  have h6 := Nat.mod_lt t.val (show 0 < 6 by decide)
  rw [Nat.add_mod]
  generalize t.val % 6 = u at h6 ⊢
  revert u
  decide

/-- The window of the raw keys and values holds what the body stored after a row block's point 3. -/
theorem fresh8 (t : Fin cfg0.N) : cfg0.fresh 8 t.val = decide (t.val % 6 ≤ 3) := by
  refine Pipeline.Cfg.fresh_tab cfg0 8 (fun n => decide (n % 6 ≤ 3)) rfl ?_ t.val (Nat.le_of_lt t.isLt)
  intro t
  rw [flush8 t]
  show decide ((t.val + 1) % 6 ≤ 3) = (decide (t.val % 6 = 5) || (cfg0.idle 8 (grid0.coords t) && decide (t.val % 6 ≤ 3)))
  rw [idle8 t]
  have h6 := Nat.mod_lt t.val (show 0 < 6 by decide)
  rw [Nat.add_mod]
  generalize t.val % 6 = u at h6 ⊢
  revert u
  decide

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3x1024x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1x4x1024x128 .bf16 := win0_8.stage (cfg0.slots t 8)
abbrev hs8 (t : Fin cfg0.N) : (ms8 t).IsWhole := hstage0_8 ((cfg0.slots t 8).cast nbuf0_8)

abbrev sc0 : Memref sig .tc .vmem S1024x2048 .bf16 := Memref.whole cc0_scratch0
abbrev sc1 : Memref sig .tc .vmem S1024x1024 .f32 := Memref.whole cc0_scratch1
abbrev sc2 : Memref sig .tc .vmem S1024x1024 .f32 := Memref.whole cc0_scratch2
abbrev sc3 : Memref sig .tc .vmem S1024x1024 .f32 := Memref.whole cc0_scratch3

/-- The region's own buffers, each at some contents, and the generator's register. -/
theorem anything_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA
  rw [scopedRest0_eq]
  simp only [sc0, sc1, sc2, sc3, owns_whole]
  rfl

/-- The body is its skeleton. -/
theorem body_skeleton : cc0_norm_proj (F := F) = cc0_norm_proj_skel (F := F) := by
  simp only [cc0_norm_proj_eq_skeleton]

end Cert.Kernel6Ideal.Proj
-- ==== Proof.OddIdeal.Run0.lean ====
/-
  The odd projection's body in case 0: it normalises the block of rows, multiplies it by the gate weight and by the first column block.
-/
module

public import proofs.«01_k».proof.Proof.OddIdeal.Pts

@[expose] public section

set_option maxRecDepth 16384

noncomputable section

namespace Cert.Kernel6Ideal.Proj

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 0, where it normalises the block of rows, multiplies it by the gate weight and by the first column block: the pieces each of its stores leaves in a buffer, with the
    proof that the body runs to them from its operands and keeps the rest as it was. -/
def run0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S2x1x4x1024x128 .bf16) (harg10 : arg10.IsWhole) (arg11 : Memref sig .tc .vmem S1024x2048 .bf16) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (hc0 : cond0 i) (hc1 : ¬cond1 i) (hc2 : ¬cond2 i) (hc3 : ¬cond3 i) (hc4 : ¬cond4 i) (hc5 : ¬cond5 i)
    (x0 : Vec F S1024x2048 .f32) (x1 : Vec F S1x2048 .f32) (x2 : Vec F S2048x1024 .bf16) (x3 : Vec F S2048x128 .bf16) (x4 : Vec F S8x128 .f32) (x5 : Vec F S3x1024x128 .f32) :
    Σ' (G : List (View.Piece (Elt F) S1024x128 .f32)), Σ' (X : List (View.Piece (Elt F) S1024x2048 .bf16)), { N : List (View.Piece (Elt F) S1024x1024 .f32) //
      ∀ (xi6 : Vec F S1024x1024 .bf16) (xi8 : Vec F S2x1x4x1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f G) ∗ owns (c : Thread nD τ) arg10 fullShare xi8 ∗ (∃ f, arg11.view.loc (c : Thread nD τ) ↦[arg11.view.set]{fullShare} arg11.view.writes (Elt F) f X) ∗ (∃ f, arg12.view.loc (c : Thread nD τ) ↦[arg12.view.set]{fullShare} arg12.view.writes (Elt F) f N) ∗ (∃ d, owns (c : Thread nD τ) arg13 fullShare d) ∗ (∃ d, owns (c : Thread nD τ) arg14 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi6 xi8 E K => ?run⟩
  case run =>
    rw [body_skeleton]
    unfold cc0_norm_proj_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; isplitr; · ipureintro; exact harg10.read_unread _
      iexact H10
    isplitl [H11]
    · iexists _; iexact H11
    isplitl [H12]
    · iexists _; iexact H12
    isplitl [H13]
    · iexists _; iexists _; isplitr; swap; · iexact H13
      ipureintro; rfl
    iexists _; iexists _; isplitr; swap; · iexact H14
    ipureintro; rfl

end Cert.Kernel6Ideal.Proj
-- ==== Proof.OddIdeal.Run1.lean ====
/-
  The odd projection's body in case 1: it writes column block 0 out and multiplies the rows by column block 1.
-/
module

public import proofs.«01_k».proof.Proof.OddIdeal.Run0

@[expose] public section

set_option maxRecDepth 16384

noncomputable section

namespace Cert.Kernel6Ideal.Proj

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 1, where it writes column block 0 out and multiplies the rows by column block 1: the pieces each of its stores leaves in a buffer, with the
    proof that the body runs to them from its operands and keeps the rest as it was. -/
def run1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S2x1x4x1024x128 .bf16) (harg10 : arg10.IsWhole) (arg11 : Memref sig .tc .vmem S1024x2048 .bf16) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (hc0 : ¬cond0 i) (hc1 : cond1 i) (hc2 : ¬cond2 i) (hc3 : ¬cond3 i) (hc4 : ¬cond4 i) (hc5 : ¬cond5 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (L : List (View.Piece (Elt F) S1024x1024 .bf16)), { N : List (View.Piece (Elt F) S1024x1024 .f32) //
      ∀ (xi7 : Vec F S1024x128 .f32) (xi8 : Vec F S2x1x4x1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xn ∗ owns (c : Thread nD τ) arg12 fullShare a ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xi8 ∗ owns (c : Thread nD τ) arg11 fullShare xn ∗ (∃ d, owns (c : Thread nD τ) arg12 fullShare d) ∗ (∃ f, arg13.view.loc (c : Thread nD τ) ↦[arg13.view.set]{fullShare} arg13.view.writes (Elt F) f N) ∗ (∃ d, owns (c : Thread nD τ) arg14 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi7 xi8 E K => ?run⟩
  case run =>
    rw [body_skeleton]
    unfold cc0_norm_proj_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexists _; isplitr; swap; · iexact H12
      ipureintro; rfl
    isplitl [H13]
    · iexists _; iexact H13
    iexists _; iexists _; isplitr; swap; · iexact H14
    ipureintro; rfl

end Cert.Kernel6Ideal.Proj
-- ==== Proof.OddIdeal.Run2.lean ====
/-
  The odd projection's body in case 2: it writes column block 1 out and multiplies the rows by column block 2.
-/
module

public import proofs.«01_k».proof.Proof.OddIdeal.Run1

@[expose] public section

set_option maxRecDepth 16384

noncomputable section

namespace Cert.Kernel6Ideal.Proj

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 2, where it writes column block 1 out and multiplies the rows by column block 2: the pieces each of its stores leaves in a buffer, with the
    proof that the body runs to them from its operands and keeps the rest as it was. -/
def run2 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S2x1x4x1024x128 .bf16) (harg10 : arg10.IsWhole) (arg11 : Memref sig .tc .vmem S1024x2048 .bf16) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (hc0 : ¬cond0 i) (hc1 : ¬cond1 i) (hc2 : cond2 i) (hc3 : ¬cond3 i) (hc4 : ¬cond4 i) (hc5 : ¬cond5 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (L : List (View.Piece (Elt F) S1024x1024 .bf16)), { N : List (View.Piece (Elt F) S1024x1024 .f32) //
      ∀ (xi7 : Vec F S1024x128 .f32) (xi8 : Vec F S2x1x4x1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xn ∗ (∃ d, owns (c : Thread nD τ) arg12 fullShare d) ∗ owns (c : Thread nD τ) arg13 fullShare a ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xi8 ∗ owns (c : Thread nD τ) arg11 fullShare xn ∗ (∃ f, arg12.view.loc (c : Thread nD τ) ↦[arg12.view.set]{fullShare} arg12.view.writes (Elt F) f N) ∗ (∃ d, owns (c : Thread nD τ) arg13 fullShare d) ∗ (∃ d, owns (c : Thread nD τ) arg14 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi7 xi8 E K => ?run⟩
  case run =>
    rw [body_skeleton]
    unfold cc0_norm_proj_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%f13, %hf13, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg13.eq_unread hf13
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexists _; isplitr; swap; · iexact H13
      ipureintro; rfl
    iexists _; iexists _; isplitr; swap; · iexact H14
    ipureintro; rfl

end Cert.Kernel6Ideal.Proj
-- ==== Proof.OddIdeal.Run3.lean ====
/-
  The odd projection's body in case 3: it writes column block 2 out and multiplies the rows by column block 3.
-/
module

public import proofs.«01_k».proof.Proof.OddIdeal.Run2

@[expose] public section

set_option maxRecDepth 16384

noncomputable section

namespace Cert.Kernel6Ideal.Proj

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 3, where it writes column block 2 out and multiplies the rows by column block 3: the pieces each of its stores leaves in a buffer, with the
    proof that the body runs to them from its operands and keeps the rest as it was. -/
def run3 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S2x1x4x1024x128 .bf16) (harg10 : arg10.IsWhole) (arg11 : Memref sig .tc .vmem S1024x2048 .bf16) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (hc0 : ¬cond0 i) (hc1 : ¬cond1 i) (hc2 : ¬cond2 i) (hc3 : cond3 i) (hc4 : ¬cond4 i) (hc5 : ¬cond5 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (R : List (View.Piece (Elt F) S2x1x4x1024x128 .bf16)), Σ' (L : List (View.Piece (Elt F) S1024x1024 .bf16)), { N : List (View.Piece (Elt F) S1024x1024 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d) ∗ owns (c : Thread nD τ) arg11 fullShare xn ∗ owns (c : Thread nD τ) arg12 fullShare a ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ (∃ f, arg10.view.loc (c : Thread nD τ) ↦[arg10.view.set]{fullShare} arg10.view.writes (Elt F) f R) ∗ owns (c : Thread nD τ) arg11 fullShare xn ∗ (∃ d, owns (c : Thread nD τ) arg12 fullShare d) ∗ (∃ f, arg13.view.loc (c : Thread nD τ) ↦[arg13.view.set]{fullShare} arg13.view.writes (Elt F) f N) ∗ (∃ d, owns (c : Thread nD τ) arg14 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi7 E K => ?run⟩
  case run =>
    rw [body_skeleton]
    unfold cc0_norm_proj_skel
    simp only [k0_part22_eq_skeleton, k0_part23_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg11.eq_unread hf11; obtain rfl := harg12.eq_unread hf12
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; iexists _; isplitr; swap; · iexact H12
      ipureintro; rfl
    isplitl [H13]
    · iexists _; iexact H13
    iexists _; iexists _; isplitr; swap; · iexact H14
    ipureintro; rfl

end Cert.Kernel6Ideal.Proj
-- ==== Proof.OddIdeal.Run4.lean ====
/-
  The odd projection's body in case 4: it writes column block 3 out and multiplies the rows by column block 4.
-/
module

public import proofs.«01_k».proof.Proof.OddIdeal.Run3

@[expose] public section

set_option maxRecDepth 16384

noncomputable section

namespace Cert.Kernel6Ideal.Proj

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 4, where it writes column block 3 out and multiplies the rows by column block 4: the pieces each of its stores leaves in a buffer, with the
    proof that the body runs to them from its operands and keeps the rest as it was. -/
def run4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S2x1x4x1024x128 .bf16) (harg10 : arg10.IsWhole) (arg11 : Memref sig .tc .vmem S1024x2048 .bf16) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (hc0 : ¬cond0 i) (hc1 : ¬cond1 i) (hc2 : ¬cond2 i) (hc3 : ¬cond3 i) (hc4 : cond4 i) (hc5 : ¬cond5 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (xn : Vec F S1024x2048 .bf16) (a : Vec F S1024x1024 .f32) :
    Σ' (L : List (View.Piece (Elt F) S1024x1024 .bf16)), { N : List (View.Piece (Elt F) S1024x1024 .f32) //
      ∀ (xi7 : Vec F S1024x128 .f32) (xi8 : Vec F S2x1x4x1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xn ∗ (∃ d, owns (c : Thread nD τ) arg12 fullShare d) ∗ owns (c : Thread nD τ) arg13 fullShare a ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xi8 ∗ owns (c : Thread nD τ) arg11 fullShare xn ∗ (∃ f, arg12.view.loc (c : Thread nD τ) ↦[arg12.view.set]{fullShare} arg12.view.writes (Elt F) f N) ∗ (∃ d, owns (c : Thread nD τ) arg13 fullShare d) ∗ (∃ d, owns (c : Thread nD τ) arg14 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi7 xi8 E K => ?run⟩
  case run =>
    rw [body_skeleton]
    unfold cc0_norm_proj_skel
    simp only [k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%f13, %hf13, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg13.eq_unread hf13
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexists _; isplitr; swap; · iexact H13
      ipureintro; rfl
    iexists _; iexists _; isplitr; swap; · iexact H14
    ipureintro; rfl

end Cert.Kernel6Ideal.Proj
-- ==== Proof.OddIdeal.Run5.lean ====
/-
  The odd projection's body in case 5: it writes the last column block out.
-/
module

public import proofs.«01_k».proof.Proof.OddIdeal.Run4

@[expose] public section

set_option maxRecDepth 16384

noncomputable section

namespace Cert.Kernel6Ideal.Proj

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in case 5, where it writes the last column block out: the pieces each of its stores leaves in a buffer, with the
    proof that the body runs to them from its operands and keeps the rest as it was. -/
def run5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S2x1x4x1024x128 .bf16) (harg10 : arg10.IsWhole) (arg11 : Memref sig .tc .vmem S1024x2048 .bf16) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (hc0 : ¬cond0 i) (hc1 : ¬cond1 i) (hc2 : ¬cond2 i) (hc3 : ¬cond3 i) (hc4 : ¬cond4 i) (hc5 : cond5 i)
    (x0 : Vec F S1024x2048 .f32) (x1 : Vec F S1x2048 .f32) (x2 : Vec F S2048x1024 .bf16) (x3 : Vec F S2048x128 .bf16) (x4 : Vec F S8x128 .f32) (x5 : Vec F S3x1024x128 .f32) (a : Vec F S1024x1024 .f32) :
    { L : List (View.Piece (Elt F) S1024x1024 .bf16) //
      ∀ (xi7 : Vec F S1024x128 .f32) (xi8 : Vec F S2x1x4x1024x128 .bf16) (xn : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xn ∗ owns (c : Thread nD τ) arg12 fullShare a ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xi8 ∗ owns (c : Thread nD τ) arg11 fullShare xn ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13 arg14 harg14) K } := by
  refine ⟨?_, fun xi7 xi8 xn E K => ?run⟩
  case run =>
    rw [body_skeleton]
    unfold cc0_norm_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexists _; isplitr; swap; · iexact H12
      ipureintro; rfl
    isplitl [H13]
    · iexists _; iexists _; isplitr; swap; · iexact H13
      ipureintro; rfl
    iexists _; iexists _; isplitr; swap; · iexact H14
    ipureintro; rfl

end Cert.Kernel6Ideal.Proj
-- ==== Proof.OddIdeal.Frame.lean ====
/-
  What the odd projection's buffers hold point by point, the body at every point, and the run of the whole launch.
-/
module

public import proofs.«01_k».proof.Proof.OddIdeal.Run5
public import Idealize.ShloMosaic.Lib.Claim

@[expose] public section

set_option maxRecDepth 16384

noncomputable section

namespace Cert.Kernel6Ideal.Proj

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Case 0 at a point of the grid. -/
abbrev r0 (c : Dev nD) (t : Fin cfg0.N) (h : t.val % 6 = 0) :=
  run0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _)
    ((cond0_iff t).mpr h) (fun e => by have := (cond1_iff t).mp e; omega) (fun e => by have := (cond2_iff t).mp e; omega) (fun e => by have := (cond3_iff t).mp e; omega) (fun e => by have := (cond4_iff t).mp e; omega) (fun e => by have := (cond5_iff t).mp e; omega)
    (iblk m c 0 t) (iblk m c 1 t) (iblk m c 2 t) (iblk m c 3 t) (iblk m c 4 t) (iblk m c 5 t)

theorem cover0_og (c : Dev nD) (t : Fin cfg0.N) (h : t.val % 6 = 0) (y : S1024x128.Idx) :
    ∃ pc ∈ (r0 m c t h).1, y ∈ pc.1.set :=
  View.cover_of_tiledL (r0 m c t h).1 S1024x128.size (by sl_kernel_rfl) y

theorem cover0_xn (c : Dev nD) (t : Fin cfg0.N) (h : t.val % 6 = 0) (y : S1024x2048.Idx) :
    ∃ pc ∈ (r0 m c t h).2.1, y ∈ pc.1.set :=
  View.cover_of_tiledL (r0 m c t h).2.1 S1024x2048.size (by sl_kernel_rfl) y

theorem cover0_acc (c : Dev nD) (t : Fin cfg0.N) (h : t.val % 6 = 0) (y : S1024x1024.Idx) :
    ∃ pc ∈ (r0 m c t h).2.2.val, y ∈ pc.1.set :=
  View.cover_of_tiledL (r0 m c t h).2.2.val S1024x256.size (by sl_kernel_rfl) y

/-- Case 1 at a point of the grid. -/
abbrev r1 (c : Dev nD) (t : Fin cfg0.N) (h : t.val % 6 = 1) (xn : Vec F S1024x2048 .bf16) (a : Vec F S1024x1024 .f32) :=
  run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _)
    (fun e => by have := (cond0_iff t).mp e; omega) ((cond1_iff t).mpr h) (fun e => by have := (cond2_iff t).mp e; omega) (fun e => by have := (cond3_iff t).mp e; omega) (fun e => by have := (cond4_iff t).mp e; omega) (fun e => by have := (cond5_iff t).mp e; omega)
    (iblk m c 0 t) (iblk m c 1 t) (iblk m c 2 t) (iblk m c 3 t) (iblk m c 4 t) (iblk m c 5 t) xn a

theorem cover1_o (c : Dev nD) (t : Fin cfg0.N) (h : t.val % 6 = 1) (xn : Vec F S1024x2048 .bf16) (a : Vec F S1024x1024 .f32) (y : S1024x1024.Idx) :
    ∃ pc ∈ (r1 m c t h xn a).1, y ∈ pc.1.set :=
  View.cover_of_tiledL (r1 m c t h xn a).1 S1024x128.size (by sl_kernel_rfl) y

theorem cover1_acc (c : Dev nD) (t : Fin cfg0.N) (h : t.val % 6 = 1) (xn : Vec F S1024x2048 .bf16) (a : Vec F S1024x1024 .f32) (y : S1024x1024.Idx) :
    ∃ pc ∈ (r1 m c t h xn a).2.val, y ∈ pc.1.set :=
  View.cover_of_tiledL (r1 m c t h xn a).2.val S1024x256.size (by sl_kernel_rfl) y

/-- Case 2 at a point of the grid. -/
abbrev r2 (c : Dev nD) (t : Fin cfg0.N) (h : t.val % 6 = 2) (xn : Vec F S1024x2048 .bf16) (a : Vec F S1024x1024 .f32) :=
  run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) ((cond2_iff t).mpr h) (fun e => by have := (cond3_iff t).mp e; omega) (fun e => by have := (cond4_iff t).mp e; omega) (fun e => by have := (cond5_iff t).mp e; omega)
    (iblk m c 0 t) (iblk m c 1 t) (iblk m c 2 t) (iblk m c 3 t) (iblk m c 4 t) (iblk m c 5 t) xn a

theorem cover2_o (c : Dev nD) (t : Fin cfg0.N) (h : t.val % 6 = 2) (xn : Vec F S1024x2048 .bf16) (a : Vec F S1024x1024 .f32) (y : S1024x1024.Idx) :
    ∃ pc ∈ (r2 m c t h xn a).1, y ∈ pc.1.set :=
  View.cover_of_tiledL (r2 m c t h xn a).1 S1024x128.size (by sl_kernel_rfl) y

theorem cover2_acc (c : Dev nD) (t : Fin cfg0.N) (h : t.val % 6 = 2) (xn : Vec F S1024x2048 .bf16) (a : Vec F S1024x1024 .f32) (y : S1024x1024.Idx) :
    ∃ pc ∈ (r2 m c t h xn a).2.val, y ∈ pc.1.set :=
  View.cover_of_tiledL (r2 m c t h xn a).2.val S1024x256.size (by sl_kernel_rfl) y

/-- Case 3 at a point of the grid. -/
abbrev r3 (c : Dev nD) (t : Fin cfg0.N) (h : t.val % 6 = 3) (xn : Vec F S1024x2048 .bf16) (a : Vec F S1024x1024 .f32) :=
  run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) (fun e => by have := (cond2_iff t).mp e; omega) ((cond3_iff t).mpr h) (fun e => by have := (cond4_iff t).mp e; omega) (fun e => by have := (cond5_iff t).mp e; omega)
    (iblk m c 0 t) (iblk m c 1 t) (iblk m c 2 t) (iblk m c 3 t) (iblk m c 4 t) (iblk m c 5 t) xn a

theorem cover3_o (c : Dev nD) (t : Fin cfg0.N) (h : t.val % 6 = 3) (xn : Vec F S1024x2048 .bf16) (a : Vec F S1024x1024 .f32) (y : S1024x1024.Idx) :
    ∃ pc ∈ (r3 m c t h xn a).2.1, y ∈ pc.1.set :=
  View.cover_of_tiledL (r3 m c t h xn a).2.1 S1024x1024.size (by sl_kernel_rfl) y

theorem cover3_acc (c : Dev nD) (t : Fin cfg0.N) (h : t.val % 6 = 3) (xn : Vec F S1024x2048 .bf16) (a : Vec F S1024x1024 .f32) (y : S1024x1024.Idx) :
    ∃ pc ∈ (r3 m c t h xn a).2.2.val, y ∈ pc.1.set :=
  View.cover_of_tiledL (r3 m c t h xn a).2.2.val S1024x256.size (by sl_kernel_rfl) y

theorem cover3_raw (c : Dev nD) (t : Fin cfg0.N) (h : t.val % 6 = 3) (xn : Vec F S1024x2048 .bf16) (a : Vec F S1024x1024 .f32) (y : S2x1x4x1024x128.Idx) :
    ∃ pc ∈ (r3 m c t h xn a).1, y ∈ pc.1.set :=
  View.cover_of_tiledL (r3 m c t h xn a).1 S1x1x1x1024x128.size (by sl_kernel_rfl) y

/-- Case 4 at a point of the grid. -/
abbrev r4 (c : Dev nD) (t : Fin cfg0.N) (h : t.val % 6 = 4) (xn : Vec F S1024x2048 .bf16) (a : Vec F S1024x1024 .f32) :=
  run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) (fun e => by have := (cond2_iff t).mp e; omega) (fun e => by have := (cond3_iff t).mp e; omega) ((cond4_iff t).mpr h) (fun e => by have := (cond5_iff t).mp e; omega)
    (iblk m c 0 t) (iblk m c 1 t) (iblk m c 2 t) (iblk m c 3 t) (iblk m c 4 t) (iblk m c 5 t) xn a

theorem cover4_o (c : Dev nD) (t : Fin cfg0.N) (h : t.val % 6 = 4) (xn : Vec F S1024x2048 .bf16) (a : Vec F S1024x1024 .f32) (y : S1024x1024.Idx) :
    ∃ pc ∈ (r4 m c t h xn a).1, y ∈ pc.1.set :=
  View.cover_of_tiledL (r4 m c t h xn a).1 S1024x128.size (by sl_kernel_rfl) y

theorem cover4_acc (c : Dev nD) (t : Fin cfg0.N) (h : t.val % 6 = 4) (xn : Vec F S1024x2048 .bf16) (a : Vec F S1024x1024 .f32) (y : S1024x1024.Idx) :
    ∃ pc ∈ (r4 m c t h xn a).2.val, y ∈ pc.1.set :=
  View.cover_of_tiledL (r4 m c t h xn a).2.val S1024x256.size (by sl_kernel_rfl) y

/-- Case 5 at a point of the grid. -/
abbrev r5 (c : Dev nD) (t : Fin cfg0.N) (h : t.val % 6 = 5) (a : Vec F S1024x1024 .f32) :=
  run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _)
    (fun e => by have := (cond0_iff t).mp e; omega) (fun e => by have := (cond1_iff t).mp e; omega) (fun e => by have := (cond2_iff t).mp e; omega) (fun e => by have := (cond3_iff t).mp e; omega) (fun e => by have := (cond4_iff t).mp e; omega) ((cond5_iff t).mpr h)
    (iblk m c 0 t) (iblk m c 1 t) (iblk m c 2 t) (iblk m c 3 t) (iblk m c 4 t) (iblk m c 5 t) a

theorem cover5_o (c : Dev nD) (t : Fin cfg0.N) (h : t.val % 6 = 5) (a : Vec F S1024x1024 .f32) (y : S1024x1024.Idx) :
    ∃ pc ∈ (r5 m c t h a).val, y ∈ pc.1.set :=
  View.cover_of_tiledL (r5 m c t h a).val S1024x1024.size (by sl_kernel_rfl) y

/-- The gate values of row block `q`, its normalised rows, and its product with each column block. -/
def gateOf (c : Dev nD) (q : ℕ) : Vec F S1024x128 .f32 := View.canon (r0 m c (pt q 0) (pt_mod q 0 (by decide))).1
def rowsOf (c : Dev nD) (q : ℕ) : Vec F S1024x2048 .bf16 := View.canon (r0 m c (pt q 0) (pt_mod q 0 (by decide))).2.1
def acc0 (c : Dev nD) (q : ℕ) : Vec F S1024x1024 .f32 := View.canon (r0 m c (pt q 0) (pt_mod q 0 (by decide))).2.2.val
def acc1 (c : Dev nD) (q : ℕ) : Vec F S1024x1024 .f32 := View.canon (r1 m c (pt q 1) (pt_mod q 1 (by decide)) (rowsOf m c q) (acc0 m c q)).2.val
def acc2 (c : Dev nD) (q : ℕ) : Vec F S1024x1024 .f32 := View.canon (r2 m c (pt q 2) (pt_mod q 2 (by decide)) (rowsOf m c q) (acc1 m c q)).2.val
def acc3 (c : Dev nD) (q : ℕ) : Vec F S1024x1024 .f32 := View.canon (r3 m c (pt q 3) (pt_mod q 3 (by decide)) (rowsOf m c q) (acc2 m c q)).2.2.val
def acc4 (c : Dev nD) (q : ℕ) : Vec F S1024x1024 .f32 := View.canon (r4 m c (pt q 4) (pt_mod q 4 (by decide)) (rowsOf m c q) (acc3 m c q)).2.val
/-- The raw keys and values of row block `q`, head by head. -/
def rawOf (c : Dev nD) (q : ℕ) : Vec F S2x1x4x1024x128 .bf16 := View.canon (r3 m c (pt q 3) (pt_mod q 3 (by decide)) (rowsOf m c q) (acc2 m c q)).1

/-- What is written out at each point of row block `q`: the finished column block before it. -/
def outOf (c : Dev nD) (q : ℕ) : ℕ → Vec F S1024x1024 .bf16
  | 1 => View.canon (r1 m c (pt q 1) (pt_mod q 1 (by decide)) (rowsOf m c q) (acc0 m c q)).1
  | 2 => View.canon (r2 m c (pt q 2) (pt_mod q 2 (by decide)) (rowsOf m c q) (acc1 m c q)).1
  | 3 => View.canon (r3 m c (pt q 3) (pt_mod q 3 (by decide)) (rowsOf m c q) (acc2 m c q)).2.1
  | 4 => View.canon (r4 m c (pt q 4) (pt_mod q 4 (by decide)) (rowsOf m c q) (acc3 m c q)).1
  | _ => View.canon (r5 m c (pt q 5) (pt_mod q 5 (by decide)) (acc4 m c q)).val

/-- What is held before point `j` of row block `q`: at a row block's start anything; later the normalised rows and the
    column block to be written next. -/
def held (c : Dev nD) (q : ℕ) : ℕ → sProp 𝕄
  | 1 => iprop(iprop(owns (c : Thread nD τ) sc0 fullShare (rowsOf m c q) ∗ owns (c : Thread nD τ) sc1 fullShare (acc0 m c q) ∗ (∃ d, owns (c : Thread nD τ) sc2 fullShare d) ∗ (∃ d, owns (c : Thread nD τ) sc3 fullShare d)) ∗ (∃ r, prngReg c r))
  | 2 => iprop(iprop(owns (c : Thread nD τ) sc0 fullShare (rowsOf m c q) ∗ (∃ d, owns (c : Thread nD τ) sc1 fullShare d) ∗ owns (c : Thread nD τ) sc2 fullShare (acc1 m c q) ∗ (∃ d, owns (c : Thread nD τ) sc3 fullShare d)) ∗ (∃ r, prngReg c r))
  | 3 => iprop(iprop(owns (c : Thread nD τ) sc0 fullShare (rowsOf m c q) ∗ owns (c : Thread nD τ) sc1 fullShare (acc2 m c q) ∗ (∃ d, owns (c : Thread nD τ) sc2 fullShare d) ∗ (∃ d, owns (c : Thread nD τ) sc3 fullShare d)) ∗ (∃ r, prngReg c r))
  | 4 => iprop(iprop(owns (c : Thread nD τ) sc0 fullShare (rowsOf m c q) ∗ (∃ d, owns (c : Thread nD τ) sc1 fullShare d) ∗ owns (c : Thread nD τ) sc2 fullShare (acc3 m c q) ∗ (∃ d, owns (c : Thread nD τ) sc3 fullShare d)) ∗ (∃ r, prngReg c r))
  | 5 => iprop(iprop(owns (c : Thread nD τ) sc0 fullShare (rowsOf m c q) ∗ owns (c : Thread nD τ) sc1 fullShare (acc4 m c q) ∗ (∃ d, owns (c : Thread nD τ) sc2 fullShare d) ∗ (∃ d, owns (c : Thread nD τ) sc3 fullShare d)) ∗ (∃ r, prngReg c r))
  | _ => Pipeline.ΦA spec0 c

/-! ## The proof data -/

/-- The arrays as the region finds them; after a point each input's buffer at its block, the outputs' at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outOf m c (t.val / 6) (t.val % 6)
    | ⟨7, _⟩ => gateOf m c (t.val / 6)
    | ⟨8, _⟩ => rawOf m c (t.val / 6)
  Φ t := held m c (t.val / 6) (t.val % 6)
  q _ := fullShare
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outOf m c (t.val / 6) (t.val % 6) := by dsimp only [dats]
theorem after7 (c : Dev nD) (t : Fin cfg0.N) : (dats m 0 c).after 7 t = gateOf m c (t.val / 6) := by dsimp only [dats]
theorem after8 (c : Dev nD) (t : Fin cfg0.N) : (dats m 0 c).after 8 t = rawOf m c (t.val / 6) := by dsimp only [dats]
theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d
theorem before4 (c : Dev nD) (t : Fin cfg0.N) (d) : (dats m 0 c).before 4 t d = iblk m c 4 t :=
  before0_4_of m (dats m 0 c) (arrays m c 4) (after4 m c) t d
theorem before5 (c : Dev nD) (t : Fin cfg0.N) (d) : (dats m 0 c).before 5 t d = iblk m c 5 t :=
  before0_5_of m (dats m 0 c) (arrays m c 5) (after5 m c) t d

/-- The gate values stay in their buffer through the points that rest it, to the last of the row block. -/
theorem before7 (c : Dev nD) (t : Fin cfg0.N) (h : t.val % 6 = 5) (d) :
    (dats m 0 c).before 7 t d = gateOf m c (t.val / 6) := by
  have key : ∀ (s : Fin cfg0.N) (_ : s.val ≠ 0), cfg0.idle 7 (grid0.coords s) = true → cfg0.fresh 7 s.val = false →
      (dats m 0 c).after 7 s = (dats m 0 c).after 7 ⟨s.val - 1, by omega⟩ := by
    intro s h0 _ hf
    rw [fresh7] at hf
    have h8 : ¬ s.val % 6 = 0 := of_decide_eq_false hf
    rw [after7, after7]
    show gateOf m c (s.val / 6) = gateOf m c ((s.val - 1) / 6)
    rw [show (s.val - 1) / 6 = s.val / 6 by omega]
  rw [Dat.before_out_traj _ 7 rfl (fun _ _ => rfl) key t.val t rfl d, if_neg (by rw [fresh7]; simp [h]), after7]
  show gateOf m c ((t.val - 1) / 6) = _
  rw [show (t.val - 1) / 6 = t.val / 6 by omega]

/-- So do the raw keys and values, from the point that stores them. -/
theorem before8 (c : Dev nD) (t : Fin cfg0.N) (h : t.val % 6 = 5) (d) :
    (dats m 0 c).before 8 t d = rawOf m c (t.val / 6) := by
  have key : ∀ (s : Fin cfg0.N) (_ : s.val ≠ 0), cfg0.idle 8 (grid0.coords s) = true → cfg0.fresh 8 s.val = false →
      (dats m 0 c).after 8 s = (dats m 0 c).after 8 ⟨s.val - 1, by omega⟩ := by
    intro s h0 _ hf
    rw [fresh8] at hf
    have h8 : ¬ s.val % 6 ≤ 3 := of_decide_eq_false hf
    rw [after8, after8]
    show rawOf m c (s.val / 6) = rawOf m c ((s.val - 1) / 6)
    rw [show (s.val - 1) / 6 = s.val / 6 by omega]
  rw [Dat.before_out_traj _ 8 rfl (fun _ _ => rfl) key t.val t rfl d, if_neg (by rw [fresh8]; simp [h]), after8]
  show rawOf m c ((t.val - 1) / 6) = _
  rw [show (t.val - 1) / 6 = t.val / 6 by omega]

/-! ## The body at every point -/

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (q j : ℕ) (hq : q < 16) (h0 : 0 < j) (hj : j < 6) :
    (dats m 0 c).leavesExact 6 (pt q j) = owns (c : Thread nD τ) (ms6 (pt q j)) fullShare (outOf m c q j) := by
  have e := pt_val q j hq hj
  unfold Dat.leavesExact
  rw [show cfg0.idle 6 (cfg0.grid.coords (pt q j)) = false from (idle6 _).trans (decide_eq_false (by omega)), after6,
    show (pt q j).val / 6 = q by omega, show (pt q j).val % 6 = j by omega]
theorem leaves6_first (c : Dev nD) (q : ℕ) (hq : q < 16) :
    (dats m 0 c).leavesExact 6 (pt q 0) = iprop(∃ d, owns (c : Thread nD τ) (ms6 (pt q 0)) fullShare ((dats m 0 c).before 6 (pt q 0) d)) := by
  have e := pt_val q 0 hq (by decide)
  exact Dat.leavesExact_idle (dats m 0 c) 6 (pt q 0) ((idle6 _).trans (decide_eq_true (by omega))) (flush6_zero _ (by omega))
theorem leaves7_idle (c : Dev nD) (q j : ℕ) (hq : q < 16) (h0 : j ≠ 0) (hj : j < 5) :
    (dats m 0 c).leavesExact 7 (pt q j) = iprop(∃ d, owns (c : Thread nD τ) (ms7 (pt q j)) fullShare ((dats m 0 c).before 7 (pt q j) d)) := by
  have e := pt_val q j hq (by omega)
  exact Dat.leavesExact_idle (dats m 0 c) 7 (pt q j) ((idle7 _).trans (by rw [decide_eq_false (by omega)]; rfl))
    ((flush7 _).trans (decide_eq_false (by omega)))
theorem leaves7_live (c : Dev nD) (q : ℕ) (hq : q < 16) :
    (dats m 0 c).leavesExact 7 (pt q 0) = owns (c : Thread nD τ) (ms7 (pt q 0)) fullShare (gateOf m c q) := by
  have e := pt_val q 0 hq (by decide)
  unfold Dat.leavesExact
  rw [show cfg0.idle 7 (cfg0.grid.coords (pt q 0)) = false from (idle7 _).trans (by rw [decide_eq_true (by omega)]; rfl), after7,
    show (pt q 0).val / 6 = q by omega]
theorem leaves7_last (c : Dev nD) (q : ℕ) (hq : q < 16) :
    (dats m 0 c).leavesExact 7 (pt q 5) = owns (c : Thread nD τ) (ms7 (pt q 5)) fullShare (gateOf m c q) := by
  have e := pt_val q 5 hq (by decide)
  unfold Dat.leavesExact
  rw [show cfg0.idle 7 (cfg0.grid.coords (pt q 5)) = true from (idle7 _).trans (by rw [decide_eq_false (by omega)]; rfl),
    show (cfg0.win 7).flush (pt q 5) = true from (flush7 _).trans (decide_eq_true (by omega)), after7, show (pt q 5).val / 6 = q by omega]
theorem leaves8_idle (c : Dev nD) (q j : ℕ) (hq : q < 16) (h0 : j ≠ 3) (hj : j < 5) :
    (dats m 0 c).leavesExact 8 (pt q j) = iprop(∃ d, owns (c : Thread nD τ) (ms8 (pt q j)) fullShare ((dats m 0 c).before 8 (pt q j) d)) := by
  have e := pt_val q j hq (by omega)
  exact Dat.leavesExact_idle (dats m 0 c) 8 (pt q j) ((idle8 _).trans (by rw [decide_eq_false (by omega)]; rfl))
    ((flush8 _).trans (decide_eq_false (by omega)))
theorem leaves8_live (c : Dev nD) (q : ℕ) (hq : q < 16) :
    (dats m 0 c).leavesExact 8 (pt q 3) = owns (c : Thread nD τ) (ms8 (pt q 3)) fullShare (rawOf m c q) := by
  have e := pt_val q 3 hq (by decide)
  unfold Dat.leavesExact
  rw [show cfg0.idle 8 (cfg0.grid.coords (pt q 3)) = false from (idle8 _).trans (by rw [decide_eq_true (by omega)]; rfl), after8,
    show (pt q 3).val / 6 = q by omega]
theorem leaves8_last (c : Dev nD) (q : ℕ) (hq : q < 16) :
    (dats m 0 c).leavesExact 8 (pt q 5) = owns (c : Thread nD τ) (ms8 (pt q 5)) fullShare (rawOf m c q) := by
  have e := pt_val q 5 hq (by decide)
  unfold Dat.leavesExact
  rw [show cfg0.idle 8 (cfg0.grid.coords (pt q 5)) = true from (idle8 _).trans (by rw [decide_eq_false (by omega)]; rfl),
    show (cfg0.win 8).flush (pt q 5) = true from (flush8 _).trans (decide_eq_true (by omega)), after8, show (pt q 5).val / 6 = q by omega]

/-- What is held before and after a point. -/
theorem held_before (c : Dev nD) (q j : ℕ) (hq : q < 16) (hj : j < 6) : (dats m 0 c).Φ (pt q j).castSucc = held m c q j := by
  have e := pt_val q j hq hj
  show held m c ((pt q j).val / 6) ((pt q j).val % 6) = _
  rw [show (pt q j).val / 6 = q by omega, show (pt q j).val % 6 = j by omega]
theorem held_after (c : Dev nD) (q j : ℕ) (hq : q < 16) (hj : j < 5) : (dats m 0 c).Φ (pt q j).succ = held m c q (j + 1) := by
  have e := pt_val q j hq (by omega)
  show held m c (((pt q j).val + 1) / 6) (((pt q j).val + 1) % 6) = _
  rw [show ((pt q j).val + 1) / 6 = q by omega, show ((pt q j).val + 1) % 6 = j + 1 by omega]
theorem held_last (c : Dev nD) (q : ℕ) (hq : q < 16) : (dats m 0 c).Φ (pt q 5).succ = Pipeline.ΦA spec0 c := by
  have e := pt_val q 5 hq (by decide)
  show held m c (((pt q 5).val + 1) / 6) (((pt q 5).val + 1) % 6) = _
  rw [show ((pt q 5).val + 1) % 6 = 0 by omega]
  rfl

set_option maxHeartbeats 4000000 in
/-- The body at a row block's point 0. -/
theorem body0 (c : Dev nD) (q : ℕ) (hq : q < 16) :
    bodyPre m c (pt q 0) ⊢ wp frame (wpE (defs₀ (F := F)) Variants.none c none) Set.univ (bodyAt0 (pt q 0)) (fun _ => bodyPost m c (pt q 0)) := by
  unfold bodyPre bodyPost bodyAt0
  simp only [before0, before1, before2, before3, before4, before5]
  rw [show (dats m 0 c).owesAt () (pt q 0).succ = (dats m 0 c).owesAt () (pt q 0).castSucc from rfl,
    held_before m c q 0 hq (by decide), show held m c q 0 = Pipeline.ΦA spec0 c from rfl, anything_eq,
    held_after m c q 0 hq (by decide), show held m c q (0 + 1) = iprop(iprop(owns (c : Thread nD τ) sc0 fullShare (rowsOf m c q) ∗ owns (c : Thread nD τ) sc1 fullShare (acc0 m c q) ∗ (∃ d, owns (c : Thread nD τ) sc2 fullShare d) ∗ (∃ d, owns (c : Thread nD τ) sc3 fullShare d)) ∗ (∃ r, prngReg c r)) from rfl,
    leaves0, leaves1, leaves2, leaves3, leaves4, leaves5, leaves6_first m c q hq, leaves7_live m c q hq, leaves8_idle m c q 0 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((r0 m c (pt q 0) (pt_mod q 0 (by decide))).2.2.property _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [S0]; · iexact S0
  isplitl [S1]; · iexact S1
  isplitl [S2]; · iexact S2
  isplitl [S3]; · iexact S3
  iintro ⟨H0, H1, H2, H3, H4, H5, H6, ⟨%e7, H7⟩, H8, ⟨%u0, S0⟩, ⟨%u1, S1⟩, S2, S3⟩
  isplitl [S0 S1 S2 S3 Hg]
  · isplitl [S0 S1 S2 S3]
    · isplitl [S0]
      · unfold owns; iexists _; isplitr
        swap; · iexact S0
        ipureintro; exact View.read_writes_eq_canon _ _ _ (cover0_xn m c (pt q 0) (pt_mod q 0 (by decide)))
      isplitl [S1]
      · unfold owns; iexists _; isplitr
        swap; · iexact S1
        ipureintro; exact View.read_writes_eq_canon _ _ _ (cover0_acc m c (pt q 0) (pt_mod q 0 (by decide)))
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact View.read_writes_eq_canon _ _ _ (cover0_og m c (pt q 0) (pt_mod q 0 (by decide)))
  iexists _; iexact H8

set_option maxHeartbeats 4000000 in
/-- The body at a row block's point 1. -/
theorem body1 (c : Dev nD) (q : ℕ) (hq : q < 16) :
    bodyPre m c (pt q 1) ⊢ wp frame (wpE (defs₀ (F := F)) Variants.none c none) Set.univ (bodyAt0 (pt q 1)) (fun _ => bodyPost m c (pt q 1)) := by
  unfold bodyPre bodyPost bodyAt0
  simp only [before0, before1, before2, before3, before4, before5]
  rw [show (dats m 0 c).owesAt () (pt q 1).succ = (dats m 0 c).owesAt () (pt q 1).castSucc from rfl,
    held_before m c q 1 hq (by decide), show held m c q 1 = iprop(iprop(owns (c : Thread nD τ) sc0 fullShare (rowsOf m c q) ∗ owns (c : Thread nD τ) sc1 fullShare (acc0 m c q) ∗ (∃ d, owns (c : Thread nD τ) sc2 fullShare d) ∗ (∃ d, owns (c : Thread nD τ) sc3 fullShare d)) ∗ (∃ r, prngReg c r)) from rfl,
    held_after m c q 1 hq (by decide), show held m c q (1 + 1) = iprop(iprop(owns (c : Thread nD τ) sc0 fullShare (rowsOf m c q) ∗ (∃ d, owns (c : Thread nD τ) sc1 fullShare d) ∗ owns (c : Thread nD τ) sc2 fullShare (acc1 m c q) ∗ (∃ d, owns (c : Thread nD τ) sc3 fullShare d)) ∗ (∃ r, prngReg c r)) from rfl,
    leaves0, leaves1, leaves2, leaves3, leaves4, leaves5, leaves6 m c q 1 hq (by decide) (by decide), leaves7_idle m c q 1 hq (by decide) (by decide), leaves8_idle m c q 1 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((r1 m c (pt q 1) (pt_mod q 1 (by decide)) (rowsOf m c q) (acc0 m c q)).2.property _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, ⟨%e6, H6⟩, H7, H8, S0, S1, ⟨%u2, S2⟩, S3⟩
  isplitl [S0 S1 S2 S3 Hg]
  · isplitl [S0 S1 S2 S3]
    · isplitl [S0]
      · iexact S0
      isplitl [S1]
      · iexact S1
      isplitl [S2]
      · unfold owns; iexists _; isplitr
        swap; · iexact S2
        ipureintro; exact View.read_writes_eq_canon _ _ _ (cover1_acc m c (pt q 1) (pt_mod q 1 (by decide)) (rowsOf m c q) (acc0 m c q))
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover1_o m c (pt q 1) (pt_mod q 1 (by decide)) (rowsOf m c q) (acc0 m c q))
  isplitl [H7]; · iexists _; iexact H7
  iexists _; iexact H8

set_option maxHeartbeats 4000000 in
/-- The body at a row block's point 2. -/
theorem body2 (c : Dev nD) (q : ℕ) (hq : q < 16) :
    bodyPre m c (pt q 2) ⊢ wp frame (wpE (defs₀ (F := F)) Variants.none c none) Set.univ (bodyAt0 (pt q 2)) (fun _ => bodyPost m c (pt q 2)) := by
  unfold bodyPre bodyPost bodyAt0
  simp only [before0, before1, before2, before3, before4, before5]
  rw [show (dats m 0 c).owesAt () (pt q 2).succ = (dats m 0 c).owesAt () (pt q 2).castSucc from rfl,
    held_before m c q 2 hq (by decide), show held m c q 2 = iprop(iprop(owns (c : Thread nD τ) sc0 fullShare (rowsOf m c q) ∗ (∃ d, owns (c : Thread nD τ) sc1 fullShare d) ∗ owns (c : Thread nD τ) sc2 fullShare (acc1 m c q) ∗ (∃ d, owns (c : Thread nD τ) sc3 fullShare d)) ∗ (∃ r, prngReg c r)) from rfl,
    held_after m c q 2 hq (by decide), show held m c q (2 + 1) = iprop(iprop(owns (c : Thread nD τ) sc0 fullShare (rowsOf m c q) ∗ owns (c : Thread nD τ) sc1 fullShare (acc2 m c q) ∗ (∃ d, owns (c : Thread nD τ) sc2 fullShare d) ∗ (∃ d, owns (c : Thread nD τ) sc3 fullShare d)) ∗ (∃ r, prngReg c r)) from rfl,
    leaves0, leaves1, leaves2, leaves3, leaves4, leaves5, leaves6 m c q 2 hq (by decide) (by decide), leaves7_idle m c q 2 hq (by decide) (by decide), leaves8_idle m c q 2 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((r2 m c (pt q 2) (pt_mod q 2 (by decide)) (rowsOf m c q) (acc1 m c q)).2.property _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, ⟨%e6, H6⟩, H7, H8, S0, ⟨%u1, S1⟩, S2, S3⟩
  isplitl [S0 S1 S2 S3 Hg]
  · isplitl [S0 S1 S2 S3]
    · isplitl [S0]
      · iexact S0
      isplitl [S1]
      · unfold owns; iexists _; isplitr
        swap; · iexact S1
        ipureintro; exact View.read_writes_eq_canon _ _ _ (cover2_acc m c (pt q 2) (pt_mod q 2 (by decide)) (rowsOf m c q) (acc1 m c q))
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover2_o m c (pt q 2) (pt_mod q 2 (by decide)) (rowsOf m c q) (acc1 m c q))
  isplitl [H7]; · iexists _; iexact H7
  iexists _; iexact H8

set_option maxHeartbeats 4000000 in
/-- The body at a row block's point 3. -/
theorem body3 (c : Dev nD) (q : ℕ) (hq : q < 16) :
    bodyPre m c (pt q 3) ⊢ wp frame (wpE (defs₀ (F := F)) Variants.none c none) Set.univ (bodyAt0 (pt q 3)) (fun _ => bodyPost m c (pt q 3)) := by
  unfold bodyPre bodyPost bodyAt0
  simp only [before0, before1, before2, before3, before4, before5]
  rw [show (dats m 0 c).owesAt () (pt q 3).succ = (dats m 0 c).owesAt () (pt q 3).castSucc from rfl,
    held_before m c q 3 hq (by decide), show held m c q 3 = iprop(iprop(owns (c : Thread nD τ) sc0 fullShare (rowsOf m c q) ∗ owns (c : Thread nD τ) sc1 fullShare (acc2 m c q) ∗ (∃ d, owns (c : Thread nD τ) sc2 fullShare d) ∗ (∃ d, owns (c : Thread nD τ) sc3 fullShare d)) ∗ (∃ r, prngReg c r)) from rfl,
    held_after m c q 3 hq (by decide), show held m c q (3 + 1) = iprop(iprop(owns (c : Thread nD τ) sc0 fullShare (rowsOf m c q) ∗ (∃ d, owns (c : Thread nD τ) sc1 fullShare d) ∗ owns (c : Thread nD τ) sc2 fullShare (acc3 m c q) ∗ (∃ d, owns (c : Thread nD τ) sc3 fullShare d)) ∗ (∃ r, prngReg c r)) from rfl,
    leaves0, leaves1, leaves2, leaves3, leaves4, leaves5, leaves6 m c q 3 hq (by decide) (by decide), leaves7_idle m c q 3 hq (by decide) (by decide), leaves8_live m c q hq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((r3 m c (pt q 3) (pt_mod q 3 (by decide)) (rowsOf m c q) (acc2 m c q)).2.2.property _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [S0]; · iexact S0
  isplitl [S1]; · iexact S1
  isplitl [S2]; · iexact S2
  isplitl [S3]; · iexact S3
  iintro ⟨H0, H1, H2, H3, H4, H5, ⟨%e6, H6⟩, H7, ⟨%e8, H8⟩, S0, S1, ⟨%u2, S2⟩, S3⟩
  isplitl [S0 S1 S2 S3 Hg]
  · isplitl [S0 S1 S2 S3]
    · isplitl [S0]
      · iexact S0
      isplitl [S1]
      · iexact S1
      isplitl [S2]
      · unfold owns; iexists _; isplitr
        swap; · iexact S2
        ipureintro; exact View.read_writes_eq_canon _ _ _ (cover3_acc m c (pt q 3) (pt_mod q 3 (by decide)) (rowsOf m c q) (acc2 m c q))
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover3_o m c (pt q 3) (pt_mod q 3 (by decide)) (rowsOf m c q) (acc2 m c q))
  isplitl [H7]; · iexists _; iexact H7
  unfold owns; iexists _; isplitr
  swap; · iexact H8
  ipureintro; exact View.read_writes_eq_canon _ _ _ (cover3_raw m c (pt q 3) (pt_mod q 3 (by decide)) (rowsOf m c q) (acc2 m c q))

set_option maxHeartbeats 4000000 in
/-- The body at a row block's point 4. -/
theorem body4 (c : Dev nD) (q : ℕ) (hq : q < 16) :
    bodyPre m c (pt q 4) ⊢ wp frame (wpE (defs₀ (F := F)) Variants.none c none) Set.univ (bodyAt0 (pt q 4)) (fun _ => bodyPost m c (pt q 4)) := by
  unfold bodyPre bodyPost bodyAt0
  simp only [before0, before1, before2, before3, before4, before5]
  rw [show (dats m 0 c).owesAt () (pt q 4).succ = (dats m 0 c).owesAt () (pt q 4).castSucc from rfl,
    held_before m c q 4 hq (by decide), show held m c q 4 = iprop(iprop(owns (c : Thread nD τ) sc0 fullShare (rowsOf m c q) ∗ (∃ d, owns (c : Thread nD τ) sc1 fullShare d) ∗ owns (c : Thread nD τ) sc2 fullShare (acc3 m c q) ∗ (∃ d, owns (c : Thread nD τ) sc3 fullShare d)) ∗ (∃ r, prngReg c r)) from rfl,
    held_after m c q 4 hq (by decide), show held m c q (4 + 1) = iprop(iprop(owns (c : Thread nD τ) sc0 fullShare (rowsOf m c q) ∗ owns (c : Thread nD τ) sc1 fullShare (acc4 m c q) ∗ (∃ d, owns (c : Thread nD τ) sc2 fullShare d) ∗ (∃ d, owns (c : Thread nD τ) sc3 fullShare d)) ∗ (∃ r, prngReg c r)) from rfl,
    leaves0, leaves1, leaves2, leaves3, leaves4, leaves5, leaves6 m c q 4 hq (by decide) (by decide), leaves7_idle m c q 4 hq (by decide) (by decide), leaves8_idle m c q 4 hq (by decide) (by decide)]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((r4 m c (pt q 4) (pt_mod q 4 (by decide)) (rowsOf m c q) (acc3 m c q)).2.property _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, ⟨%e6, H6⟩, H7, H8, S0, ⟨%u1, S1⟩, S2, S3⟩
  isplitl [S0 S1 S2 S3 Hg]
  · isplitl [S0 S1 S2 S3]
    · isplitl [S0]
      · iexact S0
      isplitl [S1]
      · unfold owns; iexists _; isplitr
        swap; · iexact S1
        ipureintro; exact View.read_writes_eq_canon _ _ _ (cover4_acc m c (pt q 4) (pt_mod q 4 (by decide)) (rowsOf m c q) (acc3 m c q))
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover4_o m c (pt q 4) (pt_mod q 4 (by decide)) (rowsOf m c q) (acc3 m c q))
  isplitl [H7]; · iexists _; iexact H7
  iexists _; iexact H8

set_option maxHeartbeats 4000000 in
/-- The body at a row block's point 5. -/
theorem body5 (c : Dev nD) (q : ℕ) (hq : q < 16) :
    bodyPre m c (pt q 5) ⊢ wp frame (wpE (defs₀ (F := F)) Variants.none c none) Set.univ (bodyAt0 (pt q 5)) (fun _ => bodyPost m c (pt q 5)) := by
  unfold bodyPre bodyPost bodyAt0
  simp only [before0, before1, before2, before3, before4, before5]
  simp only [before7 m c (pt q 5) (pt_mod q 5 (by decide)), before8 m c (pt q 5) (pt_mod q 5 (by decide))]
  rw [show (pt q 5).val / 6 = q by have e := pt_val q 5 hq (by decide); omega]
  rw [show (dats m 0 c).owesAt () (pt q 5).succ = (dats m 0 c).owesAt () (pt q 5).castSucc from rfl,
    held_before m c q 5 hq (by decide), show held m c q 5 = iprop(iprop(owns (c : Thread nD τ) sc0 fullShare (rowsOf m c q) ∗ owns (c : Thread nD τ) sc1 fullShare (acc4 m c q) ∗ (∃ d, owns (c : Thread nD τ) sc2 fullShare d) ∗ (∃ d, owns (c : Thread nD τ) sc3 fullShare d)) ∗ (∃ r, prngReg c r)) from rfl,
    held_last m c q hq, anything_eq,
    leaves0, leaves1, leaves2, leaves3, leaves4, leaves5, leaves6 m c q 5 hq (by decide) (by decide), leaves7_last m c q hq, leaves8_last m c q hq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((r5 m c (pt q 5) (pt_mod q 5 (by decide)) (acc4 m c q)).property _ _ (rowsOf m c q) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, ⟨%e6, H6⟩, H7, H8, S0, S1, S2, S3⟩
  isplitl [S0 S1 S2 S3 Hg]
  · isplitl [S0 S1 S2 S3]
    · isplitl [S0]
      · iexists _; iexact S0
      isplitl [S1]
      · iexact S1
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover5_o m c (pt q 5) (pt_mod q 5 (by decide)) (acc4 m c q))
  isplitl [H7]; · iexact H7
  iexact H8

/-- The body at any point. -/
theorem body_sound (c : Dev nD) (t : Fin cfg0.N) :
    bodyPre m c t ⊢ wp frame (wpE (defs₀ (F := F)) Variants.none c none) Set.univ (bodyAt0 t) (fun _ => bodyPost m c t) := by
  have h6 := Nat.mod_lt t.val (show 0 < 6 by decide)
  obtain h | h | h | h | h | h : t.val % 6 = 0 ∨ t.val % 6 = 1 ∨ t.val % 6 = 2 ∨ t.val % 6 = 3 ∨ t.val % 6 = 4
      ∨ t.val % 6 = 5 := by omega
  · obtain ⟨q, hq, rfl⟩ := pt_of t 0 h; exact body0 m c q hq
  · obtain ⟨q, hq, rfl⟩ := pt_of t 1 h; exact body1 m c q hq
  · obtain ⟨q, hq, rfl⟩ := pt_of t 2 h; exact body2 m c q hq
  · obtain ⟨q, hq, rfl⟩ := pt_of t 3 h; exact body3 m c q hq
  · obtain ⟨q, hq, rfl⟩ := pt_of t 4 h; exact body4 m c q hq
  · obtain ⟨q, hq, rfl⟩ := pt_of t 5 h; exact body5 m c q hq

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

theorem held_in (c : Dev nD) : Pipeline.ΦA spec0 c ⊢ (dats m 0 c).Φ 0 := by
  rw [show (dats m 0 c).Φ 0 = Pipeline.ΦA spec0 c from rfl]
  try exact Idealize.SL.BI.Entails.refl _

theorem held_out (c : Dev nD) : (dats m 0 c).Φ (Fin.last cfg0.N) ⊢ Pipeline.ΦA spec0 c := by
  rw [show (dats m 0 c).Φ (Fin.last cfg0.N) = Pipeline.ΦA spec0 c by
    show held m c ((Fin.last cfg0.N).val / 6) ((Fin.last cfg0.N).val % 6) = _
    rw [Fin.val_last, show cfg0.N = 96 from N_0]; rfl]
  try exact Idealize.SL.BI.Entails.refl _

/-! ## The run and the frame -/

set_option backward.isDefEq.respectTransparency.types false in
set_option maxHeartbeats 800000 in
/-- The launch: every array as the proof data says, every other buffer as the lines after the region leave it, every counter
    at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays m) (hin := held_in m) (hout := held_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- Every execution terminates with the argument arrays unchanged and every counter at zero. -/
theorem proj_frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (arrays m) (run_main m ρ)) ((θ_run defs _ _).mono (fun _ h => h.2) (run_quiescent m ρ))

end Cert.Kernel6Ideal.Proj
-- ==== Proof.OddSame.lean ====
/-
  The odd projection's frame at the machine's floats: its idealization is the same text, so one run serves both.
-/
module

public import proofs.«01_k».proof.Defs
public import proofs.«01_k».proof.Proof.Gen.Kernel6.Frame
public import proofs.«01_k».proof.Proof.OddIdeal.Frame

@[expose] public section

set_option maxRecDepth 16384

noncomputable section

namespace Cert.OddSame

open Idealize.ShloMosaic Idealize.ShloMosaic.TcCoe Idealize.SL.Sem Idealize.ShloMosaic.Tactic

/-- The two programs and their tables of procedures are the same. -/
theorem main_same : @Cert.Kernel6.main Bits _ Cert.Kernel6.Gen.facts = @Cert.Kernel6Ideal.main Bits _ Cert.Kernel6Ideal.Gen.facts := by
  sl_kernel_rfl
theorem defs_same : @Cert.Kernel6.defs Bits _ Cert.Kernel6.Gen.facts = @Cert.Kernel6Ideal.defs Bits _ Cert.Kernel6Ideal.Gen.facts := by
  sl_kernel_rfl

/-- So the kernel's run keeps its arguments and leaves every counter at zero, as the run of the same text does. -/
theorem kept : Cert.quiescent_Kernel6 (hKernel6 := Cert.Kernel6.Gen.facts) := by
  intro m ρ _
  have h := @Cert.Kernel6Ideal.Proj.proj_frame Bits _ m ρ
  rw [← main_same, ← defs_same] at h
  exact h

end Cert.OddSame
-- ==== Proof.OddIdeal.Lists.lean ====
/-
  The odd projection's stores, block by block: the heads normalised and turned, and the raw keys and values laid out head by head.
-/
module

public import proofs.«01_k».proof.Proof.OddIdeal.Run5
public import proofs.«01_k».proof.Proof.ProjIdeal.Pieces

@[expose] public section

noncomputable section

open Idealize.ShloMosaic Idealize.ShloMosaic.TcCoe Idealize.SL.Sem

namespace Cert.Kernel6Ideal.Proj

open Cert.Kernel6Ideal Cert.Kernel6Ideal.Gen
open Cert.Kernel5Ideal.Proj (heads8 canon_heads8 headBox headBox_emb ld_head scales scales_apply rinvHead rinvRow headOf turnVal hz2)

/-- The first value is the normalised row. -/
theorem row_value (h : Vec Ideal S1024x2048 .f32) (g : Vec Ideal S1x2048 .f32) (r : Fin 1024) (k : Fin 2048) :
    k0_pay18 h g (ix2 r k) = h (ix2 r k) * rinvRow (fun e => h (ix2 r e)) * g (ix2 0 k) := by
  unfold rinvRow
  pointwise [k0_pay18]

/-- The gates are the sigmoid of the rows times the gate weight. -/
theorem gate_value (x : Vec Ideal S1024x2048 .bf16) (w : Vec Ideal S2048x128 .bf16) (r : Fin 1024) (d : Fin 128) :
    k0_pay19 x w (ix2 r d) = Ideal.div (Ideal.ofBits .f32 0x3F800000#32)
      (Ideal.ofBits .f32 0x3F800000#32 + Ideal.exp (0 - ∑ k : Fin 2048, x (ix2 r k) * w (ix2 k d))) := by
  pointwise [k0_pay19]

/-- A column block written out as it is. -/
theorem block_value (v : Vec Ideal S1024x1024 .f32) : (k0_pay87 v : S1024x1024.Idx → EReal) = v := by
  funext y
  rw [eq_ix2 y]
  pointwise [k0_pay87]

/-! ## Heads normalised, each with its own gain, and turned -/

/-- The heads normalised, stored back over the block. -/
def gained (v : View sig .tc .vmem S1024x1024 .f32) (a : Vec Ideal S1024x1024 .f32) (g : ℕ → Vec Ideal S1x128 .f32) :
    List (View.Piece (Elt Ideal) S1024x1024 .f32) :=
  heads8 fun o ho => k0_pay33 (F := Ideal) (View.ld (Val := Elt Ideal) a (headBox o ho)) (v.readCov (scales a) (headBox o ho).toLoadRect) (g (o / 128))

/-- The heads turned and written out. -/
def turned (u v : View sig .tc .vmem S1024x1024 .f32) (a : Vec Ideal S1024x1024 .f32) (g : ℕ → Vec Ideal S1x128 .f32)
    (t0 t1 t2 : Vec Ideal S1x1024x128 .f32) : List (View.Piece (Elt Ideal) S1024x1024 .bf16) :=
  heads8 fun o ho => k0_pay41 (F := Ideal) (u.readCov (gained v a g) (headBox o ho).toLoadRect) t0 t1 t2

/-- The normalised block: head `k` times gain `g k`. -/
def gainVal (a : Vec Ideal S1024x1024 .f32) (g : ℕ → Fin 128 → EReal) (r n : Fin 1024) : EReal :=
  a (ix2 r n) * rinvHead (headOf a r n) * g (n.val / 128) ⟨n.val % 128, by omega⟩

theorem gained_apply (v : View sig .tc .vmem S1024x1024 .f32) (a : Vec Ideal S1024x1024 .f32) (g : ℕ → Vec Ideal S1x128 .f32) (r n : Fin 1024) :
    View.canon (Val := Elt Ideal) (gained v a g) (ix2 r n) = gainVal a (fun k e => g k (ix2 0 e)) r n := by
  refine canon_heads8 (e := .f32) _ (gainVal a (fun k e => g k (ix2 0 e))) ?_ r n
  intro k hk r d
  have hd := d.isLt
  refine (Cert.Kernel5Ideal.Proj.gain_apply _ _ (g (128 * k / 128)) r d).trans ?_
  unfold gainVal
  rw [ld_head, View.readCov_eq_canon']
  have e := (congrArg (View.canon (Val := Elt Ideal) (scales a)) (headBox_emb (128 * k) (by omega) (ix2 r d))).trans (scales_apply a r _)
  refine congrArg₂ (· * ·) (congrArg (a _ * ·) e) ?_
  have e1 : 128 * k / 128 = (128 * k + d.val) / 128 := by omega
  have e2 : d = ⟨(128 * k + d.val) % 128, by omega⟩ := Fin.ext (by show d.val = (128 * k + d.val) % 128; omega)
  show g (128 * k / 128) (ix2 0 d) = g ((128 * k + d.val) / 128) (ix2 0 ⟨(128 * k + d.val) % 128, _⟩)
  rw [← e1, ← e2]

/-- What the heads turned and written out hold. -/
theorem turned_apply (u v : View sig .tc .vmem S1024x1024 .f32) (a : Vec Ideal S1024x1024 .f32) (g : ℕ → Vec Ideal S1x128 .f32)
    (t0 t1 t2 : Vec Ideal S1x1024x128 .f32) (r n : Fin 1024) :
    View.canon (Val := Elt Ideal) (turned u v a g t0 t1 t2) (ix2 r n)
      = turnVal (gainVal a (fun k e => g k (ix2 0 e))) (fun r d => t0 (ix3 0 r d)) (fun r d => t1 (ix3 0 r d)) (fun r d => t2 (ix3 0 r d)) r n := by
  refine canon_heads8 (e := .bf16) _ (turnVal (gainVal a (fun k e => g k (ix2 0 e))) (fun r d => t0 (ix3 0 r d)) (fun r d => t1 (ix3 0 r d)) (fun r d => t2 (ix3 0 r d))) ?_ r n
  intro k hk r d
  have hd := d.isLt
  have e : ∀ z : Fin 128, u.readCov (gained v a g) (headBox (128 * k) (by omega)).toLoadRect (ix2 r z)
      = gainVal a (fun k e => g k (ix2 0 e)) r ⟨128 * k + z.val, by have := z.isLt; omega⟩ := fun z => by
    rw [View.readCov_eq_canon']
    exact (congrArg (View.canon (Val := Elt Ideal) (gained v a g)) (headBox_emb (128 * k) (by omega) (ix2 r z))).trans (gained_apply v a g r _)
  refine (Cert.Kernel5Ideal.Proj.turn_apply _ t0 t1 t2 r d).trans ?_
  rw [e, e, e]
  unfold turnVal
  have hm : (128 * k + d.val) % 128 = d.val := by omega
  have hq : (128 * k + d.val) / 128 * 128 = 128 * k := by omega
  simp only [hm, hq]

/-! ## The raw keys and values -/

theorem inRaw (p h : Nat) (hp : p < 2) (hh : h < 4) : ∀ a, (![p, 0, h, 0, 0] : Fin 5 → Nat) a + S1x1x1x1024x128.size a ≤ S2x1x4x1024x128.size a := fun a =>
  match a with
  | ⟨0, _⟩ => by show p + 1 ≤ 2; omega
  | ⟨1, _⟩ => by show 0 + 1 ≤ 1; omega
  | ⟨2, _⟩ => by show h + 1 ≤ 4; omega
  | ⟨3, _⟩ => Nat.le_of_eq rfl
  | ⟨4, _⟩ => Nat.le_of_eq rfl

abbrev rawBox (p h : Nat) (hp : p < 2) (hh : h < 4) : Rect S2x1x4x1024x128 :=
  Rect.unit (s := S2x1x4x1024x128) ![p, 0, h, 0, 0] S1x1x1x1024x128.size (inRaw p h hp hh)

/-- The eight stores: four heads of keys, then four of values, the last on top. -/
def rawStores (a : Vec Ideal S1024x1024 .f32) : List (View.Piece (Elt Ideal) S2x1x4x1024x128 .bf16) :=
  [⟨rawBox 1 3 (by decide) (by decide), k0_pay96 (F := Ideal) a⟩, ⟨rawBox 1 2 (by decide) (by decide), k0_pay95 (F := Ideal) a⟩,
   ⟨rawBox 1 1 (by decide) (by decide), k0_pay94 (F := Ideal) a⟩, ⟨rawBox 1 0 (by decide) (by decide), k0_pay93 (F := Ideal) (k0_pay92 (F := Ideal) a)⟩,
   ⟨rawBox 0 3 (by decide) (by decide), k0_pay91 (F := Ideal) a⟩, ⟨rawBox 0 2 (by decide) (by decide), k0_pay90 (F := Ideal) a⟩,
   ⟨rawBox 0 1 (by decide) (by decide), k0_pay89 (F := Ideal) a⟩, ⟨rawBox 0 0 (by decide) (by decide), k0_pay88 (F := Ideal) a⟩]

/-- The element that a place of the raw layout holds: of keys (0) or values (1), a head, a row, a lane. -/
def rawAt (a : Vec Ideal S1024x1024 .f32) (y : S2x1x4x1024x128.Idx) : EReal :=
  a (ix2 (y 3) ⟨512 * (y 0).val + 128 * (y 2).val + (y 4).val, by
    have h0 : (y 0).val < 2 := (y 0).isLt
    have h2 : (y 2).val < 4 := (y 2).isLt
    have h4 : (y 4).val < 128 := (y 4).isLt
    omega⟩)

theorem rawAt_emb (a : Vec Ideal S1024x1024 .f32) (p h : Nat) (hp : p < 2) (hh : h < 4) (x : S1x1x1x1024x128.Idx) :
    rawAt a ((rawBox p h hp hh).emb x) = a (ix2 (x 3) ⟨512 * p + 128 * h + (x 4).val, by have h4 : (x 4).val < 128 := (x 4).isLt; omega⟩) := by
  have h0 : (x 0).val < 1 := (x 0).isLt
  have h2 : (x 2).val < 1 := (x 2).isLt
  refine congrArg a (congrArg₂ ix2 (Fin.ext ?_) (Fin.ext ?_))
  · show 0 + 1 * (x 3).val = (x 3).val; omega
  · show 512 * (p + 1 * (x 0).val) + 128 * (h + 1 * (x 2).val) + (0 + 1 * (x 4).val) = 512 * p + 128 * h + (x 4).val; omega

/-- Each stored head is its 128 columns. -/
theorem raw00 (a : Vec Ideal S1024x1024 .f32) (i0 i1 i2 : Fin 1) (r : Fin 1024) (d : Fin 128) : k0_pay88 (F := Ideal) a (ix5 i0 i1 i2 r d) = a (ix2 r ⟨0 + d.val, by omega⟩) := by
  pointwise [k0_pay88]
theorem raw01 (a : Vec Ideal S1024x1024 .f32) (i0 i1 i2 : Fin 1) (r : Fin 1024) (d : Fin 128) : k0_pay89 (F := Ideal) a (ix5 i0 i1 i2 r d) = a (ix2 r ⟨128 + d.val, by omega⟩) := by
  pointwise [k0_pay89]
theorem raw02 (a : Vec Ideal S1024x1024 .f32) (i0 i1 i2 : Fin 1) (r : Fin 1024) (d : Fin 128) : k0_pay90 (F := Ideal) a (ix5 i0 i1 i2 r d) = a (ix2 r ⟨256 + d.val, by omega⟩) := by
  pointwise [k0_pay90]
theorem raw03 (a : Vec Ideal S1024x1024 .f32) (i0 i1 i2 : Fin 1) (r : Fin 1024) (d : Fin 128) : k0_pay91 (F := Ideal) a (ix5 i0 i1 i2 r d) = a (ix2 r ⟨384 + d.val, by omega⟩) := by
  pointwise [k0_pay91]
theorem raw11 (a : Vec Ideal S1024x1024 .f32) (i0 i1 i2 : Fin 1) (r : Fin 1024) (d : Fin 128) : k0_pay94 (F := Ideal) a (ix5 i0 i1 i2 r d) = a (ix2 r ⟨640 + d.val, by omega⟩) := by
  pointwise [k0_pay94]
theorem raw12 (a : Vec Ideal S1024x1024 .f32) (i0 i1 i2 : Fin 1) (r : Fin 1024) (d : Fin 128) : k0_pay95 (F := Ideal) a (ix5 i0 i1 i2 r d) = a (ix2 r ⟨768 + d.val, by omega⟩) := by
  pointwise [k0_pay95]
theorem raw13 (a : Vec Ideal S1024x1024 .f32) (i0 i1 i2 : Fin 1) (r : Fin 1024) (d : Fin 128) : k0_pay96 (F := Ideal) a (ix5 i0 i1 i2 r d) = a (ix2 r ⟨896 + d.val, by omega⟩) := by
  pointwise [k0_pay96]
theorem raw10 (a : Vec Ideal S1024x1024 .f32) (i0 i1 i2 : Fin 1) (r : Fin 1024) (d : Fin 128) : k0_pay93 (F := Ideal) (k0_pay92 (F := Ideal) a) (ix5 i0 i1 i2 r d) = a (ix2 r ⟨512 + d.val, by omega⟩) := by
  pointwise [k0_pay93, k0_pay92]

/-- What the eight stores leave. -/
theorem canon_raw (a : Vec Ideal S1024x1024 .f32) (y : S2x1x4x1024x128.Idx) : View.canon (Val := Elt Ideal) (rawStores a) y = rawAt a y := by
  refine View.canon_apply_of_pieces (Val := Elt Ideal) (rawAt a) (rawStores a) ?_ y
    (View.cover_of_tiledL (rawStores a) S1x1x1x1024x128.size (by sl_kernel_rfl) y)
  intro p hp
  simp only [rawStores, List.mem_cons, List.not_mem_nil, or_false] at hp
  rcases hp with rfl | rfl | rfl | rfl | rfl | rfl | rfl | rfl
  · intro x; exact (congrArg _ (eq_ix5 x)).trans ((raw13 a _ _ _ _ _).trans ((rawAt_emb a 1 3 (by decide) (by decide) x).trans (congrArg a (congrArg (ix2 (x 3)) (Fin.ext (by show 512 + 384 + (x 4).val = 896 + (x 4).val; omega))))).symm)
  · intro x; exact (congrArg _ (eq_ix5 x)).trans ((raw12 a _ _ _ _ _).trans ((rawAt_emb a 1 2 (by decide) (by decide) x).trans (congrArg a (congrArg (ix2 (x 3)) (Fin.ext (by show 512 + 256 + (x 4).val = 768 + (x 4).val; omega))))).symm)
  · intro x; exact (congrArg _ (eq_ix5 x)).trans ((raw11 a _ _ _ _ _).trans ((rawAt_emb a 1 1 (by decide) (by decide) x).trans (congrArg a (congrArg (ix2 (x 3)) (Fin.ext (by show 512 + 128 + (x 4).val = 640 + (x 4).val; omega))))).symm)
  · intro x; exact (congrArg _ (eq_ix5 x)).trans ((raw10 a _ _ _ _ _).trans ((rawAt_emb a 1 0 (by decide) (by decide) x).trans (congrArg a (congrArg (ix2 (x 3)) (Fin.ext (by show 512 + 0 + (x 4).val = 512 + (x 4).val; omega))))).symm)
  · intro x; exact (congrArg _ (eq_ix5 x)).trans ((raw03 a _ _ _ _ _).trans ((rawAt_emb a 0 3 (by decide) (by decide) x).trans (congrArg a (congrArg (ix2 (x 3)) (Fin.ext (by show 0 + 384 + (x 4).val = 384 + (x 4).val; omega))))).symm)
  · intro x; exact (congrArg _ (eq_ix5 x)).trans ((raw02 a _ _ _ _ _).trans ((rawAt_emb a 0 2 (by decide) (by decide) x).trans (congrArg a (congrArg (ix2 (x 3)) (Fin.ext (by show 0 + 256 + (x 4).val = 256 + (x 4).val; omega))))).symm)
  · intro x; exact (congrArg _ (eq_ix5 x)).trans ((raw01 a _ _ _ _ _).trans ((rawAt_emb a 0 1 (by decide) (by decide) x).trans (congrArg a (congrArg (ix2 (x 3)) (Fin.ext (by show 0 + 128 + (x 4).val = 128 + (x 4).val; omega))))).symm)
  · intro x; exact (congrArg _ (eq_ix5 x)).trans ((raw00 a _ _ _ _ _).trans ((rawAt_emb a 0 0 (by decide) (by decide) x).trans (congrArg a (congrArg (ix2 (x 3)) (Fin.ext (by show 0 + 0 + (x 4).val = 0 + (x 4).val; omega))))).symm)

end Cert.Kernel6Ideal.Proj
-- ==== Proof.OddIdeal.Pieces.lean ====
/-
  The odd projection's pieces in each case are the block's heads, or its quarters, with the values named before.
-/
module

public import proofs.«01_k».proof.Proof.OddIdeal.Lists

@[expose] public section

set_option maxRecDepth 16384

noncomputable section

open Idealize.ShloMosaic Idealize.ShloMosaic.TcCoe Idealize.ShloMosaic.Tactic Idealize.SL.Sem

namespace Cert.Kernel6Ideal.Proj

open Cert.Kernel6Ideal Cert.Kernel6Ideal.Gen
open Cert.Kernel5Ideal.Proj (gainRow tabPage product hz2)

/-- The gains of the heads in the third normed block: four heads with the second gain, four with the third. -/
def twoGains (x4 : Vec Ideal S8x128 .f32) : ℕ → Vec Ideal S1x128 .f32
  | 0 | 1 | 2 | 3 => gainRow x4 1 (by decide)
  | _ => gainRow x4 2 (by decide)

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S8x128 .f32) (harg6 : arg6.IsWhole) (arg7 : Memref sig .tc .vmem S3x1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S2x1x4x1024x128 .bf16) (harg10 : arg10.IsWhole) (arg11 : Memref sig .tc .vmem S1024x2048 .bf16) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole)
  (x0 : Vec Ideal S1024x2048 .f32) (x1 : Vec Ideal S1x2048 .f32) (x2 : Vec Ideal S2048x1024 .bf16) (x3 : Vec Ideal S2048x128 .bf16) (x4 : Vec Ideal S8x128 .f32) (x5 : Vec Ideal S3x1024x128 .f32) (xn : Vec Ideal S1024x2048 .bf16) (a : Vec Ideal S1024x1024 .f32)

set_option maxHeartbeats 1000000 in
/-- Case 0 stores the gates whole, -/
theorem gate_pieces (hc0 : cond0 i) (hc1 : ¬cond1 i) (hc2 : ¬cond2 i) (hc3 : ¬cond3 i) (hc4 : ¬cond4 i) (hc5 : ¬cond5 i) : (run0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).1 = [⟨Rect.unit (s := S1024x128) ![0, 0] S1024x128.size inb_S1024x128_S1024x128_0_0, k0_pay19 (F := Ideal) (k0_pay18 (F := Ideal) x0 x1) x3⟩] := by
  unfold run0
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]

set_option maxHeartbeats 1000000 in
/-- the normalised rows whole, -/
theorem rows_pieces (hc0 : cond0 i) (hc1 : ¬cond1 i) (hc2 : ¬cond2 i) (hc3 : ¬cond3 i) (hc4 : ¬cond4 i) (hc5 : ¬cond5 i) : (run0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).2.1 = [⟨Rect.unit (s := S1024x2048) ![0, 0] S1024x2048.size inb_S1024x2048_S1024x2048_0_0, k0_pay18 (F := Ideal) x0 x1⟩] := by
  unfold run0
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]

set_option maxHeartbeats 1000000 in
/-- and the first column block. -/
theorem acc_pieces0 (hc0 : cond0 i) (hc1 : ¬cond1 i) (hc2 : ¬cond2 i) (hc3 : ¬cond3 i) (hc4 : ¬cond4 i) (hc5 : ¬cond5 i) : (run0 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).2.2.val = product (k0_pay18 (F := Ideal) x0 x1) x2 := by
  unfold run0
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 1 stores the next column block. -/
theorem acc_pieces1 (hc0 : ¬cond0 i) (hc1 : cond1 i) (hc2 : ¬cond2 i) (hc3 : ¬cond3 i) (hc4 : ¬cond4 i) (hc5 : ¬cond5 i) : (run1 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xn a).2.val = product xn x2 := by
  unfold run1
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 2 stores the next column block. -/
theorem acc_pieces2 (hc0 : ¬cond0 i) (hc1 : ¬cond1 i) (hc2 : cond2 i) (hc3 : ¬cond3 i) (hc4 : ¬cond4 i) (hc5 : ¬cond5 i) : (run2 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xn a).2.val = product xn x2 := by
  unfold run2
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 3 stores the next column block. -/
theorem acc_pieces3 (hc0 : ¬cond0 i) (hc1 : ¬cond1 i) (hc2 : ¬cond2 i) (hc3 : cond3 i) (hc4 : ¬cond4 i) (hc5 : ¬cond5 i) : (run3 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xn a).2.2.val = product xn x2 := by
  unfold run3
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 4 stores the next column block. -/
theorem acc_pieces4 (hc0 : ¬cond0 i) (hc1 : ¬cond1 i) (hc2 : ¬cond2 i) (hc3 : ¬cond3 i) (hc4 : cond4 i) (hc5 : ¬cond5 i) : (run4 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xn a).2.val = product xn x2 := by
  unfold run4
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 1 writes the heads out, normalised and turned, -/
theorem out_pieces1 (hc0 : ¬cond0 i) (hc1 : cond1 i) (hc2 : ¬cond2 i) (hc3 : ¬cond3 i) (hc4 : ¬cond4 i) (hc5 : ¬cond5 i) : (run1 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xn a).1 = turned arg12.view arg14.view a (fun _ => gainRow x4 0 (by decide)) (tabPage x5 0 (by decide)) (tabPage x5 1 (by decide)) (tabPage x5 2 (by decide)) := by
  unfold run1
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 2 writes the heads out, normalised and turned, -/
theorem out_pieces2 (hc0 : ¬cond0 i) (hc1 : ¬cond1 i) (hc2 : cond2 i) (hc3 : ¬cond3 i) (hc4 : ¬cond4 i) (hc5 : ¬cond5 i) : (run2 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xn a).1 = turned arg13.view arg14.view a (fun _ => gainRow x4 0 (by decide)) (tabPage x5 0 (by decide)) (tabPage x5 1 (by decide)) (tabPage x5 2 (by decide)) := by
  unfold run2
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 4 writes the heads out, normalised and turned, -/
theorem out_pieces4 (hc0 : ¬cond0 i) (hc1 : ¬cond1 i) (hc2 : ¬cond2 i) (hc3 : ¬cond3 i) (hc4 : cond4 i) (hc5 : ¬cond5 i) : (run4 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xn a).1 = turned arg13.view arg14.view a (twoGains x4) (tabPage x5 0 (by decide)) (tabPage x5 1 (by decide)) (tabPage x5 2 (by decide)) := by
  unfold run4
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- case 3 the block as it is, -/
theorem out_pieces3 (hc0 : ¬cond0 i) (hc1 : ¬cond1 i) (hc2 : ¬cond2 i) (hc3 : cond3 i) (hc4 : ¬cond4 i) (hc5 : ¬cond5 i) : (run3 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xn a).2.1 = [⟨Rect.unit (s := S1024x1024) ![0, 0] S1024x1024.size inb_S1024x1024_S1024x1024_0_0, k0_pay87 (F := Ideal) a⟩] := by
  unfold run3
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]

set_option maxHeartbeats 1000000 in
/-- and again head by head. -/
theorem raw_pieces (hc0 : ¬cond0 i) (hc1 : ¬cond1 i) (hc2 : ¬cond2 i) (hc3 : cond3 i) (hc4 : ¬cond4 i) (hc5 : ¬cond5 i) : (run3 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xn a).1 = rawStores a := by
  unfold run3
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]
  rfl

set_option maxHeartbeats 1000000 in
/-- Case 5 writes the last block as it is. -/
theorem out_pieces5 (hc0 : ¬cond0 i) (hc1 : ¬cond1 i) (hc2 : ¬cond2 i) (hc3 : ¬cond3 i) (hc4 : ¬cond4 i) (hc5 : cond5 i) : (run5 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 a).val = [⟨Rect.unit (s := S1024x1024) ![0, 0] S1024x1024.size inb_S1024x1024_S1024x1024_0_0, k0_pay17 (F := Ideal) a⟩] := by
  unfold run5
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz2, View.ld_unit_zero (S := S1x2048) hz2,
    View.ld_unit_zero (S := S2048x128) hz2, View.ld_unit_zero (S := S1024x1024) hz2, View.readCov_unit_zero (S := S1024x2048) _ hz2]

end Cert.Kernel6Ideal.Proj
-- ==== Proof.OddIdeal.Tables.lean ====
/-
  The odd projection's host side: the joined weight, the gate weight and the gains, as the call gets them, element by element.
-/
module

public import proofs.«01_k».proof.Proof.Gen.Kernel6Ideal.Frame
public import proofs.«01_k».proof.Proof.ProjIdeal.Tables

@[expose] public section

noncomputable section

open Idealize.ShloMosaic Idealize.ShloMosaic.TcCoe Idealize.SL.Sem

namespace Cert.Kernel6Ideal.Proj

open Cert.Kernel6Ideal Cert.Kernel6Ideal.Gen
open Cert.Kernel5Ideal.Proj (tabs three cast_id)

variable (m : (ℓ : Loc nD τ sig) → Buf (Elt Ideal) ℓ)

/-- The arguments of the call. -/
abbrev argH (c : Dev nD) : S16384x2048.Idx → EReal := m ((c : Thread nD τ).loc main_arg0)
abbrev argG (c : Dev nD) : S2048.Idx → EReal := m ((c : Thread nD τ).loc main_arg1)
abbrev argW (c : Dev nD) : S1x2048x5168.Idx → EReal := m ((c : Thread nD τ).loc main_arg2)
abbrev argQ (c : Dev nD) : S1x128.Idx → EReal := m ((c : Thread nD τ).loc main_arg3)
abbrev argKs (c : Dev nD) : S1x128.Idx → EReal := m ((c : Thread nD τ).loc main_arg4)
abbrev argKw (c : Dev nD) : S1x128.Idx → EReal := m ((c : Thread nD τ).loc main_arg5)
abbrev argC (c : Dev nD) : S4096x16.Idx → EReal := m ((c : Thread nD τ).loc main_arg6)
abbrev argS (c : Dev nD) : S4096x16.Idx → EReal := m ((c : Thread nD τ).loc main_arg7)

set_option maxRecDepth 100000 in
theorem V_tabs (c : Dev nD) : V m c main_v15 = tabs (argC m c) (argS m c) := by
  simp only [V, V0, hostOps0, List.flatten_cons, List.flatten_nil, List.append_nil]
  after_results
  refine three ?_ ?_ ?_
  · change (_ : Valuation τ sig (Elt Ideal)) (Proc.tc.devRef main_v12) = _
    after_results
    rfl
  · change (_ : Valuation τ sig (Elt Ideal)) (Proc.tc.devRef main_v13) = _
    after_results
    rfl
  · change (_ : Valuation τ sig (Elt Ideal)) (Proc.tc.devRef main_v14) = _
    after_results
    rfl

set_option maxRecDepth 100000 in
theorem V_gain (c : Dev nD) : V m c main_v38 = (shapeCast S1x2048 (argG m c) shapeCasts_S2048_S1x2048 : S1x2048.Idx → EReal) := by
  simp only [V, V0, hostOps0, List.flatten_cons, List.flatten_nil, List.append_nil]
  after_results
  rfl

/-- The weight without its layer axis. -/
abbrev flatW (W : S1x2048x5168.Idx → EReal) : S2048x5168.Idx → EReal := shapeCast S2048x5168 W shapeCasts_S1x2048x5168_S2048x5168

/-- The weight's columns but the gate columns, in the order the kernel takes them: the window's keys before the selected values. -/
def mainW (W : S1x2048x5168.Idx → EReal) : S2048x5120.Idx → EReal :=
  concatenate S2048x5120 1 [⟨S2048x3584, extractStridedSlice S2048x3584 ![0, 0] (flatW W) slices_S2048x5168_S2048x3584_0_0⟩,
    ⟨S2048x512, extractStridedSlice S2048x512 ![0, 4096] (flatW W) slices_S2048x5168_S2048x512_0_4096⟩,
    ⟨S2048x512, extractStridedSlice S2048x512 ![0, 3584] (flatW W) slices_S2048x5168_S2048x512_0_3584⟩,
    ⟨S2048x512, extractStridedSlice S2048x512 ![0, 4608] (flatW W) slices_S2048x5168_S2048x512_0_4608⟩] concatenates_S2048x3584_S2048x512_S2048x512_S2048x512_S2048x5120_d1

set_option maxRecDepth 100000 in
theorem V_main (c : Dev nD) : V m c main_v22 = mainW (argW m c) := by
  simp only [V, V0, hostOps0, List.flatten_cons, List.flatten_nil, List.append_nil]
  after_results
  rfl

/-- The weight's column that the kernel's column `n` is. -/
def place (n : ℕ) : ℕ := if n < 3584 then n else if n < 4096 then n + 512 else if n < 4608 then n - 512 else n

theorem place_lt (n : Fin 5120) : place n.val < 5168 := by
  have := n.isLt
  unfold place
  split <;> [skip; split <;> [skip; split]] <;> omega

theorem mainW_apply (W : S1x2048x5168.Idx → EReal) (k : Fin 2048) (n : Fin 5120) :
    mainW W (ix2 k n) = W (ix3 0 k ⟨place n.val, place_lt n⟩) := by
  unfold mainW
  pointwise
  by_cases h1 : n.val < 3584
  · rw [dif_pos h1]
    exact congrArg (fun y => W (ix3 0 k y)) (Fin.ext (by show n.val = place n.val; unfold place; rw [if_pos h1]))
  · rw [dif_neg h1]
    by_cases h2 : n.val < 4096
    · rw [dif_pos (by omega)]
      exact congrArg (fun y => W (ix3 0 k y)) (Fin.ext (by show 4096 + (n.val - 3584) = place n.val; unfold place; rw [if_neg h1, if_pos h2]; omega))
    · rw [dif_neg (by omega)]
      by_cases h3 : n.val < 4608
      · rw [dif_pos (by omega)]
        exact congrArg (fun y => W (ix3 0 k y)) (Fin.ext (by show 3584 + _ = place n.val; unfold place; rw [if_neg h1, if_neg h2, if_pos h3]; omega))
      · rw [dif_neg (by omega)]
        exact congrArg (fun y => W (ix3 0 k y)) (Fin.ext (by show 4608 + _ = place n.val; unfold place; rw [if_neg h1, if_neg h2, if_neg h3]; omega))

/-- The 48 gate columns, padded to 128 lanes. -/
def gateW (W : S1x2048x5168.Idx → EReal) : S2048x128.Idx → EReal :=
  Host.scatter scatter_S2048x128_S1_S2048x48_01_n_1_0 (fun _ b => b) (broadcastInDim S2048x128 ![] bcast_S_S2048x128 (constant (F := Ideal) S_ .f32 0x00000000#32))
    (broadcastInDim S1 ![] bcast_S_S1 (constantI S_ 32 0#32)) (extractStridedSlice S2048x48 ![0, 5120] (flatW W) slices_S2048x5168_S2048x48_0_5120)

set_option maxRecDepth 100000 in
theorem V_gate (c : Dev nD) : V m c main_v27 = gateW (argW m c) := by
  simp only [V, V0, hostOps0, List.flatten_cons, List.flatten_nil, List.append_nil]
  after_results
  refine Eq.trans (b := (truncf (F := Ideal) .bf16 (gateW (argW m c) : FVec Ideal S2048x128 .f32) bitsLt_bf16_f32 : S2048x128.Idx → EReal)) ?_ (cast_id _ _)
  refine congrArg (fun z : FVec Ideal S2048x128 .f32 => truncf (F := Ideal) .bf16 z bitsLt_bf16_f32) ?_
  unfold gateW
  rfl

theorem gateW_apply (W : S1x2048x5168.Idx → EReal) (k : Fin 2048) (d : Fin 128) (h : d.val < 48) :
    gateW W (ix2 k d) = W (ix3 0 k ⟨5120 + d.val, by omega⟩) := by
  refine (Cert.Place.cols (R := 2048) (C := 128) (B := 48) scatter_S2048x128_S1_S2048x48_01_n_1_0 rfl rfl rfl rfl _ _ _ 0 (by decide) k d).trans ?_
  rw [dif_pos (by omega)]
  pointwise

/-- The three gains, one to a row of eight. -/
def gains (a b c : S1x128.Idx → EReal) : S8x128.Idx → EReal :=
  Host.scatter scatter_S8x128_S1_S3x128_01_n_0_0 (fun _ b => b) (broadcastInDim S8x128 ![] bcast_S_S8x128 (constant (F := Ideal) S_ .f32 0x00000000#32))
    (broadcastInDim S1 ![] bcast_S_S1 (constantI S_ 32 0#32))
    (concatenate S3x128 0 [⟨S1x128, broadcastInDim S1x128 ![1] bcast_S128_S1x128_1 (shapeCast S128 a shapeCasts_S1x128_S128)⟩,
      ⟨S1x128, broadcastInDim S1x128 ![1] bcast_S128_S1x128_1 (shapeCast S128 b shapeCasts_S1x128_S128)⟩,
      ⟨S1x128, broadcastInDim S1x128 ![1] bcast_S128_S1x128_1 (shapeCast S128 c shapeCasts_S1x128_S128)⟩] concatenates_S1x128_S1x128_S1x128_S3x128_d0)

/-- Equal rows joined are equal. -/
theorem threeRows {a a' b b' c c' : S1x128.Idx → EReal} (h0 : a = a') (h1 : b = b') (h2 : c = c') :
    concatenate S3x128 0 [⟨S1x128, a⟩, ⟨S1x128, b⟩, ⟨S1x128, c⟩] concatenates_S1x128_S1x128_S1x128_S3x128_d0
      = concatenate S3x128 0 [⟨S1x128, a'⟩, ⟨S1x128, b'⟩, ⟨S1x128, c'⟩] concatenates_S1x128_S1x128_S1x128_S3x128_d0 := by
  rw [h0, h1, h2]

set_option maxRecDepth 100000 in
theorem V_gains (c : Dev nD) : V m c main_v37 = gains (argQ m c) (argKs m c) (argKw m c) := by
  simp only [V, V0, hostOps0, List.flatten_cons, List.flatten_nil, List.append_nil]
  after_results
  unfold gains
  refine congrArg (Host.scatter scatter_S8x128_S1_S3x128_01_n_0_0 (fun _ b => b) _ _) ?_
  refine threeRows ?_ ?_ ?_
  · change (_ : Valuation τ sig (Elt Ideal)) (Proc.tc.devRef main_v31) = _
    after_results
    rfl
  · change (_ : Valuation τ sig (Elt Ideal)) (Proc.tc.devRef main_v32) = _
    after_results
    rfl
  · change (_ : Valuation τ sig (Elt Ideal)) (Proc.tc.devRef main_v33) = _
    after_results
    rfl

theorem gains_apply (a b c : S1x128.Idx → EReal) (e : Fin 128) :
    gains a b c (ix2 0 e) = a (ix2 0 e) ∧ gains a b c (ix2 1 e) = b (ix2 0 e) ∧ gains a b c (ix2 2 e) = c (ix2 0 e) := by
  refine ⟨?_, ?_, ?_⟩ <;>
  · refine (Cert.Place.rows (R := 8) (C := 128) (A := 3) scatter_S8x128_S1_S3x128_01_n_0_0 rfl rfl rfl rfl _ _ _ 0 (by decide) _ e).trans ?_
    rw [dif_pos (by decide)]
    pointwise

end Cert.Kernel6Ideal.Proj
-- ==== Proof.OddIdeal.Values.lean ====
/-
  The odd projection, block by block: what a row block's buffers hold, in the layer's own terms.
-/
module

public import proofs.«01_k».proof.Proof.OddIdeal.Frame
public import proofs.«01_k».proof.Proof.OddIdeal.Pieces
public import proofs.«01_k».proof.Proof.OddIdeal.Tables
public import proofs.«01_k».proof.Proof.ProjIdeal.Values

@[expose] public section

noncomputable section

open Idealize.ShloMosaic Idealize.ShloMosaic.TcCoe Idealize.SL.Sem

namespace Cert.Kernel6Ideal.Proj

open Cert.Kernel6Ideal Cert.Kernel6Ideal.Gen
open Cert.Kernel5Ideal.Proj (tabs headNorm rotate rotate_eq gated angle row rinvHead rinvRow headOf turnVal hz2 product canon_product
  gainRow gainRow_apply tabPage tabPage_apply)

/-! ## The layer's own formulas -/

/-- Column `n` of the projection. -/
def column (H : S16384x2048.Idx → EReal) (g : S2048.Idx → EReal) (W : S1x2048x5168.Idx → EReal) (r : Fin 16384) (n : ℕ) : EReal :=
  ∑ k : Fin 2048, Cert.Kernel5Ideal.Proj.hidden H g r k * W (ix3 0 k (Fin.ofNat 5168 n))

/-- Eight heads normalised, the first four with one gain, the others with another. -/
def twoNorm (y : Fin 1024 → EReal) (g g' : S1x128.Idx → EReal) (n : Fin 1024) : EReal :=
  if n.val < 512 then headNorm y g n else headNorm y g' n

variable (m : (ℓ : Loc nD τ sig) → Buf (Elt Ideal) ℓ)

/-! ## The blocks the points read -/

/-- Where each point's blocks lie. -/
theorem idx_facts : ∀ t : Fin cfg0.N, (win0_0.index t (0 : Fin 2) = t.val / 6 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = min (t.val % 6) 4)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = t.val / 6 % 4 ∧ win0_5.index t (2 : Fin 3) = 0)
    ∧ (win0_6.index t (0 : Fin 2) = t.val / 6 ∧ win0_6.index t (1 : Fin 2) = t.val % 6 - 1)
    ∧ (win0_7.index t (0 : Fin 2) = t.val / 6 ∧ win0_7.index t (1 : Fin 2) = 0)
    ∧ (win0_8.index t (0 : Fin 5) = 0 ∧ win0_8.index t (1 : Fin 5) = t.val / 6 / 4 ∧ win0_8.index t (2 : Fin 5) = 0
      ∧ win0_8.index t (3 : Fin 5) = t.val / 6 % 4 ∧ win0_8.index t (4 : Fin 5) = 0) :=
  (by decide +kernel : ∀ t : Fin grid0.N, _)

theorem iblk0_apply (c : Dev nD) (t : Fin cfg0.N) (r : Fin 1024) (k : Fin 2048) :
    (iblk m c 0 t : Vec Ideal S1024x2048 .f32) (ix2 r k) = argH m c (ix2 (row (t.val / 6) (by have := lt_N t; omega) r) k) := by
  obtain ⟨⟨e0, e1⟩, -⟩ := idx_facts t
  unfold iblk
  rw [View.read_apply]
  show V m c main_arg0 _ = _
  rw [V_main_arg0]
  show argH m c _ = _
  congr 1
  funext b
  apply Fin.ext
  match b with
  | ⟨0, _⟩ => show win0_0.index t (0 : Fin 2) * 1024 + 1 * r.val = 1024 * (t.val / 6) + r.val; rw [e0]; omega
  | ⟨1, _⟩ => show win0_0.index t (1 : Fin 2) * 2048 + 1 * k.val = k.val; rw [e1]; omega

theorem iblk1_apply (c : Dev nD) (t : Fin cfg0.N) (k : Fin 2048) :
    (iblk m c 1 t : Vec Ideal S1x2048 .f32) (ix2 0 k) = argG m c (ix1 k) := by
  obtain ⟨-, ⟨e0, e1⟩, -⟩ := idx_facts t
  unfold iblk
  rw [View.read_apply]
  show V m c main_v38 _ = _
  rw [V_gain]
  refine Eq.trans (b := shapeCast S1x2048 (argG m c) shapeCasts_S2048_S1x2048 (ix2 0 k)) ?_ ?_
  · congr 1
    funext b
    apply Fin.ext
    match b with
    | ⟨0, _⟩ => show win0_1.index t (0 : Fin 2) * 1 + 1 * 0 = 0; rw [e0]
    | ⟨1, _⟩ => show win0_1.index t (1 : Fin 2) * 2048 + 1 * k.val = k.val; rw [e1]; omega
  · pointwise

theorem iblk2_apply (c : Dev nD) (t : Fin cfg0.N) (k : Fin 2048) (n : Fin 1024) :
    (iblk m c 2 t : Vec Ideal S2048x1024 .bf16) (ix2 k n)
      = mainW (argW m c) (ix2 k ⟨min (t.val % 6) 4 * 1024 + n.val, by have := n.isLt; omega⟩) := by
  obtain ⟨-, -, ⟨e0, e1⟩, -⟩ := idx_facts t
  unfold iblk
  rw [View.read_apply]
  show V m c main_v22 _ = _
  rw [V_main]
  congr 1
  funext b
  apply Fin.ext
  match b with
  | ⟨0, _⟩ => show win0_2.index t (0 : Fin 2) * 2048 + 1 * k.val = k.val; rw [e0]; omega
  | ⟨1, _⟩ => show win0_2.index t (1 : Fin 2) * 1024 + 1 * n.val = min (t.val % 6) 4 * 1024 + n.val; rw [e1]; omega

theorem iblk3_apply (c : Dev nD) (t : Fin cfg0.N) (k : Fin 2048) (d : Fin 128) :
    (iblk m c 3 t : Vec Ideal S2048x128 .bf16) (ix2 k d) = gateW (argW m c) (ix2 k d) := by
  obtain ⟨-, -, -, ⟨e0, e1⟩, -⟩ := idx_facts t
  unfold iblk
  rw [View.read_apply]
  show V m c main_v27 _ = _
  rw [V_gate]
  congr 1
  funext b
  apply Fin.ext
  match b with
  | ⟨0, _⟩ => show win0_3.index t (0 : Fin 2) * 2048 + 1 * k.val = k.val; rw [e0]; omega
  | ⟨1, _⟩ => show win0_3.index t (1 : Fin 2) * 128 + 1 * d.val = d.val; rw [e1]; omega

theorem iblk4_apply (c : Dev nD) (t : Fin cfg0.N) (o : Fin 8) (d : Fin 128) :
    (iblk m c 4 t : Vec Ideal S8x128 .f32) (ix2 o d) = gains (argQ m c) (argKs m c) (argKw m c) (ix2 o d) := by
  obtain ⟨-, -, -, -, ⟨e0, e1⟩, -⟩ := idx_facts t
  unfold iblk
  rw [View.read_apply]
  show V m c main_v37 _ = _
  rw [V_gains]
  congr 1
  funext b
  apply Fin.ext
  match b with
  | ⟨0, _⟩ => show win0_4.index t (0 : Fin 2) * 8 + 1 * o.val = o.val; rw [e0]; omega
  | ⟨1, _⟩ => show win0_4.index t (1 : Fin 2) * 128 + 1 * d.val = d.val; rw [e1]; omega

theorem iblk5_apply (c : Dev nD) (t : Fin cfg0.N) (o : Fin 3) (r : Fin 1024) (d : Fin 128) :
    (iblk m c 5 t : Vec Ideal S3x1024x128 .f32) (ix3 o r d) = tabs (argC m c) (argS m c) (ix3 o ⟨t.val / 6 % 4 * 1024 + r.val, by have := r.isLt; omega⟩ d) := by
  obtain ⟨-, -, -, -, -, ⟨e0, e1, e2⟩, -⟩ := idx_facts t
  unfold iblk
  rw [View.read_apply]
  show V m c main_v15 _ = _
  rw [V_tabs]
  congr 1
  funext b
  apply Fin.ext
  match b with
  | ⟨0, _⟩ => show win0_5.index t (0 : Fin 3) * 3 + 1 * o.val = o.val; rw [e0]; omega
  | ⟨1, _⟩ => show win0_5.index t (1 : Fin 3) * 1024 + 1 * r.val = t.val / 6 % 4 * 1024 + r.val; rw [e1]; omega
  | ⟨2, _⟩ => show win0_5.index t (2 : Fin 3) * 128 + 1 * d.val = d.val; rw [e2]; omega

/-! ## What the row block's buffers hold -/

theorem rows_val (c : Dev nD) (q : ℕ) (hq : q < 16) (r : Fin 1024) (k : Fin 2048) :
    rowsOf m c q (ix2 r k) = Cert.Kernel5Ideal.Proj.hidden (argH m c) (argG m c) (row q hq r) k := by
  simp only [rowsOf, r0, rows_pieces]
  rw [View.canon_unit_zero hz2]
  refine (row_value _ _ r k).trans ?_
  have e : (pt q 0).val / 6 = q := by rw [pt_val q 0 hq (by decide)]; omega
  simp only [iblk0_apply, iblk1_apply, Cert.Kernel5Ideal.Proj.hidden, e]

/-- The gates. -/
theorem gate_val (c : Dev nD) (q : ℕ) (hq : q < 16) (r : Fin 1024) (d : Fin 128) (hd : d.val < 48) :
    gateOf m c q (ix2 r d) = gated (column (argH m c) (argG m c) (argW m c) (row q hq r) (5120 + d.val)) := by
  simp only [gateOf, r0, gate_pieces]
  rw [View.canon_unit_zero hz2]
  refine (gate_value _ _ r d).trans ?_
  unfold gated column
  refine congrArg (fun z => Ideal.div _ (_ + Ideal.exp (0 - z))) (Finset.sum_congr rfl fun k _ => congrArg₂ (· * ·) ?_ ?_)
  · refine (row_value _ _ r k).trans ?_
    have e : (pt q 0).val / 6 = q := by rw [pt_val q 0 hq (by decide)]; omega
    simp only [iblk0_apply, iblk1_apply, Cert.Kernel5Ideal.Proj.hidden, e]
  · rw [iblk3_apply, gateW_apply _ _ _ hd]
    exact congrArg (fun z => argW m c (ix3 0 k z)) (Fin.ext (by show 5120 + d.val = (5120 + d.val) % 5168; omega))

/-- The rows times a column block. -/
theorem product_val (c : Dev nD) (q j : ℕ) (hq : q < 16) (hj : j < 5) (x : Vec Ideal S1024x2048 .bf16)
    (hx : ∀ r k, x (ix2 r k) = Cert.Kernel5Ideal.Proj.hidden (argH m c) (argG m c) (row q hq r) k) (r n : Fin 1024) :
    View.canon (Val := Elt Ideal) (product x (iblk m c 2 (pt q j))) (ix2 r n)
      = column (argH m c) (argG m c) (argW m c) (row q hq r) (place (1024 * j + n.val)) := by
  refine (canon_product _ _ r n).trans ?_
  unfold column
  refine Finset.sum_congr rfl fun k _ => congrArg₂ (· * ·) (hx r k) ?_
  rw [iblk2_apply, mainW_apply]
  refine congrArg (fun z => argW m c (ix3 0 k z)) (Fin.ext ?_)
  have e : (pt q j).val % 6 = j := pt_mod q j (by omega)
  have hn := n.isLt
  have hp := place_lt ⟨1024 * j + n.val, by omega⟩
  show place (min ((pt q j).val % 6) 4 * 1024 + n.val) = place (1024 * j + n.val) % 5168
  rw [e, Nat.min_eq_left (by omega), Nat.mul_comm j, Nat.mod_eq_of_lt hp]

theorem acc0_val (c : Dev nD) (q : ℕ) (hq : q < 16) (r n : Fin 1024) :
    acc0 m c q (ix2 r n) = column (argH m c) (argG m c) (argW m c) (row q hq r) (place (1024 * 0 + n.val)) := by
  simp only [acc0, r0, acc_pieces0]
  exact product_val m c q 0 hq (by decide) _ (fun r k => by
    refine (row_value _ _ r k).trans ?_
    have e : (pt q 0).val / 6 = q := by rw [pt_val q 0 hq (by decide)]; omega
    simp only [iblk0_apply, iblk1_apply, Cert.Kernel5Ideal.Proj.hidden, e]) r n

theorem acc1_val (c : Dev nD) (q : ℕ) (hq : q < 16) (r n : Fin 1024) :
    acc1 m c q (ix2 r n) = column (argH m c) (argG m c) (argW m c) (row q hq r) (place (1024 * 1 + n.val)) := by
  simp only [acc1, r1, acc_pieces1]
  exact product_val m c q 1 hq (by decide) _ (rows_val m c q hq) r n

theorem acc2_val (c : Dev nD) (q : ℕ) (hq : q < 16) (r n : Fin 1024) :
    acc2 m c q (ix2 r n) = column (argH m c) (argG m c) (argW m c) (row q hq r) (place (1024 * 2 + n.val)) := by
  simp only [acc2, r2, acc_pieces2]
  exact product_val m c q 2 hq (by decide) _ (rows_val m c q hq) r n

theorem acc3_val (c : Dev nD) (q : ℕ) (hq : q < 16) (r n : Fin 1024) :
    acc3 m c q (ix2 r n) = column (argH m c) (argG m c) (argW m c) (row q hq r) (place (1024 * 3 + n.val)) := by
  simp only [acc3, r3, acc_pieces3]
  exact product_val m c q 3 hq (by decide) _ (rows_val m c q hq) r n

theorem acc4_val (c : Dev nD) (q : ℕ) (hq : q < 16) (r n : Fin 1024) :
    acc4 m c q (ix2 r n) = column (argH m c) (argG m c) (argW m c) (row q hq r) (place (1024 * 4 + n.val)) := by
  simp only [acc4, r4, acc_pieces4]
  exact product_val m c q 4 hq (by decide) _ (rows_val m c q hq) r n

/-! ## What is written out -/

/-- A column block of a row, the five of them in the kernel's order. -/
abbrev seg (c : Dev nD) (s : ℕ) (r : Fin 16384) (n : Fin 1024) : EReal := column (argH m c) (argG m c) (argW m c) r (place (1024 * s + n.val))

/-- Column block `s` as it is written out. -/
def result (c : Dev nD) (r : Fin 16384) (s : ℕ) (n : Fin 1024) : EReal :=
  match s with
  | 0 => rotate (headNorm (seg m c 0 r) (argQ m c)) (angle (argC m c) r) (angle (argS m c) r) n
  | 1 => rotate (headNorm (seg m c 1 r) (argQ m c)) (angle (argC m c) r) (angle (argS m c) r) n
  | 2 => seg m c 2 r n
  | 3 => rotate (twoNorm (seg m c 3 r) (argKs m c) (argKw m c)) (angle (argC m c) r) (angle (argS m c) r) n
  | _ => seg m c 4 r n

/-- A normalised head in the layer's terms. -/
theorem gainVal_eq (a : Vec Ideal S1024x1024 .f32) (y : Fin 1024 → Fin 1024 → EReal) (ha : ∀ r n, a (ix2 r n) = y r n) (g : ℕ → Fin 128 → EReal)
    (g' : S1x128.Idx → EReal) (r n : Fin 1024) (hg : ∀ d, g (n.val / 128) d = g' (ix2 0 d)) : gainVal a g r n = headNorm (y r) g' n := by
  unfold gainVal headNorm headOf
  simp only [ha, hg]

/-- A normalised and turned block in the layer's terms. -/
theorem turn_val (c : Dev nD) (q j : ℕ) (hq : q < 16) (hj : j < 6) (u v : View sig .tc .vmem S1024x1024 .f32) (a : Vec Ideal S1024x1024 .f32)
    (g : ℕ → Vec Ideal S1x128 .f32) (z : Fin 1024 → EReal) (r : Fin 1024)
    (hz : ∀ n, gainVal a (fun k e => g k (ix2 0 e)) r n = z n) (n : Fin 1024) :
    View.canon (Val := Elt Ideal) (turned u v a g (tabPage (iblk m c 5 (pt q j)) 0 (by decide)) (tabPage (iblk m c 5 (pt q j)) 1 (by decide))
      (tabPage (iblk m c 5 (pt q j)) 2 (by decide))) (ix2 r n) = rotate z (angle (argC m c) (row q hq r)) (angle (argS m c) (row q hq r)) n := by
  refine (turned_apply _ _ _ _ _ _ _ r n).trans ?_
  unfold turnVal
  rw [hz, hz, hz]
  simp only [tabPage_apply, iblk5_apply]
  have e : (pt q j).val / 6 = q := by rw [pt_val q j hq hj]; omega
  have hp : (⟨(pt q j).val / 6 % 4 * 1024 + r.val, by have := r.isLt; omega⟩ : Fin 4096) = ⟨(row q hq r).val % 4096, by omega⟩ :=
    Fin.ext (by show (pt q j).val / 6 % 4 * 1024 + r.val = (1024 * q + r.val) % 4096; rw [e]; have := r.isLt; omega)
  rw [hp]
  exact rotate_eq z (argC m c) (argS m c) ⟨(row q hq r).val % 4096, by omega⟩ n

theorem out1_val (c : Dev nD) (q : ℕ) (hq : q < 16) (r n : Fin 1024) : outOf m c q 1 (ix2 r n) = result m c (row q hq r) 0 n := by
  simp only [outOf, r1, out_pieces1]
  exact turn_val m c q 1 hq (by decide) _ _ _ _ _ r (fun n => gainVal_eq _ (fun r => seg m c 0 (row q hq r)) (acc0_val m c q hq) _ (argQ m c) r n fun d => by
    rw [gainRow_apply, iblk4_apply]
    exact (gains_apply _ _ _ d).1) n

theorem out2_val (c : Dev nD) (q : ℕ) (hq : q < 16) (r n : Fin 1024) : outOf m c q 2 (ix2 r n) = result m c (row q hq r) 1 n := by
  simp only [outOf, r2, out_pieces2]
  exact turn_val m c q 2 hq (by decide) _ _ _ _ _ r (fun n => gainVal_eq _ (fun r => seg m c 1 (row q hq r)) (acc1_val m c q hq) _ (argQ m c) r n fun d => by
    rw [gainRow_apply, iblk4_apply]
    exact (gains_apply _ _ _ d).1) n

theorem out3_val (c : Dev nD) (q : ℕ) (hq : q < 16) (r n : Fin 1024) : outOf m c q 3 (ix2 r n) = result m c (row q hq r) 2 n := by
  simp only [outOf, r3, out_pieces3]
  rw [View.canon_unit_zero hz2, block_value]
  exact acc2_val m c q hq r n

theorem out4_val (c : Dev nD) (q : ℕ) (hq : q < 16) (r n : Fin 1024) : outOf m c q 4 (ix2 r n) = result m c (row q hq r) 3 n := by
  simp only [outOf, r4, out_pieces4]
  refine turn_val m c q 4 hq (by decide) _ _ _ _ (twoNorm (seg m c 3 (row q hq r)) (argKs m c) (argKw m c)) r (fun n => ?_) n
  have hn := n.isLt
  unfold twoNorm
  by_cases h : n.val < 512
  · rw [if_pos h]
    refine gainVal_eq _ (fun r => seg m c 3 (row q hq r)) (acc3_val m c q hq) _ (argKs m c) r n fun d => ?_
    have e : twoGains (iblk m c 4 (pt q 4)) (n.val / 128) = gainRow (iblk m c 4 (pt q 4)) 1 (by decide) := by
      have hk : n.val / 128 < 4 := by omega
      generalize n.val / 128 = k at hk
      interval_cases k <;> rfl
    rw [e, gainRow_apply, iblk4_apply]
    exact (gains_apply _ _ _ d).2.1
  · rw [if_neg h]
    refine gainVal_eq _ (fun r => seg m c 3 (row q hq r)) (acc3_val m c q hq) _ (argKw m c) r n fun d => ?_
    have e : twoGains (iblk m c 4 (pt q 4)) (n.val / 128) = gainRow (iblk m c 4 (pt q 4)) 2 (by decide) := by
      have hk : n.val / 128 < 8 := by omega
      have hk' : 4 ≤ n.val / 128 := by omega
      generalize n.val / 128 = k at hk hk'
      interval_cases k <;> rfl
    rw [e, gainRow_apply, iblk4_apply]
    exact (gains_apply _ _ _ d).2.2

theorem last_value (v : Vec Ideal S1024x1024 .f32) : (k0_pay17 (F := Ideal) v : S1024x1024.Idx → EReal) = v := by
  funext y
  rw [eq_ix2 y]
  pointwise [k0_pay17]

theorem out5_val (c : Dev nD) (q : ℕ) (hq : q < 16) (r n : Fin 1024) : outOf m c q 5 (ix2 r n) = result m c (row q hq r) 4 n := by
  simp only [outOf, r5, out_pieces5]
  rw [View.canon_unit_zero hz2, last_value]
  exact acc4_val m c q hq r n

theorem out_val (c : Dev nD) (q : ℕ) (hq : q < 16) (s : ℕ) (hs : s < 5) (r n : Fin 1024) : outOf m c q (s + 1) (ix2 r n) = result m c (row q hq r) s n := by
  interval_cases s
  · exact out1_val m c q hq r n
  · exact out2_val m c q hq r n
  · exact out3_val m c q hq r n
  · exact out4_val m c q hq r n
  · exact out5_val m c q hq r n

/-- The raw keys and values, head by head. -/
theorem raw_val (c : Dev nD) (q : ℕ) (hq : q < 16) (y : S2x1x4x1024x128.Idx) :
    rawOf m c q y = seg m c 2 (row q hq (y 3)) ⟨512 * (y 0).val + 128 * (y 2).val + (y 4).val, by
      have h0 : (y 0).val < 2 := (y 0).isLt
      have h2 : (y 2).val < 4 := (y 2).isLt
      have h4 : (y 4).val < 128 := (y 4).isLt
      omega⟩ := by
  simp only [rawOf, r3, raw_pieces]
  refine (canon_raw _ y).trans ?_
  exact acc2_val m c q hq _ _

end Cert.Kernel6Ideal.Proj
-- ==== Proof.OddIdeal.Array.lean ====
/-
  The odd projection: the three arrays the kernel leaves, and the eight results that come of them.
-/
module

public import proofs.«01_k».proof.Proof.OddIdeal.Values
public import proofs.«01_k».proof.Proof.ProjIdeal.Array

@[expose] public section

noncomputable section

open Idealize.ShloMosaic Idealize.ShloMosaic.TcCoe Idealize.SL.Sem

namespace Cert.Kernel6Ideal.Proj

open Cert.Kernel6Ideal Cert.Kernel6Ideal.Gen
open Cert.Kernel5Ideal.Proj (row gated stacked stacked_row)

variable (m : (ℓ : Loc nD τ sig) → Buf (Elt Ideal) ℓ)

/-- The projection's array: five column blocks of 1024, each finished in its own way. -/
def G6 (c : Dev nD) : S16384x5120.Idx → EReal := fun i =>
  result m c (i 0) ((i 1).val / 1024) ⟨(i 1).val % 1024, by omega⟩

/-- The array at a column of block `s`. -/
theorem G6_at (c : Dev nD) (r : Fin 16384) (k : Fin 5120) (s : ℕ) (n : Fin 1024) (h : k.val = s * 1024 + n.val) :
    G6 m c (ix2 r k) = result m c r s n := by
  have hn := n.isLt
  show result m c r (k.val / 1024) ⟨k.val % 1024, by omega⟩ = _
  rw [show k.val / 1024 = s by omega]
  exact congrArg (result m c r s) (Fin.ext (by show k.val % 1024 = n.val; omega))

/-- The gate array, 128 columns wide. -/
def G7 (c : Dev nD) : S16384x128.Idx → EReal := fun i => stacked (gateOf m c) (i 0) (i 1)

/-- Blocks of heads, batch by batch and four to a sequence. -/
def stacked5 (x : ℕ → Vec Ideal S2x1x4x1024x128 .bf16) (a : Fin 2) (b : Fin 4) (k : Fin 4) (s : Fin 4096) (d : Fin 128) : EReal :=
  x (4 * b.val + s.val / 1024) (ix5 a 0 k (⟨s.val % 1024, by omega⟩ : Fin 1024) d)

/-- A stacked block's element. -/
theorem stacked5_block (x : ℕ → Vec Ideal S2x1x4x1024x128 .bf16) (q : ℕ) (hq : q < 16) (a : Fin 2) (k : Fin 4) (s : Fin 1024) (d : Fin 128) :
    stacked5 x a ⟨q / 4, by omega⟩ k ⟨q % 4 * 1024 + s.val, by omega⟩ d = x q (ix5 a 0 k s d) := by
  unfold stacked5
  have ha : 4 * (q / 4) + (q % 4 * 1024 + s.val) / 1024 = q := by omega
  show x (4 * (q / 4) + (q % 4 * 1024 + s.val) / 1024) (ix5 a 0 k (⟨(q % 4 * 1024 + s.val) % 1024, by omega⟩ : Fin 1024) d) = _
  rw [ha]
  exact congrArg (fun z => x q (ix5 a 0 k z d)) (Fin.ext (by show (q % 4 * 1024 + s.val) % 1024 = s.val; omega))

/-- The array of raw keys and values, head by head. -/
def G8 (c : Dev nD) : S2x4x4x4096x128.Idx → EReal := fun i => stacked5 (rawOf m c) (i 0) (i 1) (i 2) (i 3) (i 4)

/-- What a point writes back of the projection is its block of that array. -/
theorem flushed6 (c : Dev nD) (t : Fin cfg0.N) (ht : (cfg0.win 6).flush t = true) :
    (dats m 0 c).flushed 6 t = ((cfg0.win 6).blk t).view.read (Elt Ideal) (G6 m c) := by
  have hj : t.val % 6 ≠ 0 := fun h => by rw [flush6_zero t h] at ht; exact Bool.noConfusion ht
  show (cfg0.win 6).cut (grid0.coords t) ((dats m 0 c).after 6 t) = _
  rw [after6]
  obtain ⟨-, -, -, -, -, -, ⟨e0, e1⟩, -⟩ := idx_facts t
  have hq : t.val / 6 < 16 := by have := lt_N t; omega
  funext y
  have hy0 : (y 0).val < 1024 := (y 0).isLt
  have hy1 : (y 1).val < 1024 := (y 1).isLt
  have hl : (cfg0.win 6).xinj (grid0.coords t) y = ix2 (⟨(y 0).val, hy0⟩ : Fin 1024) (⟨(y 1).val, hy1⟩ : Fin 1024) := by
    funext a
    match a with
    | ⟨0, _⟩ => rfl
    | ⟨1, _⟩ => rfl
  have hb : ((cfg0.win 6).blk t).view.emb y
      = ix2 (row (t.val / 6) hq ⟨(y 0).val, hy0⟩) (⟨(t.val % 6 - 1) * 1024 + (y 1).val, by omega⟩ : Fin 5120) := by
    funext a
    apply Fin.ext
    match a with
    | ⟨0, _⟩ => show win0_6.index t (0 : Fin 2) * 1024 + 1 * (y 0).val = 1024 * (t.val / 6) + (y 0).val; rw [e0]; omega
    | ⟨1, _⟩ => show win0_6.index t (1 : Fin 2) * 1024 + 1 * (y 1).val = (t.val % 6 - 1) * 1024 + (y 1).val; rw [e1]; omega
  show outOf m c (t.val / 6) (t.val % 6) ((cfg0.win 6).xinj (grid0.coords t) y) = G6 m c (((cfg0.win 6).blk t).view.emb y)
  rw [hl, hb]
  have hv := out_val m c (t.val / 6) hq (t.val % 6 - 1) (by omega) ⟨(y 0).val, hy0⟩ ⟨(y 1).val, hy1⟩
  rw [show t.val % 6 - 1 + 1 = t.val % 6 by omega] at hv
  refine hv.trans ?_
  show _ = result m c (row (t.val / 6) hq ⟨(y 0).val, hy0⟩) (((t.val % 6 - 1) * 1024 + (y 1).val) / 1024)
    ⟨((t.val % 6 - 1) * 1024 + (y 1).val) % 1024, by omega⟩
  have ha : ((t.val % 6 - 1) * 1024 + (y 1).val) / 1024 = t.val % 6 - 1 := by omega
  rw [ha]
  exact congrArg (result m c (row (t.val / 6) hq ⟨(y 0).val, hy0⟩) (t.val % 6 - 1))
    (Fin.ext (by show (y 1).val = ((t.val % 6 - 1) * 1024 + (y 1).val) % 1024; omega))

/-- The projection's array after the run. -/
theorem final6 (c : Dev nD) : (dats m 0 c).arrAt 6 cfg0.N = G6 m c := by
  refine (dats m 0 c).arrAt_eq_of_cover 6 _ (fun t ht => flushed6 m c t ht) fun i => ?_
  have h0 : (i 0).val < 16384 := (i 0).isLt
  have h1 : (i 1).val < 5120 := (i 1).isLt
  let t : Fin cfg0.N := ⟨(i 0).val / 1024 * 6 + (i 1).val / 1024 + 1, by rw [show cfg0.N = 96 from N_0]; omega⟩
  have ht : t.val = (i 0).val / 1024 * 6 + (i 1).val / 1024 + 1 := rfl
  obtain ⟨-, -, -, -, -, -, ⟨e0, e1⟩, -⟩ := idx_facts t
  refine ⟨t, flush6_pos t (by omega), ?_⟩
  show i ∈ ((View.whole main_v39_0).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- What a row block's last point writes back of the gates is its block of that array. -/
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after7]
  obtain ⟨-, -, -, -, -, -, -, ⟨e0, e1⟩, -⟩ := idx_facts t
  have hq : t.val / 6 < 16 := by have := lt_N t; omega
  funext y
  have hy0 : (y 0).val < 1024 := (y 0).isLt
  have hy1 : (y 1).val < 128 := (y 1).isLt
  obtain ⟨a, ha⟩ : ∃ a : Fin 1024, a.val = (y 0).val := ⟨⟨(y 0).val, hy0⟩, rfl⟩
  obtain ⟨b, hb⟩ : ∃ b : Fin 128, b.val = (y 1).val := ⟨⟨(y 1).val, hy1⟩, rfl⟩
  have hl : (cfg0.win 7).xinj (grid0.coords t) y = ix2 a b := by
    funext z
    match z with
    | ⟨0, _⟩ => exact Fin.ext ha.symm
    | ⟨1, _⟩ => exact Fin.ext hb.symm
  have hb : ((cfg0.win 7).blk t).view.emb y = ix2 (row (t.val / 6) hq a) b := by
    funext z
    apply Fin.ext
    match z with
    | ⟨0, _⟩ => show win0_7.index t (0 : Fin 2) * 1024 + 1 * (y 0).val = 1024 * (t.val / 6) + a.val; rw [e0, ha]; omega
    | ⟨1, _⟩ => show win0_7.index t (1 : Fin 2) * 128 + 1 * (y 1).val = b.val; rw [e1, hb]; omega
  have hv := stacked_row (gateOf m c) (t.val / 6) hq a b
  have h1 : gateOf m c (t.val / 6) ((cfg0.win 7).xinj (grid0.coords t) y) = gateOf m c (t.val / 6) (ix2 a b) :=
    congrArg (gateOf m c (t.val / 6)) hl
  have h2 : G7 m c (((cfg0.win 7).blk t).view.emb y) = gateOf m c (t.val / 6) (ix2 a b) := (congrArg (G7 m c) hb).trans hv
  generalize G7 m c = Z at h2 ⊢
  exact h1.trans h2.symm

/-- The gate array after the run. -/
theorem final7 (c : Dev nD) : (dats m 0 c).arrAt 7 cfg0.N = G7 m c := by
  refine (dats m 0 c).arrAt_eq_of_cover 7 _ (fun t _ => flushed7 m c t) fun i => ?_
  have h0 : (i 0).val < 16384 := (i 0).isLt
  have h1 : (i 1).val < 128 := (i 1).isLt
  let t : Fin cfg0.N := ⟨(i 0).val / 1024 * 6 + 5, by rw [show cfg0.N = 96 from N_0]; omega⟩
  have ht : t.val = (i 0).val / 1024 * 6 + 5 := rfl
  obtain ⟨-, -, -, -, -, -, -, ⟨e0, e1⟩, -⟩ := idx_facts t
  refine ⟨t, (flush7 t).trans (decide_eq_true (by omega)), ?_⟩
  show i ∈ ((View.whole main_v39_1).slice (win0_7.rect t)).set
  rw [View.set_slice_whole, Rect.mem_set_unit]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 128 ≤ (i 1).val ∧ (i 1).val < win0_7.index t (1 : Fin 2) * 128 + 128; omega

/-- What a row block's last point writes back of the raw heads is its block of that array. -/
theorem flushed8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after8]
  obtain ⟨-, -, -, -, -, -, -, -, ⟨e0, e1, e2, e3, e4⟩⟩ := idx_facts t
  have hq : t.val / 6 < 16 := by have := lt_N t; omega
  funext y
  have hy0 : (y 0).val < 2 := (y 0).isLt
  have hy1 : (y 1).val < 1 := (y 1).isLt
  have hy2 : (y 2).val < 4 := (y 2).isLt
  have hy3 : (y 3).val < 1024 := (y 3).isLt
  have hy4 : (y 4).val < 128 := (y 4).isLt
  obtain ⟨a, ha⟩ : ∃ a : Fin 2, a.val = (y 0).val := ⟨⟨(y 0).val, hy0⟩, rfl⟩
  obtain ⟨k, hk⟩ : ∃ k : Fin 4, k.val = (y 2).val := ⟨⟨(y 2).val, hy2⟩, rfl⟩
  obtain ⟨s, hs⟩ : ∃ s : Fin 1024, s.val = (y 3).val := ⟨⟨(y 3).val, hy3⟩, rfl⟩
  obtain ⟨d, hd⟩ : ∃ d : Fin 128, d.val = (y 4).val := ⟨⟨(y 4).val, hy4⟩, rfl⟩
  have hl : (cfg0.win 8).xinj (grid0.coords t) y = ix5 a (0 : Fin 1) k s d := by
    funext z
    match z with
    | ⟨0, _⟩ => exact Fin.ext ha.symm
    | ⟨1, _⟩ => exact Fin.ext (by show (y 1).val = 0; omega)
    | ⟨2, _⟩ => exact Fin.ext hk.symm
    | ⟨3, _⟩ => exact Fin.ext hs.symm
    | ⟨4, _⟩ => exact Fin.ext hd.symm
  have hb : ((cfg0.win 8).blk t).view.emb y
      = ix5 a (⟨t.val / 6 / 4, by omega⟩ : Fin 4) k (⟨t.val / 6 % 4 * 1024 + s.val, by omega⟩ : Fin 4096) d := by
    funext z
    apply Fin.ext
    match z with
    | ⟨0, _⟩ => show win0_8.index t (0 : Fin 5) * 2 + 1 * (y 0).val = a.val; rw [e0, ha]; omega
    | ⟨1, _⟩ => show win0_8.index t (1 : Fin 5) * 1 + 1 * (y 1).val = t.val / 6 / 4; rw [e1]; omega
    | ⟨2, _⟩ => show win0_8.index t (2 : Fin 5) * 4 + 1 * (y 2).val = k.val; rw [e2, hk]; omega
    | ⟨3, _⟩ => show win0_8.index t (3 : Fin 5) * 1024 + 1 * (y 3).val = t.val / 6 % 4 * 1024 + s.val; rw [e3, hs]; omega
    | ⟨4, _⟩ => show win0_8.index t (4 : Fin 5) * 128 + 1 * (y 4).val = d.val; rw [e4, hd]; omega
  have hv := stacked5_block (rawOf m c) (t.val / 6) hq a k s d
  have h1 : rawOf m c (t.val / 6) ((cfg0.win 8).xinj (grid0.coords t) y) = rawOf m c (t.val / 6) (ix5 a 0 k s d) :=
    congrArg (rawOf m c (t.val / 6)) hl
  have h2 : G8 m c (((cfg0.win 8).blk t).view.emb y) = rawOf m c (t.val / 6) (ix5 a 0 k s d) := (congrArg (G8 m c) hb).trans hv
  generalize G8 m c = Z at h2 ⊢
  exact h1.trans h2.symm

/-- The array of raw heads after the run. -/
theorem final8 (c : Dev nD) : (dats m 0 c).arrAt 8 cfg0.N = G8 m c := by
  refine (dats m 0 c).arrAt_eq_of_cover 8 _ (fun t _ => flushed8 m c t) fun i => ?_
  have h0 : (i 0).val < 2 := (i 0).isLt
  have h1 : (i 1).val < 4 := (i 1).isLt
  have h2 : (i 2).val < 4 := (i 2).isLt
  have h3 : (i 3).val < 4096 := (i 3).isLt
  have h4 : (i 4).val < 128 := (i 4).isLt
  let t : Fin cfg0.N := ⟨(4 * (i 1).val + (i 3).val / 1024) * 6 + 5, by rw [show cfg0.N = 96 from N_0]; omega⟩
  have ht : t.val = (4 * (i 1).val + (i 3).val / 1024) * 6 + 5 := rfl
  obtain ⟨-, -, -, -, -, -, -, -, ⟨e0, e1, e2, e3, e4⟩⟩ := idx_facts t
  refine ⟨t, (flush8 t).trans (decide_eq_true (by omega)), ?_⟩
  show i ∈ ((View.whole main_v39_2).slice (win0_8.rect t)).set
  rw [View.set_slice_whole, Rect.mem_set_unit]
  intro a
  match a with
  | ⟨0, _⟩ => show win0_8.index t (0 : Fin 5) * 2 ≤ (i 0).val ∧ (i 0).val < win0_8.index t (0 : Fin 5) * 2 + 2; omega
  | ⟨1, _⟩ => show win0_8.index t (1 : Fin 5) * 1 ≤ (i 1).val ∧ (i 1).val < win0_8.index t (1 : Fin 5) * 1 + 1; omega
  | ⟨2, _⟩ => show win0_8.index t (2 : Fin 5) * 4 ≤ (i 2).val ∧ (i 2).val < win0_8.index t (2 : Fin 5) * 4 + 4; omega
  | ⟨3, _⟩ => show win0_8.index t (3 : Fin 5) * 1024 ≤ (i 3).val ∧ (i 3).val < win0_8.index t (3 : Fin 5) * 1024 + 1024; omega
  | ⟨4, _⟩ => show win0_8.index t (4 : Fin 5) * 128 ≤ (i 4).val ∧ (i 4).val < win0_8.index t (4 : Fin 5) * 128 + 128; omega

/-! ## The results -/

/-- The queries: 16 heads, eight to a column block. -/
def queries (c : Dev nD) : S16384x2048.Idx → EReal := fun i => result m c (i 0) ((i 1).val / 1024) ⟨(i 1).val % 1024, by omega⟩

/-- The keys and values the compression takes, side by side. -/
def beside (c : Dev nD) : S16384x1024.Idx → EReal := fun i => result m c (i 0) 2 (i 1)

/-- The left half of column block `s`. -/
def left (c : Dev nD) (s : ℕ) : S16384x512.Idx → EReal := fun i =>
  result m c (i 0) s ⟨(i 1).val, by have h : (i 1).val < 512 := (i 1).isLt; omega⟩

/-- The right half of column block `s`. -/
def right (c : Dev nD) (s : ℕ) : S16384x512.Idx → EReal := fun i =>
  result m c (i 0) s ⟨512 + (i 1).val, by have h : (i 1).val < 512 := (i 1).isLt; omega⟩

/-- The 48 gates. -/
def gates (c : Dev nD) : S16384x48.Idx → EReal := fun i => gated (column (argH m c) (argG m c) (argW m c) (i 0) (5120 + (i 1).val))

/-- Entry `d` of head `k` of the keys (`a = 0`) or values (`a = 1`) of token `s` of sequence `b`. -/
def rawHead (c : Dev nD) (a : Fin 2) (b : Fin 4) (k : Fin 4) (s : Fin 4096) (d : Fin 128) : EReal :=
  seg m c 2 ⟨4096 * b.val + s.val, by omega⟩ ⟨512 * a.val + 128 * k.val + d.val, by omega⟩

/-- The same keys and values head by head. -/
def heads (c : Dev nD) : S2x4x4x4096x128.Idx → EReal := fun i => rawHead m c (i 0) (i 1) (i 2) (i 3) (i 4)

/-- The stacked blocks hold just these. -/
theorem stacked_heads (c : Dev nD) (a : Fin 2) (b : Fin 4) (k : Fin 4) (s : Fin 4096) (d : Fin 128) :
    stacked5 (rawOf m c) a b k s d = rawHead m c a b k s d := by
  unfold stacked5
  have hq : 4 * b.val + s.val / 1024 < 16 := by omega
  rw [raw_val m c (4 * b.val + s.val / 1024) hq]
  unfold rawHead
  have e : row (4 * b.val + s.val / 1024) hq (⟨s.val % 1024, by omega⟩ : Fin 1024) = ⟨4096 * b.val + s.val, by omega⟩ :=
    Fin.ext (by show 1024 * (4 * b.val + s.val / 1024) + s.val % 1024 = 4096 * b.val + s.val; omega)
  exact congrArg (fun z => seg m c 2 z ⟨512 * a.val + 128 * k.val + d.val, by omega⟩) e

/-- So does the array. -/
theorem G8_heads (c : Dev nD) : G8 m c = heads m c := funext fun i => stacked_heads m c (i 0) (i 1) (i 2) (i 3) (i 4)

/-- Cutting 512 columns, the left half of a column block, out of the projection's array. -/
theorem left_eq (c : Dev nD) (s o : ℕ) (x : S16384x512.Idx → EReal) (ho : o = s * 1024) (hs : s < 5)
    (hx : ∀ (r : Fin 16384) (n : Fin 512) (h : o + n.val < 5120), x (ix2 r n) = G6 m c (ix2 r (⟨o + n.val, h⟩ : Fin 5120))) : x = left m c s := by
  funext i
  have h1 : (i 1).val < 512 := (i 1).isLt
  rw [eq_ix2 i]
  refine (hx (i 0) (i 1) (by show o + (i 1).val < 5120; omega)).trans ?_
  exact G6_at m c (i 0) _ s ⟨(i 1).val, by omega⟩ (by show o + (i 1).val = s * 1024 + (i 1).val; omega)

/-- Cutting out the right half. -/
theorem right_eq (c : Dev nD) (s o : ℕ) (x : S16384x512.Idx → EReal) (ho : o = s * 1024 + 512) (hs : s < 5)
    (hx : ∀ (r : Fin 16384) (n : Fin 512) (h : o + n.val < 5120), x (ix2 r n) = G6 m c (ix2 r (⟨o + n.val, h⟩ : Fin 5120))) : x = right m c s := by
  funext i
  have h1 : (i 1).val < 512 := (i 1).isLt
  rw [eq_ix2 i]
  refine (hx (i 0) (i 1) (by show o + (i 1).val < 5120; omega)).trans ?_
  exact G6_at m c (i 0) _ s ⟨512 + (i 1).val, by omega⟩ (by show o + (i 1).val = s * 1024 + (512 + (i 1).val); omega)

/-- The first 48 columns of the gate array are the gates. -/
theorem gates_eq (c : Dev nD) (x : S16384x48.Idx → EReal)
    (hx : ∀ (r : Fin 16384) (d : Fin 48), x (ix2 r d) = stacked (gateOf m c) r (Fin.castLE (by decide) d : Fin 128)) : x = gates m c := by
  funext i
  rw [eq_ix2 i]
  refine (hx (i 0) (i 1)).trans ?_
  have h0 : (i 0).val < 16384 := (i 0).isLt
  unfold stacked
  refine (gate_val m c ((i 0).val / 1024) (by omega) ⟨(i 0).val % 1024, by omega⟩ (Fin.castLE (by decide) (i 1)) (i 1).isLt).trans ?_
  exact congrArg (fun z => gated (column (argH m c) (argG m c) (argW m c) z (5120 + (i 1).val)))
    (Fin.ext (by show 1024 * ((i 0).val / 1024) + (i 0).val % 1024 = (i 0).val; omega))

/-- The arrays' windows have arrays of their own. -/
theorem arrays_inj : Function.Injective (Pipeline.arrRef spec0) := by decide

/-- The projection's array as the host finds it. -/
theorem found6 (c : Dev nD) : (Pipeline.withArrays (cfgs 0).spec c (V0 m c) (fun w => (dats m 0 c).arrAt w (cfgs 0).N) (Proc.tc.devRef main_v39_0)
    : S16384x5120.Idx → EReal) = G6 m c :=
  (Pipeline.withArrays_arr spec0 arrays_inj c (V0 m c) (fun w => (dats m 0 c).arrAt w (cfgs 0).N) 6).trans (final6 m c)

/-- The gate array as the host finds it. -/
theorem found7 (c : Dev nD) : (Pipeline.withArrays (cfgs 0).spec c (V0 m c) (fun w => (dats m 0 c).arrAt w (cfgs 0).N) (Proc.tc.devRef main_v39_1)
    : S16384x128.Idx → EReal) = G7 m c :=
  (Pipeline.withArrays_arr spec0 arrays_inj c (V0 m c) (fun w => (dats m 0 c).arrAt w (cfgs 0).N) 7).trans (final7 m c)

/-- The queries. -/
theorem W40 (c : Dev nD) : Pipeline.afterTail₀ cfgs (dats m) 0 (V0 m) [hostOps1] c main_v40 = queries m c := by
  unfold Pipeline.afterTail₀
  simp only [hostOps1, List.flatten_cons, List.flatten_nil, List.append_nil]
  after_results
  rw [found6 m c]
  funext i
  rw [eq_ix2 i]
  have h1 : (i 1).val < 2048 := (i 1).isLt
  refine Eq.trans (b := G6 m c (ix2 (i 0) (⟨0 + (i 1).val, by omega⟩ : Fin 5120))) ?_ (G6_at m c (i 0) _ ((i 1).val / 1024) ⟨(i 1).val % 1024, by omega⟩ (by show 0 + (i 1).val = (i 1).val / 1024 * 1024 + (i 1).val % 1024; omega))
  generalize G6 m c = x
  pointwise
  done

/-- The keys and values for the compression. -/
theorem W41 (c : Dev nD) : Pipeline.afterTail₀ cfgs (dats m) 0 (V0 m) [hostOps1] c main_v41 = beside m c := by
  unfold Pipeline.afterTail₀
  simp only [hostOps1, List.flatten_cons, List.flatten_nil, List.append_nil]
  after_results
  rw [found6 m c]
  funext i
  rw [eq_ix2 i]
  have h1 : (i 1).val < 1024 := (i 1).isLt
  refine Eq.trans (b := G6 m c (ix2 (i 0) (⟨2048 + (i 1).val, by omega⟩ : Fin 5120))) ?_ (G6_at m c (i 0) _ 2 (i 1) rfl)
  generalize G6 m c = x
  pointwise
  done

/-- The selected attention's keys. -/
theorem W42 (c : Dev nD) : Pipeline.afterTail₀ cfgs (dats m) 0 (V0 m) [hostOps1] c main_v42 = left m c 3 := by
  unfold Pipeline.afterTail₀
  simp only [hostOps1, List.flatten_cons, List.flatten_nil, List.append_nil]
  after_results
  rw [found6 m c]
  refine left_eq m c 3 3072 _ (by decide) (by decide) (fun r n h => ?_)
  generalize G6 m c = x
  pointwise
  done

/-- The window's keys. -/
theorem W43 (c : Dev nD) : Pipeline.afterTail₀ cfgs (dats m) 0 (V0 m) [hostOps1] c main_v43 = right m c 3 := by
  unfold Pipeline.afterTail₀
  simp only [hostOps1, List.flatten_cons, List.flatten_nil, List.append_nil]
  after_results
  rw [found6 m c]
  refine right_eq m c 3 3584 _ (by decide) (by decide) (fun r n h => ?_)
  generalize G6 m c = x
  pointwise
  done

/-- The selected attention's values. -/
theorem W44 (c : Dev nD) : Pipeline.afterTail₀ cfgs (dats m) 0 (V0 m) [hostOps1] c main_v44 = left m c 4 := by
  unfold Pipeline.afterTail₀
  simp only [hostOps1, List.flatten_cons, List.flatten_nil, List.append_nil]
  after_results
  rw [found6 m c]
  refine left_eq m c 4 4096 _ (by decide) (by decide) (fun r n h => ?_)
  generalize G6 m c = x
  pointwise
  done

/-- The window's values. -/
theorem W45 (c : Dev nD) : Pipeline.afterTail₀ cfgs (dats m) 0 (V0 m) [hostOps1] c main_v45 = right m c 4 := by
  unfold Pipeline.afterTail₀
  simp only [hostOps1, List.flatten_cons, List.flatten_nil, List.append_nil]
  after_results
  rw [found6 m c]
  refine right_eq m c 4 4608 _ (by decide) (by decide) (fun r n h => ?_)
  generalize G6 m c = x
  pointwise
  done

/-- The gates. -/
theorem W46 (c : Dev nD) : Pipeline.afterTail₀ cfgs (dats m) 0 (V0 m) [hostOps1] c main_v46 = gates m c := by
  unfold Pipeline.afterTail₀
  simp only [hostOps1, List.flatten_cons, List.flatten_nil, List.append_nil]
  after_results
  rw [found7 m c]
  refine gates_eq m c _ (fun r d => ?_)
  unfold G7
  generalize gateOf m c = x
  pointwise
  exact congrArg (stacked x r) (Fin.ext rfl)

end Cert.Kernel6Ideal.Proj
-- ==== Proof.OddRef.lean ====
/-
  The odd projection: what its reference computes, element by element.
-/
module

public import proofs.«01_k».proof.Proof.OddIdeal.Values
public import proofs.«01_k».proof.Proof.Gen.Reference6Ideal.Read

@[expose] public section

noncomputable section

open Idealize.ShloMosaic Idealize.ShloMosaic.TcCoe Idealize.SL.Sem

namespace Cert.Reference6Ideal.Proj

open Cert.Reference6Ideal Cert.Reference6Ideal.Gen Cert.Reference6Ideal.Read
open Cert.Kernel5Ideal.Proj (headNorm rotate gated angle rinvRow rinvHead)
open Cert.Kernel6Ideal.Proj (column)

variable (H : (⟨S16384x2048, .f32⟩ : BufTy).Contents (Elt Ideal)) (g : (⟨S2048, .f32⟩ : BufTy).Contents (Elt Ideal))
  (W : (⟨S1x2048x5168, .f32⟩ : BufTy).Contents (Elt Ideal))

/-- The normalised hidden state of the reference. -/
theorem v12_apply (r : Fin 16384) (k : Fin 2048) : val_main_v12 (F := Ideal) H g (ix2 r k) = Cert.Kernel5Ideal.Proj.hidden H g r k := by
  unfold val_main_v12 val_main_v11 val_main_v10 val_main_v9 val_main_v8 val_main_v7 val_main_v6 val_main_v5 val_main_v4 val_main_v3
    val_main_v2 val_main_v1 val_main_v0 val_main_cst val_main_cst_0 val_main_cst_1 Cert.Kernel5Ideal.Proj.hidden rinvRow
  pointwise

/-- The projection of the reference. -/
theorem v14_apply (r : Fin 16384) (n : Fin 5168) : val_main_v14 (F := Ideal) H g W (ix2 r n) = column H g W r n.val := by
  unfold val_main_v14 val_main_v13 column
  pointwise
  refine Finset.sum_congr rfl fun k _ => ?_
  rw [v12_apply, show Fin.ofNat 5168 n.val = n from Fin.ext (Nat.mod_eq_of_lt n.isLt)]

/-! ## The eight pieces of the projection -/

theorem v15_apply (r : Fin 16384) (n : Fin 2048) : val_main_v15 (F := Ideal) H g W (ix2 r n) = column H g W r (0 + n.val) := by
  refine Eq.trans (b := val_main_v14 (F := Ideal) H g W (ix2 r (⟨0 + n.val, by omega⟩ : Fin 5168))) ?_ (v14_apply H g W r _)
  unfold val_main_v15
  generalize val_main_v14 (F := Ideal) H g W = x
  pointwise
  done

theorem v16_apply (r : Fin 16384) (n : Fin 512) : val_main_v16 (F := Ideal) H g W (ix2 r n) = column H g W r (2048 + n.val) := by
  refine Eq.trans (b := val_main_v14 (F := Ideal) H g W (ix2 r (⟨2048 + n.val, by omega⟩ : Fin 5168))) ?_ (v14_apply H g W r _)
  unfold val_main_v16
  generalize val_main_v14 (F := Ideal) H g W = x
  pointwise
  done

theorem v17_apply (r : Fin 16384) (n : Fin 512) : val_main_v17 (F := Ideal) H g W (ix2 r n) = column H g W r (2560 + n.val) := by
  refine Eq.trans (b := val_main_v14 (F := Ideal) H g W (ix2 r (⟨2560 + n.val, by omega⟩ : Fin 5168))) ?_ (v14_apply H g W r _)
  unfold val_main_v17
  generalize val_main_v14 (F := Ideal) H g W = x
  pointwise
  done

theorem v18_apply (r : Fin 16384) (n : Fin 512) : val_main_v18 (F := Ideal) H g W (ix2 r n) = column H g W r (3072 + n.val) := by
  refine Eq.trans (b := val_main_v14 (F := Ideal) H g W (ix2 r (⟨3072 + n.val, by omega⟩ : Fin 5168))) ?_ (v14_apply H g W r _)
  unfold val_main_v18
  generalize val_main_v14 (F := Ideal) H g W = x
  pointwise
  done

theorem v19_apply (r : Fin 16384) (n : Fin 512) : val_main_v19 (F := Ideal) H g W (ix2 r n) = column H g W r (3584 + n.val) := by
  refine Eq.trans (b := val_main_v14 (F := Ideal) H g W (ix2 r (⟨3584 + n.val, by omega⟩ : Fin 5168))) ?_ (v14_apply H g W r _)
  unfold val_main_v19
  generalize val_main_v14 (F := Ideal) H g W = x
  pointwise
  done

theorem v20_apply (r : Fin 16384) (n : Fin 512) : val_main_v20 (F := Ideal) H g W (ix2 r n) = column H g W r (4096 + n.val) := by
  refine Eq.trans (b := val_main_v14 (F := Ideal) H g W (ix2 r (⟨4096 + n.val, by omega⟩ : Fin 5168))) ?_ (v14_apply H g W r _)
  unfold val_main_v20
  generalize val_main_v14 (F := Ideal) H g W = x
  pointwise
  done

theorem v21_apply (r : Fin 16384) (n : Fin 512) : val_main_v21 (F := Ideal) H g W (ix2 r n) = column H g W r (4608 + n.val) := by
  refine Eq.trans (b := val_main_v14 (F := Ideal) H g W (ix2 r (⟨4608 + n.val, by omega⟩ : Fin 5168))) ?_ (v14_apply H g W r _)
  unfold val_main_v21
  generalize val_main_v14 (F := Ideal) H g W = x
  pointwise
  done

theorem v22_apply (r : Fin 16384) (n : Fin 48) : val_main_v22 (F := Ideal) H g W (ix2 r n) = column H g W r (5120 + n.val) := by
  refine Eq.trans (b := val_main_v14 (F := Ideal) H g W (ix2 r (⟨5120 + n.val, by omega⟩ : Fin 5168))) ?_ (v14_apply H g W r _)
  unfold val_main_v22
  generalize val_main_v14 (F := Ideal) H g W = x
  pointwise
  done

/-! ## Tokens of 16 heads -/

/-- Splitting 16384 rows of 2048 into 4 times 4096 rows of 16 heads of 128. -/
theorem split16_apply (x : Vec Ideal S16384x2048 .f32) (b : Fin 4) (s : Fin 4096) (h : Fin 16) (d : Fin 128) :
    shapeCast S4x4096x16x128 x shapeCasts_S16384x2048_S4x4096x16x128 (ix4 b s h d)
      = x (ix2 (⟨b.val * 4096 + s.val, by omega⟩ : Fin 16384) (⟨h.val * 128 + d.val, by omega⟩ : Fin 2048)) :=
  shapeCast_apply x shapeCasts_S16384x2048_S4x4096x16x128 _ _ (by
    rewrite [Shape.rowMajor_val_two, Shape.rowMajor_val_four]
    show (b.val * 4096 + s.val) * 2048 + (h.val * 128 + d.val) = ((b.val * 4096 + s.val) * 16 + h.val) * 128 + d.val
    omega)

/-- Joining them again. -/
theorem join16_apply (x : Vec Ideal S4x4096x16x128 .f32) (r : Fin 16384) (n : Fin 2048) :
    shapeCast S16384x2048 x shapeCasts_S4x4096x16x128_S16384x2048 (ix2 r n)
      = x (ix4 (⟨r.val / 4096, by omega⟩ : Fin 4) (⟨r.val % 4096, by omega⟩ : Fin 4096) (⟨n.val / 128, by omega⟩ : Fin 16) (⟨n.val % 128, by omega⟩ : Fin 128)) :=
  shapeCast_apply x shapeCasts_S4x4096x16x128_S16384x2048 _ _ (by
    rewrite [Shape.rowMajor_val_two, Shape.rowMajor_val_four]
    show ((r.val / 4096 * 4096 + r.val % 4096) * 16 + n.val / 128) * 128 + n.val % 128 = r.val * 2048 + n.val
    omega)

/-- The head norm as the reference writes it. -/
def normStage16 (x : FVec Ideal S4x4096x16x128 .f32) (g : FVec Ideal S1x128 .f32) : FVec Ideal S4x4096x16x128 .f32 :=
  mulf (mulf x (broadcastInDim S4x4096x16x128 ![0, 1, 2, 3] bcast_S4x4096x16x1_S4x4096x16x128_0_1_2_3
      (Host.rsqrt (addf (Host.divf (broadcastInDim S4x4096x16x1 ![0, 1, 2] bcast_S4x4096x16_S4x4096x16x1_0_1_2
        (Host.reduceAdd (mulf x x) (constant S_ .f32 0x00000000#32) reducesTo_S4x4096x16x128_S4x4096x16_d3 h_S_))
        (broadcastInDim S4x4096x16x1 ![] bcast_S_S4x4096x16x1 (constant S_ .f32 0x43000000#32)))
        (broadcastInDim S4x4096x16x1 ![] bcast_S_S4x4096x16x1 (constant S_ .f32 0x358637BD#32))))))
    (broadcastInDim S4x4096x16x128 ![0, 1, 2, 3] bcast_S1x1x1x128_S4x4096x16x128_0_1_2_3
      (broadcastInDim S1x1x1x128 ![3] bcast_S128_S1x1x1x128_3 (shapeCast _ g shapeCasts_S1x128_S128)))

/-- The head norm read at an element. -/
theorem norm16_apply (x : FVec Ideal S4x4096x16x128 .f32) (g : FVec Ideal S1x128 .f32) (b : Fin 4) (s : Fin 4096) (h : Fin 16) (d : Fin 128) :
    normStage16 x g (ix4 b s h d) = x (ix4 b s h d) * rinvHead (fun e => x (ix4 b s h e)) * g (ix2 0 d) := by
  unfold normStage16 rinvHead
  pointwise

/-- A normalised head, seen as one of eight heads `y` of a column block. -/
theorem norm16_head (x : FVec Ideal S4x4096x16x128 .f32) (g : FVec Ideal S1x128 .f32) (b : Fin 4) (s : Fin 4096) (h : Fin 16) (p : Fin 1024)
    (y : Fin 1024 → EReal) (hy : ∀ e : Fin 128, x (ix4 b s h e) = y ⟨p.val / 128 * 128 + e.val, by omega⟩) (d : Fin 128) :
    normStage16 x g (ix4 b s h d) = headNorm y g ⟨p.val / 128 * 128 + d.val, by omega⟩ := by
  rw [norm16_apply]
  unfold headNorm
  simp only [hy]
  refine congrArg₂ (· * ·) (congrArg₂ (· * ·) rfl (congrArg rinvHead (funext fun e => congrArg y (Fin.ext ?_)))) (congrArg (fun z => g (ix2 0 z)) (Fin.ext ?_))
  · show p.val / 128 * 128 + e.val = (p.val / 128 * 128 + d.val) / 128 * 128 + e.val; omega
  · show d.val = (p.val / 128 * 128 + d.val) % 128; omega

/-- An angle table spread over batch and heads, as the reference writes it. -/
def spread16 (C : FVec Ideal S4096x16 .f32) : FVec Ideal S4x4096x16x16 .f32 :=
  broadcastInDim S4x4096x16x16 ![0, 1, 2, 3] bcast_S1x4096x1x16_S4x4096x16x16_0_1_2_3
    (broadcastInDim S1x4096x1x16 ![1, 2, 3] bcast_S4096x1x16_S1x4096x1x16_1_2_3 (broadcastInDim S4096x1x16 ![0, 2] bcast_S4096x16_S4096x1x16_0_2 C))

theorem spread16_apply (C : FVec Ideal S4096x16 .f32) (b : Fin 4) (s : Fin 4096) (h : Fin 16) (d : Fin 16) : spread16 C (ix4 b s h d) = C (ix2 s d) := by
  unfold spread16
  pointwise
  done

/-- The turn as the reference writes it. -/
def turnStage16 (x : FVec Ideal S4x4096x16x128 .f32) (C S : FVec Ideal S4096x16 .f32) : FVec Ideal S4x4096x16x128 .f32 :=
  concatenate S4x4096x16x128 3 [⟨S4x4096x16x16, (subf
      (mulf (extractStridedSlice S4x4096x16x16 ![0, 0, 0, 0] x slices_S4x4096x16x128_S4x4096x16x16_0_0_0_0) (spread16 C))
      (mulf (extractStridedSlice S4x4096x16x16 ![0, 0, 0, 16] x slices_S4x4096x16x128_S4x4096x16x16_0_0_0_16) (spread16 S)) : FVec Ideal S4x4096x16x16 .f32)⟩,
      ⟨S4x4096x16x16, (addf
      (mulf (extractStridedSlice S4x4096x16x16 ![0, 0, 0, 16] x slices_S4x4096x16x128_S4x4096x16x16_0_0_0_16) (spread16 C))
      (mulf (extractStridedSlice S4x4096x16x16 ![0, 0, 0, 0] x slices_S4x4096x16x128_S4x4096x16x16_0_0_0_0) (spread16 S)) : FVec Ideal S4x4096x16x16 .f32)⟩,
      ⟨S4x4096x16x96, (extractStridedSlice S4x4096x16x96 ![0, 0, 0, 32] x slices_S4x4096x16x128_S4x4096x16x96_0_0_0_32 : FVec Ideal S4x4096x16x96 .f32)⟩]
      concatenates_S4x4096x16x16_S4x4096x16x16_S4x4096x16x96_S4x4096x16x128_d3

/-- The turn read at an element of a head that is one of the eight of `y`. -/
theorem turn16_apply (x : FVec Ideal S4x4096x16x128 .f32) (C S : FVec Ideal S4096x16 .f32) (b : Fin 4) (s : Fin 4096) (h : Fin 16) (p : Fin 1024)
    (y : Fin 1024 → EReal) (hy : ∀ e : Fin 128, x (ix4 b s h e) = y ⟨p.val / 128 * 128 + e.val, by omega⟩) :
    turnStage16 x C S (ix4 b s h (⟨p.val % 128, by omega⟩ : Fin 128)) = rotate y (fun d => C (ix2 s d)) (fun d => S (ix2 s d)) p := by
  have hp := p.isLt
  have key : ∀ (k : Fin 128) (q : Fin 1024), q.val = p.val / 128 * 128 + k.val → x (ix4 b s h k) = y q := fun k q e =>
    (hy k).trans (congrArg y (Fin.ext e.symm))
  unfold turnStage16
  pointwise
  unfold rotate
  by_cases h1 : p.val % 128 < 16
  · rw [dif_pos h1, dif_pos h1, spread16_apply, spread16_apply]
    refine congrArg₂ (· - ·) (congrArg₂ (· * ·) (key _ _ ?_) rfl) (congrArg₂ (· * ·) (key _ _ ?_) rfl)
    · show p.val = p.val / 128 * 128 + p.val % 128; omega
    · show p.val + 16 = p.val / 128 * 128 + (16 + p.val % 128); omega
  · rw [dif_neg h1, dif_neg h1]
    by_cases h2 : p.val % 128 < 32
    · rw [dif_pos (by omega), dif_pos h2, spread16_apply, spread16_apply]
      refine congrArg₂ (· + ·) (congrArg₂ (· * ·) (key _ _ ?_) rfl) (congrArg₂ (· * ·) (key _ _ ?_) rfl)
      · show p.val = p.val / 128 * 128 + (16 + (p.val % 128 - 16)); omega
      · show p.val - 16 = p.val / 128 * 128 + (p.val % 128 - 16); omega
    · rw [dif_neg (by omega), dif_neg h2]
      refine key _ _ ?_
      show p.val = p.val / 128 * 128 + (32 + (p.val % 128 - 16 - 16)); omega

/-- The whole way of a piece through split, norm, turn and join: each head is one of the eight of `y`. -/
theorem path16 (x : FVec Ideal S16384x2048 .f32) (g : FVec Ideal S1x128 .f32) (C S : FVec Ideal S4096x16 .f32) (r : Fin 16384) (n : Fin 2048) (p : Fin 1024)
    (y : Fin 1024 → EReal) (hp : p.val % 128 = n.val % 128)
    (hy : ∀ e : Fin 128, x (ix2 r (⟨n.val / 128 * 128 + e.val, by omega⟩ : Fin 2048)) = y ⟨p.val / 128 * 128 + e.val, by omega⟩) :
    shapeCast S16384x2048 (turnStage16 (normStage16 (shapeCast S4x4096x16x128 x shapeCasts_S16384x2048_S4x4096x16x128) g) C S) shapeCasts_S4x4096x16x128_S16384x2048 (ix2 r n)
      = rotate (headNorm y g) (angle C r) (angle S r) p := by
  rw [join16_apply, show (⟨n.val % 128, by omega⟩ : Fin 128) = ⟨p.val % 128, by omega⟩ from Fin.ext hp.symm]
  refine turn16_apply _ C S _ _ _ p (headNorm y g) fun e => norm16_head _ g _ _ _ p y (fun e' => ?_) e
  refine (split16_apply x _ _ _ _).trans (Eq.trans (congrArg (fun z => x (ix2 z _)) (Fin.ext ?_)) (hy e'))
  show r.val / 4096 * 4096 + r.val % 4096 = r.val; omega

/-! ## Tokens of four heads -/

/-- Splitting 16384 rows of 512 into 4 times 4096 rows of four heads of 128. -/
theorem split4_apply (x : Vec Ideal S16384x512 .f32) (b : Fin 4) (s : Fin 4096) (h : Fin 4) (d : Fin 128) :
    shapeCast S4x4096x4x128 x shapeCasts_S16384x512_S4x4096x4x128 (ix4 b s h d)
      = x (ix2 (⟨b.val * 4096 + s.val, by omega⟩ : Fin 16384) (⟨h.val * 128 + d.val, by omega⟩ : Fin 512)) :=
  shapeCast_apply x shapeCasts_S16384x512_S4x4096x4x128 _ _ (by
    rewrite [Shape.rowMajor_val_two, Shape.rowMajor_val_four]
    show (b.val * 4096 + s.val) * 512 + (h.val * 128 + d.val) = ((b.val * 4096 + s.val) * 4 + h.val) * 128 + d.val
    omega)

/-- Joining them again. -/
theorem join4_apply (x : Vec Ideal S4x4096x4x128 .f32) (r : Fin 16384) (n : Fin 512) :
    shapeCast S16384x512 x shapeCasts_S4x4096x4x128_S16384x512 (ix2 r n)
      = x (ix4 (⟨r.val / 4096, by omega⟩ : Fin 4) (⟨r.val % 4096, by omega⟩ : Fin 4096) (⟨n.val / 128, by omega⟩ : Fin 4) (⟨n.val % 128, by omega⟩ : Fin 128)) :=
  shapeCast_apply x shapeCasts_S4x4096x4x128_S16384x512 _ _ (by
    rewrite [Shape.rowMajor_val_two, Shape.rowMajor_val_four]
    show ((r.val / 4096 * 4096 + r.val % 4096) * 4 + n.val / 128) * 128 + n.val % 128 = r.val * 512 + n.val
    omega)

/-- The head norm as the reference writes it. -/
def normStage4 (x : FVec Ideal S4x4096x4x128 .f32) (g : FVec Ideal S1x128 .f32) : FVec Ideal S4x4096x4x128 .f32 :=
  mulf (mulf x (broadcastInDim S4x4096x4x128 ![0, 1, 2, 3] bcast_S4x4096x4x1_S4x4096x4x128_0_1_2_3
      (Host.rsqrt (addf (Host.divf (broadcastInDim S4x4096x4x1 ![0, 1, 2] bcast_S4x4096x4_S4x4096x4x1_0_1_2
        (Host.reduceAdd (mulf x x) (constant S_ .f32 0x00000000#32) reducesTo_S4x4096x4x128_S4x4096x4_d3 h_S_))
        (broadcastInDim S4x4096x4x1 ![] bcast_S_S4x4096x4x1 (constant S_ .f32 0x43000000#32)))
        (broadcastInDim S4x4096x4x1 ![] bcast_S_S4x4096x4x1 (constant S_ .f32 0x358637BD#32))))))
    (broadcastInDim S4x4096x4x128 ![0, 1, 2, 3] bcast_S1x1x1x128_S4x4096x4x128_0_1_2_3
      (broadcastInDim S1x1x1x128 ![3] bcast_S128_S1x1x1x128_3 (shapeCast _ g shapeCasts_S1x128_S128)))

/-- The head norm read at an element. -/
theorem norm4_apply (x : FVec Ideal S4x4096x4x128 .f32) (g : FVec Ideal S1x128 .f32) (b : Fin 4) (s : Fin 4096) (h : Fin 4) (d : Fin 128) :
    normStage4 x g (ix4 b s h d) = x (ix4 b s h d) * rinvHead (fun e => x (ix4 b s h e)) * g (ix2 0 d) := by
  unfold normStage4 rinvHead
  pointwise

/-- A normalised head, seen as one of eight heads `y` of a column block. -/
theorem norm4_head (x : FVec Ideal S4x4096x4x128 .f32) (g : FVec Ideal S1x128 .f32) (b : Fin 4) (s : Fin 4096) (h : Fin 4) (p : Fin 1024)
    (y : Fin 1024 → EReal) (hy : ∀ e : Fin 128, x (ix4 b s h e) = y ⟨p.val / 128 * 128 + e.val, by omega⟩) (d : Fin 128) :
    normStage4 x g (ix4 b s h d) = headNorm y g ⟨p.val / 128 * 128 + d.val, by omega⟩ := by
  rw [norm4_apply]
  unfold headNorm
  simp only [hy]
  refine congrArg₂ (· * ·) (congrArg₂ (· * ·) rfl (congrArg rinvHead (funext fun e => congrArg y (Fin.ext ?_)))) (congrArg (fun z => g (ix2 0 z)) (Fin.ext ?_))
  · show p.val / 128 * 128 + e.val = (p.val / 128 * 128 + d.val) / 128 * 128 + e.val; omega
  · show d.val = (p.val / 128 * 128 + d.val) % 128; omega

/-- An angle table spread over batch and heads, as the reference writes it. -/
def spread4 (C : FVec Ideal S4096x16 .f32) : FVec Ideal S4x4096x4x16 .f32 :=
  broadcastInDim S4x4096x4x16 ![0, 1, 2, 3] bcast_S1x4096x1x16_S4x4096x4x16_0_1_2_3
    (broadcastInDim S1x4096x1x16 ![1, 2, 3] bcast_S4096x1x16_S1x4096x1x16_1_2_3 (broadcastInDim S4096x1x16 ![0, 2] bcast_S4096x16_S4096x1x16_0_2 C))

theorem spread4_apply (C : FVec Ideal S4096x16 .f32) (b : Fin 4) (s : Fin 4096) (h : Fin 4) (d : Fin 16) : spread4 C (ix4 b s h d) = C (ix2 s d) := by
  unfold spread4
  pointwise
  done

/-- The turn as the reference writes it. -/
def turnStage4 (x : FVec Ideal S4x4096x4x128 .f32) (C S : FVec Ideal S4096x16 .f32) : FVec Ideal S4x4096x4x128 .f32 :=
  concatenate S4x4096x4x128 3 [⟨S4x4096x4x16, (subf
      (mulf (extractStridedSlice S4x4096x4x16 ![0, 0, 0, 0] x slices_S4x4096x4x128_S4x4096x4x16_0_0_0_0) (spread4 C))
      (mulf (extractStridedSlice S4x4096x4x16 ![0, 0, 0, 16] x slices_S4x4096x4x128_S4x4096x4x16_0_0_0_16) (spread4 S)) : FVec Ideal S4x4096x4x16 .f32)⟩,
      ⟨S4x4096x4x16, (addf
      (mulf (extractStridedSlice S4x4096x4x16 ![0, 0, 0, 16] x slices_S4x4096x4x128_S4x4096x4x16_0_0_0_16) (spread4 C))
      (mulf (extractStridedSlice S4x4096x4x16 ![0, 0, 0, 0] x slices_S4x4096x4x128_S4x4096x4x16_0_0_0_0) (spread4 S)) : FVec Ideal S4x4096x4x16 .f32)⟩,
      ⟨S4x4096x4x96, (extractStridedSlice S4x4096x4x96 ![0, 0, 0, 32] x slices_S4x4096x4x128_S4x4096x4x96_0_0_0_32 : FVec Ideal S4x4096x4x96 .f32)⟩]
      concatenates_S4x4096x4x16_S4x4096x4x16_S4x4096x4x96_S4x4096x4x128_d3

/-- The turn read at an element of a head that is one of the eight of `y`. -/
theorem turn4_apply (x : FVec Ideal S4x4096x4x128 .f32) (C S : FVec Ideal S4096x16 .f32) (b : Fin 4) (s : Fin 4096) (h : Fin 4) (p : Fin 1024)
    (y : Fin 1024 → EReal) (hy : ∀ e : Fin 128, x (ix4 b s h e) = y ⟨p.val / 128 * 128 + e.val, by omega⟩) :
    turnStage4 x C S (ix4 b s h (⟨p.val % 128, by omega⟩ : Fin 128)) = rotate y (fun d => C (ix2 s d)) (fun d => S (ix2 s d)) p := by
  have hp := p.isLt
  have key : ∀ (k : Fin 128) (q : Fin 1024), q.val = p.val / 128 * 128 + k.val → x (ix4 b s h k) = y q := fun k q e =>
    (hy k).trans (congrArg y (Fin.ext e.symm))
  unfold turnStage4
  pointwise
  unfold rotate
  by_cases h1 : p.val % 128 < 16
  · rw [dif_pos h1, dif_pos h1, spread4_apply, spread4_apply]
    refine congrArg₂ (· - ·) (congrArg₂ (· * ·) (key _ _ ?_) rfl) (congrArg₂ (· * ·) (key _ _ ?_) rfl)
    · show p.val = p.val / 128 * 128 + p.val % 128; omega
    · show p.val + 16 = p.val / 128 * 128 + (16 + p.val % 128); omega
  · rw [dif_neg h1, dif_neg h1]
    by_cases h2 : p.val % 128 < 32
    · rw [dif_pos (by omega), dif_pos h2, spread4_apply, spread4_apply]
      refine congrArg₂ (· + ·) (congrArg₂ (· * ·) (key _ _ ?_) rfl) (congrArg₂ (· * ·) (key _ _ ?_) rfl)
      · show p.val = p.val / 128 * 128 + (16 + (p.val % 128 - 16)); omega
      · show p.val - 16 = p.val / 128 * 128 + (p.val % 128 - 16); omega
    · rw [dif_neg (by omega), dif_neg h2]
      refine key _ _ ?_
      show p.val = p.val / 128 * 128 + (32 + (p.val % 128 - 16 - 16)); omega

/-- The whole way of a piece through split, norm, turn and join: each head is one of the eight of `y`. -/
theorem path4 (x : FVec Ideal S16384x512 .f32) (g : FVec Ideal S1x128 .f32) (C S : FVec Ideal S4096x16 .f32) (r : Fin 16384) (n : Fin 512) (p : Fin 1024)
    (y : Fin 1024 → EReal) (hp : p.val % 128 = n.val % 128)
    (hy : ∀ e : Fin 128, x (ix2 r (⟨n.val / 128 * 128 + e.val, by omega⟩ : Fin 512)) = y ⟨p.val / 128 * 128 + e.val, by omega⟩) :
    shapeCast S16384x512 (turnStage4 (normStage4 (shapeCast S4x4096x4x128 x shapeCasts_S16384x512_S4x4096x4x128) g) C S) shapeCasts_S4x4096x4x128_S16384x512 (ix2 r n)
      = rotate (headNorm y g) (angle C r) (angle S r) p := by
  rw [join4_apply, show (⟨n.val % 128, by omega⟩ : Fin 128) = ⟨p.val % 128, by omega⟩ from Fin.ext hp.symm]
  refine turn4_apply _ C S _ _ _ p (headNorm y g) fun e => norm4_head _ g _ _ _ p y (fun e' => ?_) e
  refine (split4_apply x _ _ _ _).trans (Eq.trans (congrArg (fun z => x (ix2 z _)) (Fin.ext ?_)) (hy e'))
  show r.val / 4096 * 4096 + r.val % 4096 = r.val; omega

/-! ## The eight results -/

/-- The queries. -/
theorem v139_apply (x3 : FVec Ideal S1x128 .f32) (C S : FVec Ideal S4096x16 .f32) (r : Fin 16384) (n : Fin 2048) (p : Fin 1024)
    (y : Fin 1024 → EReal) (hp : p.val % 128 = n.val % 128)
    (hy : ∀ e : Fin 128, column H g W r (n.val / 128 * 128 + e.val) = y ⟨p.val / 128 * 128 + e.val, by omega⟩) :
    val_main_v139 (F := Ideal) H g W x3 C S (ix2 r n) = rotate (headNorm y x3) (angle C r) (angle S r) p :=
  path16 (val_main_v15 (F := Ideal) H g W) x3 C S r n p y hp fun e =>
    (v15_apply H g W r _).trans ((congrArg (column H g W r) (Nat.zero_add _)).trans (hy e))

/-- The keys and values for the compression, side by side. -/
theorem v141_apply (r : Fin 16384) (n : Fin 1024) : val_main_v141 (F := Ideal) H g W (ix2 r n) = column H g W r (2048 + n.val) := by
  have h16 := v16_apply H g W r
  have h17 := v17_apply H g W r
  unfold val_main_v141 val_main_v140
  generalize val_main_v16 (F := Ideal) H g W = x at h16 ⊢
  generalize val_main_v17 (F := Ideal) H g W = x' at h17 ⊢
  pointwise
  by_cases h : n.val < 512
  · rw [dif_pos h, h16]
  · rw [dif_neg h, h17]
    exact congrArg (column H g W r) (by show 2560 + (n.val - 512) = 2048 + n.val; omega)

/-- The selected attention's keys. -/
theorem v143_apply (x4 : FVec Ideal S1x128 .f32) (C S : FVec Ideal S4096x16 .f32) (r : Fin 16384) (n : Fin 512) (p : Fin 1024)
    (y : Fin 1024 → EReal) (hp : p.val % 128 = n.val % 128)
    (hy : ∀ e : Fin 128, column H g W r (3072 + (n.val / 128 * 128 + e.val)) = y ⟨p.val / 128 * 128 + e.val, by omega⟩) :
    val_main_v143 (F := Ideal) H g W x4 C S (ix2 r n) = rotate (headNorm y x4) (angle C r) (angle S r) p :=
  path4 (val_main_v18 (F := Ideal) H g W) x4 C S r n p y hp fun e => (v18_apply H g W r _).trans (hy e)

/-- The window's keys. -/
theorem v145_apply (x5 : FVec Ideal S1x128 .f32) (C S : FVec Ideal S4096x16 .f32) (r : Fin 16384) (n : Fin 512) (p : Fin 1024)
    (y : Fin 1024 → EReal) (hp : p.val % 128 = n.val % 128)
    (hy : ∀ e : Fin 128, column H g W r (4096 + (n.val / 128 * 128 + e.val)) = y ⟨p.val / 128 * 128 + e.val, by omega⟩) :
    val_main_v145 (F := Ideal) H g W x5 C S (ix2 r n) = rotate (headNorm y x5) (angle C r) (angle S r) p :=
  path4 (val_main_v20 (F := Ideal) H g W) x5 C S r n p y hp fun e => (v20_apply H g W r _).trans (hy e)

/-- The selected attention's values. -/
theorem v146_apply (r : Fin 16384) (n : Fin 512) : val_main_v146 (F := Ideal) H g W (ix2 r n) = column H g W r (3584 + n.val) :=
  v19_apply H g W r n

/-- The window's values. -/
theorem v147_apply (r : Fin 16384) (n : Fin 512) : val_main_v147 (F := Ideal) H g W (ix2 r n) = column H g W r (4608 + n.val) :=
  v21_apply H g W r n

/-- The gates. -/
theorem v129_apply (r : Fin 16384) (d : Fin 48) : val_main_v129 (F := Ideal) H g W (ix2 r d) = gated (column H g W r (5120 + d.val)) := by
  unfold val_main_v129 val_main_v128 val_main_v127 val_main_v126 val_main_v125 val_main_v124 val_main_cst_11 val_main_cst_12 gated
  pointwise
  rw [v22_apply, zero_sub]

/-- Keys, head by head. -/
theorem v131_apply (b k : Fin 4) (s : Fin 4096) (d : Fin 128) :
    val_main_v131 (F := Ideal) H g W (ix4 b k s d) = column H g W ⟨4096 * b.val + s.val, by omega⟩ (2048 + (128 * k.val + d.val)) := by
  refine Eq.trans (b := val_main_v130 (F := Ideal) H g W (ix4 b s k d)) ?_ ?_
  · unfold val_main_v131
    generalize val_main_v130 (F := Ideal) H g W = x
    pointwise
    done
  refine (split4_apply (val_main_v16 (F := Ideal) H g W) b s k d).trans ((v16_apply H g W _ _).trans ?_)
  refine congrArg₂ (column H g W) (Fin.ext ?_) ?_
  · show b.val * 4096 + s.val = 4096 * b.val + s.val; omega
  · show 2048 + (k.val * 128 + d.val) = 2048 + (128 * k.val + d.val); omega

/-- Values, head by head. -/
theorem v133_apply (b k : Fin 4) (s : Fin 4096) (d : Fin 128) :
    val_main_v133 (F := Ideal) H g W (ix4 b k s d) = column H g W ⟨4096 * b.val + s.val, by omega⟩ (2560 + (128 * k.val + d.val)) := by
  refine Eq.trans (b := val_main_v132 (F := Ideal) H g W (ix4 b s k d)) ?_ ?_
  · unfold val_main_v133
    generalize val_main_v132 (F := Ideal) H g W = x
    pointwise
    done
  refine (split4_apply (val_main_v17 (F := Ideal) H g W) b s k d).trans ((v17_apply H g W _ _).trans ?_)
  refine congrArg₂ (column H g W) (Fin.ext ?_) ?_
  · show b.val * 4096 + s.val = 4096 * b.val + s.val; omega
  · show 2560 + (k.val * 128 + d.val) = 2560 + (128 * k.val + d.val); omega

/-- Keys and values, head by head, stacked. -/
theorem v137_apply (a : Fin 2) (b k : Fin 4) (s : Fin 4096) (d : Fin 128) :
    val_main_v137 (F := Ideal) H g W (ix5 a b k s d)
      = column H g W ⟨4096 * b.val + s.val, by omega⟩ (2048 + (512 * a.val + 128 * k.val + d.val)) := by
  have h1 := v131_apply H g W b k s d
  have h3 := v133_apply H g W b k s d
  unfold val_main_v137 val_main_v136 val_main_v135 val_main_v134
  generalize val_main_v131 (F := Ideal) H g W = x at h1 ⊢
  generalize val_main_v133 (F := Ideal) H g W = x' at h3 ⊢
  pointwise
  by_cases h : a.val < 1
  · rw [dif_pos h, h1]
    exact congrArg (column H g W _) (by omega)
  · rw [dif_neg h, h3]
    exact congrArg (column H g W _) (by omega)

end Cert.Reference6Ideal.Proj
-- ==== Proof.OddClaim.lean ====
/-
  The odd projection: the kernel's eight results are its reference's.
-/
module

public import proofs.«01_k».proof.Proof.OddIdeal.Array
public import proofs.«01_k».proof.Proof.OddRef
public import proofs.«01_k».proof.Defs
public import proofs.«01_k».proof.Proof.Gen.Reference6Ideal.Run

@[expose] public section

noncomputable section

open Idealize.ShloMosaic Idealize.ShloMosaic.TcCoe Idealize.SL.Sem

namespace Cert.OddClaim

open Cert.Kernel5Ideal.Proj (headNorm rotate angle)
open Cert.Kernel6Ideal.Proj (column place seg result twoNorm queries beside left right gates rawHead heads argH argG argW argQ argKs argKw argC argS)
open Cert.Reference6Ideal.Read Cert.Reference6Ideal.Proj

/-! ## Where the weight's columns stand -/

theorem place_low (k : ℕ) (h : k < 3584) : place k = k := by unfold place; rw [if_pos h]
theorem place_up (k : ℕ) (h : 3584 ≤ k) (h' : k < 4096) : place k = k + 512 := by unfold place; rw [if_neg (by omega), if_pos h']
theorem place_down (k : ℕ) (h : 4096 ≤ k) (h' : k < 4608) : place k = k - 512 := by
  unfold place; rw [if_neg (by omega), if_neg (by omega), if_pos h']
theorem place_high (k : ℕ) (h : 4608 ≤ k) : place k = k := by
  unfold place; rw [if_neg (by omega), if_neg (by omega), if_neg (by omega)]

/-- The turn of an entry reads its own head only. -/
theorem rotate_head (y y' : Fin 1024 → EReal) (cs sn : Fin 16 → EReal) (p : Fin 1024) (h : ∀ q : Fin 1024, q.val / 128 = p.val / 128 → y q = y' q) :
    rotate y cs sn p = rotate y' cs sn p := by
  have hp := p.isLt
  unfold rotate
  by_cases h1 : p.val % 128 < 16
  · rw [dif_pos h1, dif_pos h1, h p rfl, h ⟨p.val + 16, by omega⟩ (by show (p.val + 16) / 128 = p.val / 128; omega)]
  · rw [dif_neg h1, dif_neg h1]
    by_cases h2 : p.val % 128 < 32
    · rw [dif_pos h2, dif_pos h2, h p rfl, h ⟨p.val - 16, by omega⟩ (by show (p.val - 16) / 128 = p.val / 128; omega)]
    · rw [dif_neg h2, dif_neg h2, h p rfl]

variable (m : (ℓ : Loc Cert.Kernel6Ideal.nD Cert.Kernel6Ideal.τ Cert.Kernel6Ideal.sig) → Buf (Elt Ideal) ℓ) (c : Dev Cert.Kernel6Ideal.nD)

/-- The two blocks of queries. -/
theorem result_query (r : Fin 16384) (s : ℕ) (hs : s < 2) (p : Fin 1024) :
    result m c r s p = rotate (headNorm (seg m c s r) (argQ m c)) (angle (argC m c) r) (angle (argS m c) r) p := by
  interval_cases s
  · rfl
  · rfl

/-- The block of keys: the left half has the selected attention's gain. -/
theorem result_left (r : Fin 16384) (p : Fin 1024) (hp : p.val < 512) :
    result m c r 3 p = rotate (headNorm (seg m c 3 r) (argKs m c)) (angle (argC m c) r) (angle (argS m c) r) p := by
  refine rotate_head (twoNorm (seg m c 3 r) (argKs m c) (argKw m c)) _ _ _ p fun q hq => ?_
  have hlt : q.val < 512 := by omega
  unfold twoNorm
  rw [if_pos hlt]

/-- The right half has the window's gain. -/
theorem result_right (r : Fin 16384) (p : Fin 1024) (hp : 512 ≤ p.val) :
    result m c r 3 p = rotate (headNorm (seg m c 3 r) (argKw m c)) (angle (argC m c) r) (angle (argS m c) r) p := by
  refine rotate_head (twoNorm (seg m c 3 r) (argKs m c) (argKw m c)) _ _ _ p fun q hq => ?_
  have hge : ¬ q.val < 512 := by omega
  unfold twoNorm
  rw [if_neg hge]

/-! ## The eight equations -/

/-- The queries agree. -/
theorem eq0 : (queries m c : (⟨⟨2, ![16384, 2048]⟩, .bf16⟩ : BufTy).Contents (Elt Ideal))
    = val_main_v139 (F := Ideal) (argH m c) (argG m c) (argW m c) (argQ m c) (argC m c) (argS m c) := by
  funext i
  have h1 : (i 1).val < 2048 := (i 1).isLt
  rw [eq_ix2 i]
  refine (result_query m c (i 0) ((i 1).val / 1024) (by omega) ⟨(i 1).val % 1024, by omega⟩).trans ?_
  refine (v139_apply (argH m c) (argG m c) (argW m c) (argQ m c) (argC m c) (argS m c) (i 0) (i 1) ⟨(i 1).val % 1024, by omega⟩
    (seg m c ((i 1).val / 1024) (i 0)) (by show (i 1).val % 1024 % 128 = (i 1).val % 128; omega) fun e => ?_).symm
  refine congrArg (column (argH m c) (argG m c) (argW m c) (i 0)) (Eq.trans ?_ (place_low _ ?_).symm)
  · show (i 1).val / 128 * 128 + e.val = 1024 * ((i 1).val / 1024) + ((i 1).val % 1024 / 128 * 128 + e.val); omega
  · show 1024 * ((i 1).val / 1024) + ((i 1).val % 1024 / 128 * 128 + e.val) < 3584; omega

/-- The keys and values for the compression agree. -/
theorem eq1 : (beside m c : (⟨⟨2, ![16384, 1024]⟩, .bf16⟩ : BufTy).Contents (Elt Ideal))
    = val_main_v141 (F := Ideal) (argH m c) (argG m c) (argW m c) := by
  funext i
  have h1 : (i 1).val < 1024 := (i 1).isLt
  rw [eq_ix2 i]
  refine Eq.trans ?_ (v141_apply (argH m c) (argG m c) (argW m c) (i 0) (i 1)).symm
  exact congrArg (column (argH m c) (argG m c) (argW m c) (i 0)) (place_low _ (by show 1024 * 2 + (i 1).val < 3584; omega))

/-- The selected attention's keys agree. -/
theorem eq2 : (left m c 3 : (⟨⟨2, ![16384, 512]⟩, .bf16⟩ : BufTy).Contents (Elt Ideal))
    = val_main_v143 (F := Ideal) (argH m c) (argG m c) (argW m c) (argKs m c) (argC m c) (argS m c) := by
  funext i
  have h1 : (i 1).val < 512 := (i 1).isLt
  rw [eq_ix2 i]
  refine (result_left m c (i 0) ⟨(i 1).val, by omega⟩ h1).trans ?_
  refine (v143_apply (argH m c) (argG m c) (argW m c) (argKs m c) (argC m c) (argS m c) (i 0) (i 1) ⟨(i 1).val, by omega⟩
    (seg m c 3 (i 0)) rfl fun e => ?_).symm
  refine congrArg (column (argH m c) (argG m c) (argW m c) (i 0)) (Eq.trans ?_ (place_low _ ?_).symm)
  · show 3072 + ((i 1).val / 128 * 128 + e.val) = 1024 * 3 + ((i 1).val / 128 * 128 + e.val); omega
  · show 1024 * 3 + ((i 1).val / 128 * 128 + e.val) < 3584; omega

/-- The window's keys agree. -/
theorem eq3 : (right m c 3 : (⟨⟨2, ![16384, 512]⟩, .bf16⟩ : BufTy).Contents (Elt Ideal))
    = val_main_v145 (F := Ideal) (argH m c) (argG m c) (argW m c) (argKw m c) (argC m c) (argS m c) := by
  funext i
  have h1 : (i 1).val < 512 := (i 1).isLt
  rw [eq_ix2 i]
  refine (result_right m c (i 0) ⟨512 + (i 1).val, by omega⟩ (by show 512 ≤ 512 + (i 1).val; omega)).trans ?_
  refine (v145_apply (argH m c) (argG m c) (argW m c) (argKw m c) (argC m c) (argS m c) (i 0) (i 1) ⟨512 + (i 1).val, by omega⟩
    (seg m c 3 (i 0)) (by show (512 + (i 1).val) % 128 = (i 1).val % 128; omega) fun e => ?_).symm
  refine congrArg (column (argH m c) (argG m c) (argW m c) (i 0)) (Eq.trans ?_ (place_up _ ?_ ?_).symm)
  · show 4096 + ((i 1).val / 128 * 128 + e.val) = 1024 * 3 + ((512 + (i 1).val) / 128 * 128 + e.val) + 512; omega
  · show 3584 ≤ 1024 * 3 + ((512 + (i 1).val) / 128 * 128 + e.val); omega
  · show 1024 * 3 + ((512 + (i 1).val) / 128 * 128 + e.val) < 4096; omega

/-- The selected attention's values agree. -/
theorem eq4 : (left m c 4 : (⟨⟨2, ![16384, 512]⟩, .bf16⟩ : BufTy).Contents (Elt Ideal))
    = val_main_v146 (F := Ideal) (argH m c) (argG m c) (argW m c) := by
  funext i
  have h1 : (i 1).val < 512 := (i 1).isLt
  rw [eq_ix2 i]
  refine Eq.trans ?_ (v146_apply (argH m c) (argG m c) (argW m c) (i 0) (i 1)).symm
  refine congrArg (column (argH m c) (argG m c) (argW m c) (i 0)) ((place_down _ ?_ ?_).trans ?_)
  · show 4096 ≤ 1024 * 4 + (i 1).val; omega
  · show 1024 * 4 + (i 1).val < 4608; omega
  · show 1024 * 4 + (i 1).val - 512 = 3584 + (i 1).val; omega

/-- The window's values agree. -/
theorem eq5 : (right m c 4 : (⟨⟨2, ![16384, 512]⟩, .bf16⟩ : BufTy).Contents (Elt Ideal))
    = val_main_v147 (F := Ideal) (argH m c) (argG m c) (argW m c) := by
  funext i
  have h1 : (i 1).val < 512 := (i 1).isLt
  rw [eq_ix2 i]
  refine Eq.trans ?_ (v147_apply (argH m c) (argG m c) (argW m c) (i 0) (i 1)).symm
  refine congrArg (column (argH m c) (argG m c) (argW m c) (i 0)) ((place_high _ ?_).trans ?_)
  · show 4608 ≤ 1024 * 4 + (512 + (i 1).val); omega
  · show 1024 * 4 + (512 + (i 1).val) = 4608 + (i 1).val; omega

/-- The gates agree. -/
theorem eq6 : (gates m c : (⟨⟨2, ![16384, 48]⟩, .f32⟩ : BufTy).Contents (Elt Ideal))
    = val_main_v129 (F := Ideal) (argH m c) (argG m c) (argW m c) := by
  funext i
  rw [eq_ix2 i]
  exact (v129_apply (argH m c) (argG m c) (argW m c) (i 0) (i 1)).symm

/-- The keys and values agree, head by head. -/
theorem head_eq (a : Fin 2) (b k : Fin 4) (s : Fin 4096) (d : Fin 128) :
    rawHead m c a b k s d = val_main_v137 (F := Ideal) (argH m c) (argG m c) (argW m c) (ix5 a b k s d) := by
  refine Eq.trans ?_ (v137_apply (argH m c) (argG m c) (argW m c) a b k s d).symm
  unfold rawHead
  refine congrArg (column (argH m c) (argG m c) (argW m c) ⟨4096 * b.val + s.val, by omega⟩) ((place_low _ ?_).trans ?_)
  · show 1024 * 2 + (512 * a.val + 128 * k.val + d.val) < 3584; omega
  · show 1024 * 2 + (512 * a.val + 128 * k.val + d.val) = 2048 + (512 * a.val + 128 * k.val + d.val); omega

theorem eq7 : (heads m c : (⟨⟨5, ![2, 4, 4, 4096, 128]⟩, .bf16⟩ : BufTy).Contents (Elt Ideal))
    = val_main_v137 (F := Ideal) (argH m c) (argG m c) (argW m c) := by
  funext i
  refine (head_eq m c (i 0) (i 1) (i 2) (i 3) (i 4)).trans ?_
  exact congrArg (val_main_v137 (F := Ideal) (argH m c) (argG m c) (argW m c)) (eq_ix5 i).symm

end Cert.OddClaim

namespace Cert.Kernel6Ideal.Proj

open Cert.Kernel6Ideal Cert.Kernel6Ideal.Gen

/-- The kernel's run, its eight results named. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40) = queries m c
      ∧ r.2.mem ((c.tc : Thread nD τ).loc main_v41) = beside m c
      ∧ r.2.mem ((c.tc : Thread nD τ).loc main_v42) = left m c 3
      ∧ r.2.mem ((c.tc : Thread nD τ).loc main_v43) = right m c 3
      ∧ r.2.mem ((c.tc : Thread nD τ).loc main_v44) = left m c 4
      ∧ r.2.mem ((c.tc : Thread nD τ).loc main_v45) = right m c 4
      ∧ r.2.mem ((c.tc : Thread nD τ).loc main_v46) = gates m c
      ∧ r.2.mem ((c.tc : Thread nD τ).loc main_v39_2) = heads m c) :=
  (θ_run _ _ _).mono (fun r h c =>
    ⟨((h c).2 main_v40 (Pipeline.mem_restRefs_of main_v40 (by decide) (by decide))).trans (W40 m c),
     ((h c).2 main_v41 (Pipeline.mem_restRefs_of main_v41 (by decide) (by decide))).trans (W41 m c),
     ((h c).2 main_v42 (Pipeline.mem_restRefs_of main_v42 (by decide) (by decide))).trans (W42 m c),
     ((h c).2 main_v43 (Pipeline.mem_restRefs_of main_v43 (by decide) (by decide))).trans (W43 m c),
     ((h c).2 main_v44 (Pipeline.mem_restRefs_of main_v44 (by decide) (by decide))).trans (W44 m c),
     ((h c).2 main_v45 (Pipeline.mem_restRefs_of main_v45 (by decide) (by decide))).trans (W45 m c),
     ((h c).2 main_v46 (Pipeline.mem_restRefs_of main_v46 (by decide) (by decide))).trans (W46 m c),
     ((h c).1 8).trans ((final8 m c).trans (G8_heads m c))⟩) (run_main m ρ)

end Cert.Kernel6Ideal.Proj

namespace Cert.OddClaim

open Cert.Kernel6Ideal.Proj (queries beside left right gates heads)

/-- The projection and its reference end with equal results over the extended reals. -/
theorem algebraic : Cert.algebraic_Kernel6Ideal_Reference6Ideal (hKernel6Ideal := Cert.Kernel6Ideal.Gen.facts) (hReference6Ideal := Cert.Reference6Ideal.Gen.facts) := by
  intro m g m' g' hpre hagree
  refine ⟨fun c => queries m c, fun c => beside m c, fun c => left m c 3, fun c => right m c 3, fun c => left m c 4,
    fun c => right m c 4, fun c => gates m c, fun c => heads m c, ?_, ?_⟩
  · refine (θ_run _ _ _).mono (fun r h c => ?_) (θ_run_and (Cert.Kernel6Ideal.Proj.run_results m g) (Cert.Kernel6Ideal.Proj.proj_frame m g))
    obtain ⟨a0, a1, a2, a3, a4, a5, a6, a7⟩ := h.1 c
    exact ⟨a0, a1, a2, a3, a4, a5, a6, a7, h.2.1 c⟩
  refine (θ_run _ _ _).mono (fun r h c => ?_) (Cert.Reference6Ideal.Value.run m' g')
  obtain ⟨h0, h1, h2, h3, h4, h5, h6, h7⟩ := hagree c
  obtain ⟨a0, a1, a2, a3, a4, a5, a6, a7, k⟩ := h c
  refine ⟨(a0.trans (Cert.Reference6Ideal.Read.val_main_v139_eq ..)).trans ?_, (a1.trans (Cert.Reference6Ideal.Read.val_main_v141_eq ..)).trans ?_,
    (a2.trans (Cert.Reference6Ideal.Read.val_main_v143_eq ..)).trans ?_, (a3.trans (Cert.Reference6Ideal.Read.val_main_v145_eq ..)).trans ?_,
    (a4.trans (Cert.Reference6Ideal.Read.val_main_v146_eq ..)).trans ?_, (a5.trans (Cert.Reference6Ideal.Read.val_main_v147_eq ..)).trans ?_,
    (a6.trans (Cert.Reference6Ideal.Read.val_main_v129_eq ..)).trans ?_, (a7.trans (Cert.Reference6Ideal.Read.val_main_v137_eq ..)).trans ?_, k⟩
  · rw [h0, h1, h2, h3, h6, h7]; exact (eq0 m c).symm
  · rw [h0, h1, h2]; exact (eq1 m c).symm
  · rw [h0, h1, h2, h4, h6, h7]; exact (eq2 m c).symm
  · rw [h0, h1, h2, h5, h6, h7]; exact (eq3 m c).symm
  · rw [h0, h1, h2]; exact (eq4 m c).symm
  · rw [h0, h1, h2]; exact (eq5 m c).symm
  · rw [h0, h1, h2]; exact (eq6 m c).symm
  · rw [h0, h1, h2]; exact (eq7 m c).symm

/-- The projection's reference runs, keeps its arguments and leaves every counter at zero. -/
theorem quiescent : Cert.quiescent_Reference6Ideal (hReference6Ideal := Cert.Reference6Ideal.Gen.facts) := fun m g _ =>
  (θ_run _ _ _).mono (fun r h => ⟨fun c => (h c).2.2.2.2.2.2.2.2, sem_eq_zero_of_no_sems (by decide) r.2⟩) (Cert.Reference6Ideal.Value.run m g)

end Cert.OddClaim
-- ==== Proof.CmpBlock.lean ====
/-
  The compressed keys and values, one grid point: what the body leaves in the output block.
-/
module

public import proofs.«01_k».proof.Proof.Gen.Kernel7Ideal.Frame
public import Idealize.ShloMosaic.Lib.Pointwise

@[expose] public section

noncomputable section

open Idealize.ShloMosaic Idealize.ShloMosaic.TcCoe Idealize.SL.Sem

namespace Cert.Kernel7Ideal.Cmp

open Cert.Kernel7Ideal Cert.Kernel7Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Half of the position embedding, from entry `o`. -/
abbrev peHalf (w : Vec Ideal S1x1x4096 .f32) (o : Nat) (ho : o + 2048 ≤ 4096) : Vec Ideal S1x1x2048 .f32 :=
  fun j => w (ix3 0 0 ⟨o + (j 2).val, by have : (j 2).val < 2048 := (j 2).isLt; omega⟩)

/-- Half of the first weight, from row `o`. -/
abbrev w1Half (w : Vec Ideal S1x4096x128 .bf16) (o : Nat) (ho : o + 2048 ≤ 4096) : Vec Ideal S1x2048x128 .bf16 :=
  fun j => w (ix3 0 ⟨o + (j 1).val, by have : (j 1).val < 2048 := (j 1).isLt; omega⟩ (j 2))

/-- One of the three tables of angles. -/
abbrev tabOf (w : Vec Ideal S3x256x128 .f32) (o : Fin 3) : Vec Ideal S1x256x128 .f32 :=
  fun j => w (ix3 o (j 1) (j 2))

/-- A load of half the position embedding reads those entries. -/
theorem ld_pe (w : Vec Ideal S1x1x4096 .f32) (o : Nat) (ho : o + 2048 ≤ 4096)
    (inb : ∀ a, (![0, 0, o] : Fin 3 → Nat) a + S1x1x2048.size a ≤ S1x1x4096.size a) :
    View.ld (Val := Elt Ideal) w (Rect.unit (s := S1x1x4096) ![0, 0, o] S1x1x2048.size inb) = peHalf w o ho := by
  rw [View.ld_unit]
  funext j
  have h0 : (j 0).val < 1 := (j 0).isLt
  have h1 : (j 1).val < 1 := (j 1).isLt
  refine extractStridedSlice_apply _ _ _ j _ fun a => ?_
  match a with
  | ⟨0, _⟩ => show 0 = 0 + (j 0).val; omega
  | ⟨1, _⟩ => show 0 = 0 + (j 1).val; omega
  | ⟨2, _⟩ => rfl

/-- A load of half the first weight reads those rows. -/
theorem ld_w1 (w : Vec Ideal S1x4096x128 .bf16) (o : Nat) (ho : o + 2048 ≤ 4096)
    (inb : ∀ a, (![0, o, 0] : Fin 3 → Nat) a + S1x2048x128.size a ≤ S1x4096x128.size a) :
    View.ld (Val := Elt Ideal) w (Rect.unit (s := S1x4096x128) ![0, o, 0] S1x2048x128.size inb) = w1Half w o ho := by
  rw [View.ld_unit]
  funext j
  have h0 : (j 0).val < 1 := (j 0).isLt
  refine extractStridedSlice_apply _ _ _ j _ fun a => ?_
  match a with
  | ⟨0, _⟩ => show 0 = 0 + (j 0).val; omega
  | ⟨1, _⟩ => rfl
  | ⟨2, _⟩ => show (j 2).val = 0 + (j 2).val; omega

/-- A load of one table of angles reads that table. -/
theorem ld_tab (w : Vec Ideal S3x256x128 .f32) (o : Fin 3)
    (inb : ∀ a, (![o.val, 0, 0] : Fin 3 → Nat) a + S1x256x128.size a ≤ S3x256x128.size a) :
    View.ld (Val := Elt Ideal) w (Rect.unit (s := S3x256x128) ![o.val, 0, 0] S1x256x128.size inb) = tabOf w o := by
  rw [View.ld_unit]
  funext j
  have h0 : (j 0).val < 1 := (j 0).isLt
  refine extractStridedSlice_apply _ _ _ j _ fun a => ?_
  match a with
  | ⟨0, _⟩ => show o.val = o.val + (j 0).val; omega
  | ⟨1, _⟩ => show (j 1).val = 0 + (j 1).val; omega
  | ⟨2, _⟩ => show (j 2).val = 0 + (j 2).val; omega

section
variable (c : Dev nD) (i : grid0.Coords)
  (a2 : Memref sig .tc .vmem S1x1x256x2048 .bf16) (h2 : a2.IsWhole) (a3 : Memref sig .tc .vmem S1x1x4096 .f32) (h3 : a3.IsWhole)
  (a4 : Memref sig .tc .vmem S1x4096x128 .bf16) (h4 : a4.IsWhole) (a5 : Memref sig .tc .vmem S1x128x128 .bf16) (h5 : a5.IsWhole)
  (a6 : Memref sig .tc .vmem S1x128 .f32) (h6 : a6.IsWhole) (a7 : Memref sig .tc .vmem S3x256x128 .f32) (h7 : a7.IsWhole)
  (a8 : Memref sig .tc .vmem S1x1x256x128 .bf16) (h8 : a8.IsWhole)
  (x : Vec Ideal S1x1x256x2048 .bf16) (pe : Vec Ideal S1x1x4096 .f32) (w1 : Vec Ideal S1x4096x128 .bf16) (w2 : Vec Ideal S1x128x128 .bf16)
  (g : Vec Ideal S1x128 .f32) (tb : Vec Ideal S3x256x128 .f32)

/-- The hidden activations of a point. -/
abbrev act : FVec Ideal S256x128 .bf16 :=
  k0_pay4 x (peHalf pe 0 (by omega)) (peHalf pe 2048 (by omega)) (w1Half w1 0 (by omega)) (w1Half w1 2048 (by omega))

/-- A point of the keys. -/
theorem out_A (hc0 : cond0_0 i) (hc1 : ¬cond0_1 i) :
    out0_A_6 c i a2 h2 a3 h3 a4 h4 a5 h5 a6 h6 a7 h7 a8 h8 hc0 hc1 x pe w1 w2 g tb
      = k0_pay2 (act x pe w1) w2 g (tabOf tb 0) (tabOf tb 1) (tabOf tb 2) := by
  unfold out0_A_6
  rw [View.read_writes_eq_canon _ _ _ (cover0_A_6 c i a2 h2 a3 h3 a4 h4 a5 h5 a6 h6 a7 h7 a8 h8 hc0 hc1 x pe w1 w2 g tb)]
  unfold kernelRun0_A
  dsimp only
  sl_unfold_words
  rw [View.canon_unit_zero hz4]
  simp only [View.readAt_eq_ld, h2.read_unread, h3.read_unread, h4.read_unread, h5.read_unread, h6.read_unread, h7.read_unread,
    View.ld_unit_zero (S := S1x1x256x2048) hz4, View.ld_unit_zero (S := S1x128x128) hz3, View.ld_unit_zero (S := S1x128) hz2]
  rw [ld_pe pe 0, ld_pe pe 2048, ld_w1 w1 0, ld_w1 w1 2048]
  erw [ld_tab tb 0, ld_tab tb 1, ld_tab tb 2]

/-- A point of the values. -/
theorem out_B (hc0 : ¬cond0_0 i) (hc1 : cond0_1 i) :
    out0_B_6 c i a2 h2 a3 h3 a4 h4 a5 h5 a6 h6 a7 h7 a8 h8 hc0 hc1 x pe w1 w2 g tb = k0_pay3 (act x pe w1) w2 := by
  unfold out0_B_6
  rw [View.read_writes_eq_canon _ _ _ (cover0_B_6 c i a2 h2 a3 h3 a4 h4 a5 h5 a6 h6 a7 h7 a8 h8 hc0 hc1 x pe w1 w2 g tb)]
  unfold kernelRun0_B
  dsimp only
  sl_unfold_words
  rw [View.canon_unit_zero hz4]
  simp only [View.readAt_eq_ld, h2.read_unread, h3.read_unread, h4.read_unread, h5.read_unread,
    View.ld_unit_zero (S := S1x1x256x2048) hz4, View.ld_unit_zero (S := S1x128x128) hz3]
  rw [ld_pe pe 0, ld_pe pe 2048, ld_w1 w1 0, ld_w1 w1 2048]
end

/-! ## The payloads read at an element -/

/-- The smooth gate, in the tanh form the layer uses. -/
def gelu (z : EReal) : EReal :=
  z * (Ideal.ofBits .f32 0x3F000000#32 * (1
    + Ideal.tanh (Ideal.ofBits .f32 0x3F4C422A#32 * (z + Ideal.ofBits .f32 0x3D372713#32 * (z * z * z)))))

/-- The hidden activations: the gate of the sum of a row's product with the first half of the weight and the next row's with the second. -/
theorem act_apply (x : Vec Ideal S1x1x256x2048 .bf16) (p q : Vec Ideal S1x1x2048 .f32) (u v : Vec Ideal S1x2048x128 .bf16) (r : Fin 256) (n : Fin 128) :
    k0_pay4 x p q u v (ix2 r n) = gelu ((∑ k : Fin 2048, (x (ix4 0 0 r k) + p (ix3 0 0 k)) * u (ix3 0 k n))
      + ∑ k : Fin 2048, (x (ix4 0 0 (⟨(r.val + 1) % 256, by omega⟩ : Fin 256) k) + q (ix3 0 0 k)) * v (ix3 0 k n)) := by
  have e : ∀ h, (⟨(r.val + 256 - 255) % 256, h⟩ : Fin 256) = ⟨(r.val + 1) % 256, by omega⟩ := fun h => Fin.ext (by show (r.val + 256 - 255) % 256 = (r.val + 1) % 256; omega)
  unfold k0_pay4 gelu
  pointwise
  simp only [e]

/-- The second product. -/
theorem two_apply (h : FVec Ideal S256x128 .bf16) (w : Vec Ideal S1x128x128 .bf16) (r : Fin 256) (n : Fin 128) :
    k0_pay1 h w (ix2 r n) = ∑ k : Fin 128, h (ix2 r k) * w (ix3 0 k n) := by
  unfold k0_pay1
  pointwise

/-- A value is the second product. -/
theorem val_apply (h : FVec Ideal S256x128 .bf16) (w : Vec Ideal S1x128x128 .bf16) (r : Fin 256) (n : Fin 128) :
    k0_pay3 h w (ix4 0 0 r n) = k0_pay1 h w (ix2 r n) := by
  unfold k0_pay3
  pointwise

/-- A vector of 128 divided by its root mean square, and scaled by the gain. -/
def normed (y : Fin 128 → EReal) (g : Fin 128 → EReal) (n : Fin 128) : EReal :=
  y n * Ideal.rsqrt (Ideal.div (∑ x, y x * y x) (Ideal.ofBits .f32 0x43000000#32) + Ideal.ofBits .f32 0x358637BD#32) * g n

/-- A key is the normalised second product, turned by the three tables. -/
theorem key_apply (h : FVec Ideal S256x128 .bf16) (w : Vec Ideal S1x128x128 .bf16) (g : Vec Ideal S1x128 .f32) (t0 t1 t2 : Vec Ideal S1x256x128 .f32)
    (r : Fin 256) (n : Fin 128) :
    k0_pay2 h w g t0 t1 t2 (ix4 0 0 r n)
      = normed (fun e => k0_pay1 h w (ix2 r e)) (fun e => g (ix2 0 e)) n * t0 (ix3 0 r n)
        + normed (fun e => k0_pay1 h w (ix2 r e)) (fun e => g (ix2 0 e)) ⟨(n.val + 16) % 128, by omega⟩ * t1 (ix3 0 r n)
        + normed (fun e => k0_pay1 h w (ix2 r e)) (fun e => g (ix2 0 e)) ⟨(n.val + 112) % 128, by omega⟩ * t2 (ix3 0 r n) := by
  have e : ∀ h, (⟨(n.val + 128 - 112) % 128, h⟩ : Fin 128) = ⟨(n.val + 16) % 128, by omega⟩ := fun h => Fin.ext (by show (n.val + 128 - 112) % 128 = (n.val + 16) % 128; omega)
  have e' : ∀ h, (⟨(n.val + 128 - 16) % 128, h⟩ : Fin 128) = ⟨(n.val + 112) % 128, by omega⟩ := fun h => Fin.ext (by show (n.val + 128 - 16) % 128 = (n.val + 112) % 128; omega)
  unfold k0_pay2 normed
  generalize k0_pay1 h w = y
  pointwise
  simp only [e, e']

end Cert.Kernel7Ideal.Cmp
-- ==== Proof.CmpTables.lean ====
/-
  The compressed keys and values: the arrays the call gets, as functions of the arguments.
-/
module

public import proofs.«01_k».proof.Proof.Gen.Kernel7Ideal.Frame
public import proofs.«01_k».proof.Proof.ProjIdeal.Tables

@[expose] public section

noncomputable section

open Idealize.ShloMosaic Idealize.ShloMosaic.TcCoe Idealize.SL.Sem

namespace Cert.Kernel7Ideal.Cmp

open Cert.Kernel7Ideal Cert.Kernel7Ideal.Gen
open Cert.Kernel5Ideal.Proj (zero_word one_word)

variable (m : (ℓ : Loc nD τ sig) → Buf (Elt Ideal) ℓ)

/-- The arguments of the call. -/
abbrev argX (c : Dev nD) : S2x4x4x4096x128.Idx → EReal := m ((c : Thread nD τ).loc main_arg0)
abbrev argPk (c : Dev nD) : S1x32x128.Idx → EReal := m ((c : Thread nD τ).loc main_arg1)
abbrev argPv (c : Dev nD) : S1x32x128.Idx → EReal := m ((c : Thread nD τ).loc main_arg2)
abbrev argUk (c : Dev nD) : S1x4096x128.Idx → EReal := m ((c : Thread nD τ).loc main_arg3)
abbrev argUv (c : Dev nD) : S1x4096x128.Idx → EReal := m ((c : Thread nD τ).loc main_arg4)
abbrev argWk (c : Dev nD) : S1x128x128.Idx → EReal := m ((c : Thread nD τ).loc main_arg5)
abbrev argWv (c : Dev nD) : S1x128x128.Idx → EReal := m ((c : Thread nD τ).loc main_arg6)
abbrev argG (c : Dev nD) : S1x128.Idx → EReal := m ((c : Thread nD τ).loc main_arg7)
abbrev argC (c : Dev nD) : S255x16.Idx → EReal := m ((c : Thread nD τ).loc main_arg8)
abbrev argS (c : Dev nD) : S255x16.Idx → EReal := m ((c : Thread nD τ).loc main_arg9)

/-! ## The tables of the rotation -/

/-- A block of 16 columns written over a 256 × 128 table from column `k` on. -/
def put16 (k : BitVec 32) (x : S256x128.Idx → EReal) (u : S256x16.Idx → EReal) : S256x128.Idx → EReal :=
  Host.scatter scatter_S256x128_S1_S256x16_01_n_1_0 (fun _ b => b) x (broadcastInDim S1 ![] bcast_S_S1 (constantI S_ 32 k)) u

theorem put16_apply (k : BitVec 32) (n : ℕ) (hn : k.toInt = (n : Int)) (x : S256x128.Idx → EReal) (u : S256x16.Idx → EReal) (r : Fin 256) (c : Fin 128) :
    put16 k x u (ix2 r c) = if h : n ≤ c.val ∧ c.val < n + 16 then u (ix2 r ⟨c.val - n, by omega⟩) else x (ix2 r c) :=
  Cert.Place.cols (R := 256) (C := 128) (B := 16) scatter_S256x128_S1_S256x16_01_n_1_0 rfl rfl rfl rfl x _ u n hn r c

/-- A table filled with one number. -/
abbrev filled (w : BitVec 32) : S256x128.Idx → EReal := broadcastInDim S256x128 ![] bcast_S_S256x128 (constant (F := Ideal) S_ .f32 w)

theorem filled_apply (w : BitVec 32) (r : Fin 256) (d : Fin 128) : filled w (ix2 r d) = Ideal.ofBits .f32 w := by
  pointwise

/-- The angles' table with one row more. -/
def padded (x : S255x16.Idx → EReal) : S256x16.Idx → EReal :=
  pad S256x16 ![0, 0] ![1, 0] ![0, 0] x (sitofp (F := Ideal) .f32 (constantI S_ 32 0#32)) pads_S255x16_S256x16_010_000 h_S_

theorem padded_apply (x : S255x16.Idx → EReal) (r : Fin 256) (h : r.val < 255) (d : Fin 16) :
    padded x (ix2 r d) = x (ix2 ⟨r.val, h⟩ d) := by
  unfold padded
  pointwise
  rw [dif_pos h]

/-- The three tables, stacked. -/
def tabs (cs sn : S256x16.Idx → EReal) : S3x256x128.Idx → EReal :=
  concatenate S3x256x128 0
    [⟨S1x256x128, (broadcastInDim S1x256x128 ![1, 2] bcast_S256x128_S1x256x128_1_2 (put16 16#32 (put16 0#32 (filled 0x3F800000#32) cs) cs) : S1x256x128.Idx → EReal)⟩,
     ⟨S1x256x128, (broadcastInDim S1x256x128 ![1, 2] bcast_S256x128_S1x256x128_1_2 (put16 0#32 (filled 0x00000000#32) (Host.negf (F := Ideal) (φ := .f32) sn)) : S1x256x128.Idx → EReal)⟩,
     ⟨S1x256x128, (broadcastInDim S1x256x128 ![1, 2] bcast_S256x128_S1x256x128_1_2 (put16 16#32 (filled 0x00000000#32) sn) : S1x256x128.Idx → EReal)⟩]
    concatenates_S1x256x128_S1x256x128_S1x256x128_S3x256x128_d0

/-- The first table: the cosines in the first 32 lanes, one elsewhere. -/
theorem tabs0 (cs sn : S256x16.Idx → EReal) (r : Fin 256) (d : Fin 128) :
    tabs cs sn (ix3 0 r d) = if h : d.val < 32 then cs (ix2 r ⟨d.val % 16, by omega⟩) else 1 := by
  unfold tabs
  pointwise
  rw [put16_apply 16#32 16 (by decide), put16_apply 0#32 0 (by decide), filled_apply]
  by_cases h : d.val < 32
  · rw [dif_pos h]
    by_cases h' : 16 ≤ d.val
    · rw [dif_pos (by omega)]
      exact congrArg (fun y => cs (ix2 r y)) (Fin.ext (by show d.val - 16 = d.val % 16; omega))
    · rw [dif_neg (by omega), dif_pos (by omega)]
      exact congrArg (fun y => cs (ix2 r y)) (Fin.ext (by show d.val - 0 = d.val % 16; omega))
  · rw [dif_neg h, dif_neg (by omega), dif_neg (by omega)]
    exact one_word

/-- The second table: minus the sines in the first 16 lanes, zero elsewhere. -/
theorem tabs1 (cs sn : S256x16.Idx → EReal) (r : Fin 256) (d : Fin 128) :
    tabs cs sn (ix3 1 r d) = if h : d.val < 16 then -sn (ix2 r ⟨d.val, h⟩) else 0 := by
  unfold tabs
  pointwise
  rw [put16_apply 0#32 0 (by decide), filled_apply]
  by_cases h : d.val < 16
  · rw [dif_pos h, dif_pos (by omega)]
    rfl
  · rw [dif_neg h, dif_neg (by omega)]
    exact zero_word

/-- The third table: the sines in lanes 16 to 31, zero elsewhere. -/
theorem tabs2 (cs sn : S256x16.Idx → EReal) (r : Fin 256) (d : Fin 128) :
    tabs cs sn (ix3 2 r d) = if h : 16 ≤ d.val ∧ d.val < 32 then sn (ix2 r ⟨d.val - 16, by omega⟩) else 0 := by
  unfold tabs
  pointwise
  rw [put16_apply 16#32 16 (by decide), filled_apply]
  by_cases h : 16 ≤ d.val ∧ d.val < 32
  · rw [dif_pos h, dif_pos (by omega)]
  · rw [dif_neg h, dif_neg (by omega)]
    exact zero_word

/-! ## The arrays the call gets -/

/-- Equal parts joined are equal. -/
theorem three {a a' b b' c c' : S1x256x128.Idx → EReal} (h0 : a = a') (h1 : b = b') (h2 : c = c') :
    concatenate S3x256x128 0 [⟨S1x256x128, a⟩, ⟨S1x256x128, b⟩, ⟨S1x256x128, c⟩] concatenates_S1x256x128_S1x256x128_S1x256x128_S3x256x128_d0
      = concatenate S3x256x128 0 [⟨S1x256x128, a'⟩, ⟨S1x256x128, b'⟩, ⟨S1x256x128, c'⟩] concatenates_S1x256x128_S1x256x128_S1x256x128_S3x256x128_d0 := by
  rw [h0, h1, h2]

set_option maxRecDepth 100000 in
theorem V_tabs (c : Dev nD) : V m c main_v17 = tabs (padded (argC m c)) (padded (argS m c)) := by
  simp only [V, V0, hostOps0, hostOps0_1, hostOps0_2, hostOps0_3, hostOps0_4, List.flatten_cons, List.flatten_nil, List.append_nil, List.cons_append, List.nil_append]
  after_results
  refine three ?_ ?_ ?_
  · change (_ : Valuation τ sig (Elt Ideal)) (Proc.tc.devRef main_v14) = _
    after_results
    rfl
  · change (_ : Valuation τ sig (Elt Ideal)) (Proc.tc.devRef main_v15) = _
    after_results
    rfl
  · change (_ : Valuation τ sig (Elt Ideal)) (Proc.tc.devRef main_v16) = _
    after_results
    rfl

/-- The tokens, sixteen to a row. -/
def rowsOf (X : S2x4x4x4096x128.Idx → EReal) : S2x16x256x2048.Idx → EReal := shapeCast S2x16x256x2048 X shapeCasts_S2x4x4x4096x128_S2x16x256x2048

theorem rowsOf_apply (X : S2x4x4x4096x128.Idx → EReal) (a : Fin 2) (h : Fin 16) (r : Fin 256) (k : Fin 2048) :
    rowsOf X (ix4 a h r k) = X (ix5 a (⟨h.val / 4, by omega⟩ : Fin 4) (⟨h.val % 4, by omega⟩ : Fin 4) (⟨r.val * 16 + k.val / 128, by omega⟩ : Fin 4096) (⟨k.val % 128, by omega⟩ : Fin 128)) := by
  unfold rowsOf
  pointwise

/-- The two position embeddings, joined. -/
def pes (p q : S1x32x128.Idx → EReal) : S2x1x4096.Idx → EReal :=
  shapeCast S2x1x4096 (concatenate S2x32x128 0 [⟨S1x32x128, broadcastInDim S1x32x128 ![1, 2] bcast_S32x128_S1x32x128_1_2 (shapeCast S32x128 p shapeCasts_S1x32x128_S32x128)⟩,
    ⟨S1x32x128, broadcastInDim S1x32x128 ![1, 2] bcast_S32x128_S1x32x128_1_2 (shapeCast S32x128 q shapeCasts_S1x32x128_S32x128)⟩] concatenates_S1x32x128_S1x32x128_S2x32x128_d0)
    shapeCasts_S2x32x128_S2x1x4096

theorem pes0 (p q : S1x32x128.Idx → EReal) (k : Fin 4096) : pes p q (ix3 0 0 k) = p (ix3 0 (⟨k.val / 128, by omega⟩ : Fin 32) (⟨k.val % 128, by omega⟩ : Fin 128)) := by
  unfold pes
  pointwise

theorem pes1 (p q : S1x32x128.Idx → EReal) (k : Fin 4096) : pes p q (ix3 1 0 k) = q (ix3 0 (⟨k.val / 128, by omega⟩ : Fin 32) (⟨k.val % 128, by omega⟩ : Fin 128)) := by
  unfold pes
  pointwise

/-- The two first weights, joined. -/
def w1s (u v : S1x4096x128.Idx → EReal) : S2x4096x128.Idx → EReal :=
  concatenate S2x4096x128 0 [⟨S1x4096x128, broadcastInDim S1x4096x128 ![1, 2] bcast_S4096x128_S1x4096x128_1_2 (shapeCast S4096x128 u shapeCasts_S1x4096x128_S4096x128)⟩,
    ⟨S1x4096x128, broadcastInDim S1x4096x128 ![1, 2] bcast_S4096x128_S1x4096x128_1_2 (shapeCast S4096x128 v shapeCasts_S1x4096x128_S4096x128)⟩] concatenates_S1x4096x128_S1x4096x128_S2x4096x128_d0

theorem w1s0 (u v : S1x4096x128.Idx → EReal) (k : Fin 4096) (n : Fin 128) : w1s u v (ix3 0 k n) = u (ix3 0 k n) := by
  unfold w1s
  pointwise

theorem w1s1 (u v : S1x4096x128.Idx → EReal) (k : Fin 4096) (n : Fin 128) : w1s u v (ix3 1 k n) = v (ix3 0 k n) := by
  unfold w1s
  pointwise

/-- The two second weights, joined. -/
def w2s (u v : S1x128x128.Idx → EReal) : S2x128x128.Idx → EReal :=
  concatenate S2x128x128 0 [⟨S1x128x128, broadcastInDim S1x128x128 ![1, 2] bcast_S128x128_S1x128x128_1_2 (shapeCast S128x128 u shapeCasts_S1x128x128_S128x128)⟩,
    ⟨S1x128x128, broadcastInDim S1x128x128 ![1, 2] bcast_S128x128_S1x128x128_1_2 (shapeCast S128x128 v shapeCasts_S1x128x128_S128x128)⟩] concatenates_S1x128x128_S1x128x128_S2x128x128_d0

theorem w2s0 (u v : S1x128x128.Idx → EReal) (k n : Fin 128) : w2s u v (ix3 0 k n) = u (ix3 0 k n) := by
  unfold w2s
  pointwise

theorem w2s1 (u v : S1x128x128.Idx → EReal) (k n : Fin 128) : w2s u v (ix3 1 k n) = v (ix3 0 k n) := by
  unfold w2s
  pointwise

set_option maxRecDepth 100000 in
theorem V_rows (c : Dev nD) : V m c main_v18 = rowsOf (argX m c) := by
  simp only [V, V0, hostOps0, hostOps0_1, hostOps0_2, hostOps0_3, hostOps0_4, List.flatten_cons, List.flatten_nil, List.append_nil, List.cons_append, List.nil_append]
  after_results
  rfl

set_option maxRecDepth 100000 in
theorem V_pes (c : Dev nD) : V m c main_v24 = pes (argPk m c) (argPv m c) := by
  simp only [V, V0, hostOps0, hostOps0_1, hostOps0_2, hostOps0_3, hostOps0_4, List.flatten_cons, List.flatten_nil, List.append_nil, List.cons_append, List.nil_append]
  after_results
  rfl

set_option maxRecDepth 100000 in
theorem V_w1s (c : Dev nD) : V m c main_v30 = w1s (argUk m c) (argUv m c) := by
  simp only [V, V0, hostOps0, hostOps0_1, hostOps0_2, hostOps0_3, hostOps0_4, List.flatten_cons, List.flatten_nil, List.append_nil, List.cons_append, List.nil_append]
  after_results
  rfl

set_option maxRecDepth 100000 in
theorem V_w2s (c : Dev nD) : V m c main_v36 = w2s (argWk m c) (argWv m c) := by
  simp only [V, V0, hostOps0, hostOps0_1, hostOps0_2, hostOps0_3, hostOps0_4, List.flatten_cons, List.flatten_nil, List.append_nil, List.cons_append, List.nil_append]
  after_results
  rfl

/-- The gain, a row of 128. -/
def gainOf (g : S1x128.Idx → EReal) : S1x128.Idx → EReal := shapeCast S1x128 (shapeCast S128 g shapeCasts_S1x128_S128) shapeCasts_S128_S1x128

theorem gainOf_apply (g : S1x128.Idx → EReal) (n : Fin 128) : gainOf g (ix2 0 n) = g (ix2 0 n) := by
  unfold gainOf
  pointwise

set_option maxRecDepth 100000 in
theorem V_gain (c : Dev nD) : V m c main_v38 = gainOf (argG m c) := by
  simp only [V, V0, hostOps0, hostOps0_1, hostOps0_2, hostOps0_3, hostOps0_4, List.flatten_cons, List.flatten_nil, List.append_nil, List.cons_append, List.nil_append]
  after_results
  rfl

end Cert.Kernel7Ideal.Cmp
-- ==== Proof.CmpMath.lean ====
/-
  The compressed keys and values: the layer's formulas, and the two identities of sums and of turns the kernel rests on.
-/
module

public import proofs.«01_k».proof.Proof.CmpBlock
public import proofs.«01_k».proof.Proof.CmpTables

@[expose] public section

noncomputable section

open Idealize.ShloMosaic Idealize.ShloMosaic.TcCoe Idealize.SL.Sem

namespace Cert.Kernel7Ideal.Cmp

open Cert.Kernel7Ideal Cert.Kernel7Ideal.Gen

/-! ## The layer's own formulas -/

section Layer
variable (X : S2x4x4x4096x128.Idx → EReal) (a : Fin 2) (s u : Fin 4) (b : Fin 255) (P : S1x32x128.Idx → EReal) (U : S1x4096x128.Idx → EReal) (W : S1x128x128.Idx → EReal)

/-- Entry `k` of block `b`: 32 tokens of 128 from token `16 b` on, each with its place's embedding added. -/
def entry (k : Fin 4096) : EReal :=
  X (ix5 a s u (⟨b.val * 16 + k.val / 128, by omega⟩ : Fin 4096) (⟨k.val % 128, by omega⟩ : Fin 128)) + P (ix3 0 (⟨k.val / 128, by omega⟩ : Fin 32) (⟨k.val % 128, by omega⟩ : Fin 128))

/-- The hidden activations of block `b`. -/
def hid (n : Fin 128) : EReal := gelu (∑ k : Fin 4096, entry X a s u b P k * U (ix3 0 k n))

/-- The block's compressed vector. -/
def comp (n : Fin 128) : EReal := ∑ k : Fin 128, hid X a s u b P U k * W (ix3 0 k n)
end Layer

/-- The first 32 entries turned, pair by pair, by the block's angles. -/
def turn (y : Fin 128 → EReal) (cs sn : Fin 16 → EReal) (n : Fin 128) : EReal :=
  if h : n.val < 16 then y n * cs ⟨n.val, h⟩ - y ⟨n.val + 16, by omega⟩ * sn ⟨n.val, h⟩
  else if h' : n.val < 32 then y n * cs ⟨n.val - 16, by omega⟩ + y ⟨n.val - 16, by omega⟩ * sn ⟨n.val - 16, by omega⟩
  else y n

/-- The layer's result: the normalised and turned keys, and under them the values. -/
def layer (X : S2x4x4x4096x128.Idx → EReal) (P Q : S1x32x128.Idx → EReal) (U U' : S1x4096x128.Idx → EReal) (W W' : S1x128x128.Idx → EReal)
    (g : S1x128.Idx → EReal) (C S : S255x16.Idx → EReal) (a : Fin 2) (h : Fin 16) (b : Fin 255) (n : Fin 128) : EReal :=
  if a.val < 1 then turn (normed (comp X 0 ⟨h.val / 4, by omega⟩ ⟨h.val % 4, by omega⟩ b P U W) (fun e => g (ix2 0 e))) (fun d => C (ix2 b d)) (fun d => S (ix2 b d)) n
  else comp X 1 ⟨h.val / 4, by omega⟩ ⟨h.val % 4, by omega⟩ b Q U' W' n

/-- The three-term form of the turn, with the tables, is the turn. -/
theorem turn_eq (y : Fin 128 → EReal) (C S : S255x16.Idx → EReal) (p : Fin 256) (hp : p.val < 255) (n : Fin 128) :
    y n * tabs (padded C) (padded S) (ix3 0 p n)
      + y ⟨(n.val + 16) % 128, by omega⟩ * tabs (padded C) (padded S) (ix3 1 p n)
      + y ⟨(n.val + 112) % 128, by omega⟩ * tabs (padded C) (padded S) (ix3 2 p n)
    = turn y (fun d => C (ix2 ⟨p.val, hp⟩ d)) (fun d => S (ix2 ⟨p.val, hp⟩ d)) n := by
  rw [tabs0, tabs1, tabs2]
  simp only [padded_apply _ p hp]
  unfold turn
  by_cases h : n.val < 16
  · rw [dif_pos h, dif_pos (by omega), dif_pos h, dif_neg (by omega), mul_zero, add_zero, mul_neg, sub_eq_add_neg]
    refine congrArg₂ (· + ·) (congrArg (fun z => y n * C (ix2 _ z)) (Fin.ext (by show n.val % 16 = n.val; omega))) ?_
    exact congrArg (fun z => -(y z * _)) (Fin.ext (by show (n.val + 16) % 128 = n.val + 16; omega))
  · rw [dif_neg h, dif_neg h]
    by_cases h' : n.val < 32
    · rw [dif_pos h', dif_pos (by omega), dif_pos h', mul_zero, add_zero]
      refine congrArg₂ (· + ·) (congrArg (fun z => y n * C (ix2 _ z)) (Fin.ext (by show n.val % 16 = n.val - 16; omega))) ?_
      exact congrArg (fun z => y z * _) (Fin.ext (by show (n.val + 112) % 128 = n.val - 16; omega))
    · rw [dif_neg h', dif_neg (by omega), dif_neg h', mul_zero, mul_zero, add_zero, add_zero, mul_one]

/-- A sum of 4096 terms is the sum of its two halves. -/
theorem halves (f : Fin 4096 → EReal) :
    ∑ k : Fin 4096, f k = (∑ k : Fin 2048, f ⟨0 + k.val, by omega⟩) + ∑ k : Fin 2048, f ⟨2048 + k.val, by omega⟩ := by
  refine (Fin.sum_univ_add (a := 2048) (b := 2048) f).trans ?_
  refine congrArg₂ (· + ·) (Finset.sum_congr rfl fun k _ => congrArg f (Fin.ext ?_)) (Finset.sum_congr rfl fun k _ => congrArg f (Fin.ext rfl))
  show k.val = 0 + k.val
  omega

/-- A point's hidden activations, when the row's tokens and the halves of the embedding and of the weight are the layer's. -/
theorem act_eq (X : S2x4x4x4096x128.Idx → EReal) (a : Fin 2) (h : Fin 16) (P : S1x32x128.Idx → EReal) (U : S1x4096x128.Idx → EReal)
    (x : Vec Ideal S1x1x256x2048 .bf16) (pe : Vec Ideal S1x1x4096 .f32) (w1 : Vec Ideal S1x4096x128 .bf16)
    (hx : ∀ r k, x (ix4 0 0 r k) = rowsOf X (ix4 a h r k)) (hp : ∀ k : Fin 4096, pe (ix3 0 0 k) = P (ix3 0 (⟨k.val / 128, by omega⟩ : Fin 32) (⟨k.val % 128, by omega⟩ : Fin 128)))
    (hw : ∀ k n, w1 (ix3 0 k n) = U (ix3 0 k n)) (r : Fin 256) (hr : r.val < 255) (n : Fin 128) :
    act x pe w1 (ix2 r n) = hid X a ⟨h.val / 4, by omega⟩ ⟨h.val % 4, by omega⟩ ⟨r.val, hr⟩ P U n := by
  unfold act hid
  rw [act_apply, halves]
  refine congrArg gelu (congrArg₂ (· + ·) (Finset.sum_congr rfl fun k _ => ?_) (Finset.sum_congr rfl fun k _ => ?_))
  · rw [hx, rowsOf_apply]
    unfold entry
    show (_ + pe (ix3 0 0 _)) * w1 (ix3 0 _ n) = _
    rw [hp, hw]
    refine congrArg (fun z => (z + P _) * U _) (congrArg₂ (fun y z => X (ix5 a _ _ y z)) (Fin.ext ?_) (Fin.ext ?_))
    · show r.val * 16 + k.val / 128 = r.val * 16 + (0 + k.val) / 128; omega
    · show k.val % 128 = (0 + k.val) % 128; omega
  · rw [hx, rowsOf_apply]
    unfold entry
    show (_ + pe (ix3 0 0 _)) * w1 (ix3 0 _ n) = _
    rw [hp, hw]
    refine congrArg (fun z => (z + P _) * U _) (congrArg₂ (fun y z => X (ix5 a _ _ y z)) (Fin.ext ?_) (Fin.ext ?_))
    · show (r.val + 1) % 256 * 16 + k.val / 128 = r.val * 16 + (2048 + k.val) / 128; omega
    · show k.val % 128 = (2048 + k.val) % 128; omega

end Cert.Kernel7Ideal.Cmp
-- ==== Proof.CmpArray.lean ====
/-
  The compressed keys and values: the array the kernel leaves, and the result that comes of it.
-/
module

public import proofs.«01_k».proof.Proof.CmpMath

@[expose] public section

noncomputable section

open Idealize.ShloMosaic Idealize.ShloMosaic.TcCoe Idealize.SL.Sem

namespace Cert.Kernel7Ideal.Cmp

open Cert.Kernel7Ideal Cert.Kernel7Ideal.Gen

variable (m : (ℓ : Loc nD τ sig) → Buf (Elt Ideal) ℓ)

theorem lt_N (t : Fin cfg0.N) : t.val < 32 := lt_of_lt_of_eq t.isLt (show cfg0.N = 32 from N_0)

/-- Where each point's blocks lie. -/
theorem idx_facts : ∀ t : Fin cfg0.N,
    (win0_0.index t (0 : Fin 4) = t.val / 16 ∧ win0_0.index t (1 : Fin 4) = t.val % 16 ∧ win0_0.index t (2 : Fin 4) = 0 ∧ win0_0.index t (3 : Fin 4) = 0)
    ∧ (win0_1.index t (0 : Fin 3) = t.val / 16 ∧ win0_1.index t (1 : Fin 3) = 0 ∧ win0_1.index t (2 : Fin 3) = 0)
    ∧ (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 4) = t.val / 16 ∧ win0_6.index t (1 : Fin 4) = t.val % 16 ∧ win0_6.index t (2 : Fin 4) = 0 ∧ win0_6.index t (3 : Fin 4) = 0) :=
  (by decide +kernel : ∀ t : Fin grid0.N, _)

/-! ## The blocks the points read -/

theorem iblk0_apply (c : Dev nD) (t : Fin cfg0.N) (r : Fin 256) (k : Fin 2048) :
    (iblk m c 0 t : Vec Ideal S1x1x256x2048 .bf16) (ix4 0 0 r k)
      = rowsOf (argX m c) (ix4 (⟨t.val / 16, by have := lt_N t; omega⟩ : Fin 2) (⟨t.val % 16, by omega⟩ : Fin 16) r k) := by
  obtain ⟨⟨e0, e1, e2, e3⟩, -⟩ := idx_facts t
  unfold iblk
  rw [View.read_apply]
  show V m c main_v18 _ = _
  rw [V_rows]
  congr 1
  funext b
  apply Fin.ext
  match b with
  | ⟨0, _⟩ => show win0_0.index t (0 : Fin 4) * 1 + 1 * 0 = t.val / 16; rw [e0]; omega
  | ⟨1, _⟩ => show win0_0.index t (1 : Fin 4) * 1 + 1 * 0 = t.val % 16; rw [e1]; omega
  | ⟨2, _⟩ => show win0_0.index t (2 : Fin 4) * 256 + 1 * r.val = r.val; rw [e2]; omega
  | ⟨3, _⟩ => show win0_0.index t (3 : Fin 4) * 2048 + 1 * k.val = k.val; rw [e3]; omega

theorem iblk1_apply (c : Dev nD) (t : Fin cfg0.N) (k : Fin 4096) :
    (iblk m c 1 t : Vec Ideal S1x1x4096 .f32) (ix3 0 0 k)
      = pes (argPk m c) (argPv m c) (ix3 (⟨t.val / 16, by have := lt_N t; omega⟩ : Fin 2) 0 k) := by
  obtain ⟨-, ⟨e0, e1, e2⟩, -⟩ := idx_facts t
  unfold iblk
  rw [View.read_apply]
  show V m c main_v24 _ = _
  rw [V_pes]
  congr 1
  funext b
  apply Fin.ext
  match b with
  | ⟨0, _⟩ => show win0_1.index t (0 : Fin 3) * 1 + 1 * 0 = t.val / 16; rw [e0]; omega
  | ⟨1, _⟩ => show win0_1.index t (1 : Fin 3) * 1 + 1 * 0 = 0; rw [e1]
  | ⟨2, _⟩ => show win0_1.index t (2 : Fin 3) * 4096 + 1 * k.val = k.val; rw [e2]; omega

theorem iblk2_apply (c : Dev nD) (t : Fin cfg0.N) (k : Fin 4096) (n : Fin 128) :
    (iblk m c 2 t : Vec Ideal S1x4096x128 .bf16) (ix3 0 k n)
      = w1s (argUk m c) (argUv m c) (ix3 (⟨t.val / 16, by have := lt_N t; omega⟩ : Fin 2) k n) := by
  obtain ⟨-, -, ⟨e0, e1, e2⟩, -⟩ := idx_facts t
  unfold iblk
  rw [View.read_apply]
  show V m c main_v30 _ = _
  rw [V_w1s]
  congr 1
  funext b
  apply Fin.ext
  match b with
  | ⟨0, _⟩ => show win0_2.index t (0 : Fin 3) * 1 + 1 * 0 = t.val / 16; rw [e0]; omega
  | ⟨1, _⟩ => show win0_2.index t (1 : Fin 3) * 4096 + 1 * k.val = k.val; rw [e1]; omega
  | ⟨2, _⟩ => show win0_2.index t (2 : Fin 3) * 128 + 1 * n.val = n.val; rw [e2]; omega

theorem iblk3_apply (c : Dev nD) (t : Fin cfg0.N) (k n : Fin 128) :
    (iblk m c 3 t : Vec Ideal S1x128x128 .bf16) (ix3 0 k n)
      = w2s (argWk m c) (argWv m c) (ix3 (⟨t.val / 16, by have := lt_N t; omega⟩ : Fin 2) k n) := by
  obtain ⟨-, -, -, ⟨e0, e1, e2⟩, -⟩ := idx_facts t
  unfold iblk
  rw [View.read_apply]
  show V m c main_v36 _ = _
  rw [V_w2s]
  congr 1
  funext b
  apply Fin.ext
  match b with
  | ⟨0, _⟩ => show win0_3.index t (0 : Fin 3) * 1 + 1 * 0 = t.val / 16; rw [e0]; omega
  | ⟨1, _⟩ => show win0_3.index t (1 : Fin 3) * 128 + 1 * k.val = k.val; rw [e1]; omega
  | ⟨2, _⟩ => show win0_3.index t (2 : Fin 3) * 128 + 1 * n.val = n.val; rw [e2]; omega

theorem iblk4_apply (c : Dev nD) (t : Fin cfg0.N) (n : Fin 128) :
    (iblk m c 4 t : Vec Ideal S1x128 .f32) (ix2 0 n) = argG m c (ix2 0 n) := by
  obtain ⟨-, -, -, -, ⟨e0, e1⟩, -⟩ := idx_facts t
  refine Eq.trans (b := gainOf (argG m c) (ix2 0 n)) ?_ (gainOf_apply ..)
  unfold iblk
  rw [View.read_apply]
  show V m c main_v38 _ = _
  rw [V_gain]
  congr 1
  funext b
  apply Fin.ext
  match b with
  | ⟨0, _⟩ => show win0_4.index t (0 : Fin 2) * 1 + 1 * 0 = 0; rw [e0]
  | ⟨1, _⟩ => show win0_4.index t (1 : Fin 2) * 128 + 1 * n.val = n.val; rw [e1]; omega

theorem iblk5_apply (c : Dev nD) (t : Fin cfg0.N) (j : Fin 3) (r : Fin 256) (n : Fin 128) :
    (iblk m c 5 t : Vec Ideal S3x256x128 .f32) (ix3 j r n) = tabs (padded (argC m c)) (padded (argS m c)) (ix3 j r n) := by
  obtain ⟨-, -, -, -, -, ⟨e0, e1, e2⟩, -⟩ := idx_facts t
  unfold iblk
  rw [View.read_apply]
  show V m c main_v17 _ = _
  rw [V_tabs]
  congr 1
  funext b
  apply Fin.ext
  match b with
  | ⟨0, _⟩ => show win0_5.index t (0 : Fin 3) * 3 + 1 * j.val = j.val; rw [e0]; omega
  | ⟨1, _⟩ => show win0_5.index t (1 : Fin 3) * 256 + 1 * r.val = r.val; rw [e1]; omega
  | ⟨2, _⟩ => show win0_5.index t (2 : Fin 3) * 128 + 1 * n.val = n.val; rw [e2]; omega

/-! ## The points -/

/-- A point's result in a row that is a block's. -/
theorem point_apply (c : Dev nD) (t : Fin cfg0.N) (r : Fin 256) (hr : r.val < 255) (n : Fin 128) :
    (outsAt0 m c t.val t.isLt : Vec Ideal S1x1x256x128 .bf16) (ix4 0 0 r n)
      = layer (argX m c) (argPk m c) (argPv m c) (argUk m c) (argUv m c) (argWk m c) (argWv m c) (argG m c) (argC m c) (argS m c)
          ⟨t.val / 16, by have := lt_N t; omega⟩ ⟨t.val % 16, by omega⟩ ⟨r.val, hr⟩ n := by
  have hN := lt_N t
  unfold layer
  by_cases h0 : t.val < 16
  · have ea : (⟨t.val / 16, by omega⟩ : Fin 2) = 0 := Fin.ext (by show t.val / 16 = 0; omega)
    have hp := iblk1_apply m c t
    have hw := iblk2_apply m c t
    have hv := iblk3_apply m c t
    have hx := iblk0_apply m c t
    rw [ea] at hp hw hv hx
    rw [outsAt0_A m c t h0 (by omega), out_A, key_apply, if_pos (by show t.val / 16 < 1; omega)]
    have e : (fun e => k0_pay1 (F := Ideal) (act (iblk m c 0 t) (iblk m c 1 t) (iblk m c 2 t)) (iblk m c 3 t) (ix2 r e))
        = comp (argX m c) 0 ⟨t.val % 16 / 4, by omega⟩ ⟨t.val % 16 % 4, by omega⟩ ⟨r.val, hr⟩ (argPk m c) (argUk m c) (argWk m c) := by
      funext q
      rw [two_apply]
      unfold comp
      refine Finset.sum_congr rfl fun k _ => ?_
      rw [act_eq (argX m c) 0 ⟨t.val % 16, by omega⟩ (argPk m c) (argUk m c) _ _ _ hx (fun k => (hp k).trans (pes0 ..)) (fun k n => (hw k n).trans (w1s0 ..)) r hr k, hv, w2s0]
    rw [e, show (fun e => (iblk m c 4 t : Vec Ideal S1x128 .f32) (ix2 0 e)) = fun e => argG m c (ix2 0 e) from funext fun e => iblk4_apply m c t e]
    show _ * (iblk m c 5 t : Vec Ideal S3x256x128 .f32) (ix3 0 r n) + _ * (iblk m c 5 t : Vec Ideal S3x256x128 .f32) (ix3 1 r n)
      + _ * (iblk m c 5 t : Vec Ideal S3x256x128 .f32) (ix3 2 r n) = _
    rw [iblk5_apply, iblk5_apply, iblk5_apply]
    exact turn_eq _ _ _ r hr n
  · have ea : (⟨t.val / 16, by omega⟩ : Fin 2) = 1 := Fin.ext (by show t.val / 16 = 1; omega)
    have hp := iblk1_apply m c t
    have hw := iblk2_apply m c t
    have hv := iblk3_apply m c t
    have hx := iblk0_apply m c t
    rw [ea] at hp hw hv hx
    rw [outsAt0_B m c t h0 (by omega), out_B, val_apply, two_apply, if_neg (by show ¬t.val / 16 < 1; omega)]
    unfold comp
    refine Finset.sum_congr rfl fun k _ => ?_
    rw [act_eq (argX m c) 1 ⟨t.val % 16, by omega⟩ (argPv m c) (argUv m c) _ _ _ hx (fun k => (hp k).trans (pes1 ..)) (fun k n => (hw k n).trans (w1s1 ..)) r hr k, hv, w2s1]

/-! ## The array -/

/-- What point `q` leaves in its block. -/
def outOf (c : Dev nD) (q : ℕ) : Vec Ideal S1x1x256x128 .bf16 := if h : q < cfg0.N then outsAt0 m c q h else fun _ => 0

/-- The array the call leaves: block by block what the points leave. -/
def G6 (c : Dev nD) : S2x16x256x128.Idx → EReal := fun i => outOf m c (16 * (i 0).val + (i 1).val) (ix4 0 0 (i 2) (i 3))

/-- What a point writes back is its block of that array. -/
theorem flushed6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  have hN := lt_N t
  obtain ⟨-, -, -, -, -, -, ⟨e0, e1, e2, e3⟩⟩ := idx_facts t
  funext y
  have hy0 : (y 0).val < 1 := (y 0).isLt
  have hy1 : (y 1).val < 1 := (y 1).isLt
  have hy2 : (y 2).val < 256 := (y 2).isLt
  have hy3 : (y 3).val < 128 := (y 3).isLt
  obtain ⟨r, hr⟩ : ∃ r : Fin 256, r.val = (y 2).val := ⟨⟨(y 2).val, hy2⟩, rfl⟩
  obtain ⟨n, hn⟩ : ∃ n : Fin 128, n.val = (y 3).val := ⟨⟨(y 3).val, hy3⟩, rfl⟩
  have hl : (cfg0.win 6).xinj (grid0.coords t) y = ix4 (0 : Fin 1) (0 : Fin 1) r n := by
    funext z
    match z with
    | ⟨0, _⟩ => exact Fin.ext (by show (y 0).val = 0; omega)
    | ⟨1, _⟩ => exact Fin.ext (by show (y 1).val = 0; omega)
    | ⟨2, _⟩ => exact Fin.ext hr.symm
    | ⟨3, _⟩ => exact Fin.ext hn.symm
  have hb : ((cfg0.win 6).blk t).view.emb y = ix4 (⟨t.val / 16, by omega⟩ : Fin 2) (⟨t.val % 16, by omega⟩ : Fin 16) r n := by
    funext z
    apply Fin.ext
    match z with
    | ⟨0, _⟩ => show win0_6.index t (0 : Fin 4) * 1 + 1 * (y 0).val = t.val / 16; rw [e0]; omega
    | ⟨1, _⟩ => show win0_6.index t (1 : Fin 4) * 1 + 1 * (y 1).val = t.val % 16; rw [e1]; omega
    | ⟨2, _⟩ => show win0_6.index t (2 : Fin 4) * 256 + 1 * (y 2).val = r.val; rw [e2, hr]; omega
    | ⟨3, _⟩ => show win0_6.index t (3 : Fin 4) * 128 + 1 * (y 3).val = n.val; rw [e3, hn]; omega
  have hv : outsAt0 m c t.val t.isLt (ix4 (0 : Fin 1) (0 : Fin 1) r n) = G6 m c (ix4 (⟨t.val / 16, by omega⟩ : Fin 2) (⟨t.val % 16, by omega⟩ : Fin 16) r n) := by
    show _ = outOf m c (16 * (t.val / 16) + t.val % 16) (ix4 0 0 r n)
    rw [show 16 * (t.val / 16) + t.val % 16 = t.val by omega]
    unfold outOf
    rw [dif_pos t.isLt]
  show outsAt0 m c t.val t.isLt ((cfg0.win 6).xinj (grid0.coords t) y) = G6 m c (((cfg0.win 6).blk t).view.emb y)
  rw [hl, hb]
  exact hv

/-- The array after the run. -/
theorem final6 (c : Dev nD) : (dats m 0 c).arrAt 6 cfg0.N = G6 m c := by
  refine (dats m 0 c).arrAt_eq_of_cover 6 _ (fun t _ => flushed6 m c t) fun i => ?_
  have h0 : (i 0).val < 2 := (i 0).isLt
  have h1 : (i 1).val < 16 := (i 1).isLt
  have h2 : (i 2).val < 256 := (i 2).isLt
  have h3 : (i 3).val < 128 := (i 3).isLt
  let t : Fin cfg0.N := ⟨16 * (i 0).val + (i 1).val, by rw [show cfg0.N = 32 from N_0]; omega⟩
  have ht : t.val = 16 * (i 0).val + (i 1).val := rfl
  obtain ⟨-, -, -, -, -, -, ⟨e0, e1, e2, e3⟩⟩ := idx_facts t
  refine ⟨t, (by decide +kernel : ∀ t : Fin grid0.N, (cfg0.win 6).flush t = true) t, ?_⟩
  show i ∈ ((View.whole main_v39).slice (win0_6.rect t)).set
  rw [View.set_slice_whole, Rect.mem_set_unit]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 256 ≤ (i 2).val ∧ (i 2).val < win0_6.index t (2 : Fin 4) * 256 + 256; omega
  | ⟨3, _⟩ => show win0_6.index t (3 : Fin 4) * 128 ≤ (i 3).val ∧ (i 3).val < win0_6.index t (3 : Fin 4) * 128 + 128; omega

/-- The array at a row that is a block's. -/
theorem G6_at (c : Dev nD) (a : Fin 2) (h : Fin 16) (b : Fin 255) (n : Fin 128) :
    G6 m c (ix4 a h (⟨b.val, by omega⟩ : Fin 256) n)
      = layer (argX m c) (argPk m c) (argPv m c) (argUk m c) (argUv m c) (argWk m c) (argWv m c) (argG m c) (argC m c) (argS m c) a h b n := by
  have hlt : 16 * a.val + h.val < cfg0.N := by rw [show cfg0.N = 32 from N_0]; omega
  show outOf m c (16 * a.val + h.val) (ix4 0 0 _ n) = _
  unfold outOf
  rw [dif_pos hlt]
  refine (point_apply m c ⟨16 * a.val + h.val, hlt⟩ ⟨b.val, by omega⟩ b.isLt n).trans ?_
  rw [show (⟨(16 * a.val + h.val) / 16, by omega⟩ : Fin 2) = a from Fin.ext (by show (16 * a.val + h.val) / 16 = a.val; omega),
    show (⟨(16 * a.val + h.val) % 16, by omega⟩ : Fin 16) = h from Fin.ext (by show (16 * a.val + h.val) % 16 = h.val; omega)]

/-- The call's windows read and write different arrays. -/
theorem arrays_inj : Function.Injective (Pipeline.arrRef spec0) := by decide

/-- The array as the host finds it. -/
theorem found6 (c : Dev nD) : (Pipeline.withArrays (cfgs 0).spec c (V0 m c) (fun w => (dats m 0 c).arrAt w (cfgs 0).N) (Proc.tc.devRef main_v39)
    : S2x16x256x128.Idx → EReal) = G6 m c :=
  (Pipeline.withArrays_arr spec0 arrays_inj c (V0 m c) (fun w => (dats m 0 c).arrAt w (cfgs 0).N) 6).trans (final6 m c)

/-- The kernel's result. -/
def result (c : Dev nD) : S2x16x255x128.Idx → EReal := fun i =>
  layer (argX m c) (argPk m c) (argPv m c) (argUk m c) (argUv m c) (argWk m c) (argWv m c) (argG m c) (argC m c) (argS m c) (i 0) (i 1) (i 2) (i 3)

theorem W40 (c : Dev nD) : Pipeline.afterTail₀ cfgs (dats m) 0 (V0 m) [hostOps1] c main_v40 = result m c := by
  unfold Pipeline.afterTail₀
  simp only [hostOps1, List.flatten_cons, List.flatten_nil, List.append_nil]
  after_results
  rw [found6 m c]
  funext i
  rw [eq_ix4 i]
  refine Eq.trans (b := G6 m c (ix4 (i 0) (i 1) (⟨(i 2).val, Nat.lt_succ_of_lt (i 2).isLt⟩ : Fin 256) (i 3))) ?_ (G6_at m c (i 0) (i 1) (i 2) (i 3))
  generalize G6 m c = x
  pointwise

/-- The kernel's run, its result named. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40) = result m c) :=
  (θ_run _ _ _).mono (fun r h c => ((h c).2 main_v40 (Pipeline.mem_restRefs_of main_v40 (by decide) (by decide))).trans (W40 m c)) (run_main m ρ)

end Cert.Kernel7Ideal.Cmp
-- ==== Proof.CmpRef.lean ====
/-
  The compressed keys and values: what the reference computes, element by element.
-/
module

public import proofs.«01_k».proof.Proof.CmpMath
public import proofs.«01_k».proof.Proof.Gen.Reference7Ideal.Read

@[expose] public section

noncomputable section

open Idealize.ShloMosaic Idealize.ShloMosaic.TcCoe Idealize.SL.Sem

namespace Cert.Reference7Ideal.Cmp

open Cert.Reference7Ideal Cert.Reference7Ideal.Gen Cert.Reference7Ideal.Read
open Cert.Kernel7Ideal.Cmp (entry hid comp turn normed gelu)

/-- The token's number, as the reference forms it. -/
theorem v19_apply (b : Fin 255) (t : Fin 32) : val_main_v19 (F := Ideal) (ix3 b t 0) = BitVec.ofNat 32 (b.val * 16 + t.val) := by
  have hb := b.isLt
  have ht := t.isLt
  have e : val_main_v13 (F := Ideal) (ix2 b t) = BitVec.ofNat 32 (b.val * 16 + t.val) := by
    unfold val_main_v13 val_main_v12 val_main_v11 val_main_v10 val_main_v9 val_main_c
    pointwise
    show BitVec.ofNat 32 b.val * BitVec.ofNat 32 16 + BitVec.ofNat 32 t.val = _
    rw [← BitVec.ofNat_mul, ← BitVec.ofNat_add]
  have hlt : (BitVec.ofNat 32 (b.val * 16 + t.val)).slt 0#32 = false := by
    have h1 : (BitVec.ofNat 32 (b.val * 16 + t.val)).toInt = (b.val * 16 + t.val : ℕ) := by
      rw [BitVec.toInt_ofNat']
      simp only [Int.bmod]
      omega
    have h2 : (0#32 : BitVec 32).toInt = 0 := by decide
    rw [BitVec.slt, h1, h2]
    exact decide_eq_false (by omega)
  unfold val_main_v19 val_main_v18 val_main_v17 val_main_v16 val_main_v15 val_main_v14 val_main_c_0 val_main_c_1
  pointwise [e]
  unfold IntOp.cmpi
  simp only [hlt]
  rfl

/-- The gather, read at an element: the operand at the token the start index names. -/
theorem pick_apply (x : S4x4x4096x128.Idx → EReal) (s u : Fin 4) (b : Fin 255) (t : Fin 32) (d : Fin 128) :
    Host.gather gather_S4x4x4096x128_S255x32x1_S4x4x255x32x128_014_2_n_n_2_2_441128 x (val_main_v19 (F := Ideal)) (ix5 s u b t d)
      = x (ix4 s u (⟨b.val * 16 + t.val, by omega⟩ : Fin 4096) d) := by
  have hb := b.isLt
  have ht := t.isLt
  let D := gather_S4x4x4096x128_S255x32x1_S4x4x255x32x128_014_2_n_n_2_2_441128
  unfold Host.gather
  congr 1
  funext a
  refine Fin.ext ?_
  show D.start (ix5 s u b t d) _ a + D.batchCoord (ix5 s u b t d) a + D.offCoord (ix5 s u b t d) a = _
  rw [GatherDims.batchCoord_eq_zero _ _ _ List.not_mem_nil]
  match a with
  | ⟨0, _⟩ =>
    have h0 : D.start (ix5 s u b t d) (val_main_v19 (F := Ideal)) 0 = 0 := by
      unfold GatherDims.start
      rw [dif_neg (show (0 : Fin 4) ∉ D.startIndexMap by decide)]
    exact (congrArg (· + 0 + D.offCoord (ix5 s u b t d) 0) h0).trans ((Nat.zero_add _).trans rfl)
  | ⟨1, _⟩ =>
    have h0 : D.start (ix5 s u b t d) (val_main_v19 (F := Ideal)) 1 = 0 := by
      unfold GatherDims.start
      rw [dif_neg (show (1 : Fin 4) ∉ D.startIndexMap by decide)]
    exact (congrArg (· + 0 + D.offCoord (ix5 s u b t d) 1) h0).trans ((Nat.zero_add _).trans rfl)
  | ⟨3, _⟩ =>
    have h0 : D.start (ix5 s u b t d) (val_main_v19 (F := Ideal)) 3 = 0 := by
      unfold GatherDims.start
      rw [dif_neg (show (3 : Fin 4) ∉ D.startIndexMap by decide)]
    exact (congrArg (· + 0 + D.offCoord (ix5 s u b t d) 3) h0).trans ((Nat.zero_add _).trans rfl)
  | ⟨2, _⟩ =>
    have h1 : D.offCoord (ix5 s u b t d) 2 = 0 :=
      GatherDims.offCoord_eq_zero _ _ _ (fun h => ((GatherDims.mem_sKept _ _).mp h).1 (List.mem_singleton.mpr rfl))
    have h0 : D.start (ix5 s u b t d) (val_main_v19 (F := Ideal)) 2 = b.val * 16 + t.val := by
      unfold GatherDims.start
      rw [dif_pos (show (2 : Fin 4) ∈ D.startIndexMap from List.mem_singleton.mpr rfl)]
      have hsi : D.siIdx (ix5 s u b t d) ⟨List.idxOf (2 : Fin 4) D.startIndexMap, List.idxOf_lt_length_iff.2 (List.mem_singleton.mpr rfl)⟩ = ix3 b t 0 := by
        funext q
        refine Fin.ext ?_
        match q with
        | ⟨0, _⟩ => rfl
        | ⟨1, _⟩ => rfl
        | ⟨2, _⟩ => rfl
      rw [hsi, v19_apply]
      have h1 : (BitVec.ofNat 32 (b.val * 16 + t.val)).toInt = (b.val * 16 + t.val : ℕ) := by
        rw [BitVec.toInt_ofNat']
        simp only [Int.bmod]
        omega
      rw [h1, Int.toNat_natCast]
      exact Nat.min_eq_left (show b.val * 16 + t.val ≤ 4095 by omega)
    show D.start (ix5 s u b t d) (val_main_v19 (F := Ideal)) 2 + 0 + D.offCoord (ix5 s u b t d) 2 = b.val * 16 + t.val
    rw [h1, h0]
    rfl

variable (X : (⟨S2x4x4x4096x128, .bf16⟩ : BufTy).Contents (Elt Ideal)) (P Q : (⟨S1x32x128, .f32⟩ : BufTy).Contents (Elt Ideal))
  (U U' : (⟨S1x4096x128, .f32⟩ : BufTy).Contents (Elt Ideal)) (W W' : (⟨S1x128x128, .f32⟩ : BufTy).Contents (Elt Ideal))
  (g : (⟨S1x128, .f32⟩ : BufTy).Contents (Elt Ideal)) (C S : (⟨S255x16, .f32⟩ : BufTy).Contents (Elt Ideal)) (s u : Fin 4) (b : Fin 255)

/-- A key block's flat entries. -/
theorem v24_apply (k : Fin 4096) : val_main_v24 (F := Ideal) X P (ix4 s u b k) = entry X 0 s u b P k := by
  unfold val_main_v24 val_main_v23 val_main_v22 val_main_v21 val_main_v20 val_main_v6 entry
  pointwise [pick_apply]
  unfold val_main_v2 val_main_v1 val_main_v0
  pointwise

/-- A value block's flat entries. -/
theorem v90_apply (k : Fin 4096) : val_main_v90 (F := Ideal) X P (ix4 s u b k) = entry X 1 s u b P k := by
  unfold val_main_v90 val_main_v89 val_main_v88 val_main_v87 val_main_v86 val_main_v72 entry
  have e : val_main_v85 (F := Ideal) = val_main_v19 (F := Ideal) := rfl
  rw [e]
  pointwise [pick_apply]
  unfold val_main_v5 val_main_v4 val_main_v3
  pointwise

/-- A key block's hidden activations. -/
theorem v38_apply (n : Fin 128) : val_main_v38 (F := Ideal) X P U (ix4 s u b n) = hid X 0 s u b P U n := by
  have e : val_main_v25 (F := Ideal) X P U (ix4 s u b n) = ∑ k : Fin 4096, entry X 0 s u b P k * U (ix3 0 k n) := by
    unfold val_main_v25 val_main_v7
    pointwise [v24_apply]
  unfold val_main_v38 val_main_v37 val_main_v36 val_main_v35 val_main_v34 val_main_v33 val_main_v32 val_main_v31 val_main_v30 val_main_v29 val_main_v28 val_main_v27 val_main_v26
    val_main_cst val_main_cst_2 val_main_cst_3 val_main_cst_4 hid gelu
  pointwise [e]

/-- A value block's hidden activations. -/
theorem v104_apply (n : Fin 128) : val_main_v104 (F := Ideal) X P U (ix4 s u b n) = hid X 1 s u b P U n := by
  have e : val_main_v91 (F := Ideal) X P U (ix4 s u b n) = ∑ k : Fin 4096, entry X 1 s u b P k * U (ix3 0 k n) := by
    unfold val_main_v91 val_main_v73
    pointwise [v90_apply]
  unfold val_main_v104 val_main_v103 val_main_v102 val_main_v101 val_main_v100 val_main_v99 val_main_v98 val_main_v97 val_main_v96 val_main_v95 val_main_v94 val_main_v93 val_main_v92
    val_main_cst_11 val_main_cst_12 val_main_cst_13 val_main_cst_14 hid gelu
  pointwise [e]

/-- A compressed vector of the keys, before its norm. -/
theorem v39_apply (n : Fin 128) : val_main_v39 (F := Ideal) X P U W (ix4 s u b n) = comp X 0 s u b P U W n := by
  unfold val_main_v39 val_main_v8 comp
  pointwise [v38_apply]

/-- A compressed value. -/
theorem v105_apply (n : Fin 128) : val_main_v105 (F := Ideal) X P U W (ix4 s u b n) = comp X 1 s u b P U W n := by
  unfold val_main_v105 val_main_v74 comp
  pointwise [v104_apply]

/-- The normalised key. -/
theorem v53_apply (n : Fin 128) : val_main_v53 (F := Ideal) X P U W g (ix4 s u b n) = normed (comp X 0 s u b P U W) (fun e => g (ix2 0 e)) n := by
  unfold val_main_v53 val_main_v52 val_main_v51 val_main_v50 val_main_v49 val_main_v48 val_main_v47 val_main_v46 val_main_v45 val_main_v44 val_main_v43 val_main_v42 val_main_v41 val_main_v40
    val_main_cst_5 val_main_cst_6 val_main_cst_7 normed
  pointwise [v39_apply]

/-- A compressed key. -/
theorem v71_apply (n : Fin 128) : val_main_v71 (F := Ideal) X P U W g C S (ix4 s u b n)
    = turn (normed (comp X 0 s u b P U W) (fun e => g (ix2 0 e))) (fun d => C (ix2 b d)) (fun d => S (ix2 b d)) n := by
  unfold val_main_v71 val_main_v70 val_main_v69 val_main_v68 val_main_v67 val_main_v66 val_main_v65 val_main_v64 val_main_v63 val_main_v62 val_main_v61 val_main_v60 val_main_v59 val_main_v58
    val_main_v57 val_main_v56 val_main_v55 val_main_v54 turn
  pointwise [v53_apply]
  by_cases h : n.val < 16
  · rw [dif_pos h, dif_pos h]
    exact congrArg (fun z => _ - normed (comp X 0 s u b P U W) (fun e => g (ix2 0 e)) z * _) (Fin.ext (by show 16 + n.val = n.val + 16; omega))
  · rw [dif_neg h, dif_neg h]
    by_cases h' : n.val < 32
    · rw [dif_pos (by omega), dif_pos h']
      exact congrArg (fun z => normed (comp X 0 s u b P U W) (fun e => g (ix2 0 e)) z * _ + _) (Fin.ext (by show 16 + (n.val - 16) = n.val; omega))
    · rw [dif_neg (by omega), dif_neg h']
      exact congrArg (normed (comp X 0 s u b P U W) (fun e => g (ix2 0 e))) (Fin.ext (by show 32 + (n.val - 16 - 16) = n.val; omega))

/-- The reference's result. -/
theorem v110_apply (a : Fin 2) (h : Fin 16) (n : Fin 128) :
    val_main_v110 (F := Ideal) X P Q U U' W W' g C S (ix4 a h b n) = Cert.Kernel7Ideal.Cmp.layer X P Q U U' W W' g C S a h b n := by
  unfold val_main_v110 val_main_v109 val_main_v108 val_main_v107 val_main_v106 Cert.Kernel7Ideal.Cmp.layer
  pointwise [v71_apply, v105_apply]
  by_cases ha : a.val < 1
  · rw [dif_pos ha, if_pos ha]
  · rw [dif_neg ha, if_neg ha]

end Cert.Reference7Ideal.Cmp
-- ==== Proof.CmpClaim.lean ====
/-
  The compressed keys and values: the kernel's result is its reference's.
-/
module

public import proofs.«01_k».proof.Defs
public import proofs.«01_k».proof.Proof.CmpArray
public import proofs.«01_k».proof.Proof.CmpRef
public import proofs.«01_k».proof.Proof.Gen.Reference7Ideal.Run
public import Idealize.ShloMosaic.Lib.Claim
public import Idealize.ShloMosaic.Lib.Quiescent

@[expose] public section

noncomputable section

open Idealize.ShloMosaic Idealize.ShloMosaic.TcCoe Idealize.SL.Sem

namespace Cert.CmpClaim

open Cert.Kernel7Ideal.Cmp (result argX argPk argPv argUk argUv argWk argWv argG argC argS)

/-- The kernel's result is what its reference computes from the same arguments. -/
theorem result_eq_ref (m : (ℓ : Loc Cert.Kernel7Ideal.nD Cert.Kernel7Ideal.τ Cert.Kernel7Ideal.sig) → Buf (Elt Ideal) ℓ) (c : Dev Cert.Kernel7Ideal.nD) :
    (result m c : (⟨⟨4, ![2, 16, 255, 128]⟩, .bf16⟩ : BufTy).Contents (Elt Ideal))
      = Cert.Reference7Ideal.Read.val_main_v110 (F := Ideal) (argX m c) (argPk m c) (argPv m c) (argUk m c) (argUv m c) (argWk m c) (argWv m c)
          (argG m c) (argC m c) (argS m c) := by
  funext i
  rw [eq_ix4 i]
  exact (Cert.Reference7Ideal.Cmp.v110_apply _ _ _ _ _ _ _ _ _ _ (i 2) (i 0) (i 1) (i 3)).symm

/-- The compression and its reference end with equal results over the extended reals. -/
theorem algebraic : Cert.algebraic_Kernel7Ideal_Reference7Ideal (hKernel7Ideal := Cert.Kernel7Ideal.Gen.facts) (hReference7Ideal := Cert.Reference7Ideal.Gen.facts) := by
  intro m g m' g' hpre hagree
  refine ⟨fun c => result m c, ?_, ?_⟩
  · exact (θ_run _ _ _).mono (fun r h c => ⟨h.1 c, h.2.1 c⟩) (θ_run_and (Cert.Kernel7Ideal.Cmp.run_results m g) (Cert.Kernel7Ideal.Gen.frame m g))
  refine (θ_run _ _ _).mono (fun r h c => ⟨?_, (h c).2⟩) (Cert.Reference7Ideal.Value.run m' g')
  refine ((h c).1.trans (Cert.Reference7Ideal.Read.val_main_v110_eq ..)).trans ?_
  obtain ⟨h0, h1, h2, h3, h4, h5, h6, h7, h8, h9⟩ := hagree c
  show Cert.Reference7Ideal.Read.val_main_v110 (F := Ideal)
      (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))
      (m' ((c.tc : Thread Cert.Reference7Ideal.nD Cert.Reference7Ideal.τ).loc Cert.Reference7Ideal.main_arg3))
      (m' ((c.tc : Thread Cert.Reference7Ideal.nD Cert.Reference7Ideal.τ).loc Cert.Reference7Ideal.main_arg4))
      (m' ((c.tc : Thread Cert.Reference7Ideal.nD Cert.Reference7Ideal.τ).loc Cert.Reference7Ideal.main_arg5))
      (m' ((c.tc : Thread Cert.Reference7Ideal.nD Cert.Reference7Ideal.τ).loc Cert.Reference7Ideal.main_arg6))
      (m' ((c.tc : Thread Cert.Reference7Ideal.nD Cert.Reference7Ideal.τ).loc Cert.Reference7Ideal.main_arg7))
      (m' ((c.tc : Thread Cert.Reference7Ideal.nD Cert.Reference7Ideal.τ).loc Cert.Reference7Ideal.main_arg8))
      (m' ((c.tc : Thread Cert.Reference7Ideal.nD Cert.Reference7Ideal.τ).loc Cert.Reference7Ideal.main_arg9)) = result m c
  rw [h0, h1, h2, h3, h4, h5, h6, h7, h8, h9]
  exact (result_eq_ref m c).symm

/-- The compression's reference runs, keeps its arguments and leaves every counter at zero. -/
theorem quiescent : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

end Cert.CmpClaim
-- ==== Proof.lean ====
/-
  The certificate's claim, put together from the modules under Proof/.
-/
module

public import proofs.«01_k».proof.Defs
public import proofs.«01_k».proof.Proof.MlpClaim
public import proofs.«01_k».proof.Proof.WinClaim
public import proofs.«01_k».proof.Proof.OutEven
public import proofs.«01_k».proof.Proof.OutOdd
public import proofs.«01_k».proof.Proof.ProjSame
public import proofs.«01_k».proof.Proof.ProjClaim
public import proofs.«01_k».proof.Proof.OddSame
public import proofs.«01_k».proof.Proof.OddClaim
public import proofs.«01_k».proof.Proof.CmpClaim
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Skeleton
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Skeleton
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Skeleton
public import proofs.«01_k».proof.Proof.Gen.Reference7Ideal.Run
public import proofs.«01_k».proof.Proof.Gen.Reference7Ideal.Read

@[expose] public section

noncomputable section

namespace Cert.Proof

open Idealize.ShloMosaic Idealize.SL.Sem

/-- The whole claim: frames, ledgers and equalities of every program pair. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m ρ _ => Cert.Kernel.Gen.frame m ρ,
    fun m ρ _ => Cert.KernelIdeal.Gen.frame m ρ,
    Cert.WinClaim.quiescent,
    fun m ρ _ => Cert.Kernel2.Gen.frame m ρ,
    fun m ρ _ => Cert.Kernel2Ideal.Gen.frame m ρ,
    Cert.MlpClaim.quiescent,
    fun m ρ _ => Cert.Kernel3.Gen.frame m ρ,
    fun m ρ _ => Cert.Kernel3Ideal.Gen.frame m ρ,
    Cert.OutEvenClaim.quiescent,
    fun m ρ _ => Cert.Kernel4.Gen.frame m ρ,
    fun m ρ _ => Cert.Kernel4Ideal.Gen.frame m ρ,
    Cert.OutOddClaim.quiescent,
    Cert.ProjSame.kept,
    fun m ρ _ => Cert.Kernel5Ideal.Proj.proj_frame m ρ,
    Cert.ProjClaim.quiescent,
    Cert.OddSame.kept,
    fun m ρ _ => Cert.Kernel6Ideal.Proj.proj_frame m ρ,
    Cert.OddClaim.quiescent,
    fun m ρ _ => Cert.Kernel7.Gen.frame m ρ,
    fun m ρ _ => Cert.Kernel7Ideal.Gen.frame m ρ,
    Cert.CmpClaim.quiescent,
    Cert.WinClaim.preserves,
    Cert.WinClaim.algebraic,
    trivial,
    Cert.MlpClaim.algebraic,
    trivial,
    Cert.OutEvenClaim.algebraic,
    trivial,
    Cert.OutOddClaim.algebraic,
    trivial,
    Cert.ProjClaim.algebraic,
    trivial,
    Cert.OddClaim.algebraic,
    trivial,
    Cert.CmpClaim.algebraic⟩

end Cert.Proof

end
